-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "minus_infinity" .f32 0xCE6E6B28#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x810x64x64 : Shape := ⟨4, ![8, 810, 64, 64]⟩
abbrev S8x810x32x32 : Shape := ⟨4, ![8, 810, 32, 32]⟩
abbrev S8x810x16x16 : Shape := ⟨4, ![8, 810, 16, 16]⟩
abbrev S8x810x8x8 : Shape := ⟨4, ![8, 810, 8, 8]⟩
abbrev S8x810x4x4 : Shape := ⟨4, ![8, 810, 4, 4]⟩
abbrev S8x36x64x64 : Shape := ⟨4, ![8, 36, 64, 64]⟩
abbrev S8x36x32x32 : Shape := ⟨4, ![8, 36, 32, 32]⟩
abbrev S8x36x16x16 : Shape := ⟨4, ![8, 36, 16, 16]⟩
abbrev S8x36x8x8 : Shape := ⟨4, ![8, 36, 8, 8]⟩
abbrev S8x36x4x4 : Shape := ⟨4, ![8, 36, 4, 4]⟩
abbrev S8 : Shape := ⟨1, ![8]⟩
abbrev S49104x4 : Shape := ⟨2, ![49104, 4]⟩
abbrev S8x64x64x810 : Shape := ⟨4, ![8, 64, 64, 810]⟩
abbrev S8x36864x90 : Shape := ⟨3, ![8, 36864, 90]⟩
abbrev S8x32x32x810 : Shape := ⟨4, ![8, 32, 32, 810]⟩
abbrev S8x9216x90 : Shape := ⟨3, ![8, 9216, 90]⟩
abbrev S8x16x16x810 : Shape := ⟨4, ![8, 16, 16, 810]⟩
abbrev S8x2304x90 : Shape := ⟨3, ![8, 2304, 90]⟩
abbrev S8x8x8x810 : Shape := ⟨4, ![8, 8, 8, 810]⟩
abbrev S8x576x90 : Shape := ⟨3, ![8, 576, 90]⟩
abbrev S8x4x4x810 : Shape := ⟨4, ![8, 4, 4, 810]⟩
abbrev S8x144x90 : Shape := ⟨3, ![8, 144, 90]⟩
abbrev S8x49104x90 : Shape := ⟨3, ![8, 49104, 90]⟩
abbrev S8x64x64x36 : Shape := ⟨4, ![8, 64, 64, 36]⟩
abbrev S8x36864x4 : Shape := ⟨3, ![8, 36864, 4]⟩
abbrev S8x32x32x36 : Shape := ⟨4, ![8, 32, 32, 36]⟩
abbrev S8x9216x4 : Shape := ⟨3, ![8, 9216, 4]⟩
abbrev S8x16x16x36 : Shape := ⟨4, ![8, 16, 16, 36]⟩
abbrev S8x2304x4 : Shape := ⟨3, ![8, 2304, 4]⟩
abbrev S8x8x8x36 : Shape := ⟨4, ![8, 8, 8, 36]⟩
abbrev S8x576x4 : Shape := ⟨3, ![8, 576, 4]⟩
abbrev S8x4x4x36 : Shape := ⟨4, ![8, 4, 4, 36]⟩
abbrev S8x144x4 : Shape := ⟨3, ![8, 144, 4]⟩
abbrev S8x49104x4 : Shape := ⟨3, ![8, 49104, 4]⟩
abbrev S8x4419360 : Shape := ⟨2, ![8, 4419360]⟩
abbrev S8x5000 : Shape := ⟨2, ![8, 5000]⟩
abbrev S_ : Shape := ⟨0, ![]⟩
abbrev S8x5000x1 : Shape := ⟨3, ![8, 5000, 1]⟩
abbrev S1 : Shape := ⟨1, ![1]⟩
abbrev S1x1x1 : Shape := ⟨3, ![1, 1, 1]⟩
abbrev S8x5000x4 : Shape := ⟨3, ![8, 5000, 4]⟩
abbrev S8x5120 : Shape := ⟨2, ![8, 5120]⟩
abbrev S8x5120x4 : Shape := ⟨3, ![8, 5120, 4]⟩
abbrev S8x4x5120 : Shape := ⟨3, ![8, 4, 5120]⟩
abbrev S8x1 : Shape := ⟨2, ![8, 1]⟩
abbrev S8x8x128 : Shape := ⟨3, ![8, 8, 128]⟩
abbrev S8x1x5120 : Shape := ⟨3, ![8, 1, 5120]⟩
abbrev S8x128 : Shape := ⟨2, ![8, 128]⟩
abbrev S8x1x128 : Shape := ⟨3, ![8, 1, 128]⟩
abbrev S8x6x100 : Shape := ⟨3, ![8, 6, 100]⟩
abbrev S8x100x6 : Shape := ⟨3, ![8, 100, 6]⟩

abbrev nBuf : Space → Nat
  | .hbm => 142
  | .vmem => 6
  | .smem => 0
  | _ => 0

abbrev hbmTy0_0 (i : Nat) : BufTy := match i % 128 with
  | 0 => ⟨S8x810x64x64, .f32⟩
  | 1 => ⟨S8x810x32x32, .f32⟩
  | 2 => ⟨S8x810x16x16, .f32⟩
  | 3 => ⟨S8x810x8x8, .f32⟩
  | 4 => ⟨S8x810x4x4, .f32⟩
  | 5 => ⟨S8x36x64x64, .f32⟩
  | 6 => ⟨S8x36x32x32, .f32⟩
  | 7 => ⟨S8x36x16x16, .f32⟩
  | 8 => ⟨S8x36x8x8, .f32⟩
  | 9 => ⟨S8x36x4x4, .f32⟩
  | 10 => ⟨S8, .f32⟩
  | 11 => ⟨S49104x4, .f32⟩
  | 12 => ⟨S8x64x64x810, .f32⟩
  | 13 => ⟨S8x36864x90, .f32⟩
  | 14 => ⟨S8x32x32x810, .f32⟩
  | 15 => ⟨S8x9216x90, .f32⟩
  | 16 => ⟨S8x16x16x810, .f32⟩
  | 17 => ⟨S8x2304x90, .f32⟩
  | 18 => ⟨S8x8x8x810, .f32⟩
  | 19 => ⟨S8x576x90, .f32⟩
  | 20 => ⟨S8x4x4x810, .f32⟩
  | 21 => ⟨S8x144x90, .f32⟩
  | 22 => ⟨S8x49104x90, .f32⟩
  | 23 => ⟨S8x64x64x36, .f32⟩
  | 24 => ⟨S8x36864x4, .f32⟩
  | 25 => ⟨S8x32x32x36, .f32⟩
  | 26 => ⟨S8x9216x4, .f32⟩
  | 27 => ⟨S8x16x16x36, .f32⟩
  | 28 => ⟨S8x2304x4, .f32⟩
  | 29 => ⟨S8x8x8x36, .f32⟩
  | 30 => ⟨S8x576x4, .f32⟩
  | 31 => ⟨S8x4x4x36, .f32⟩
  | 32 => ⟨S8x144x4, .f32⟩
  | 33 => ⟨S8x49104x4, .f32⟩
  | 34 => ⟨S8x4419360, .f32⟩
  | 35 => ⟨S8x5000, .f32⟩
  | 36 => ⟨S8x5000, .i32⟩
  | 37 => ⟨S_, .i32⟩
  | 38 => ⟨S_, .i32⟩
  | 39 => ⟨S8x5000, .i32⟩
  | 40 => ⟨S8x5000, .i32⟩
  | 41 => ⟨S8x5000, .i32⟩
  | 42 => ⟨S_, .i32⟩
  | 43 => ⟨S8x5000, .i32⟩
  | 44 => ⟨S8x5000, .i1⟩
  | 45 => ⟨S8x5000, .i32⟩
  | 46 => ⟨S8x5000, .i32⟩
  | 47 => ⟨S_, .i32⟩
  | 48 => ⟨S8x5000, .i32⟩
  | 49 => ⟨S8x5000, .i1⟩
  | 50 => ⟨S8x5000, .i1⟩
  | 51 => ⟨S_, .i32⟩
  | 52 => ⟨S8x5000, .i32⟩
  | 53 => ⟨S8x5000, .i32⟩
  | 54 => ⟨S8x5000, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S8x5000, .i32⟩
  | 62 => ⟨S8x5000, .i32⟩
  | 63 => ⟨S_, .i32⟩
  | 64 => ⟨S8x5000, .i32⟩
  | 65 => ⟨S8x5000, .i1⟩
  | 66 => ⟨S_, .i32⟩
  | 67 => ⟨S8x5000, .i32⟩
  | 68 => ⟨S8x5000, .i1⟩
  | 69 => ⟨S_, .i32⟩
  | 70 => ⟨S_, .i1⟩
  | 71 => ⟨S8x5000, .i1⟩
  | 72 => ⟨S8x5000, .i1⟩
  | 73 => ⟨S8x5000, .i1⟩
  | 74 => ⟨S8x5000, .i32⟩
  | 75 => ⟨S8x5000, .i32⟩
  | 76 => ⟨S8x5000, .i32⟩
  | 77 => ⟨S8x5000x1, .i32⟩
  | 78 => ⟨S_, .i32⟩
  | 79 => ⟨S8x5000x1, .i32⟩
  | 80 => ⟨S8x5000x1, .i1⟩
  | 81 => ⟨S_, .i32⟩
  | 82 => ⟨S8x5000x1, .i32⟩
  | 83 => ⟨S8x5000x1, .i32⟩
  | 84 => ⟨S8x5000x1, .i32⟩
  | 85 => ⟨S1, .i32⟩
  | 86 => ⟨S_, .i32⟩
  | 87 => ⟨S8x5000x1, .i32⟩
  | 88 => ⟨S8x5000x1, .i1⟩
  | 89 => ⟨S1x1x1, .i32⟩
  | 90 => ⟨S8x5000x1, .i32⟩
  | 91 => ⟨S8x5000x1, .i1⟩
  | 92 => ⟨S8x5000x1, .i1⟩
  | 93 => ⟨S_, .i1⟩
  | 94 => ⟨S8x5000, .i1⟩
  | 95 => ⟨S8x5000x4, .f32⟩
  | 96 => ⟨S8x5000x4, .i1⟩
  | 97 => ⟨S_, .f32⟩
  | 98 => ⟨S8x5000x4, .f32⟩
  | 99 => ⟨S8x5000x4, .f32⟩
  | 100 => ⟨S_, .i32⟩
  | 101 => ⟨S8x5000, .i32⟩
  | 102 => ⟨S8x5000, .i1⟩
  | 103 => ⟨S_, .i32⟩
  | 104 => ⟨S8x5000, .i32⟩
  | 105 => ⟨S8x5000, .i32⟩
  | 106 => ⟨S8x5000, .i32⟩
  | 107 => ⟨S8x5000x1, .i32⟩
  | 108 => ⟨S1, .i32⟩
  | 109 => ⟨S_, .i32⟩
  | 110 => ⟨S8x5000x1, .i32⟩
  | 111 => ⟨S8x5000x1, .i1⟩
  | 112 => ⟨S1x1x1, .i32⟩
  | 113 => ⟨S8x5000x1, .i32⟩
  | 114 => ⟨S8x5000x1, .i1⟩
  | 115 => ⟨S8x5000x1, .i1⟩
  | 116 => ⟨S_, .i1⟩
  | 117 => ⟨S8x5000, .i1⟩
  | 118 => ⟨S8x5000x4, .f32⟩
  | 119 => ⟨S8x5000x4, .i1⟩
  | 120 => ⟨S_, .f32⟩
  | 121 => ⟨S8x5000x4, .f32⟩
  | 122 => ⟨S8x5000x4, .f32⟩
  | 123 => ⟨S_, .f32⟩
  | 124 => ⟨S_, .f32⟩
  | 125 => ⟨S8x5120, .f32⟩
  | 126 => ⟨S8x5000, .f32⟩
  | 127 => ⟨S_, .i32⟩
  | _ => ⟨S8x810x64x64, .f32⟩

abbrev hbmTy0_1 (i : Nat) : BufTy := match i % 128 with
  | 0 => ⟨S_, .f32⟩
  | 1 => ⟨S8x5120, .f32⟩
  | 2 => ⟨S_, .i32⟩
  | 3 => ⟨S_, .f32⟩
  | 4 => ⟨S8x5120x4, .f32⟩
  | 5 => ⟨S8x4x5120, .f32⟩
  | 6 => ⟨S_, .i32⟩
  | 7 => ⟨S_, .f32⟩
  | 8 => ⟨S8x5120x4, .f32⟩
  | 9 => ⟨S8x4x5120, .f32⟩
  | 10 => ⟨S8x1, .f32⟩
  | 11 => ⟨S8x8x128, .f32⟩
  | 12 => ⟨S8x6x100, .f32⟩
  | 13 => ⟨S8x100x6, .f32⟩
  | _ => ⟨S8x810x64x64, .f32⟩

abbrev hbmTy (i : Nat) : BufTy := match i / 128 with
  | 0 => hbmTy0_0 i
  | 1 => hbmTy0_1 i
  | _ => ⟨S8x810x64x64, .f32⟩

abbrev bufTy : (tb : Table) → Fin (tcTables nBuf tb) → BufTy
  | .hbm, ⟨i, _⟩ => hbmTy i
  | .local _ .vmem, ⟨0, _⟩ => ⟨S8x5120, .f32⟩
  | .local _ .vmem, ⟨1, _⟩ => ⟨S8x4x5120, .f32⟩
  | .local _ .vmem, ⟨2, _⟩ => ⟨S8x4x5120, .f32⟩
  | .local _ .vmem, ⟨3, _⟩ => ⟨S8x5120, .f32⟩
  | .local _ .vmem, ⟨4, _⟩ => ⟨S8x1, .f32⟩
  | .local _ .vmem, ⟨5, _⟩ => ⟨S8x8x128, .f32⟩
  | _, _ => ⟨S8x810x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_values : Ref sig .tc := ⟨.hbm, 35, rfl⟩
abbrev main_indices : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v23 : Ref sig .tc := ⟨.hbm, 54, rfl⟩
abbrev main_c_0 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_1 : Ref sig .tc := ⟨.hbm, 63, rfl⟩
abbrev main_call1_v5 : Ref sig .tc := ⟨.hbm, 64, rfl⟩
abbrev main_call1_v6 : Ref sig .tc := ⟨.hbm, 65, rfl⟩
abbrev main_call1_c_2 : Ref sig .tc := ⟨.hbm, 66, rfl⟩
abbrev main_call1_v7 : Ref sig .tc := ⟨.hbm, 67, rfl⟩
abbrev main_call1_v8 : Ref sig .tc := ⟨.hbm, 68, rfl⟩
abbrev main_call1_c_3 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_v24 : Ref sig .tc := ⟨.hbm, 76, rfl⟩
abbrev main_v25 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_c_1 : Ref sig .tc := ⟨.hbm, 85, rfl⟩
abbrev main_call2_c_2 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_c_3 : Ref sig .tc := ⟨.hbm, 93, rfl⟩
abbrev main_call2_v11 : Ref sig .tc := ⟨.hbm, 94, rfl⟩
abbrev main_call2_v12 : Ref sig .tc := ⟨.hbm, 95, rfl⟩
abbrev main_call2_v13 : Ref sig .tc := ⟨.hbm, 96, rfl⟩
abbrev main_call2_cst : Ref sig .tc := ⟨.hbm, 97, rfl⟩
abbrev main_call2_v14 : Ref sig .tc := ⟨.hbm, 98, rfl⟩
abbrev main_v26 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v27 : Ref sig .tc := ⟨.hbm, 122, rfl⟩
abbrev main_cst : Ref sig .tc := ⟨.hbm, 123, rfl⟩
abbrev main_call4_v0 : Ref sig .tc := ⟨.hbm, 124, rfl⟩
abbrev main_v28 : Ref sig .tc := ⟨.hbm, 125, rfl⟩
abbrev main_v29 : Ref sig .tc := ⟨.hbm, 126, rfl⟩
abbrev main_c_1 : Ref sig .tc := ⟨.hbm, 127, rfl⟩
abbrev main_call5_v0 : Ref sig .tc := ⟨.hbm, 128, rfl⟩
abbrev main_v30 : Ref sig .tc := ⟨.hbm, 129, rfl⟩
abbrev main_c_2 : Ref sig .tc := ⟨.hbm, 130, rfl⟩
abbrev main_call6_v0 : Ref sig .tc := ⟨.hbm, 131, rfl⟩
abbrev main_v31 : Ref sig .tc := ⟨.hbm, 132, rfl⟩
abbrev main_v32 : Ref sig .tc := ⟨.hbm, 133, rfl⟩
abbrev main_c_3 : Ref sig .tc := ⟨.hbm, 134, rfl⟩
abbrev main_call7_v0 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v76 : BitVec 32 := Scalar.addi c0_i32 c100_i32
  let c1_i32 : BitVec 32 := 1#32
  ⟨c0_i32, v76, c1_i32⟩
abbrev stage0_0 : Fin 1 → Memref sig .tc .vmem S8x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "minus_infinity" => some ⊥
  | _ => none
-- ==== ReferenceIdeal.lean ====
abbrev S8x810x64x64 : Shape := ⟨4, ![8, 810, 64, 64]⟩
abbrev S8x810x32x32 : Shape := ⟨4, ![8, 810, 32, 32]⟩
abbrev S8x810x16x16 : Shape := ⟨4, ![8, 810, 16, 16]⟩
abbrev S8x810x8x8 : Shape := ⟨4, ![8, 810, 8, 8]⟩
abbrev S8x810x4x4 : Shape := ⟨4, ![8, 810, 4, 4]⟩
abbrev S8x36x64x64 : Shape := ⟨4, ![8, 36, 64, 64]⟩
abbrev S8x36x32x32 : Shape := ⟨4, ![8, 36, 32, 32]⟩
abbrev S8x36x16x16 : Shape := ⟨4, ![8, 36, 16, 16]⟩
abbrev S8x36x8x8 : Shape := ⟨4, ![8, 36, 8, 8]⟩
abbrev S8x36x4x4 : Shape := ⟨4, ![8, 36, 4, 4]⟩
abbrev S8 : Shape := ⟨1, ![8]⟩
abbrev S49104x4 : Shape := ⟨2, ![49104, 4]⟩
abbrev S8x64x64x810 : Shape := ⟨4, ![8, 64, 64, 810]⟩
abbrev S8x36864x90 : Shape := ⟨3, ![8, 36864, 90]⟩
abbrev S8x32x32x810 : Shape := ⟨4, ![8, 32, 32, 810]⟩
abbrev S8x9216x90 : Shape := ⟨3, ![8, 9216, 90]⟩
abbrev S8x16x16x810 : Shape := ⟨4, ![8, 16, 16, 810]⟩
abbrev S8x2304x90 : Shape := ⟨3, ![8, 2304, 90]⟩
abbrev S8x8x8x810 : Shape := ⟨4, ![8, 8, 8, 810]⟩
abbrev S8x576x90 : Shape := ⟨3, ![8, 576, 90]⟩
abbrev S8x4x4x810 : Shape := ⟨4, ![8, 4, 4, 810]⟩
abbrev S8x144x90 : Shape := ⟨3, ![8, 144, 90]⟩
abbrev S8x49104x90 : Shape := ⟨3, ![8, 49104, 90]⟩
abbrev S8x64x64x36 : Shape := ⟨4, ![8, 64, 64, 36]⟩
abbrev S8x36864x4 : Shape := ⟨3, ![8, 36864, 4]⟩
abbrev S8x32x32x36 : Shape := ⟨4, ![8, 32, 32, 36]⟩
abbrev S8x9216x4 : Shape := ⟨3, ![8, 9216, 4]⟩
abbrev S8x16x16x36 : Shape := ⟨4, ![8, 16, 16, 36]⟩
abbrev S8x2304x4 : Shape := ⟨3, ![8, 2304, 4]⟩
abbrev S8x8x8x36 : Shape := ⟨4, ![8, 8, 8, 36]⟩
abbrev S8x576x4 : Shape := ⟨3, ![8, 576, 4]⟩
abbrev S8x4x4x36 : Shape := ⟨4, ![8, 4, 4, 36]⟩
abbrev S8x144x4 : Shape := ⟨3, ![8, 144, 4]⟩
abbrev S8x49104x4 : Shape := ⟨3, ![8, 49104, 4]⟩
abbrev S8x4419360 : Shape := ⟨2, ![8, 4419360]⟩
abbrev S8x5000 : Shape := ⟨2, ![8, 5000]⟩
abbrev S_ : Shape := ⟨0, ![]⟩
abbrev S8x5000x1 : Shape := ⟨3, ![8, 5000, 1]⟩
abbrev S1 : Shape := ⟨1, ![1]⟩
abbrev S1x1x1 : Shape := ⟨3, ![1, 1, 1]⟩
abbrev S8x5000x4 : Shape := ⟨3, ![8, 5000, 4]⟩
abbrev S8x5000x90 : Shape := ⟨3, ![8, 5000, 90]⟩
abbrev S8x5000x1x1 : Shape := ⟨4, ![8, 5000, 1, 1]⟩
abbrev S1x1x1x1 : Shape := ⟨4, ![1, 1, 1, 1]⟩
abbrev S100x8x6 : Shape := ⟨3, ![100, 8, 6]⟩
abbrev S8x1 : Shape := ⟨2, ![8, 1]⟩
abbrev S8x4 : Shape := ⟨2, ![8, 4]⟩
abbrev S5000 : Shape := ⟨1, ![5000]⟩
abbrev S1x8 : Shape := ⟨2, ![1, 8]⟩
abbrev S6x8 : Shape := ⟨2, ![6, 8]⟩
abbrev S8x6 : Shape := ⟨2, ![8, 6]⟩
abbrev S1x8x6 : Shape := ⟨3, ![1, 8, 6]⟩
abbrev S8x100x6 : Shape := ⟨3, ![8, 100, 6]⟩

abbrev nBuf : Space → Nat
  | .hbm => 411
  | .vmem => 0
  | .smem => 0
  | _ => 0

abbrev hbmTy0_0 (i : Nat) : BufTy := match i % 128 with
  | 0 => ⟨S8x810x64x64, .f32⟩
  | 1 => ⟨S8x810x32x32, .f32⟩
  | 2 => ⟨S8x810x16x16, .f32⟩
  | 3 => ⟨S8x810x8x8, .f32⟩
  | 4 => ⟨S8x810x4x4, .f32⟩
  | 5 => ⟨S8x36x64x64, .f32⟩
  | 6 => ⟨S8x36x32x32, .f32⟩
  | 7 => ⟨S8x36x16x16, .f32⟩
  | 8 => ⟨S8x36x8x8, .f32⟩
  | 9 => ⟨S8x36x4x4, .f32⟩
  | 10 => ⟨S8, .f32⟩
  | 11 => ⟨S49104x4, .f32⟩
  | 12 => ⟨S8x64x64x810, .f32⟩
  | 13 => ⟨S8x36864x90, .f32⟩
  | 14 => ⟨S8x32x32x810, .f32⟩
  | 15 => ⟨S8x9216x90, .f32⟩
  | 16 => ⟨S8x16x16x810, .f32⟩
  | 17 => ⟨S8x2304x90, .f32⟩
  | 18 => ⟨S8x8x8x810, .f32⟩
  | 19 => ⟨S8x576x90, .f32⟩
  | 20 => ⟨S8x4x4x810, .f32⟩
  | 21 => ⟨S8x144x90, .f32⟩
  | 22 => ⟨S8x49104x90, .f32⟩
  | 23 => ⟨S8x64x64x36, .f32⟩
  | 24 => ⟨S8x36864x4, .f32⟩
  | 25 => ⟨S8x32x32x36, .f32⟩
  | 26 => ⟨S8x9216x4, .f32⟩
  | 27 => ⟨S8x16x16x36, .f32⟩
  | 28 => ⟨S8x2304x4, .f32⟩
  | 29 => ⟨S8x8x8x36, .f32⟩
  | 30 => ⟨S8x576x4, .f32⟩
  | 31 => ⟨S8x4x4x36, .f32⟩
  | 32 => ⟨S8x144x4, .f32⟩
  | 33 => ⟨S8x49104x4, .f32⟩
  | 34 => ⟨S8x4419360, .f32⟩
  | 35 => ⟨S8x5000, .f32⟩
  | 36 => ⟨S8x5000, .i32⟩
  | 37 => ⟨S_, .i32⟩
  | 38 => ⟨S_, .i32⟩
  | 39 => ⟨S8x5000, .i32⟩
  | 40 => ⟨S8x5000, .i32⟩
  | 41 => ⟨S8x5000, .i32⟩
  | 42 => ⟨S_, .i32⟩
  | 43 => ⟨S8x5000, .i32⟩
  | 44 => ⟨S8x5000, .i1⟩
  | 45 => ⟨S8x5000, .i32⟩
  | 46 => ⟨S8x5000, .i32⟩
  | 47 => ⟨S_, .i32⟩
  | 48 => ⟨S8x5000, .i32⟩
  | 49 => ⟨S8x5000, .i1⟩
  | 50 => ⟨S8x5000, .i1⟩
  | 51 => ⟨S_, .i32⟩
  | 52 => ⟨S8x5000, .i32⟩
  | 53 => ⟨S8x5000, .i32⟩
  | 54 => ⟨S8x5000, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S8x5000, .i32⟩
  | 62 => ⟨S8x5000, .i32⟩
  | 63 => ⟨S_, .i32⟩
  | 64 => ⟨S8x5000, .i32⟩
  | 65 => ⟨S8x5000, .i1⟩
  | 66 => ⟨S_, .i32⟩
  | 67 => ⟨S8x5000, .i32⟩
  | 68 => ⟨S8x5000, .i1⟩
  | 69 => ⟨S_, .i32⟩
  | 70 => ⟨S_, .i1⟩
  | 71 => ⟨S8x5000, .i1⟩
  | 72 => ⟨S8x5000, .i1⟩
  | 73 => ⟨S8x5000, .i1⟩
  | 74 => ⟨S8x5000, .i32⟩
  | 75 => ⟨S8x5000, .i32⟩
  | 76 => ⟨S8x5000, .i32⟩
  | 77 => ⟨S8x5000x1, .i32⟩
  | 78 => ⟨S_, .i32⟩
  | 79 => ⟨S8x5000x1, .i32⟩
  | 80 => ⟨S8x5000x1, .i1⟩
  | 81 => ⟨S_, .i32⟩
  | 82 => ⟨S8x5000x1, .i32⟩
  | 83 => ⟨S8x5000x1, .i32⟩
  | 84 => ⟨S8x5000x1, .i32⟩
  | 85 => ⟨S1, .i32⟩
  | 86 => ⟨S_, .i32⟩
  | 87 => ⟨S8x5000x1, .i32⟩
  | 88 => ⟨S8x5000x1, .i1⟩
  | 89 => ⟨S1x1x1, .i32⟩
  | 90 => ⟨S8x5000x1, .i32⟩
  | 91 => ⟨S8x5000x1, .i1⟩
  | 92 => ⟨S8x5000x1, .i1⟩
  | 93 => ⟨S_, .i1⟩
  | 94 => ⟨S8x5000, .i1⟩
  | 95 => ⟨S8x5000x4, .f32⟩
  | 96 => ⟨S8x5000x4, .i1⟩
  | 97 => ⟨S_, .f32⟩
  | 98 => ⟨S8x5000x4, .f32⟩
  | 99 => ⟨S8x5000x4, .f32⟩
  | 100 => ⟨S8x5000x1, .i32⟩
  | 101 => ⟨S_, .i32⟩
  | 102 => ⟨S8x5000x1, .i32⟩
  | 103 => ⟨S8x5000x1, .i1⟩
  | 104 => ⟨S_, .i32⟩
  | 105 => ⟨S8x5000x1, .i32⟩
  | 106 => ⟨S8x5000x1, .i32⟩
  | 107 => ⟨S8x5000x1, .i32⟩
  | 108 => ⟨S1, .i32⟩
  | 109 => ⟨S_, .i32⟩
  | 110 => ⟨S8x5000x1, .i32⟩
  | 111 => ⟨S8x5000x1, .i1⟩
  | 112 => ⟨S1x1x1, .i32⟩
  | 113 => ⟨S8x5000x1, .i32⟩
  | 114 => ⟨S8x5000x1, .i1⟩
  | 115 => ⟨S8x5000x1, .i1⟩
  | 116 => ⟨S_, .i1⟩
  | 117 => ⟨S8x5000, .i1⟩
  | 118 => ⟨S8x5000x90, .f32⟩
  | 119 => ⟨S8x5000x90, .i1⟩
  | 120 => ⟨S_, .f32⟩
  | 121 => ⟨S8x5000x90, .f32⟩
  | 122 => ⟨S8x5000x90, .f32⟩
  | 123 => ⟨S8x5000x1, .i32⟩
  | 124 => ⟨S_, .i32⟩
  | 125 => ⟨S8x5000x1, .i32⟩
  | 126 => ⟨S8x5000x1, .i1⟩
  | 127 => ⟨S_, .i32⟩
  | _ => ⟨S8x810x64x64, .f32⟩

abbrev hbmTy0_1 (i : Nat) : BufTy := match i % 128 with
  | 0 => ⟨S8x5000x1, .i32⟩
  | 1 => ⟨S8x5000x1, .i32⟩
  | 2 => ⟨S8x5000x1, .i32⟩
  | 3 => ⟨S8x5000x1x1, .i32⟩
  | 4 => ⟨S1, .i32⟩
  | 5 => ⟨S_, .i32⟩
  | 6 => ⟨S8x5000x1x1, .i32⟩
  | 7 => ⟨S8x5000x1x1, .i1⟩
  | 8 => ⟨S1x1x1x1, .i32⟩
  | 9 => ⟨S8x5000x1x1, .i32⟩
  | 10 => ⟨S8x5000x1x1, .i1⟩
  | 11 => ⟨S8x5000x1x1, .i1⟩
  | 12 => ⟨S_, .i1⟩
  | 13 => ⟨S8x5000x1, .i1⟩
  | 14 => ⟨S8x5000x1, .f32⟩
  | 15 => ⟨S_, .f32⟩
  | 16 => ⟨S8x5000x1, .f32⟩
  | 17 => ⟨S8x5000x1, .f32⟩
  | 18 => ⟨S8x5000, .f32⟩
  | 19 => ⟨S_, .i32⟩
  | 20 => ⟨S8x5000, .i32⟩
  | 21 => ⟨S8x5000, .i1⟩
  | 22 => ⟨S_, .i32⟩
  | 23 => ⟨S8x5000, .i32⟩
  | 24 => ⟨S8x5000, .i32⟩
  | 25 => ⟨S8x5000, .i32⟩
  | 26 => ⟨S8x5000x1, .i32⟩
  | 27 => ⟨S1, .i32⟩
  | 28 => ⟨S_, .i32⟩
  | 29 => ⟨S8x5000x1, .i32⟩
  | 30 => ⟨S8x5000x1, .i1⟩
  | 31 => ⟨S1x1x1, .i32⟩
  | 32 => ⟨S8x5000x1, .i32⟩
  | 33 => ⟨S8x5000x1, .i1⟩
  | 34 => ⟨S8x5000x1, .i1⟩
  | 35 => ⟨S_, .i1⟩
  | 36 => ⟨S8x5000, .i1⟩
  | 37 => ⟨S8x5000x4, .f32⟩
  | 38 => ⟨S8x5000x4, .i1⟩
  | 39 => ⟨S_, .f32⟩
  | 40 => ⟨S8x5000x4, .f32⟩
  | 41 => ⟨S8x5000x4, .f32⟩
  | 42 => ⟨S8x5000x1, .f32⟩
  | 43 => ⟨S8x5000, .f32⟩
  | 44 => ⟨S8x5000x1, .f32⟩
  | 45 => ⟨S8x5000, .f32⟩
  | 46 => ⟨S8x5000, .f32⟩
  | 47 => ⟨S_, .f32⟩
  | 48 => ⟨S8x5000, .f32⟩
  | 49 => ⟨S8x5000, .f32⟩
  | 50 => ⟨S8x5000x1, .f32⟩
  | 51 => ⟨S8x5000, .f32⟩
  | 52 => ⟨S8x5000x1, .f32⟩
  | 53 => ⟨S8x5000, .f32⟩
  | 54 => ⟨S8x5000, .f32⟩
  | 55 => ⟨S_, .f32⟩
  | 56 => ⟨S8x5000, .f32⟩
  | 57 => ⟨S8x5000, .f32⟩
  | 58 => ⟨S8x5000x1, .f32⟩
  | 59 => ⟨S8x5000, .f32⟩
  | 60 => ⟨S8x5000x1, .f32⟩
  | 61 => ⟨S8x5000, .f32⟩
  | 62 => ⟨S8x5000, .f32⟩
  | 63 => ⟨S8x5000x1, .f32⟩
  | 64 => ⟨S8x5000, .f32⟩
  | 65 => ⟨S8x5000x1, .f32⟩
  | 66 => ⟨S8x5000, .f32⟩
  | 67 => ⟨S8x5000, .f32⟩
  | 68 => ⟨S8x5000x1, .f32⟩
  | 69 => ⟨S8x5000, .f32⟩
  | 70 => ⟨S8x5000x1, .f32⟩
  | 71 => ⟨S8x5000, .f32⟩
  | 72 => ⟨S8x5000x1, .f32⟩
  | 73 => ⟨S8x5000, .f32⟩
  | 74 => ⟨S8x5000x1, .f32⟩
  | 75 => ⟨S8x5000, .f32⟩
  | 76 => ⟨S_, .f32⟩
  | 77 => ⟨S_, .f32⟩
  | 78 => ⟨S_, .f32⟩
  | 79 => ⟨S8x5000, .f32⟩
  | 80 => ⟨S8x5000, .f32⟩
  | 81 => ⟨S_, .f32⟩
  | 82 => ⟨S8x5000, .f32⟩
  | 83 => ⟨S8x5000, .f32⟩
  | 84 => ⟨S8x5000, .f32⟩
  | 85 => ⟨S8x5000, .f32⟩
  | 86 => ⟨S_, .f32⟩
  | 87 => ⟨S_, .f32⟩
  | 88 => ⟨S_, .f32⟩
  | 89 => ⟨S8x5000, .f32⟩
  | 90 => ⟨S8x5000, .f32⟩
  | 91 => ⟨S_, .f32⟩
  | 92 => ⟨S8x5000, .f32⟩
  | 93 => ⟨S8x5000, .f32⟩
  | 94 => ⟨S8x5000, .f32⟩
  | 95 => ⟨S8x5000, .f32⟩
  | 96 => ⟨S8x5000, .f32⟩
  | 97 => ⟨S8x5000, .f32⟩
  | 98 => ⟨S8x5000, .f32⟩
  | 99 => ⟨S8x5000, .f32⟩
  | 100 => ⟨S_, .f32⟩
  | 101 => ⟨S8x5000, .f32⟩
  | 102 => ⟨S8x5000, .f32⟩
  | 103 => ⟨S8x5000, .f32⟩
  | 104 => ⟨S_, .f32⟩
  | 105 => ⟨S8x5000, .f32⟩
  | 106 => ⟨S8x5000, .f32⟩
  | 107 => ⟨S8x5000, .f32⟩
  | 108 => ⟨S_, .f32⟩
  | 109 => ⟨S8x5000, .f32⟩
  | 110 => ⟨S8x5000, .f32⟩
  | 111 => ⟨S8x5000, .f32⟩
  | 112 => ⟨S_, .f32⟩
  | 113 => ⟨S8x5000, .f32⟩
  | 114 => ⟨S8x5000, .f32⟩
  | 115 => ⟨S8x5000, .f32⟩
  | 116 => ⟨S8x5000x1, .f32⟩
  | 117 => ⟨S8x5000x1, .f32⟩
  | 118 => ⟨S8x5000x1, .f32⟩
  | 119 => ⟨S8x5000x1, .f32⟩
  | 120 => ⟨S8x5000x4, .f32⟩
  | 121 => ⟨S8x5000, .f32⟩
  | 122 => ⟨S8x5000, .f32⟩
  | 123 => ⟨S_, .f32⟩
  | 124 => ⟨S8x5000, .f32⟩
  | 125 => ⟨S8x5000, .f32⟩
  | 126 => ⟨S_, .f32⟩
  | 127 => ⟨S8x5000, .f32⟩
  | _ => ⟨S8x810x64x64, .f32⟩

abbrev hbmTy0_2 (i : Nat) : BufTy := match i % 128 with
  | 0 => ⟨S8x5000, .f32⟩
  | 1 => ⟨S8x5000, .f32⟩
  | 2 => ⟨S8x5000x1, .f32⟩
  | 3 => ⟨S_, .f32⟩
  | 4 => ⟨S8x5000x1, .f32⟩
  | 5 => ⟨S8x5000x1, .f32⟩
  | 6 => ⟨S8x5000x4, .f32⟩
  | 7 => ⟨S8x5000x4, .f32⟩
  | 8 => ⟨S8x5000x1, .f32⟩
  | 9 => ⟨S8x5000, .f32⟩
  | 10 => ⟨S8x5000x1, .f32⟩
  | 11 => ⟨S8x5000, .f32⟩
  | 12 => ⟨S8x5000, .f32⟩
  | 13 => ⟨S8x5000x1, .f32⟩
  | 14 => ⟨S8x5000, .f32⟩
  | 15 => ⟨S8x5000x1, .f32⟩
  | 16 => ⟨S8x5000, .f32⟩
  | 17 => ⟨S8x5000, .f32⟩
  | 18 => ⟨S8x5000, .f32⟩
  | 19 => ⟨S_, .f32⟩
  | 20 => ⟨S100x8x6, .f32⟩
  | 21 => ⟨S_, .i32⟩
  | 22 => ⟨S8x5000x4, .f32⟩
  | 23 => ⟨S8x5000, .i32⟩
  | 24 => ⟨S8x5000x4, .f32⟩
  | 25 => ⟨S8x5000, .f32⟩
  | 26 => ⟨S8, .f32⟩
  | 27 => ⟨S_, .i32⟩
  | 28 => ⟨S8x5000, .f32⟩
  | 29 => ⟨S100x8x6, .f32⟩
  | 30 => ⟨S_, .i32⟩
  | 31 => ⟨S_, .i1⟩
  | 32 => ⟨S8x5000, .i32⟩
  | 33 => ⟨S_, .f32⟩
  | 34 => ⟨S_, .i32⟩
  | 35 => ⟨S8, .f32⟩
  | 36 => ⟨S8, .i32⟩
  | 37 => ⟨S8x1, .i32⟩
  | 38 => ⟨S8, .f32⟩
  | 39 => ⟨S8x1, .i32⟩
  | 40 => ⟨S8x4, .f32⟩
  | 41 => ⟨S8x1, .i32⟩
  | 42 => ⟨S8, .i32⟩
  | 43 => ⟨S8x1, .i32⟩
  | 44 => ⟨S8x4, .f32⟩
  | 45 => ⟨S8x1, .f32⟩
  | 46 => ⟨S8, .f32⟩
  | 47 => ⟨S8x5000x1, .f32⟩
  | 48 => ⟨S8x5000, .f32⟩
  | 49 => ⟨S8x1, .f32⟩
  | 50 => ⟨S8x5000, .f32⟩
  | 51 => ⟨S8x5000, .f32⟩
  | 52 => ⟨S8x1, .f32⟩
  | 53 => ⟨S8, .f32⟩
  | 54 => ⟨S8x5000x1, .f32⟩
  | 55 => ⟨S8x5000, .f32⟩
  | 56 => ⟨S8x1, .f32⟩
  | 57 => ⟨S8x5000, .f32⟩
  | 58 => ⟨S8x5000, .f32⟩
  | 59 => ⟨S8x1, .f32⟩
  | 60 => ⟨S8, .f32⟩
  | 61 => ⟨S8x5000x1, .f32⟩
  | 62 => ⟨S8x5000, .f32⟩
  | 63 => ⟨S8x1, .f32⟩
  | 64 => ⟨S8x5000, .f32⟩
  | 65 => ⟨S8x5000, .f32⟩
  | 66 => ⟨S8x1, .f32⟩
  | 67 => ⟨S8, .f32⟩
  | 68 => ⟨S8x5000x1, .f32⟩
  | 69 => ⟨S8x5000, .f32⟩
  | 70 => ⟨S8x1, .f32⟩
  | 71 => ⟨S8x5000, .f32⟩
  | 72 => ⟨S8x5000, .f32⟩
  | 73 => ⟨S8x5000, .f32⟩
  | 74 => ⟨S_, .f32⟩
  | 75 => ⟨S_, .f32⟩
  | 76 => ⟨S8x5000, .f32⟩
  | 77 => ⟨S8x5000, .f32⟩
  | 78 => ⟨S8x5000, .f32⟩
  | 79 => ⟨S_, .f32⟩
  | 80 => ⟨S_, .f32⟩
  | 81 => ⟨S8x5000, .f32⟩
  | 82 => ⟨S8x5000, .f32⟩
  | 83 => ⟨S8x5000, .f32⟩
  | 84 => ⟨S8x1, .f32⟩
  | 85 => ⟨S8, .f32⟩
  | 86 => ⟨S8x1, .f32⟩
  | 87 => ⟨S8, .f32⟩
  | 88 => ⟨S8, .f32⟩
  | 89 => ⟨S8x1, .f32⟩
  | 90 => ⟨S8, .f32⟩
  | 91 => ⟨S8x1, .f32⟩
  | 92 => ⟨S8, .f32⟩
  | 93 => ⟨S8, .f32⟩
  | 94 => ⟨S8, .f32⟩
  | 95 => ⟨S8x1, .f32⟩
  | 96 => ⟨S8x5000, .f32⟩
  | 97 => ⟨S8x5000, .f32⟩
  | 98 => ⟨S8x5000, .f32⟩
  | 99 => ⟨S_, .f32⟩
  | 100 => ⟨S8x5000, .f32⟩
  | 101 => ⟨S8x5000, .f32⟩
  | 102 => ⟨S8x5000, .f32⟩
  | 103 => ⟨S_, .f32⟩
  | 104 => ⟨S8x5000, .f32⟩
  | 105 => ⟨S8x5000, .i1⟩
  | 106 => ⟨S_, .f32⟩
  | 107 => ⟨S_, .f32⟩
  | 108 => ⟨S5000, .f32⟩
  | 109 => ⟨S8x5000, .f32⟩
  | 110 => ⟨S8x5000, .f32⟩
  | 111 => ⟨S_, .f32⟩
  | 112 => ⟨S8, .f32⟩
  | 113 => ⟨S8, .i1⟩
  | 114 => ⟨S8, .f32⟩
  | 115 => ⟨S8x1, .f32⟩
  | 116 => ⟨S8, .f32⟩
  | 117 => ⟨S8, .f32⟩
  | 118 => ⟨S8x1, .f32⟩
  | 119 => ⟨S8, .f32⟩
  | 120 => ⟨S8, .f32⟩
  | 121 => ⟨S8x1, .f32⟩
  | 122 => ⟨S8, .f32⟩
  | 123 => ⟨S8x1, .f32⟩
  | 124 => ⟨S8, .f32⟩
  | 125 => ⟨S8, .f32⟩
  | 126 => ⟨S8, .f32⟩
  | 127 => ⟨S8x1, .f32⟩
  | _ => ⟨S8x810x64x64, .f32⟩

abbrev hbmTy0_3 (i : Nat) : BufTy := match i % 128 with
  | 0 => ⟨S8, .f32⟩
  | 1 => ⟨S8x1, .f32⟩
  | 2 => ⟨S8, .f32⟩
  | 3 => ⟨S8, .f32⟩
  | 4 => ⟨S8, .f32⟩
  | 5 => ⟨S8, .f32⟩
  | 6 => ⟨S_, .f32⟩
  | 7 => ⟨S8, .f32⟩
  | 8 => ⟨S8, .f32⟩
  | 9 => ⟨S1x8, .f32⟩
  | 10 => ⟨S1x8, .f32⟩
  | 11 => ⟨S1x8, .f32⟩
  | 12 => ⟨S1x8, .f32⟩
  | 13 => ⟨S1x8, .f32⟩
  | 14 => ⟨S1x8, .f32⟩
  | 15 => ⟨S6x8, .f32⟩
  | 16 => ⟨S8x6, .f32⟩
  | 17 => ⟨S8x1, .f32⟩
  | 18 => ⟨S8x6, .f32⟩
  | 19 => ⟨S8x6, .f32⟩
  | 20 => ⟨S1x8x6, .f32⟩
  | 21 => ⟨S_, .i32⟩
  | 22 => ⟨S_, .i32⟩
  | 23 => ⟨S100x8x6, .f32⟩
  | 24 => ⟨S_, .i32⟩
  | 25 => ⟨S_, .i32⟩
  | 26 => ⟨S8x100x6, .f32⟩
  | _ => ⟨S8x810x64x64, .f32⟩

abbrev hbmTy (i : Nat) : BufTy := match i / 128 with
  | 0 => hbmTy0_0 i
  | 1 => hbmTy0_1 i
  | 2 => hbmTy0_2 i
  | 3 => hbmTy0_3 i
  | _ => ⟨S8x810x64x64, .f32⟩

abbrev bufTy : (tb : Table) → Fin (tcTables nBuf tb) → BufTy
  | .hbm, ⟨i, _⟩ => hbmTy i
  | _, _ => ⟨S8x810x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_values : Ref sig .tc := ⟨.hbm, 35, rfl⟩
abbrev main_indices : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v23 : Ref sig .tc := ⟨.hbm, 54, rfl⟩
abbrev main_c_0 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_1 : Ref sig .tc := ⟨.hbm, 63, rfl⟩
abbrev main_call1_v5 : Ref sig .tc := ⟨.hbm, 64, rfl⟩
abbrev main_call1_v6 : Ref sig .tc := ⟨.hbm, 65, rfl⟩
abbrev main_call1_c_2 : Ref sig .tc := ⟨.hbm, 66, rfl⟩
abbrev main_call1_v7 : Ref sig .tc := ⟨.hbm, 67, rfl⟩
abbrev main_call1_v8 : Ref sig .tc := ⟨.hbm, 68, rfl⟩
abbrev main_call1_c_3 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_v24 : Ref sig .tc := ⟨.hbm, 76, rfl⟩
abbrev main_v25 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_c_1 : Ref sig .tc := ⟨.hbm, 85, rfl⟩
abbrev main_call2_c_2 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_c_3 : Ref sig .tc := ⟨.hbm, 93, rfl⟩
abbrev main_call2_v11 : Ref sig .tc := ⟨.hbm, 94, rfl⟩
abbrev main_call2_v12 : Ref sig .tc := ⟨.hbm, 95, rfl⟩
abbrev main_call2_v13 : Ref sig .tc := ⟨.hbm, 96, rfl⟩
abbrev main_call2_cst : Ref sig .tc := ⟨.hbm, 97, rfl⟩
abbrev main_call2_v14 : Ref sig .tc := ⟨.hbm, 98, rfl⟩
abbrev main_v26 : Ref sig .tc := ⟨.hbm, 99, rfl⟩
abbrev main_v27 : Ref sig .tc := ⟨.hbm, 100, rfl⟩
abbrev main_call3_c : Ref sig .tc := ⟨.hbm, 101, rfl⟩
abbrev main_call3_v0 : Ref sig .tc := ⟨.hbm, 102, rfl⟩
abbrev main_call3_v1 : Ref sig .tc := ⟨.hbm, 103, rfl⟩
abbrev main_call3_c_0 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_c_1 : Ref sig .tc := ⟨.hbm, 108, rfl⟩
abbrev main_call3_c_2 : Ref sig .tc := ⟨.hbm, 109, rfl⟩
abbrev main_call3_v5 : Ref sig .tc := ⟨.hbm, 110, rfl⟩
abbrev main_call3_v6 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_call3_c_3 : Ref sig .tc := ⟨.hbm, 116, rfl⟩
abbrev main_call3_v11 : Ref sig .tc := ⟨.hbm, 117, rfl⟩
abbrev main_call3_v12 : Ref sig .tc := ⟨.hbm, 118, rfl⟩
abbrev main_call3_v13 : Ref sig .tc := ⟨.hbm, 119, rfl⟩
abbrev main_call3_cst : Ref sig .tc := ⟨.hbm, 120, rfl⟩
abbrev main_call3_v14 : Ref sig .tc := ⟨.hbm, 121, rfl⟩
abbrev main_v28 : Ref sig .tc := ⟨.hbm, 122, rfl⟩
abbrev main_v29 : Ref sig .tc := ⟨.hbm, 123, rfl⟩
abbrev main_call4_c : Ref sig .tc := ⟨.hbm, 124, rfl⟩
abbrev main_call4_v0 : Ref sig .tc := ⟨.hbm, 125, rfl⟩
abbrev main_call4_v1 : Ref sig .tc := ⟨.hbm, 126, rfl⟩
abbrev main_call4_c_0 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_call4_v5 : Ref sig .tc := ⟨.hbm, 131, rfl⟩
abbrev main_call4_c_1 : Ref sig .tc := ⟨.hbm, 132, rfl⟩
abbrev main_call4_c_2 : Ref sig .tc := ⟨.hbm, 133, rfl⟩
abbrev main_call4_v6 : Ref sig .tc := ⟨.hbm, 134, rfl⟩
abbrev main_call4_v7 : Ref sig .tc := ⟨.hbm, 135, rfl⟩
abbrev main_call4_v8 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_c_3 : Ref sig .tc := ⟨.hbm, 140, rfl⟩
abbrev main_call4_v12 : Ref sig .tc := ⟨.hbm, 141, rfl⟩
abbrev main_call4_v13 : Ref sig .tc := ⟨.hbm, 142, rfl⟩
abbrev main_call4_cst : Ref sig .tc := ⟨.hbm, 143, rfl⟩
abbrev main_call4_v14 : Ref sig .tc := ⟨.hbm, 144, rfl⟩
abbrev main_v30 : Ref sig .tc := ⟨.hbm, 145, rfl⟩
abbrev main_v31 : Ref sig .tc := ⟨.hbm, 146, rfl⟩
abbrev main_call5_c : Ref sig .tc := ⟨.hbm, 147, rfl⟩
abbrev main_call5_v0 : Ref sig .tc := ⟨.hbm, 148, rfl⟩
abbrev main_call5_v1 : Ref sig .tc := ⟨.hbm, 149, rfl⟩
abbrev main_call5_c_0 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_c_1 : Ref sig .tc := ⟨.hbm, 155, rfl⟩
abbrev main_call5_c_2 : Ref sig .tc := ⟨.hbm, 156, rfl⟩
abbrev main_call5_v6 : Ref sig .tc := ⟨.hbm, 157, rfl⟩
abbrev main_call5_v7 : Ref sig .tc := ⟨.hbm, 158, rfl⟩
abbrev main_call5_v8 : Ref sig .tc := ⟨.hbm, 159, rfl⟩
abbrev main_call5_v9 : Ref sig .tc := ⟨.hbm, 160, rfl⟩
abbrev main_call5_v10 : Ref sig .tc := ⟨.hbm, 161, rfl⟩
abbrev main_call5_v11 : Ref sig .tc := ⟨.hbm, 162, rfl⟩
abbrev main_call5_c_3 : Ref sig .tc := ⟨.hbm, 163, rfl⟩
abbrev main_call5_v12 : Ref sig .tc := ⟨.hbm, 164, rfl⟩
abbrev main_call5_v13 : Ref sig .tc := ⟨.hbm, 165, rfl⟩
abbrev main_call5_v14 : Ref sig .tc := ⟨.hbm, 166, rfl⟩
abbrev main_call5_cst : Ref sig .tc := ⟨.hbm, 167, rfl⟩
abbrev main_call5_v15 : Ref sig .tc := ⟨.hbm, 168, rfl⟩
abbrev main_v32 : Ref sig .tc := ⟨.hbm, 169, rfl⟩
abbrev main_v33 : Ref sig .tc := ⟨.hbm, 170, rfl⟩
abbrev main_v34 : Ref sig .tc := ⟨.hbm, 171, rfl⟩
abbrev main_v35 : Ref sig .tc := ⟨.hbm, 172, rfl⟩
abbrev main_v36 : Ref sig .tc := ⟨.hbm, 173, rfl⟩
abbrev main_v37 : Ref sig .tc := ⟨.hbm, 174, rfl⟩
abbrev main_cst : Ref sig .tc := ⟨.hbm, 175, rfl⟩
abbrev main_v38 : Ref sig .tc := ⟨.hbm, 176, rfl⟩
abbrev main_v39 : Ref sig .tc := ⟨.hbm, 177, rfl⟩
abbrev main_v40 : Ref sig .tc := ⟨.hbm, 178, rfl⟩
abbrev main_v41 : Ref sig .tc := ⟨.hbm, 179, rfl⟩
abbrev main_v42 : Ref sig .tc := ⟨.hbm, 180, rfl⟩
abbrev main_v43 : Ref sig .tc := ⟨.hbm, 181, rfl⟩
abbrev main_v44 : Ref sig .tc := ⟨.hbm, 182, rfl⟩
abbrev main_cst_1 : Ref sig .tc := ⟨.hbm, 183, rfl⟩
abbrev main_v45 : Ref sig .tc := ⟨.hbm, 184, rfl⟩
abbrev main_v46 : Ref sig .tc := ⟨.hbm, 185, rfl⟩
abbrev main_v47 : Ref sig .tc := ⟨.hbm, 186, rfl⟩
abbrev main_v48 : Ref sig .tc := ⟨.hbm, 187, rfl⟩
abbrev main_v49 : Ref sig .tc := ⟨.hbm, 188, rfl⟩
abbrev main_v50 : Ref sig .tc := ⟨.hbm, 189, rfl⟩
abbrev main_v51 : Ref sig .tc := ⟨.hbm, 190, rfl⟩
abbrev main_v52 : Ref sig .tc := ⟨.hbm, 191, rfl⟩
abbrev main_v53 : Ref sig .tc := ⟨.hbm, 192, rfl⟩
abbrev main_v54 : Ref sig .tc := ⟨.hbm, 193, rfl⟩
abbrev main_v55 : Ref sig .tc := ⟨.hbm, 194, rfl⟩
abbrev main_v56 : Ref sig .tc := ⟨.hbm, 195, rfl⟩
abbrev main_v57 : Ref sig .tc := ⟨.hbm, 196, rfl⟩
abbrev main_v58 : Ref sig .tc := ⟨.hbm, 197, rfl⟩
abbrev main_v59 : Ref sig .tc := ⟨.hbm, 198, rfl⟩
abbrev main_v60 : Ref sig .tc := ⟨.hbm, 199, rfl⟩
abbrev main_v61 : Ref sig .tc := ⟨.hbm, 200, rfl⟩
abbrev main_v62 : Ref sig .tc := ⟨.hbm, 201, rfl⟩
abbrev main_v63 : Ref sig .tc := ⟨.hbm, 202, rfl⟩
abbrev main_v64 : Ref sig .tc := ⟨.hbm, 203, rfl⟩
abbrev main_cst_2 : Ref sig .tc := ⟨.hbm, 204, rfl⟩
abbrev main_cst_3 : Ref sig .tc := ⟨.hbm, 205, rfl⟩
abbrev main_call6_v0 : Ref sig .tc := ⟨.hbm, 206, rfl⟩
abbrev main_call6_v1 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_v65 : Ref sig .tc := ⟨.hbm, 211, rfl⟩
abbrev main_v66 : Ref sig .tc := ⟨.hbm, 212, rfl⟩
abbrev main_v67 : Ref sig .tc := ⟨.hbm, 213, rfl⟩
abbrev main_cst_4 : Ref sig .tc := ⟨.hbm, 214, rfl⟩
abbrev main_cst_5 : Ref sig .tc := ⟨.hbm, 215, rfl⟩
abbrev main_call7_v0 : Ref sig .tc := ⟨.hbm, 216, rfl⟩
abbrev main_call7_v1 : Ref sig .tc := ⟨.hbm, 217, rfl⟩
abbrev main_call7_v2 : Ref sig .tc := ⟨.hbm, 218, rfl⟩
abbrev main_call7_v3 : Ref sig .tc := ⟨.hbm, 219, rfl⟩
abbrev main_call7_v4 : Ref sig .tc := ⟨.hbm, 220, rfl⟩
abbrev main_v68 : Ref sig .tc := ⟨.hbm, 221, rfl⟩
abbrev main_v69 : Ref sig .tc := ⟨.hbm, 222, rfl⟩
abbrev main_v70 : Ref sig .tc := ⟨.hbm, 223, rfl⟩
abbrev main_v71 : Ref sig .tc := ⟨.hbm, 224, rfl⟩
abbrev main_v72 : Ref sig .tc := ⟨.hbm, 225, rfl⟩
abbrev main_v73 : Ref sig .tc := ⟨.hbm, 226, rfl⟩
abbrev main_v74 : Ref sig .tc := ⟨.hbm, 227, rfl⟩
abbrev main_cst_6 : Ref sig .tc := ⟨.hbm, 228, rfl⟩
abbrev main_v75 : Ref sig .tc := ⟨.hbm, 229, rfl⟩
abbrev main_v76 : Ref sig .tc := ⟨.hbm, 230, rfl⟩
abbrev main_v77 : Ref sig .tc := ⟨.hbm, 231, rfl⟩
abbrev main_cst_7 : Ref sig .tc := ⟨.hbm, 232, rfl⟩
abbrev main_v78 : Ref sig .tc := ⟨.hbm, 233, rfl⟩
abbrev main_v79 : Ref sig .tc := ⟨.hbm, 234, rfl⟩
abbrev main_v80 : Ref sig .tc := ⟨.hbm, 235, rfl⟩
abbrev main_cst_8 : Ref sig .tc := ⟨.hbm, 236, rfl⟩
abbrev main_v81 : Ref sig .tc := ⟨.hbm, 237, rfl⟩
abbrev main_v82 : Ref sig .tc := ⟨.hbm, 238, rfl⟩
abbrev main_v83 : Ref sig .tc := ⟨.hbm, 239, rfl⟩
abbrev main_cst_9 : Ref sig .tc := ⟨.hbm, 240, rfl⟩
abbrev main_v84 : Ref sig .tc := ⟨.hbm, 241, rfl⟩
abbrev main_v85 : Ref sig .tc := ⟨.hbm, 242, rfl⟩
abbrev main_v86 : Ref sig .tc := ⟨.hbm, 243, rfl⟩
abbrev main_v87 : Ref sig .tc := ⟨.hbm, 244, rfl⟩
abbrev main_v88 : Ref sig .tc := ⟨.hbm, 245, rfl⟩
abbrev main_v89 : Ref sig .tc := ⟨.hbm, 246, rfl⟩
abbrev main_v90 : Ref sig .tc := ⟨.hbm, 247, rfl⟩
abbrev main_v91 : Ref sig .tc := ⟨.hbm, 248, rfl⟩
abbrev main_v92 : Ref sig .tc := ⟨.hbm, 249, rfl⟩
abbrev main_v93 : Ref sig .tc := ⟨.hbm, 250, rfl⟩
abbrev main_cst_10 : Ref sig .tc := ⟨.hbm, 251, rfl⟩
abbrev main_v94 : Ref sig .tc := ⟨.hbm, 252, rfl⟩
abbrev main_v95 : Ref sig .tc := ⟨.hbm, 253, rfl⟩
abbrev main_cst_11 : Ref sig .tc := ⟨.hbm, 254, rfl⟩
abbrev main_v96 : Ref sig .tc := ⟨.hbm, 255, rfl⟩
abbrev main_v97 : Ref sig .tc := ⟨.hbm, 256, rfl⟩
abbrev main_v98 : Ref sig .tc := ⟨.hbm, 257, rfl⟩
abbrev main_v99 : Ref sig .tc := ⟨.hbm, 258, rfl⟩
abbrev main_cst_12 : Ref sig .tc := ⟨.hbm, 259, rfl⟩
abbrev main_v100 : Ref sig .tc := ⟨.hbm, 260, rfl⟩
abbrev main_v101 : Ref sig .tc := ⟨.hbm, 261, rfl⟩
abbrev main_v102 : Ref sig .tc := ⟨.hbm, 262, rfl⟩
abbrev main_v103 : Ref sig .tc := ⟨.hbm, 263, rfl⟩
abbrev main_v104 : Ref sig .tc := ⟨.hbm, 264, rfl⟩
abbrev main_v105 : Ref sig .tc := ⟨.hbm, 265, rfl⟩
abbrev main_v106 : Ref sig .tc := ⟨.hbm, 266, rfl⟩
abbrev main_v107 : Ref sig .tc := ⟨.hbm, 267, rfl⟩
abbrev main_v108 : Ref sig .tc := ⟨.hbm, 268, rfl⟩
abbrev main_v109 : Ref sig .tc := ⟨.hbm, 269, rfl⟩
abbrev main_v110 : Ref sig .tc := ⟨.hbm, 270, rfl⟩
abbrev main_v111 : Ref sig .tc := ⟨.hbm, 271, rfl⟩
abbrev main_v112 : Ref sig .tc := ⟨.hbm, 272, rfl⟩
abbrev main_v113 : Ref sig .tc := ⟨.hbm, 273, rfl⟩
abbrev main_v114 : Ref sig .tc := ⟨.hbm, 274, rfl⟩
abbrev main_cst_13 : Ref sig .tc := ⟨.hbm, 275, rfl⟩
abbrev main_v115 : Ref sig .tc := ⟨.hbm, 276, rfl⟩
abbrev main_c_14 : Ref sig .tc := ⟨.hbm, 277, rfl⟩
abbrev main_v116_0 : Ref sig .tc := ⟨.hbm, 278, rfl⟩
abbrev main_v116_1 : Ref sig .tc := ⟨.hbm, 279, rfl⟩
abbrev main_v116_2 : Ref sig .tc := ⟨.hbm, 280, rfl⟩
abbrev main_v116_3 : Ref sig .tc := ⟨.hbm, 281, rfl⟩
abbrev main_v116_4 : Ref sig .tc := ⟨.hbm, 282, rfl⟩
abbrev main_v116_5 : Ref sig .tc := ⟨.hbm, 283, rfl⟩
abbrev main_v116_6 : Ref sig .tc := ⟨.hbm, 284, rfl⟩
abbrev main_v116_7 : Ref sig .tc := ⟨.hbm, 285, rfl⟩
abbrev main_while0c_c_22 : Ref sig .tc := ⟨.hbm, 286, rfl⟩
abbrev main_while0c_v118 : Ref sig .tc := ⟨.hbm, 287, rfl⟩
abbrev main_while0b_call8_v0 : Ref sig .tc := ⟨.hbm, 288, rfl⟩
abbrev main_while0b_call8_cst : Ref sig .tc := ⟨.hbm, 289, rfl⟩
abbrev main_while0b_call8_c : Ref sig .tc := ⟨.hbm, 290, rfl⟩
abbrev main_while0b_call8_v1_0 : Ref sig .tc := ⟨.hbm, 291, rfl⟩
abbrev main_while0b_v118 : Ref sig .tc := ⟨.hbm, 292, rfl⟩
abbrev main_while0b_call9_v0 : Ref sig .tc := ⟨.hbm, 293, rfl⟩
abbrev main_while0b_v119 : Ref sig .tc := ⟨.hbm, 294, rfl⟩
abbrev main_while0b_call10_v0 : Ref sig .tc := ⟨.hbm, 295, rfl⟩
abbrev main_while0b_v120 : Ref sig .tc := ⟨.hbm, 296, rfl⟩
abbrev main_while0b_call11_v0 : Ref sig .tc := ⟨.hbm, 297, rfl⟩
abbrev main_while0b_v121 : Ref sig .tc := ⟨.hbm, 298, rfl⟩
abbrev main_while0b_call12_v0 : Ref sig .tc := ⟨.hbm, 299, rfl⟩
abbrev main_while0b_v122 : Ref sig .tc := ⟨.hbm, 300, rfl⟩
abbrev main_while0b_v123 : Ref sig .tc := ⟨.hbm, 301, rfl⟩
abbrev main_while0b_v124 : Ref sig .tc := ⟨.hbm, 302, rfl⟩
abbrev main_while0b_v125 : Ref sig .tc := ⟨.hbm, 303, rfl⟩
abbrev main_while0b_v126 : Ref sig .tc := ⟨.hbm, 304, rfl⟩
abbrev main_while0b_v127 : Ref sig .tc := ⟨.hbm, 305, rfl⟩
abbrev main_while0b_v128 : Ref sig .tc := ⟨.hbm, 306, rfl⟩
abbrev main_while0b_v129 : Ref sig .tc := ⟨.hbm, 307, rfl⟩
abbrev main_while0b_v130 : Ref sig .tc := ⟨.hbm, 308, rfl⟩
abbrev main_while0b_v131 : Ref sig .tc := ⟨.hbm, 309, rfl⟩
abbrev main_while0b_v132 : Ref sig .tc := ⟨.hbm, 310, rfl⟩
abbrev main_while0b_v133 : Ref sig .tc := ⟨.hbm, 311, rfl⟩
abbrev main_while0b_v134 : Ref sig .tc := ⟨.hbm, 312, rfl⟩
abbrev main_while0b_v135 : Ref sig .tc := ⟨.hbm, 313, rfl⟩
abbrev main_while0b_v136 : Ref sig .tc := ⟨.hbm, 314, rfl⟩
abbrev main_while0b_v137 : Ref sig .tc := ⟨.hbm, 315, rfl⟩
abbrev main_while0b_v138 : Ref sig .tc := ⟨.hbm, 316, rfl⟩
abbrev main_while0b_v139 : Ref sig .tc := ⟨.hbm, 317, rfl⟩
abbrev main_while0b_v140 : Ref sig .tc := ⟨.hbm, 318, rfl⟩
abbrev main_while0b_v141 : Ref sig .tc := ⟨.hbm, 319, rfl⟩
abbrev main_while0b_v142 : Ref sig .tc := ⟨.hbm, 320, rfl⟩
abbrev main_while0b_v143 : Ref sig .tc := ⟨.hbm, 321, rfl⟩
abbrev main_while0b_v144 : Ref sig .tc := ⟨.hbm, 322, rfl⟩
abbrev main_while0b_v145 : Ref sig .tc := ⟨.hbm, 323, rfl⟩
abbrev main_while0b_v146 : Ref sig .tc := ⟨.hbm, 324, rfl⟩
abbrev main_while0b_v147 : Ref sig .tc := ⟨.hbm, 325, rfl⟩
abbrev main_while0b_v148 : Ref sig .tc := ⟨.hbm, 326, rfl⟩
abbrev main_while0b_v149 : Ref sig .tc := ⟨.hbm, 327, rfl⟩
abbrev main_while0b_v150 : Ref sig .tc := ⟨.hbm, 328, rfl⟩
abbrev main_while0b_v151 : Ref sig .tc := ⟨.hbm, 329, rfl⟩
abbrev main_while0b_cst_22 : Ref sig .tc := ⟨.hbm, 330, rfl⟩
abbrev main_while0b_call13_v0 : Ref sig .tc := ⟨.hbm, 331, rfl⟩
abbrev main_while0b_call13_v1 : Ref sig .tc := ⟨.hbm, 332, rfl⟩
abbrev main_while0b_v152 : Ref sig .tc := ⟨.hbm, 333, rfl⟩
abbrev main_while0b_v153 : Ref sig .tc := ⟨.hbm, 334, rfl⟩
abbrev main_while0b_cst_23 : Ref sig .tc := ⟨.hbm, 335, rfl⟩
abbrev main_while0b_call14_v0 : Ref sig .tc := ⟨.hbm, 336, rfl⟩
abbrev main_while0b_call14_v1 : Ref sig .tc := ⟨.hbm, 337, rfl⟩
abbrev main_while0b_v154 : Ref sig .tc := ⟨.hbm, 338, rfl⟩
abbrev main_while0b_v155 : Ref sig .tc := ⟨.hbm, 339, rfl⟩
abbrev main_while0b_v156 : Ref sig .tc := ⟨.hbm, 340, rfl⟩
abbrev main_while0b_v157 : Ref sig .tc := ⟨.hbm, 341, rfl⟩
abbrev main_while0b_v158 : Ref sig .tc := ⟨.hbm, 342, rfl⟩
abbrev main_while0b_v159 : Ref sig .tc := ⟨.hbm, 343, rfl⟩
abbrev main_while0b_v160 : Ref sig .tc := ⟨.hbm, 344, rfl⟩
abbrev main_while0b_v161 : Ref sig .tc := ⟨.hbm, 345, rfl⟩
abbrev main_while0b_v162 : Ref sig .tc := ⟨.hbm, 346, rfl⟩
abbrev main_while0b_v163 : Ref sig .tc := ⟨.hbm, 347, rfl⟩
abbrev main_while0b_v164 : Ref sig .tc := ⟨.hbm, 348, rfl⟩
abbrev main_while0b_v165 : Ref sig .tc := ⟨.hbm, 349, rfl⟩
abbrev main_while0b_v166 : Ref sig .tc := ⟨.hbm, 350, rfl⟩
abbrev main_while0b_v167 : Ref sig .tc := ⟨.hbm, 351, rfl⟩
abbrev main_while0b_v168 : Ref sig .tc := ⟨.hbm, 352, rfl⟩
abbrev main_while0b_v169 : Ref sig .tc := ⟨.hbm, 353, rfl⟩
abbrev main_while0b_v170 : Ref sig .tc := ⟨.hbm, 354, rfl⟩
abbrev main_while0b_cst_24 : Ref sig .tc := ⟨.hbm, 355, rfl⟩
abbrev main_while0b_v171 : Ref sig .tc := ⟨.hbm, 356, rfl⟩
abbrev main_while0b_v172 : Ref sig .tc := ⟨.hbm, 357, rfl⟩
abbrev main_while0b_v173 : Ref sig .tc := ⟨.hbm, 358, rfl⟩
abbrev main_while0b_cst_25 : Ref sig .tc := ⟨.hbm, 359, rfl⟩
abbrev main_while0b_v174 : Ref sig .tc := ⟨.hbm, 360, rfl⟩
abbrev main_while0b_v175 : Ref sig .tc := ⟨.hbm, 361, rfl⟩
abbrev main_while0b_cst_26 : Ref sig .tc := ⟨.hbm, 362, rfl⟩
abbrev main_while0b_call15_v0 : Ref sig .tc := ⟨.hbm, 363, rfl⟩
abbrev main_while0b_call15_v1 : Ref sig .tc := ⟨.hbm, 364, rfl⟩
abbrev main_while0b_call15_v2 : Ref sig .tc := ⟨.hbm, 365, rfl⟩
abbrev main_while0b_v176 : Ref sig .tc := ⟨.hbm, 366, rfl⟩
abbrev main_while0b_cst_27 : Ref sig .tc := ⟨.hbm, 367, rfl⟩
abbrev main_while0b_v177 : Ref sig .tc := ⟨.hbm, 368, rfl⟩
abbrev main_while0b_v178 : Ref sig .tc := ⟨.hbm, 369, rfl⟩
abbrev main_while0b_v179 : Ref sig .tc := ⟨.hbm, 370, rfl⟩
abbrev main_while0b_v180 : Ref sig .tc := ⟨.hbm, 371, rfl⟩
abbrev main_while0b_v181 : Ref sig .tc := ⟨.hbm, 372, rfl⟩
abbrev main_while0b_v182 : Ref sig .tc := ⟨.hbm, 373, rfl⟩
abbrev main_while0b_v183 : Ref sig .tc := ⟨.hbm, 374, rfl⟩
abbrev main_while0b_v184 : Ref sig .tc := ⟨.hbm, 375, rfl⟩
abbrev main_while0b_v185 : Ref sig .tc := ⟨.hbm, 376, rfl⟩
abbrev main_while0b_v186 : Ref sig .tc := ⟨.hbm, 377, rfl⟩
abbrev main_while0b_v187 : Ref sig .tc := ⟨.hbm, 378, rfl⟩
abbrev main_while0b_v188 : Ref sig .tc := ⟨.hbm, 379, rfl⟩
abbrev main_while0b_v189 : Ref sig .tc := ⟨.hbm, 380, rfl⟩
abbrev main_while0b_v190 : Ref sig .tc := ⟨.hbm, 381, rfl⟩
abbrev main_while0b_v191 : Ref sig .tc := ⟨.hbm, 382, rfl⟩
abbrev main_while0b_v192 : Ref sig .tc := ⟨.hbm, 383, rfl⟩
abbrev main_while0b_v193 : Ref sig .tc := ⟨.hbm, 384, rfl⟩
abbrev main_while0b_v194 : Ref sig .tc := ⟨.hbm, 385, rfl⟩
abbrev main_while0b_v195 : Ref sig .tc := ⟨.hbm, 386, rfl⟩
abbrev main_while0b_v196 : Ref sig .tc := ⟨.hbm, 387, rfl⟩
abbrev main_while0b_v197 : Ref sig .tc := ⟨.hbm, 388, rfl⟩
abbrev main_while0b_v198 : Ref sig .tc := ⟨.hbm, 389, rfl⟩
abbrev main_while0b_cst_28 : Ref sig .tc := ⟨.hbm, 390, rfl⟩
abbrev main_while0b_v199 : Ref sig .tc := ⟨.hbm, 391, rfl⟩
abbrev main_while0b_v200 : Ref sig .tc := ⟨.hbm, 392, rfl⟩
abbrev main_while0b_v201 : Ref sig .tc := ⟨.hbm, 393, rfl⟩
abbrev main_while0b_v202 : Ref sig .tc := ⟨.hbm, 394, rfl⟩
abbrev main_while0b_v203 : Ref sig .tc := ⟨.hbm, 395, rfl⟩
abbrev main_while0b_v204 : Ref sig .tc := ⟨.hbm, 396, rfl⟩
abbrev main_while0b_v205 : Ref sig .tc := ⟨.hbm, 397, rfl⟩
abbrev main_while0b_v206 : Ref sig .tc := ⟨.hbm, 398, rfl⟩
abbrev main_while0b_v207 : Ref sig .tc := ⟨.hbm, 399, rfl⟩
abbrev main_while0b_v208 : Ref sig .tc := ⟨.hbm, 400, rfl⟩
abbrev main_while0b_v209 : Ref sig .tc := ⟨.hbm, 401, rfl⟩
abbrev main_while0b_v210 : Ref sig .tc := ⟨.hbm, 402, rfl⟩
abbrev main_while0b_v211 : Ref sig .tc := ⟨.hbm, 403, rfl⟩
abbrev main_while0b_call16_v0 : Ref sig .tc := ⟨.hbm, 404, rfl⟩
abbrev main_while0b_call16_c : Ref sig .tc := ⟨.hbm, 405, rfl⟩
abbrev main_while0b_call16_c_0 : Ref sig .tc := ⟨.hbm, 406, rfl⟩
abbrev main_while0b_v212 : Ref sig .tc := ⟨.hbm, 407, rfl⟩
abbrev main_while0b_c_29 : Ref sig .tc := ⟨.hbm, 408, rfl⟩
abbrev main_while0b_v213 : Ref sig .tc := ⟨.hbm, 409, rfl⟩
abbrev main_v117 : Ref sig .tc := ⟨.hbm, 410, rfl⟩

abbrev nD : Nat := 1
abbrev τ : Topo := Topo.v7x

variable {F : FTy → Type} [FloatOps F]

abbrev main_while0_count : Scf.Loop 32 := ⟨0#32, 100#32, 1#32⟩
-- ==== Proof.KIRun.lean ====
/- The kernel's run: what its body leaves in the result's buffer, the pipeline around it, and the frame. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.PureOps.BitExact

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the frame kit. -/
local notation "𝕄" => MT nD τ sig Unit (Elt F) ℕ (UR sig nD τ) ℕ

/-! ## The body's value -/

/-- What a trip of the kernel's loop hands the next: the scores and the six columns of detections. -/
abbrev Carry (F : FTy → Type) : Type :=
  FVec F S8x5120 .f32 × FVec F S8x128 .f32 × FVec F S8x128 .f32 × FVec F S8x128 .f32 × FVec F S8x128 .f32 × FVec F S8x128 .f32 × FVec F S8x128 .f32

/-- The values that the loop reads and does not change: the corners of the boxes, their classes, the corners moved apart by
    class, the areas and the scales. -/
structure Fixed (F : FTy → Type) where
  y0 : FVec F S8x5120 .f32
  x0 : FVec F S8x5120 .f32
  y1 : FVec F S8x5120 .f32
  x1 : FVec F S8x5120 .f32
  cls : FVec F S8x5120 .f32
  ny0 : FVec F S8x5120 .f32
  nx0 : FVec F S8x5120 .f32
  ny1 : FVec F S8x5120 .f32
  nx1 : FVec F S8x5120 .f32
  area : FVec F S8x5120 .f32
  scale : FVec F S8x1 .f32

/-- The lane numbers of a row of scores, and those of a row of detections. -/
def lanes : IVec S8x5120 32 := iota .tc S8x5120 32 [1] iota_S8x5120_d1_w32
def slots : IVec S8x128 32 := iota .tc S8x128 32 [1] iota_S8x128_d1_w32

/-- Trip `k` of the loop. -/
def trip (f : Fixed F) (k : ℕ) (a : Carry F) : Carry F :=
  (k0_pay17 f.area a.1 (k0_pay10 f.cls f.y0 lanes a.1) (k0_pay11 f.cls f.x0 lanes a.1) (k0_pay12 f.cls f.y1 lanes a.1)
      (k0_pay13 f.cls f.x1 lanes a.1) (k0_pay14 f.cls f.x0 f.nx0 lanes a.1) (k0_pay15 f.cls f.x1 f.nx1 lanes a.1)
      (k0_pay16 f.cls f.y0 f.y1 f.ny0 f.ny1 lanes a.1),
    k0_pay20 f.scale slots a.2.1 (Scf.iv 0#32 1#32 k) (k0_pay2 a.1) (k0_pay5 f.x0 lanes a.1),
    k0_pay21 f.scale slots a.2.2.1 (Scf.iv 0#32 1#32 k) (k0_pay2 a.1) (k0_pay4 f.y0 lanes a.1),
    k0_pay22 f.scale slots a.2.2.2.1 (Scf.iv 0#32 1#32 k) (k0_pay2 a.1) (k0_pay5 f.x0 lanes a.1) (k0_pay7 f.x1 lanes a.1),
    k0_pay23 f.scale slots a.2.2.2.2.1 (Scf.iv 0#32 1#32 k) (k0_pay2 a.1) (k0_pay4 f.y0 lanes a.1) (k0_pay6 f.y1 lanes a.1),
    k0_pay24 slots a.2.2.2.2.2.1 (Scf.iv 0#32 1#32 k) (k0_pay2 a.1),
    k0_pay55 a.2.2.2.2.2.2 (k0_pay8 f.cls lanes a.1) (k0_pay18 (k0_pay2 a.1)) (k0_pay19 slots (Scf.iv 0#32 1#32 k)))

/-- The values before the loop, from the five operands' blocks. -/
def fixed (x1 x2 : FVec F S8x4x5120 .f32) (x3 : FVec F S8x5120 .f32) (x4 : FVec F S8x1 .f32) : Fixed F :=
  let r0 := (Rect.unit (s := S8x4x5120) ![0, 0, 0] S8x1x5120.size inb_S8x4x5120_S8x1x5120_0_0_0)
  let r1 := (Rect.unit (s := S8x4x5120) ![0, 1, 0] S8x1x5120.size inb_S8x4x5120_S8x1x5120_0_1_0)
  let r2 := (Rect.unit (s := S8x4x5120) ![0, 2, 0] S8x1x5120.size inb_S8x4x5120_S8x1x5120_0_2_0)
  let r3 := (Rect.unit (s := S8x4x5120) ![0, 3, 0] S8x1x5120.size inb_S8x4x5120_S8x1x5120_0_3_0)
  let v8 : FVec F S8x5120 .f32 := k0_pay26 (View.ld x3 (Rect.unit (s := S8x5120) ![0, 0] S8x5120.size inb_S8x5120_S8x5120_0_0))
  let v12 : FVec F S8x5120 .f32 := k0_pay28 (View.ld x1 r0)
  let v14 : FVec F S8x5120 .f32 := k0_pay29 (View.ld x1 r1)
  let v16 : FVec F S8x5120 .f32 := k0_pay30 (View.ld x1 r2)
  let v18 : FVec F S8x5120 .f32 := k0_pay31 (View.ld x1 r3)
  let v20 : FVec F S8x5120 .f32 := k0_pay32 (View.ld x2 r0)
  let v22 : FVec F S8x5120 .f32 := k0_pay33 (View.ld x2 r1)
  let v24 : FVec F S8x5120 .f32 := k0_pay34 (View.ld x2 r2)
  let v26 : FVec F S8x5120 .f32 := k0_pay35 (View.ld x2 r3)
  let v27 : FVec F S8x5120 .f32 := k0_pay36 (View.ld x2 r0) (View.ld x2 r2)
  { y0 := k0_pay43 v12 v16 v20 v24 v27
    x0 := k0_pay44 v14 v18 v22 v26
    y1 := k0_pay45 v12 v16 v20 v24 v27
    x1 := k0_pay46 v14 v18 v22 v26
    cls := v8
    ny0 := k0_pay48 v8 v12 v16 v20 v24 v27
    nx0 := k0_pay49 v8 v14 v18 v22 v26
    ny1 := k0_pay50 v8 v12 v16 v20 v24 v27
    nx1 := k0_pay51 v8 v14 v18 v22 v26
    area := k0_pay52 v8 v12 v14 v16 v18 v20 v22 v24 v26 v27
    scale := k0_pay27 (View.ld x4 (Rect.unit (s := S8x1) ![0, 0] S8x1.size inb_S8x1_S8x1_0_0)) }

/-- The scores before the loop. -/
def scores (x0 : FVec F S8x5120 .f32) : FVec F S8x5120 .f32 :=
  k0_pay53 (k0_pay25 (View.ld x0 (Rect.unit (s := S8x5120) ![0, 0] S8x5120.size inb_S8x5120_S8x5120_0_0)))

/-- What the loop starts from. -/
def start (x0 : FVec F S8x5120 .f32) : Carry F := (scores x0, k0_pay54, k0_pay54, k0_pay54, k0_pay54, k0_pay54, k0_pay54)

/-- The carried values before trip `k`. -/
def carried (f : Fixed F) (a : Carry F) : ℕ → Carry F
  | 0 => a
  | k + 1 => trip f k (carried f a k)

/-- A fold over the first `n` numbers by trips. -/
theorem foldl_trip (f : Fixed F) (a : Carry F) (n : ℕ) :
    (List.finRange n).foldl (fun acc k => trip f k.val acc) a = carried f a n := by
  induction n with
  | zero => rfl
  | succ n ih =>
    rw [List.finRange_succ_last, List.foldl_append, List.foldl_map]
    exact congrArg (trip f n) ih

theorem trips_eq : k0_t1_loop.trips = 100 := by decide +kernel

/-- What the loop leaves. -/
def final (x0 : FVec F S8x5120 .f32) (x1 x2 : FVec F S8x4x5120 .f32) (x3 : FVec F S8x5120 .f32) (x4 : FVec F S8x1 .f32) : Carry F :=
  carried (fixed x1 x2 x3 x4) (start x0) 100

/-- The loop's fold is that. -/
theorem fold_trip (f : Fixed F) (a : Carry F) : Scf.fold (n := k0_t1_loop.trips) (fun k a => trip f k.val a) a = carried f a 100 := by
  rw [Scf.fold_eq, foldl_trip, trips_eq]

set_option maxRecDepth 65536 in
/-- The loop's region computes a trip and touches no memory. -/
theorem region_eq (M0 : Memref sig .tc .vmem S8x5120 .f32) (h0 : M0.IsWhole)
    (M1 : Memref sig .tc .vmem S8x4x5120 .f32) (h1 : M1.IsWhole) (M2 : Memref sig .tc .vmem S8x4x5120 .f32) (h2 : M2.IsWhole)
    (M3 : Memref sig .tc .vmem S8x5120 .f32) (h3 : M3.IsWhole) (M4 : Memref sig .tc .vmem S8x1 .f32) (h4 : M4.IsWhole)
    (M5 : Memref sig .tc .vmem S8x8x128 .f32) (h5 : M5.IsWhole) (v8 : FVec F S8x5120 .f32) (v10 : FVec F S8x1 .f32)
    (v53 v56 v59 v62 v65 v66 v67 v68 v71 v72 : FVec F S8x5120 .f32) (v73 : IVec S8x5120 32)
    (v74 : IVec S8x128 32) (v75 : FVec F S8x128 .f32) (hl : v73 = lanes) (hs : v74 = slots) :
    k0_t1_body M0 h0 M1 h1 M2 h2 M3 h3 M4 h4 M5 h5 v8 v10 v53 v56 v59 v62 v65 v66 v67 v68 v71 v72 v73 v74 v75
      = fun k a => .ret (trip ⟨v53, v56, v59, v62, v8, v65, v66, v67, v68, v71, v10⟩ k.val a) := by
  subst hl hs
  rfl

/-- The loop over trips returns what they leave. -/
theorem loop_eq (f : Fixed F) (a : Carry F) :
    Scf.Loop.for k0_t1_loop k0_t1_ok a (fun k a => (.ret (trip f k.val a) : Prog (TpuEff nD τ sig (Elt F) Λ₀ .tc) (Carry F)))
      = .ret (carried f a 100) :=
  (Scf.for_pure _ _ _ _ _ _ (fun k a => trip f k.val a) fun _ _ => rfl).trans (congrArg _ (fold_trip f a))

/-- The eight rows that the body stores, the last stored first. -/
def pieces (a : Carry F) : List (View.Piece (Elt F) S8x8x128 .f32) :=
  [⟨(Rect.unit (s := S8x8x128) ![0, 7, 0] S8x1x128.size inb_S8x8x128_S8x1x128_0_7_0), k0_pay1 k0_pay54⟩,
   ⟨(Rect.unit (s := S8x8x128) ![0, 6, 0] S8x1x128.size inb_S8x8x128_S8x1x128_0_6_0), k0_pay62 k0_pay54⟩,
   ⟨(Rect.unit (s := S8x8x128) ![0, 5, 0] S8x1x128.size inb_S8x8x128_S8x1x128_0_5_0), k0_pay61 a.2.2.2.2.2.2⟩,
   ⟨(Rect.unit (s := S8x8x128) ![0, 4, 0] S8x1x128.size inb_S8x8x128_S8x1x128_0_4_0), k0_pay60 a.2.2.2.2.2.1⟩,
   ⟨(Rect.unit (s := S8x8x128) ![0, 3, 0] S8x1x128.size inb_S8x8x128_S8x1x128_0_3_0), k0_pay59 a.2.2.2.2.1⟩,
   ⟨(Rect.unit (s := S8x8x128) ![0, 2, 0] S8x1x128.size inb_S8x8x128_S8x1x128_0_2_0), k0_pay58 a.2.2.2.1⟩,
   ⟨(Rect.unit (s := S8x8x128) ![0, 1, 0] S8x1x128.size inb_S8x8x128_S8x1x128_0_1_0), k0_pay57 a.2.2.1⟩,
   ⟨(Rect.unit (s := S8x8x128) ![0, 0, 0] S8x1x128.size inb_S8x8x128_S8x1x128_0_0_0), k0_pay56 a.2.1⟩]

/-- The rows cover the result's buffer. -/
theorem cover (a : Carry F) : ∀ y : S8x8x128.Idx, ∃ p ∈ pieces a, y ∈ p.1.set := fun y =>
  View.cover_of_tiled (pieces a) S8x1x128.size (by rfl) y

/-- What the body leaves in the result's buffer. -/
def out (x0 : FVec F S8x5120 .f32) (x1 x2 : FVec F S8x4x5120 .f32) (x3 : FVec F S8x5120 .f32) (x4 : FVec F S8x1 .f32) : Vec F S8x8x128 .f32 :=
  View.canon (pieces (final x0 x1 x2 x3 x4))

set_option maxRecDepth 65536 in
set_option maxHeartbeats 1000000 in
/-- The body's triple: the inputs' buffers stay, and the result's ends at `out`. -/
theorem kernelRun (c : Dev nD) (M0 : Memref sig .tc .vmem S8x5120 .f32) (h0 : M0.IsWhole)
    (M1 : Memref sig .tc .vmem S8x4x5120 .f32) (h1 : M1.IsWhole) (M2 : Memref sig .tc .vmem S8x4x5120 .f32) (h2 : M2.IsWhole)
    (M3 : Memref sig .tc .vmem S8x5120 .f32) (h3 : M3.IsWhole) (M4 : Memref sig .tc .vmem S8x1 .f32) (h4 : M4.IsWhole)
    (M5 : Memref sig .tc .vmem S8x8x128 .f32) (h5 : M5.IsWhole)
    (x0 : FVec F S8x5120 .f32) (x1 x2 : FVec F S8x4x5120 .f32) (x3 : FVec F S8x5120 .f32) (x4 : FVec F S8x1 .f32)
    (E : Set ℕ) (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ (∃ d, owns (c : Thread nD τ) M5 fullShare d)
        ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4
            ∗ owns (c : Thread nD τ) M5 fullShare (out x0 x1 x2 x3 x4)) -∗ K ⟨⟩))
      ⊢ wp frame (wpE (defs₀ (F := F)) Variants.none c none) E (cc0__nms_kernel M0 h0 M1 h1 M2 h2 M3 h3 M4 h4 M5 h5) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  simp only [cc0__nms_kernel_eq_skeleton]
  unfold cc0__nms_kernel_skel
  simp only [k0_part3_eq_skeleton, k0_part4_eq_skeleton, k0_part5_eq_skeleton]
  unfold k0_part3_skel k0_part4_skel k0_part5_skel
  sl_exec
  dsimp only
  rw [region_eq (hl := by rfl) (hs := by rfl)]
  rw [loop_eq]
  generalize hR : carried (F := F) _ _ 100 = R
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  have hf : final (F := F) (M0.view.read (Elt F) f0 : FVec F S8x5120 .f32) (M1.view.read (Elt F) f1 : FVec F S8x4x5120 .f32) (M2.view.read (Elt F) f2 : FVec F S8x4x5120 .f32)
      (M3.view.read (Elt F) f3 : FVec F S8x5120 .f32) (M4.view.read (Elt F) f4 : FVec F S8x1 .f32) = R :=
    Eq.trans (congrArg₂ (fun (f : Fixed F) a => carried f a 100) rfl rfl) hR
  unfold out
  rw [hf]
  iexists _; isplitr; swap; · iexact H5
  ipureintro
  exact View.read_writes_eq_canon _ _ (pieces R) (cover R)

/-! ## The pipeline around it -/

variable (m : (ℓ : Loc nD τ sig) → Buf (Elt F) ℓ) (ρ : Dev nD → PrngReg)

/-- The arrays as the region finds them; after the body each input's buffer at its block and the result's at `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body obligation: `kernelRun` at the point's staging buffers. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (kernelRun c _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

-- the rule's implicit arguments are found by unifying its conclusion with this one, which takes unfolding plain
-- definitions in a metavariable's type
set_option backward.isDefEq.respectTransparency.types false in
/-- The whole run: every array of the pipeline ends at what the proof data say, then the host operations after the region
    run, and every semaphore counter is zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the arguments are unchanged and every semaphore counter is zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_with_sems (frame_of m ρ (dats m) (A_eq m)) (run_main m ρ)

end Cert.Proof.KI

end
-- ==== Proof.RefOps.lean ====
/- The reference program as stretches of host operations: the stretches before the loop, those of one trip, and the one after
   it, and the equations that make the program the chain of them. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- Stretch of operations before the loop. -/
abbrev pre0 : List (HloOp τ sig (Elt F)) :=
  [ unary main_arg0 main_v0 ((transpose S8x64x64x810 [0, 2, 3, 1] · transposes_S8x810x64x64_S8x64x64x810_0_2_3_1) : (⟨S8x810x64x64, .f32⟩ : BufTy).Contents (Elt F) → (⟨S8x64x64x810, .f32⟩ : BufTy).Contents (Elt F)),
    reshape main_v0 main_v1 (rfl : (.f32 : EltTy) = .f32) shapeCasts_S8x64x64x810_S8x36864x90,
    unary main_arg1 main_v2 ((transpose S8x32x32x810 [0, 2, 3, 1] · transposes_S8x810x32x32_S8x32x32x810_0_2_3_1) : (⟨S8x810x32x32, .f32⟩ : BufTy).Contents (Elt F) → (⟨S8x32x32x810, .f32⟩ : BufTy).Contents (Elt F)),
    reshape main_v2 main_v3 (rfl : (.f32 : EltTy) = .f32) shapeCasts_S8x32x32x810_S8x9216x90,
    unary main_arg2 main_v4 ((transpose S8x16x16x810 [0, 2, 3, 1] · transposes_S8x810x16x16_S8x16x16x810_0_2_3_1) : (⟨S8x810x16x16, .f32⟩ : BufTy).Contents (Elt F) → (⟨S8x16x16x810, .f32⟩ : BufTy).Contents (Elt F)),
    reshape main_v4 main_v5 (rfl : (.f32 : EltTy) = .f32) shapeCasts_S8x16x16x810_S8x2304x90,
    unary main_arg3 main_v6 ((transpose S8x8x8x810 [0, 2, 3, 1] · transposes_S8x810x8x8_S8x8x8x810_0_2_3_1) : (⟨S8x810x8x8, .f32⟩ : BufTy).Contents (Elt F) → (⟨S8x8x8x810, .f32⟩ : BufTy).Contents (Elt F)),
    reshape main_v6 main_v7 (rfl : (.f32 : EltTy) = .f32) shapeCasts_S8x8x8x810_S8x576x90,
    unary main_arg4 main_v8 ((transpose S8x4x4x810 [0, 2, 3, 1] · transposes_S8x810x4x4_S8x4x4x810_0_2_3_1) : (⟨S8x810x4x4, .f32⟩ : BufTy).Contents (Elt F) → (⟨S8x4x4x810, .f32⟩ : BufTy).Contents (Elt F)),
    reshape main_v8 main_v9 (rfl : (.f32 : EltTy) = .f32) shapeCasts_S8x4x4x810_S8x144x90,
    nary ![main_v1, main_v3, main_v5, main_v7, main_v9] main_v10 (fun u => (concatenate S8x49104x90 1 [⟨S8x36864x90, (u 0 : (⟨S8x36864x90, .f32⟩ : BufTy).Contents (Elt F))⟩, ⟨S8x9216x90, (u 1 : (⟨S8x9216x90, .f32⟩ : BufTy).Contents (Elt F))⟩, ⟨S8x2304x90, (u 2 : (⟨S8x2304x90, .f32⟩ : BufTy).Contents (Elt F))⟩, ⟨S8x576x90, (u 3 : (⟨S8x576x90, .f32⟩ : BufTy).Contents (Elt F))⟩, ⟨S8x144x90, (u 4 : (⟨S8x144x90, .f32⟩ : BufTy).Contents (Elt F))⟩] concatenates_S8x36864x90_S8x9216x90_S8x2304x90_S8x576x90_S8x144x90_S8x49104x90_d1 : (⟨S8x49104x90, .f32⟩ : BufTy).Contents (Elt F))),
    unary main_arg5 main_v11 ((transpose S8x64x64x36 [0, 2, 3, 1] · transposes_S8x36x64x64_S8x64x64x36_0_2_3_1) : (⟨S8x36x64x64, .f32⟩ : BufTy).Contents (Elt F) → (⟨S8x64x64x36, .f32⟩ : BufTy).Contents (Elt F)),
    reshape main_v11 main_v12 (rfl : (.f32 : EltTy) = .f32) shapeCasts_S8x64x64x36_S8x36864x4,
    unary main_arg6 main_v13 ((transpose S8x32x32x36 [0, 2, 3, 1] · transposes_S8x36x32x32_S8x32x32x36_0_2_3_1) : (⟨S8x36x32x32, .f32⟩ : BufTy).Contents (Elt F) → (⟨S8x32x32x36, .f32⟩ : BufTy).Contents (Elt F)),
    reshape main_v13 main_v14 (rfl : (.f32 : EltTy) = .f32) shapeCasts_S8x32x32x36_S8x9216x4,
    unary main_arg7 main_v15 ((transpose S8x16x16x36 [0, 2, 3, 1] · transposes_S8x36x16x16_S8x16x16x36_0_2_3_1) : (⟨S8x36x16x16, .f32⟩ : BufTy).Contents (Elt F) → (⟨S8x16x16x36, .f32⟩ : BufTy).Contents (Elt F)),
    reshape main_v15 main_v16 (rfl : (.f32 : EltTy) = .f32) shapeCasts_S8x16x16x36_S8x2304x4,
    unary main_arg8 main_v17 ((transpose S8x8x8x36 [0, 2, 3, 1] · transposes_S8x36x8x8_S8x8x8x36_0_2_3_1) : (⟨S8x36x8x8, .f32⟩ : BufTy).Contents (Elt F) → (⟨S8x8x8x36, .f32⟩ : BufTy).Contents (Elt F)),
    reshape main_v17 main_v18 (rfl : (.f32 : EltTy) = .f32) shapeCasts_S8x8x8x36_S8x576x4,
    unary main_arg9 main_v19 ((transpose S8x4x4x36 [0, 2, 3, 1] · transposes_S8x36x4x4_S8x4x4x36_0_2_3_1) : (⟨S8x36x4x4, .f32⟩ : BufTy).Contents (Elt F) → (⟨S8x4x4x36, .f32⟩ : BufTy).Contents (Elt F)),
    reshape main_v19 main_v20 (rfl : (.f32 : EltTy) = .f32) shapeCasts_S8x4x4x36_S8x144x4,
    nary ![main_v12, main_v14, main_v16, main_v18, main_v20] main_v21 (fun u => (concatenate S8x49104x4 1 [⟨S8x36864x4, (u 0 : (⟨S8x36864x4, .f32⟩ : BufTy).Contents (Elt F))⟩, ⟨S8x9216x4, (u 1 : (⟨S8x9216x4, .f32⟩ : BufTy).Contents (Elt F))⟩, ⟨S8x2304x4, (u 2 : (⟨S8x2304x4, .f32⟩ : BufTy).Contents (Elt F))⟩, ⟨S8x576x4, (u 3 : (⟨S8x576x4, .f32⟩ : BufTy).Contents (Elt F))⟩, ⟨S8x144x4, (u 4 : (⟨S8x144x4, .f32⟩ : BufTy).Contents (Elt F))⟩] concatenates_S8x36864x4_S8x9216x4_S8x2304x4_S8x576x4_S8x144x4_S8x49104x4_d1 : (⟨S8x49104x4, .f32⟩ : BufTy).Contents (Elt F))),
    reshape main_v10 main_v22 (rfl : (.f32 : EltTy) = .f32) shapeCasts_S8x49104x90_S8x4419360,
    unary main_v22 main_values ((fun x => (Host.topK S8x5000 1 (FloatOps.cmpfTotal .gt) x sliceFits_S8x4419360_S8x5000).1) : (⟨S8x4419360, .f32⟩ : BufTy).Contents (Elt F) → (⟨S8x5000, .f32⟩ : BufTy).Contents (Elt F)),
    unary main_v22 main_indices ((fun x => (Host.topK S8x5000 1 (FloatOps.cmpfTotal .gt) x sliceFits_S8x4419360_S8x5000).2) : (⟨S8x4419360, .f32⟩ : BufTy).Contents (Elt F) → (⟨S8x5000, .i32⟩ : BufTy).Contents (Elt F)),
    nullary main_c (constantI S_ 32 90#32) ]
theorem pre0_sub : (pre0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nary_bufs_sub .., reshape_bufs_sub .., unary_bufs_sub .., unary_bufs_sub .., nullary_bufs_sub ..⟩
/-- Stretch of operations before the loop. -/
abbrev pre1 : List (HloOp τ sig (Elt F)) :=
  [ TRef.unary (.of main_c : TRef sig ⟨S_, .i32⟩) (.of main_call0_v0 : TRef sig ⟨S_, .i32⟩) id,
    TRef.unary (.of main_call0_v0 : TRef sig ⟨S_, .i32⟩) (.of main_call0_v1 : TRef sig ⟨S8x5000, .i32⟩) (broadcastInDim S8x5000 ![] bcast_S_S8x5000),
    TRef.binary (.of main_indices : TRef sig ⟨S8x5000, .i32⟩) (.of main_call0_v1 : TRef sig ⟨S8x5000, .i32⟩) (.of main_call0_v2 : TRef sig ⟨S8x5000, .i32⟩) Host.divsi,
    TRef.unary (.of main_indices : TRef sig ⟨S8x5000, .i32⟩) (.of main_call0_v3 : TRef sig ⟨S8x5000, .i32⟩) signi,
    TRef.unary (.of main_call0_v0 : TRef sig ⟨S_, .i32⟩) (.of main_call0_v4 : TRef sig ⟨S_, .i32⟩) signi,
    TRef.unary (.of main_call0_v4 : TRef sig ⟨S_, .i32⟩) (.of main_call0_v5 : TRef sig ⟨S8x5000, .i32⟩) (broadcastInDim S8x5000 ![] bcast_S_S8x5000),
    TRef.binary (.of main_call0_v3 : TRef sig ⟨S8x5000, .i32⟩) (.of main_call0_v5 : TRef sig ⟨S8x5000, .i32⟩) (.of main_call0_v6 : TRef sig ⟨S8x5000, .i1⟩) (cmpi .ne),
    TRef.unary (.of main_call0_v0 : TRef sig ⟨S_, .i32⟩) (.of main_call0_v7 : TRef sig ⟨S8x5000, .i32⟩) (broadcastInDim S8x5000 ![] bcast_S_S8x5000),
    TRef.binary (.of main_indices : TRef sig ⟨S8x5000, .i32⟩) (.of main_call0_v7 : TRef sig ⟨S8x5000, .i32⟩) (.of main_call0_v8 : TRef sig ⟨S8x5000, .i32⟩) Host.remsi,
    TRef.nullary (.of main_call0_c : TRef sig ⟨S_, .i32⟩) (constantI S_ 32 0#32),
    TRef.unary (.of main_call0_c : TRef sig ⟨S_, .i32⟩) (.of main_call0_v9 : TRef sig ⟨S8x5000, .i32⟩) (broadcastInDim S8x5000 ![] bcast_S_S8x5000),
    TRef.binary (.of main_call0_v8 : TRef sig ⟨S8x5000, .i32⟩) (.of main_call0_v9 : TRef sig ⟨S8x5000, .i32⟩) (.of main_call0_v10 : TRef sig ⟨S8x5000, .i1⟩) (cmpi .ne),
    TRef.binary (.of main_call0_v6 : TRef sig ⟨S8x5000, .i1⟩) (.of main_call0_v10 : TRef sig ⟨S8x5000, .i1⟩) (.of main_call0_v11 : TRef sig ⟨S8x5000, .i1⟩) andi,
    TRef.nullary (.of main_call0_c_0 : TRef sig ⟨S_, .i32⟩) (constantI S_ 32 1#32),
    TRef.unary (.of main_call0_c_0 : TRef sig ⟨S_, .i32⟩) (.of main_call0_v12 : TRef sig ⟨S8x5000, .i32⟩) (broadcastInDim S8x5000 ![] bcast_S_S8x5000),
    TRef.binary (.of main_call0_v2 : TRef sig ⟨S8x5000, .i32⟩) (.of main_call0_v12 : TRef sig ⟨S8x5000, .i32⟩) (.of main_call0_v13 : TRef sig ⟨S8x5000, .i32⟩) subi,
    TRef.ternary (.of main_call0_v11 : TRef sig ⟨S8x5000, .i1⟩) (.of main_call0_v13 : TRef sig ⟨S8x5000, .i32⟩) (.of main_call0_v2 : TRef sig ⟨S8x5000, .i32⟩) (.of main_v23 : TRef sig ⟨S8x5000, .i32⟩) select ]
theorem pre1_sub : (pre1 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
/-- Stretch of operations before the loop. -/
abbrev pre2 : List (HloOp τ sig (Elt F)) :=
  [ nullary main_c_0 (constantI S_ 32 90#32) ]
theorem pre2_sub : (pre2 : List (HloOp τ sig (Elt F))).Forall fun op => op.bufs ⊆ tcRefs τ sig :=
  nullary_bufs_sub ..
/-- Stretch of operations before the loop. -/
abbrev pre3 : List (HloOp τ sig (Elt F)) :=
  [ TRef.unary (.of main_c_0 : TRef sig ⟨S_, .i32⟩) (.of main_call1_v0 : TRef sig ⟨S_, .i32⟩) id,
    TRef.nullary (.of main_call1_c : TRef sig ⟨S_, .i32⟩) (constantI S_ 32 0#32),
    TRef.binary (.of main_call1_v0 : TRef sig ⟨S_, .i32⟩) (.of main_call1_c : TRef sig ⟨S_, .i32⟩) (.of main_call1_v1 : TRef sig ⟨S_, .i1⟩) (cmpi .eq),
    TRef.nullary (.of main_call1_c_0 : TRef sig ⟨S_, .i32⟩) (constantI S_ 32 1#32),
    TRef.ternary (.of main_call1_v1 : TRef sig ⟨S_, .i1⟩) (.of main_call1_c_0 : TRef sig ⟨S_, .i32⟩) (.of main_call1_v0 : TRef sig ⟨S_, .i32⟩) (.of main_call1_v2 : TRef sig ⟨S_, .i32⟩) select,
    TRef.unary main_call1_call0.v0 (.of main_call1_v3 : TRef sig ⟨S8x5000, .i32⟩) (broadcastInDim S8x5000 ![] bcast_S_S8x5000),
    TRef.binary (.of main_indices : TRef sig ⟨S8x5000, .i32⟩) (.of main_call1_v3 : TRef sig ⟨S8x5000, .i32⟩) (.of main_call1_v4 : TRef sig ⟨S8x5000, .i32⟩) Host.remsi,
    TRef.nullary (.of main_call1_c_1 : TRef sig ⟨S_, .i32⟩) (constantI S_ 32 0#32),
    TRef.unary (.of main_call1_c_1 : TRef sig ⟨S_, .i32⟩) (.of main_call1_v5 : TRef sig ⟨S8x5000, .i32⟩) (broadcastInDim S8x5000 ![] bcast_S_S8x5000),
    TRef.binary (.of main_call1_v4 : TRef sig ⟨S8x5000, .i32⟩) (.of main_call1_v5 : TRef sig ⟨S8x5000, .i32⟩) (.of main_call1_v6 : TRef sig ⟨S8x5000, .i1⟩) (cmpi .ne),
    TRef.nullary (.of main_call1_c_2 : TRef sig ⟨S_, .i32⟩) (constantI S_ 32 0#32),
    TRef.unary (.of main_call1_c_2 : TRef sig ⟨S_, .i32⟩) (.of main_call1_v7 : TRef sig ⟨S8x5000, .i32⟩) (broadcastInDim S8x5000 ![] bcast_S_S8x5000),
    TRef.binary (.of main_call1_v4 : TRef sig ⟨S8x5000, .i32⟩) (.of main_call1_v7 : TRef sig ⟨S8x5000, .i32⟩) (.of main_call1_v8 : TRef sig ⟨S8x5000, .i1⟩) (cmpi .slt),
    TRef.nullary (.of main_call1_c_3 : TRef sig ⟨S_, .i32⟩) (constantI S_ 32 0#32),
    TRef.binary main_call1_call0.v0 (.of main_call1_c_3 : TRef sig ⟨S_, .i32⟩) (.of main_call1_v9 : TRef sig ⟨S_, .i1⟩) (cmpi .slt),
    TRef.unary (.of main_call1_v9 : TRef sig ⟨S_, .i1⟩) (.of main_call1_v10 : TRef sig ⟨S8x5000, .i1⟩) (broadcastInDim S8x5000 ![] bcast_S_S8x5000),
    TRef.binary (.of main_call1_v8 : TRef sig ⟨S8x5000, .i1⟩) (.of main_call1_v10 : TRef sig ⟨S8x5000, .i1⟩) (.of main_call1_v11 : TRef sig ⟨S8x5000, .i1⟩) (cmpi .ne),
    TRef.binary (.of main_call1_v11 : TRef sig ⟨S8x5000, .i1⟩) (.of main_call1_v6 : TRef sig ⟨S8x5000, .i1⟩) (.of main_call1_v12 : TRef sig ⟨S8x5000, .i1⟩) andi,
    TRef.unary main_call1_call0.v0 (.of main_call1_v13 : TRef sig ⟨S8x5000, .i32⟩) (broadcastInDim S8x5000 ![] bcast_S_S8x5000),
    TRef.binary (.of main_call1_v4 : TRef sig ⟨S8x5000, .i32⟩) (.of main_call1_v13 : TRef sig ⟨S8x5000, .i32⟩) (.of main_call1_v14 : TRef sig ⟨S8x5000, .i32⟩) addi,
    TRef.ternary (.of main_call1_v12 : TRef sig ⟨S8x5000, .i1⟩) (.of main_call1_v14 : TRef sig ⟨S8x5000, .i32⟩) (.of main_call1_v4 : TRef sig ⟨S8x5000, .i32⟩) (.of main_v24 : TRef sig ⟨S8x5000, .i32⟩) select ]
theorem pre3_sub : (pre3 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
/-- Stretch of operations before the loop. -/
abbrev pre4 : List (HloOp τ sig (Elt F)) :=
  [ unary main_v23 main_v25 (broadcastInDim S8x5000x1 ![0, 1] bcast_S8x5000_S8x5000x1_0_1 : (⟨S8x5000, .i32⟩ : BufTy).Contents (Elt F) → (⟨S8x5000x1, .i32⟩ : BufTy).Contents (Elt F)) ]
theorem pre4_sub : (pre4 : List (HloOp τ sig (Elt F))).Forall fun op => op.bufs ⊆ tcRefs τ sig :=
  unary_bufs_sub ..
/-- Stretch of operations before the loop. -/
abbrev pre5 : List (HloOp τ sig (Elt F)) :=
  [ TRef.nullary (.of main_call2_c : TRef sig ⟨S_, .i32⟩) (constantI S_ 32 0#32),
    TRef.unary (.of main_call2_c : TRef sig ⟨S_, .i32⟩) (.of main_call2_v0 : TRef sig ⟨S8x5000x1, .i32⟩) (broadcastInDim S8x5000x1 ![] bcast_S_S8x5000x1),
    TRef.binary (.of main_v25 : TRef sig ⟨S8x5000x1, .i32⟩) (.of main_call2_v0 : TRef sig ⟨S8x5000x1, .i32⟩) (.of main_call2_v1 : TRef sig ⟨S8x5000x1, .i1⟩) (cmpi .slt),
    TRef.nullary (.of main_call2_c_0 : TRef sig ⟨S_, .i32⟩) (constantI S_ 32 49104#32),
    TRef.unary (.of main_call2_c_0 : TRef sig ⟨S_, .i32⟩) (.of main_call2_v2 : TRef sig ⟨S8x5000x1, .i32⟩) (broadcastInDim S8x5000x1 ![] bcast_S_S8x5000x1),
    TRef.binary (.of main_v25 : TRef sig ⟨S8x5000x1, .i32⟩) (.of main_call2_v2 : TRef sig ⟨S8x5000x1, .i32⟩) (.of main_call2_v3 : TRef sig ⟨S8x5000x1, .i32⟩) addi,
    TRef.ternary (.of main_call2_v1 : TRef sig ⟨S8x5000x1, .i1⟩) (.of main_call2_v3 : TRef sig ⟨S8x5000x1, .i32⟩) (.of main_v25 : TRef sig ⟨S8x5000x1, .i32⟩) (.of main_call2_v4 : TRef sig ⟨S8x5000x1, .i32⟩) select,
    TRef.nullary (.of main_call2_c_1 : TRef sig ⟨S1, .i32⟩) (constantI S1 32 49103#32),
    TRef.nullary (.of main_call2_c_2 : TRef sig ⟨S_, .i32⟩) (constantI S_ 32 0#32),
    TRef.unary (.of main_call2_c_2 : TRef sig ⟨S_, .i32⟩) (.of main_call2_v5 : TRef sig ⟨S8x5000x1, .i32⟩) (broadcastInDim S8x5000x1 ![] bcast_S_S8x5000x1),
    TRef.binary (.of main_call2_v4 : TRef sig ⟨S8x5000x1, .i32⟩) (.of main_call2_v5 : TRef sig ⟨S8x5000x1, .i32⟩) (.of main_call2_v6 : TRef sig ⟨S8x5000x1, .i1⟩) (cmpi .sge),
    TRef.unary (.of main_call2_c_1 : TRef sig ⟨S1, .i32⟩) (.of main_call2_v7 : TRef sig ⟨S1x1x1, .i32⟩) (broadcastInDim S1x1x1 ![2] bcast_S1_S1x1x1_2),
    TRef.unary (.of main_call2_v7 : TRef sig ⟨S1x1x1, .i32⟩) (.of main_call2_v8 : TRef sig ⟨S8x5000x1, .i32⟩) (broadcastInDim S8x5000x1 ![0, 1, 2] bcast_S1x1x1_S8x5000x1_0_1_2),
    TRef.binary (.of main_call2_v4 : TRef sig ⟨S8x5000x1, .i32⟩) (.of main_call2_v8 : TRef sig ⟨S8x5000x1, .i32⟩) (.of main_call2_v9 : TRef sig ⟨S8x5000x1, .i1⟩) (cmpi .sle),
    TRef.binary (.of main_call2_v6 : TRef sig ⟨S8x5000x1, .i1⟩) (.of main_call2_v9 : TRef sig ⟨S8x5000x1, .i1⟩) (.of main_call2_v10 : TRef sig ⟨S8x5000x1, .i1⟩) andi,
    TRef.nullary (.of main_call2_c_3 : TRef sig ⟨S_, .i1⟩) (constantI S_ 1 1#1),
    TRef.binary (.of main_call2_v10 : TRef sig ⟨S8x5000x1, .i1⟩) (.of main_call2_c_3 : TRef sig ⟨S_, .i1⟩) (.of main_call2_v11 : TRef sig ⟨S8x5000, .i1⟩) (fun x v => Host.reduce IntOp.andi x v reducesTo_S8x5000x1_S8x5000_d2 h_S_),
    TRef.binary (.of main_v21 : TRef sig ⟨S8x49104x4, .f32⟩) (.of main_call2_v4 : TRef sig ⟨S8x5000x1, .i32⟩) (.of main_call2_v12 : TRef sig ⟨S8x5000x4, .f32⟩) (fun x i => Host.gather gather_S8x49104x4_S8x5000x1_S8x5000x4_2_1_0_0_1_2_114 x i),
    TRef.unary (.of main_call2_v11 : TRef sig ⟨S8x5000, .i1⟩) (.of main_call2_v13 : TRef sig ⟨S8x5000x4, .i1⟩) (broadcastInDim S8x5000x4 ![0, 1] bcast_S8x5000_S8x5000x4_0_1),
    TRef.nullary (.of main_call2_cst : TRef sig ⟨S_, .f32⟩) (constant S_ .f32 0x7FC00000#32),
    TRef.unary (.of main_call2_cst : TRef sig ⟨S_, .f32⟩) (.of main_call2_v14 : TRef sig ⟨S8x5000x4, .f32⟩) (broadcastInDim S8x5000x4 ![] bcast_S_S8x5000x4),
    TRef.ternary (.of main_call2_v13 : TRef sig ⟨S8x5000x4, .i1⟩) (.of main_call2_v12 : TRef sig ⟨S8x5000x4, .f32⟩) (.of main_call2_v14 : TRef sig ⟨S8x5000x4, .f32⟩) (.of main_v26 : TRef sig ⟨S8x5000x4, .f32⟩) select ]
theorem pre5_sub : (pre5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Stretch of operations before the loop. -/
abbrev pre6 : List (HloOp τ sig (Elt F)) :=
  [ unary main_v23 main_v27 (broadcastInDim S8x5000x1 ![0, 1] bcast_S8x5000_S8x5000x1_0_1 : (⟨S8x5000, .i32⟩ : BufTy).Contents (Elt F) → (⟨S8x5000x1, .i32⟩ : BufTy).Contents (Elt F)) ]
theorem pre6_sub : (pre6 : List (HloOp τ sig (Elt F))).Forall fun op => op.bufs ⊆ tcRefs τ sig :=
  unary_bufs_sub ..
/-- Stretch of operations before the loop. -/
abbrev pre7 : List (HloOp τ sig (Elt F)) :=
  [ TRef.nullary (.of main_call3_c : TRef sig ⟨S_, .i32⟩) (constantI S_ 32 0#32),
    TRef.unary (.of main_call3_c : TRef sig ⟨S_, .i32⟩) (.of main_call3_v0 : TRef sig ⟨S8x5000x1, .i32⟩) (broadcastInDim S8x5000x1 ![] bcast_S_S8x5000x1),
    TRef.binary (.of main_v27 : TRef sig ⟨S8x5000x1, .i32⟩) (.of main_call3_v0 : TRef sig ⟨S8x5000x1, .i32⟩) (.of main_call3_v1 : TRef sig ⟨S8x5000x1, .i1⟩) (cmpi .slt),
    TRef.nullary (.of main_call3_c_0 : TRef sig ⟨S_, .i32⟩) (constantI S_ 32 49104#32),
    TRef.unary (.of main_call3_c_0 : TRef sig ⟨S_, .i32⟩) (.of main_call3_v2 : TRef sig ⟨S8x5000x1, .i32⟩) (broadcastInDim S8x5000x1 ![] bcast_S_S8x5000x1),
    TRef.binary (.of main_v27 : TRef sig ⟨S8x5000x1, .i32⟩) (.of main_call3_v2 : TRef sig ⟨S8x5000x1, .i32⟩) (.of main_call3_v3 : TRef sig ⟨S8x5000x1, .i32⟩) addi,
    TRef.ternary (.of main_call3_v1 : TRef sig ⟨S8x5000x1, .i1⟩) (.of main_call3_v3 : TRef sig ⟨S8x5000x1, .i32⟩) (.of main_v27 : TRef sig ⟨S8x5000x1, .i32⟩) (.of main_call3_v4 : TRef sig ⟨S8x5000x1, .i32⟩) select,
    TRef.nullary (.of main_call3_c_1 : TRef sig ⟨S1, .i32⟩) (constantI S1 32 49103#32),
    TRef.nullary (.of main_call3_c_2 : TRef sig ⟨S_, .i32⟩) (constantI S_ 32 0#32),
    TRef.unary (.of main_call3_c_2 : TRef sig ⟨S_, .i32⟩) (.of main_call3_v5 : TRef sig ⟨S8x5000x1, .i32⟩) (broadcastInDim S8x5000x1 ![] bcast_S_S8x5000x1),
    TRef.binary (.of main_call3_v4 : TRef sig ⟨S8x5000x1, .i32⟩) (.of main_call3_v5 : TRef sig ⟨S8x5000x1, .i32⟩) (.of main_call3_v6 : TRef sig ⟨S8x5000x1, .i1⟩) (cmpi .sge),
    TRef.unary (.of main_call3_c_1 : TRef sig ⟨S1, .i32⟩) (.of main_call3_v7 : TRef sig ⟨S1x1x1, .i32⟩) (broadcastInDim S1x1x1 ![2] bcast_S1_S1x1x1_2),
    TRef.unary (.of main_call3_v7 : TRef sig ⟨S1x1x1, .i32⟩) (.of main_call3_v8 : TRef sig ⟨S8x5000x1, .i32⟩) (broadcastInDim S8x5000x1 ![0, 1, 2] bcast_S1x1x1_S8x5000x1_0_1_2),
    TRef.binary (.of main_call3_v4 : TRef sig ⟨S8x5000x1, .i32⟩) (.of main_call3_v8 : TRef sig ⟨S8x5000x1, .i32⟩) (.of main_call3_v9 : TRef sig ⟨S8x5000x1, .i1⟩) (cmpi .sle),
    TRef.binary (.of main_call3_v6 : TRef sig ⟨S8x5000x1, .i1⟩) (.of main_call3_v9 : TRef sig ⟨S8x5000x1, .i1⟩) (.of main_call3_v10 : TRef sig ⟨S8x5000x1, .i1⟩) andi,
    TRef.nullary (.of main_call3_c_3 : TRef sig ⟨S_, .i1⟩) (constantI S_ 1 1#1),
    TRef.binary (.of main_call3_v10 : TRef sig ⟨S8x5000x1, .i1⟩) (.of main_call3_c_3 : TRef sig ⟨S_, .i1⟩) (.of main_call3_v11 : TRef sig ⟨S8x5000, .i1⟩) (fun x v => Host.reduce IntOp.andi x v reducesTo_S8x5000x1_S8x5000_d2 h_S_),
    TRef.binary (.of main_v10 : TRef sig ⟨S8x49104x90, .f32⟩) (.of main_call3_v4 : TRef sig ⟨S8x5000x1, .i32⟩) (.of main_call3_v12 : TRef sig ⟨S8x5000x90, .f32⟩) (fun x i => Host.gather gather_S8x49104x90_S8x5000x1_S8x5000x90_2_1_0_0_1_2_1190 x i),
    TRef.unary (.of main_call3_v11 : TRef sig ⟨S8x5000, .i1⟩) (.of main_call3_v13 : TRef sig ⟨S8x5000x90, .i1⟩) (broadcastInDim S8x5000x90 ![0, 1] bcast_S8x5000_S8x5000x90_0_1),
    TRef.nullary (.of main_call3_cst : TRef sig ⟨S_, .f32⟩) (constant S_ .f32 0x7FC00000#32),
    TRef.unary (.of main_call3_cst : TRef sig ⟨S_, .f32⟩) (.of main_call3_v14 : TRef sig ⟨S8x5000x90, .f32⟩) (broadcastInDim S8x5000x90 ![] bcast_S_S8x5000x90),
    TRef.ternary (.of main_call3_v13 : TRef sig ⟨S8x5000x90, .i1⟩) (.of main_call3_v12 : TRef sig ⟨S8x5000x90, .f32⟩) (.of main_call3_v14 : TRef sig ⟨S8x5000x90, .f32⟩) (.of main_v28 : TRef sig ⟨S8x5000x90, .f32⟩) select ]
theorem pre7_sub : (pre7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Stretch of operations before the loop. -/
abbrev pre8 : List (HloOp τ sig (Elt F)) :=
  [ unary main_v24 main_v29 (broadcastInDim S8x5000x1 ![0, 1] bcast_S8x5000_S8x5000x1_0_1 : (⟨S8x5000, .i32⟩ : BufTy).Contents (Elt F) → (⟨S8x5000x1, .i32⟩ : BufTy).Contents (Elt F)) ]
theorem pre8_sub : (pre8 : List (HloOp τ sig (Elt F))).Forall fun op => op.bufs ⊆ tcRefs τ sig :=
  unary_bufs_sub ..
/-- Stretch of operations before the loop. -/
abbrev pre9 : List (HloOp τ sig (Elt F)) :=
  [ TRef.nullary (.of main_call4_c : TRef sig ⟨S_, .i32⟩) (constantI S_ 32 0#32),
    TRef.unary (.of main_call4_c : TRef sig ⟨S_, .i32⟩) (.of main_call4_v0 : TRef sig ⟨S8x5000x1, .i32⟩) (broadcastInDim S8x5000x1 ![] bcast_S_S8x5000x1),
    TRef.binary (.of main_v29 : TRef sig ⟨S8x5000x1, .i32⟩) (.of main_call4_v0 : TRef sig ⟨S8x5000x1, .i32⟩) (.of main_call4_v1 : TRef sig ⟨S8x5000x1, .i1⟩) (cmpi .slt),
    TRef.nullary (.of main_call4_c_0 : TRef sig ⟨S_, .i32⟩) (constantI S_ 32 90#32),
    TRef.unary (.of main_call4_c_0 : TRef sig ⟨S_, .i32⟩) (.of main_call4_v2 : TRef sig ⟨S8x5000x1, .i32⟩) (broadcastInDim S8x5000x1 ![] bcast_S_S8x5000x1),
    TRef.binary (.of main_v29 : TRef sig ⟨S8x5000x1, .i32⟩) (.of main_call4_v2 : TRef sig ⟨S8x5000x1, .i32⟩) (.of main_call4_v3 : TRef sig ⟨S8x5000x1, .i32⟩) addi,
    TRef.ternary (.of main_call4_v1 : TRef sig ⟨S8x5000x1, .i1⟩) (.of main_call4_v3 : TRef sig ⟨S8x5000x1, .i32⟩) (.of main_v29 : TRef sig ⟨S8x5000x1, .i32⟩) (.of main_call4_v4 : TRef sig ⟨S8x5000x1, .i32⟩) select,
    TRef.reshape (.of main_call4_v4 : TRef sig ⟨S8x5000x1, .i32⟩) (.of main_call4_v5 : TRef sig ⟨S8x5000x1x1, .i32⟩) (rfl : (.i32 : EltTy) = .i32) shapeCasts_S8x5000x1_S8x5000x1x1,
    TRef.nullary (.of main_call4_c_1 : TRef sig ⟨S1, .i32⟩) (constantI S1 32 89#32),
    TRef.nullary (.of main_call4_c_2 : TRef sig ⟨S_, .i32⟩) (constantI S_ 32 0#32),
    TRef.unary (.of main_call4_c_2 : TRef sig ⟨S_, .i32⟩) (.of main_call4_v6 : TRef sig ⟨S8x5000x1x1, .i32⟩) (broadcastInDim S8x5000x1x1 ![] bcast_S_S8x5000x1x1),
    TRef.binary (.of main_call4_v5 : TRef sig ⟨S8x5000x1x1, .i32⟩) (.of main_call4_v6 : TRef sig ⟨S8x5000x1x1, .i32⟩) (.of main_call4_v7 : TRef sig ⟨S8x5000x1x1, .i1⟩) (cmpi .sge),
    TRef.unary (.of main_call4_c_1 : TRef sig ⟨S1, .i32⟩) (.of main_call4_v8 : TRef sig ⟨S1x1x1x1, .i32⟩) (broadcastInDim S1x1x1x1 ![3] bcast_S1_S1x1x1x1_3),
    TRef.unary (.of main_call4_v8 : TRef sig ⟨S1x1x1x1, .i32⟩) (.of main_call4_v9 : TRef sig ⟨S8x5000x1x1, .i32⟩) (broadcastInDim S8x5000x1x1 ![0, 1, 2, 3] bcast_S1x1x1x1_S8x5000x1x1_0_1_2_3),
    TRef.binary (.of main_call4_v5 : TRef sig ⟨S8x5000x1x1, .i32⟩) (.of main_call4_v9 : TRef sig ⟨S8x5000x1x1, .i32⟩) (.of main_call4_v10 : TRef sig ⟨S8x5000x1x1, .i1⟩) (cmpi .sle),
    TRef.binary (.of main_call4_v7 : TRef sig ⟨S8x5000x1x1, .i1⟩) (.of main_call4_v10 : TRef sig ⟨S8x5000x1x1, .i1⟩) (.of main_call4_v11 : TRef sig ⟨S8x5000x1x1, .i1⟩) andi,
    TRef.nullary (.of main_call4_c_3 : TRef sig ⟨S_, .i1⟩) (constantI S_ 1 1#1),
    TRef.binary (.of main_call4_v11 : TRef sig ⟨S8x5000x1x1, .i1⟩) (.of main_call4_c_3 : TRef sig ⟨S_, .i1⟩) (.of main_call4_v12 : TRef sig ⟨S8x5000x1, .i1⟩) (fun x v => Host.reduce IntOp.andi x v reducesTo_S8x5000x1x1_S8x5000x1_d3 h_S_),
    TRef.binary (.of main_v28 : TRef sig ⟨S8x5000x90, .f32⟩) (.of main_call4_v5 : TRef sig ⟨S8x5000x1x1, .i32⟩) (.of main_call4_v13 : TRef sig ⟨S8x5000x1, .f32⟩) (fun x i => Host.gather gather_S8x5000x90_S8x5000x1x1_S8x5000x1_n_2_01_01_2_3_111 x i),
    TRef.nullary (.of main_call4_cst : TRef sig ⟨S_, .f32⟩) (constant S_ .f32 0x7FC00000#32),
    TRef.unary (.of main_call4_cst : TRef sig ⟨S_, .f32⟩) (.of main_call4_v14 : TRef sig ⟨S8x5000x1, .f32⟩) (broadcastInDim S8x5000x1 ![] bcast_S_S8x5000x1),
    TRef.ternary (.of main_call4_v12 : TRef sig ⟨S8x5000x1, .i1⟩) (.of main_call4_v13 : TRef sig ⟨S8x5000x1, .f32⟩) (.of main_call4_v14 : TRef sig ⟨S8x5000x1, .f32⟩) (.of main_v30 : TRef sig ⟨S8x5000x1, .f32⟩) select ]
theorem pre9_sub : (pre9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- Stretch of operations before the loop. -/
abbrev pre10 : List (HloOp τ sig (Elt F)) :=
  [ reshape main_v30 main_v31 (rfl : (.f32 : EltTy) = .f32) shapeCasts_S8x5000x1_S8x5000 ]
theorem pre10_sub : (pre10 : List (HloOp τ sig (Elt F))).Forall fun op => op.bufs ⊆ tcRefs τ sig :=
  reshape_bufs_sub ..
/-- Stretch of operations before the loop. -/
abbrev pre11 : List (HloOp τ sig (Elt F)) :=
  [ TRef.nullary (.of main_call5_c : TRef sig ⟨S_, .i32⟩) (constantI S_ 32 0#32),
    TRef.unary (.of main_call5_c : TRef sig ⟨S_, .i32⟩) (.of main_call5_v0 : TRef sig ⟨S8x5000, .i32⟩) (broadcastInDim S8x5000 ![] bcast_S_S8x5000),
    TRef.binary (.of main_v23 : TRef sig ⟨S8x5000, .i32⟩) (.of main_call5_v0 : TRef sig ⟨S8x5000, .i32⟩) (.of main_call5_v1 : TRef sig ⟨S8x5000, .i1⟩) (cmpi .slt),
    TRef.nullary (.of main_call5_c_0 : TRef sig ⟨S_, .i32⟩) (constantI S_ 32 49104#32),
    TRef.unary (.of main_call5_c_0 : TRef sig ⟨S_, .i32⟩) (.of main_call5_v2 : TRef sig ⟨S8x5000, .i32⟩) (broadcastInDim S8x5000 ![] bcast_S_S8x5000),
    TRef.binary (.of main_v23 : TRef sig ⟨S8x5000, .i32⟩) (.of main_call5_v2 : TRef sig ⟨S8x5000, .i32⟩) (.of main_call5_v3 : TRef sig ⟨S8x5000, .i32⟩) addi,
    TRef.ternary (.of main_call5_v1 : TRef sig ⟨S8x5000, .i1⟩) (.of main_call5_v3 : TRef sig ⟨S8x5000, .i32⟩) (.of main_v23 : TRef sig ⟨S8x5000, .i32⟩) (.of main_call5_v4 : TRef sig ⟨S8x5000, .i32⟩) select,
    TRef.unary main_call5_call0.v0 (.of main_call5_v5 : TRef sig ⟨S8x5000x1, .i32⟩) (broadcastInDim S8x5000x1 ![0, 1] bcast_S8x5000_S8x5000x1_0_1),
    TRef.nullary (.of main_call5_c_1 : TRef sig ⟨S1, .i32⟩) (constantI S1 32 49103#32),
    TRef.nullary (.of main_call5_c_2 : TRef sig ⟨S_, .i32⟩) (constantI S_ 32 0#32),
    TRef.unary (.of main_call5_c_2 : TRef sig ⟨S_, .i32⟩) (.of main_call5_v6 : TRef sig ⟨S8x5000x1, .i32⟩) (broadcastInDim S8x5000x1 ![] bcast_S_S8x5000x1),
    TRef.binary (.of main_call5_v5 : TRef sig ⟨S8x5000x1, .i32⟩) (.of main_call5_v6 : TRef sig ⟨S8x5000x1, .i32⟩) (.of main_call5_v7 : TRef sig ⟨S8x5000x1, .i1⟩) (cmpi .sge),
    TRef.unary (.of main_call5_c_1 : TRef sig ⟨S1, .i32⟩) (.of main_call5_v8 : TRef sig ⟨S1x1x1, .i32⟩) (broadcastInDim S1x1x1 ![2] bcast_S1_S1x1x1_2),
    TRef.unary (.of main_call5_v8 : TRef sig ⟨S1x1x1, .i32⟩) (.of main_call5_v9 : TRef sig ⟨S8x5000x1, .i32⟩) (broadcastInDim S8x5000x1 ![0, 1, 2] bcast_S1x1x1_S8x5000x1_0_1_2),
    TRef.binary (.of main_call5_v5 : TRef sig ⟨S8x5000x1, .i32⟩) (.of main_call5_v9 : TRef sig ⟨S8x5000x1, .i32⟩) (.of main_call5_v10 : TRef sig ⟨S8x5000x1, .i1⟩) (cmpi .sle),
    TRef.binary (.of main_call5_v7 : TRef sig ⟨S8x5000x1, .i1⟩) (.of main_call5_v10 : TRef sig ⟨S8x5000x1, .i1⟩) (.of main_call5_v11 : TRef sig ⟨S8x5000x1, .i1⟩) andi,
    TRef.nullary (.of main_call5_c_3 : TRef sig ⟨S_, .i1⟩) (constantI S_ 1 1#1),
    TRef.binary (.of main_call5_v11 : TRef sig ⟨S8x5000x1, .i1⟩) (.of main_call5_c_3 : TRef sig ⟨S_, .i1⟩) (.of main_call5_v12 : TRef sig ⟨S8x5000, .i1⟩) (fun x v => Host.reduce IntOp.andi x v reducesTo_S8x5000x1_S8x5000_d2 h_S_),
    TRef.binary (.of main_arg11 : TRef sig ⟨S49104x4, .f32⟩) (.of main_call5_v5 : TRef sig ⟨S8x5000x1, .i32⟩) (.of main_call5_v13 : TRef sig ⟨S8x5000x4, .f32⟩) (fun x i => Host.gather gather_S49104x4_S8x5000x1_S8x5000x4_2_0_n_n_0_2_14 x i),
    TRef.unary (.of main_call5_v12 : TRef sig ⟨S8x5000, .i1⟩) (.of main_call5_v14 : TRef sig ⟨S8x5000x4, .i1⟩) (broadcastInDim S8x5000x4 ![0, 1] bcast_S8x5000_S8x5000x4_0_1),
    TRef.nullary (.of main_call5_cst : TRef sig ⟨S_, .f32⟩) (constant S_ .f32 0x7FC00000#32),
    TRef.unary (.of main_call5_cst : TRef sig ⟨S_, .f32⟩) (.of main_call5_v15 : TRef sig ⟨S8x5000x4, .f32⟩) (broadcastInDim S8x5000x4 ![] bcast_S_S8x5000x4),
    TRef.ternary (.of main_call5_v14 : TRef sig ⟨S8x5000x4, .i1⟩) (.of main_call5_v13 : TRef sig ⟨S8x5000x4, .f32⟩) (.of main_call5_v15 : TRef sig ⟨S8x5000x4, .f32⟩) (.of main_v32 : TRef sig ⟨S8x5000x4, .f32⟩) select ]
theorem pre11_sub : (pre11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Stretch of operations before the loop. -/
abbrev pre12 : List (HloOp τ sig (Elt F)) :=
  [ unary main_v32 main_v33 ((extractStridedSlice S8x5000x1 ![0, 0, 0] · slices_S8x5000x4_S8x5000x1_0_0_0) : (⟨S8x5000x4, .f32⟩ : BufTy).Contents (Elt F) → (⟨S8x5000x1, .f32⟩ : BufTy).Contents (Elt F)),
    reshape main_v33 main_v34 (rfl : (.f32 : EltTy) = .f32) shapeCasts_S8x5000x1_S8x5000,
    unary main_v32 main_v35 ((extractStridedSlice S8x5000x1 ![0, 0, 2] · slices_S8x5000x4_S8x5000x1_0_0_2) : (⟨S8x5000x4, .f32⟩ : BufTy).Contents (Elt F) → (⟨S8x5000x1, .f32⟩ : BufTy).Contents (Elt F)),
    reshape main_v35 main_v36 (rfl : (.f32 : EltTy) = .f32) shapeCasts_S8x5000x1_S8x5000,
    binary main_v34 main_v36 main_v37 (addf : (⟨S8x5000, .f32⟩ : BufTy).Contents (Elt F) → (⟨S8x5000, .f32⟩ : BufTy).Contents (Elt F) → (⟨S8x5000, .f32⟩ : BufTy).Contents (Elt F)),
    nullary main_cst (constant S_ .f32 0x40000000#32),
    unary main_cst main_v38 (broadcastInDim S8x5000 ![] bcast_S_S8x5000 : (⟨S_, .f32⟩ : BufTy).Contents (Elt F) → (⟨S8x5000, .f32⟩ : BufTy).Contents (Elt F)),
    binary main_v37 main_v38 main_v39 (Host.divf : (⟨S8x5000, .f32⟩ : BufTy).Contents (Elt F) → (⟨S8x5000, .f32⟩ : BufTy).Contents (Elt F) → (⟨S8x5000, .f32⟩ : BufTy).Contents (Elt F)),
    unary main_v32 main_v40 ((extractStridedSlice S8x5000x1 ![0, 0, 1] · slices_S8x5000x4_S8x5000x1_0_0_1) : (⟨S8x5000x4, .f32⟩ : BufTy).Contents (Elt F) → (⟨S8x5000x1, .f32⟩ : BufTy).Contents (Elt F)),
    reshape main_v40 main_v41 (rfl : (.f32 : EltTy) = .f32) shapeCasts_S8x5000x1_S8x5000,
    unary main_v32 main_v42 ((extractStridedSlice S8x5000x1 ![0, 0, 3] · slices_S8x5000x4_S8x5000x1_0_0_3) : (⟨S8x5000x4, .f32⟩ : BufTy).Contents (Elt F) → (⟨S8x5000x1, .f32⟩ : BufTy).Contents (Elt F)),
    reshape main_v42 main_v43 (rfl : (.f32 : EltTy) = .f32) shapeCasts_S8x5000x1_S8x5000,
    binary main_v41 main_v43 main_v44 (addf : (⟨S8x5000, .f32⟩ : BufTy).Contents (Elt F) → (⟨S8x5000, .f32⟩ : BufTy).Contents (Elt F) → (⟨S8x5000, .f32⟩ : BufTy).Contents (Elt F)),
    nullary main_cst_1 (constant S_ .f32 0x40000000#32),
    unary main_cst_1 main_v45 (broadcastInDim S8x5000 ![] bcast_S_S8x5000 : (⟨S_, .f32⟩ : BufTy).Contents (Elt F) → (⟨S8x5000, .f32⟩ : BufTy).Contents (Elt F)),
    binary main_v44 main_v45 main_v46 (Host.divf : (⟨S8x5000, .f32⟩ : BufTy).Contents (Elt F) → (⟨S8x5000, .f32⟩ : BufTy).Contents (Elt F) → (⟨S8x5000, .f32⟩ : BufTy).Contents (Elt F)),
    unary main_v32 main_v47 ((extractStridedSlice S8x5000x1 ![0, 0, 2] · slices_S8x5000x4_S8x5000x1_0_0_2) : (⟨S8x5000x4, .f32⟩ : BufTy).Contents (Elt F) → (⟨S8x5000x1, .f32⟩ : BufTy).Contents (Elt F)),
    reshape main_v47 main_v48 (rfl : (.f32 : EltTy) = .f32) shapeCasts_S8x5000x1_S8x5000,
    unary main_v32 main_v49 ((extractStridedSlice S8x5000x1 ![0, 0, 0] · slices_S8x5000x4_S8x5000x1_0_0_0) : (⟨S8x5000x4, .f32⟩ : BufTy).Contents (Elt F) → (⟨S8x5000x1, .f32⟩ : BufTy).Contents (Elt F)),
    reshape main_v49 main_v50 (rfl : (.f32 : EltTy) = .f32) shapeCasts_S8x5000x1_S8x5000,
    binary main_v48 main_v50 main_v51 (subf : (⟨S8x5000, .f32⟩ : BufTy).Contents (Elt F) → (⟨S8x5000, .f32⟩ : BufTy).Contents (Elt F) → (⟨S8x5000, .f32⟩ : BufTy).Contents (Elt F)),
    unary main_v32 main_v52 ((extractStridedSlice S8x5000x1 ![0, 0, 3] · slices_S8x5000x4_S8x5000x1_0_0_3) : (⟨S8x5000x4, .f32⟩ : BufTy).Contents (Elt F) → (⟨S8x5000x1, .f32⟩ : BufTy).Contents (Elt F)),
    reshape main_v52 main_v53 (rfl : (.f32 : EltTy) = .f32) shapeCasts_S8x5000x1_S8x5000 ]
theorem pre12_sub : (pre12 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub ..⟩
/-- Stretch of operations before the loop. -/
abbrev pre13 : List (HloOp τ sig (Elt F)) :=
  [ unary main_v32 main_v54 ((extractStridedSlice S8x5000x1 ![0, 0, 1] · slices_S8x5000x4_S8x5000x1_0_0_1) : (⟨S8x5000x4, .f32⟩ : BufTy).Contents (Elt F) → (⟨S8x5000x1, .f32⟩ : BufTy).Contents (Elt F)),
    reshape main_v54 main_v55 (rfl : (.f32 : EltTy) = .f32) shapeCasts_S8x5000x1_S8x5000,
    binary main_v53 main_v55 main_v56 (subf : (⟨S8x5000, .f32⟩ : BufTy).Contents (Elt F) → (⟨S8x5000, .f32⟩ : BufTy).Contents (Elt F) → (⟨S8x5000, .f32⟩ : BufTy).Contents (Elt F)),
    unary main_v26 main_v57 ((extractStridedSlice S8x5000x1 ![0, 0, 0] · slices_S8x5000x4_S8x5000x1_0_0_0) : (⟨S8x5000x4, .f32⟩ : BufTy).Contents (Elt F) → (⟨S8x5000x1, .f32⟩ : BufTy).Contents (Elt F)),
    reshape main_v57 main_v58 (rfl : (.f32 : EltTy) = .f32) shapeCasts_S8x5000x1_S8x5000,
    unary main_v26 main_v59 ((extractStridedSlice S8x5000x1 ![0, 0, 1] · slices_S8x5000x4_S8x5000x1_0_0_1) : (⟨S8x5000x4, .f32⟩ : BufTy).Contents (Elt F) → (⟨S8x5000x1, .f32⟩ : BufTy).Contents (Elt F)),
    reshape main_v59 main_v60 (rfl : (.f32 : EltTy) = .f32) shapeCasts_S8x5000x1_S8x5000,
    unary main_v26 main_v61 ((extractStridedSlice S8x5000x1 ![0, 0, 2] · slices_S8x5000x4_S8x5000x1_0_0_2) : (⟨S8x5000x4, .f32⟩ : BufTy).Contents (Elt F) → (⟨S8x5000x1, .f32⟩ : BufTy).Contents (Elt F)),
    reshape main_v61 main_v62 (rfl : (.f32 : EltTy) = .f32) shapeCasts_S8x5000x1_S8x5000,
    unary main_v26 main_v63 ((extractStridedSlice S8x5000x1 ![0, 0, 3] · slices_S8x5000x4_S8x5000x1_0_0_3) : (⟨S8x5000x4, .f32⟩ : BufTy).Contents (Elt F) → (⟨S8x5000x1, .f32⟩ : BufTy).Contents (Elt F)),
    reshape main_v63 main_v64 (rfl : (.f32 : EltTy) = .f32) shapeCasts_S8x5000x1_S8x5000,
    nullary main_cst_2 (constant S_ .f32 0xC1200000#32),
    nullary main_cst_3 (constant S_ .f32 0x40800000#32) ]
theorem pre13_sub : (pre13 : List (HloOp τ sig (Elt F))).Forall fun op => op.bufs ⊆ tcRefs τ sig :=
  ⟨unary_bufs_sub .., reshape_bufs_sub .., binary_bufs_sub .., unary_bufs_sub .., reshape_bufs_sub .., unary_bufs_sub .., reshape_bufs_sub .., unary_bufs_sub .., reshape_bufs_sub .., unary_bufs_sub .., reshape_bufs_sub .., nullary_bufs_sub .., nullary_bufs_sub ..⟩
/-- Stretch of operations before the loop. -/
abbrev pre14 : List (HloOp τ sig (Elt F)) :=
  [ TRef.unary (.of main_cst_2 : TRef sig ⟨S_, .f32⟩) (.of main_call6_v0 : TRef sig ⟨S_, .f32⟩) id,
    TRef.unary (.of main_call6_v0 : TRef sig ⟨S_, .f32⟩) (.of main_call6_v1 : TRef sig ⟨S8x5000, .f32⟩) (broadcastInDim S8x5000 ![] bcast_S_S8x5000),
    TRef.binary (.of main_call6_v1 : TRef sig ⟨S8x5000, .f32⟩) (.of main_v64 : TRef sig ⟨S8x5000, .f32⟩) (.of main_call6_v2 : TRef sig ⟨S8x5000, .f32⟩) maximumf,
    TRef.unary (.of main_cst_3 : TRef sig ⟨S_, .f32⟩) (.of main_call6_v3 : TRef sig ⟨S_, .f32⟩) id,
    TRef.unary (.of main_call6_v3 : TRef sig ⟨S_, .f32⟩) (.of main_call6_v4 : TRef sig ⟨S8x5000, .f32⟩) (broadcastInDim S8x5000 ![] bcast_S_S8x5000),
    TRef.binary (.of main_call6_v4 : TRef sig ⟨S8x5000, .f32⟩) (.of main_call6_v2 : TRef sig ⟨S8x5000, .f32⟩) (.of main_v65 : TRef sig ⟨S8x5000, .f32⟩) minimumf ]
theorem pre14_sub : (pre14 : List (HloOp τ sig (Elt F))).Forall fun op => op.bufs ⊆ tcRefs τ sig :=
  ⟨unary_bufs_sub .., unary_bufs_sub .., binary_bufs_sub .., unary_bufs_sub .., unary_bufs_sub .., binary_bufs_sub ..⟩
/-- Stretch of operations before the loop. -/
abbrev pre15 : List (HloOp τ sig (Elt F)) :=
  [ unary main_v65 main_v66 (Host.exp : (⟨S8x5000, .f32⟩ : BufTy).Contents (Elt F) → (⟨S8x5000, .f32⟩ : BufTy).Contents (Elt F)),
    binary main_v66 main_v56 main_v67 (mulf : (⟨S8x5000, .f32⟩ : BufTy).Contents (Elt F) → (⟨S8x5000, .f32⟩ : BufTy).Contents (Elt F) → (⟨S8x5000, .f32⟩ : BufTy).Contents (Elt F)),
    nullary main_cst_4 (constant S_ .f32 0xC1200000#32),
    nullary main_cst_5 (constant S_ .f32 0x40800000#32) ]
theorem pre15_sub : (pre15 : List (HloOp τ sig (Elt F))).Forall fun op => op.bufs ⊆ tcRefs τ sig :=
  ⟨unary_bufs_sub .., binary_bufs_sub .., nullary_bufs_sub .., nullary_bufs_sub ..⟩
/-- Stretch of operations before the loop. -/
abbrev pre16 : List (HloOp τ sig (Elt F)) :=
  [ TRef.unary (.of main_cst_4 : TRef sig ⟨S_, .f32⟩) (.of main_call7_v0 : TRef sig ⟨S_, .f32⟩) id,
    TRef.unary (.of main_call7_v0 : TRef sig ⟨S_, .f32⟩) (.of main_call7_v1 : TRef sig ⟨S8x5000, .f32⟩) (broadcastInDim S8x5000 ![] bcast_S_S8x5000),
    TRef.binary (.of main_call7_v1 : TRef sig ⟨S8x5000, .f32⟩) (.of main_v62 : TRef sig ⟨S8x5000, .f32⟩) (.of main_call7_v2 : TRef sig ⟨S8x5000, .f32⟩) maximumf,
    TRef.unary (.of main_cst_5 : TRef sig ⟨S_, .f32⟩) (.of main_call7_v3 : TRef sig ⟨S_, .f32⟩) id,
    TRef.unary (.of main_call7_v3 : TRef sig ⟨S_, .f32⟩) (.of main_call7_v4 : TRef sig ⟨S8x5000, .f32⟩) (broadcastInDim S8x5000 ![] bcast_S_S8x5000),
    TRef.binary (.of main_call7_v4 : TRef sig ⟨S8x5000, .f32⟩) (.of main_call7_v2 : TRef sig ⟨S8x5000, .f32⟩) (.of main_v68 : TRef sig ⟨S8x5000, .f32⟩) minimumf ]
theorem pre16_sub : (pre16 : List (HloOp τ sig (Elt F))).Forall fun op => op.bufs ⊆ tcRefs τ sig :=
  ⟨unary_bufs_sub .., unary_bufs_sub .., binary_bufs_sub .., unary_bufs_sub .., unary_bufs_sub .., binary_bufs_sub ..⟩
/-- Stretch of operations before the loop. -/
abbrev pre17 : List (HloOp τ sig (Elt F)) :=
  ( unary main_v68 main_v69 (Host.exp : (⟨S8x5000, .f32⟩ : BufTy).Contents (Elt F) → (⟨S8x5000, .f32⟩ : BufTy).Contents (Elt F))
  :: binary main_v69 main_v51 main_v70 (mulf : (⟨S8x5000, .f32⟩ : BufTy).Contents (Elt F) → (⟨S8x5000, .f32⟩ : BufTy).Contents (Elt F) → (⟨S8x5000, .f32⟩ : BufTy).Contents (Elt F))
  :: binary main_v58 main_v51 main_v71 (mulf : (⟨S8x5000, .f32⟩ : BufTy).Contents (Elt F) → (⟨S8x5000, .f32⟩ : BufTy).Contents (Elt F) → (⟨S8x5000, .f32⟩ : BufTy).Contents (Elt F))
  :: binary main_v71 main_v39 main_v72 (addf : (⟨S8x5000, .f32⟩ : BufTy).Contents (Elt F) → (⟨S8x5000, .f32⟩ : BufTy).Contents (Elt F) → (⟨S8x5000, .f32⟩ : BufTy).Contents (Elt F))
  :: binary main_v60 main_v56 main_v73 (mulf : (⟨S8x5000, .f32⟩ : BufTy).Contents (Elt F) → (⟨S8x5000, .f32⟩ : BufTy).Contents (Elt F) → (⟨S8x5000, .f32⟩ : BufTy).Contents (Elt F))
  :: binary main_v73 main_v46 main_v74 (addf : (⟨S8x5000, .f32⟩ : BufTy).Contents (Elt F) → (⟨S8x5000, .f32⟩ : BufTy).Contents (Elt F) → (⟨S8x5000, .f32⟩ : BufTy).Contents (Elt F))
  :: nullary main_cst_6 (constant S_ .f32 0x40000000#32)
  :: unary main_cst_6 main_v75 (broadcastInDim S8x5000 ![] bcast_S_S8x5000 : (⟨S_, .f32⟩ : BufTy).Contents (Elt F) → (⟨S8x5000, .f32⟩ : BufTy).Contents (Elt F))
  :: binary main_v70 main_v75 main_v76 (Host.divf : (⟨S8x5000, .f32⟩ : BufTy).Contents (Elt F) → (⟨S8x5000, .f32⟩ : BufTy).Contents (Elt F) → (⟨S8x5000, .f32⟩ : BufTy).Contents (Elt F))
  :: binary main_v72 main_v76 main_v77 (subf : (⟨S8x5000, .f32⟩ : BufTy).Contents (Elt F) → (⟨S8x5000, .f32⟩ : BufTy).Contents (Elt F) → (⟨S8x5000, .f32⟩ : BufTy).Contents (Elt F))
  :: nullary main_cst_7 (constant S_ .f32 0x40000000#32)
  :: unary main_cst_7 main_v78 (broadcastInDim S8x5000 ![] bcast_S_S8x5000 : (⟨S_, .f32⟩ : BufTy).Contents (Elt F) → (⟨S8x5000, .f32⟩ : BufTy).Contents (Elt F))
  :: binary main_v67 main_v78 main_v79 (Host.divf : (⟨S8x5000, .f32⟩ : BufTy).Contents (Elt F) → (⟨S8x5000, .f32⟩ : BufTy).Contents (Elt F) → (⟨S8x5000, .f32⟩ : BufTy).Contents (Elt F))
  :: binary main_v74 main_v79 main_v80 (subf : (⟨S8x5000, .f32⟩ : BufTy).Contents (Elt F) → (⟨S8x5000, .f32⟩ : BufTy).Contents (Elt F) → (⟨S8x5000, .f32⟩ : BufTy).Contents (Elt F))
  :: nullary main_cst_8 (constant S_ .f32 0x40000000#32)
  :: unary main_cst_8 main_v81 (broadcastInDim S8x5000 ![] bcast_S_S8x5000 : (⟨S_, .f32⟩ : BufTy).Contents (Elt F) → (⟨S8x5000, .f32⟩ : BufTy).Contents (Elt F))
  :: binary main_v70 main_v81 main_v82 (Host.divf : (⟨S8x5000, .f32⟩ : BufTy).Contents (Elt F) → (⟨S8x5000, .f32⟩ : BufTy).Contents (Elt F) → (⟨S8x5000, .f32⟩ : BufTy).Contents (Elt F))
  :: binary main_v72 main_v82 main_v83 (addf : (⟨S8x5000, .f32⟩ : BufTy).Contents (Elt F) → (⟨S8x5000, .f32⟩ : BufTy).Contents (Elt F) → (⟨S8x5000, .f32⟩ : BufTy).Contents (Elt F))
  :: nullary main_cst_9 (constant S_ .f32 0x40000000#32)
  :: unary main_cst_9 main_v84 (broadcastInDim S8x5000 ![] bcast_S_S8x5000 : (⟨S_, .f32⟩ : BufTy).Contents (Elt F) → (⟨S8x5000, .f32⟩ : BufTy).Contents (Elt F))
  :: binary main_v67 main_v84 main_v85 (Host.divf : (⟨S8x5000, .f32⟩ : BufTy).Contents (Elt F) → (⟨S8x5000, .f32⟩ : BufTy).Contents (Elt F) → (⟨S8x5000, .f32⟩ : BufTy).Contents (Elt F))
  :: binary main_v74 main_v85 main_v86 (addf : (⟨S8x5000, .f32⟩ : BufTy).Contents (Elt F) → (⟨S8x5000, .f32⟩ : BufTy).Contents (Elt F) → (⟨S8x5000, .f32⟩ : BufTy).Contents (Elt F))
  :: unary main_v77 main_v87 (broadcastInDim S8x5000x1 ![0, 1] bcast_S8x5000_S8x5000x1_0_1 : (⟨S8x5000, .f32⟩ : BufTy).Contents (Elt F) → (⟨S8x5000x1, .f32⟩ : BufTy).Contents (Elt F))
  :: unary main_v80 main_v88 (broadcastInDim S8x5000x1 ![0, 1] bcast_S8x5000_S8x5000x1_0_1 : (⟨S8x5000, .f32⟩ : BufTy).Contents (Elt F) → (⟨S8x5000x1, .f32⟩ : BufTy).Contents (Elt F))
  :: unary main_v83 main_v89 (broadcastInDim S8x5000x1 ![0, 1] bcast_S8x5000_S8x5000x1_0_1 : (⟨S8x5000, .f32⟩ : BufTy).Contents (Elt F) → (⟨S8x5000x1, .f32⟩ : BufTy).Contents (Elt F))
  :: unary main_v86 main_v90 (broadcastInDim S8x5000x1 ![0, 1] bcast_S8x5000_S8x5000x1_0_1 : (⟨S8x5000, .f32⟩ : BufTy).Contents (Elt F) → (⟨S8x5000x1, .f32⟩ : BufTy).Contents (Elt F))
  :: nary ![main_v87, main_v88, main_v89, main_v90] main_v91 (fun u => (concatenate S8x5000x4 2 [⟨S8x5000x1, (u 0 : (⟨S8x5000x1, .f32⟩ : BufTy).Contents (Elt F))⟩, ⟨S8x5000x1, (u 1 : (⟨S8x5000x1, .f32⟩ : BufTy).Contents (Elt F))⟩, ⟨S8x5000x1, (u 2 : (⟨S8x5000x1, .f32⟩ : BufTy).Contents (Elt F))⟩, ⟨S8x5000x1, (u 3 : (⟨S8x5000x1, .f32⟩ : BufTy).Contents (Elt F))⟩] concatenates_S8x5000x1_S8x5000x1_S8x5000x1_S8x5000x1_S8x5000x4_d2 : (⟨S8x5000x4, .f32⟩ : BufTy).Contents (Elt F)))
  :: unary main_v31 main_v92 (Host.negf : (⟨S8x5000, .f32⟩ : BufTy).Contents (Elt F) → (⟨S8x5000, .f32⟩ : BufTy).Contents (Elt F))
  :: unary main_v92 main_v93 (Host.exp : (⟨S8x5000, .f32⟩ : BufTy).Contents (Elt F) → (⟨S8x5000, .f32⟩ : BufTy).Contents (Elt F))
  :: nullary main_cst_10 (constant S_ .f32 0x3F800000#32)
  :: unary main_cst_10 main_v94 (broadcastInDim S8x5000 ![] bcast_S_S8x5000 : (⟨S_, .f32⟩ : BufTy).Contents (Elt F) → (⟨S8x5000, .f32⟩ : BufTy).Contents (Elt F))
  :: binary main_v94 main_v93 main_v95 (addf : (⟨S8x5000, .f32⟩ : BufTy).Contents (Elt F) → (⟨S8x5000, .f32⟩ : BufTy).Contents (Elt F) → (⟨S8x5000, .f32⟩ : BufTy).Contents (Elt F))
  :: nullary main_cst_11 (constant S_ .f32 0x3F800000#32)
  :: unary main_cst_11 main_v96 (broadcastInDim S8x5000 ![] bcast_S_S8x5000 : (⟨S_, .f32⟩ : BufTy).Contents (Elt F) → (⟨S8x5000, .f32⟩ : BufTy).Contents (Elt F))
  :: binary main_v96 main_v95 main_v97 (Host.divf : (⟨S8x5000, .f32⟩ : BufTy).Contents (Elt F) → (⟨S8x5000, .f32⟩ : BufTy).Contents (Elt F) → (⟨S8x5000, .f32⟩ : BufTy).Contents (Elt F))
  :: unary main_v24 main_v98 (sitofp .f32 : (⟨S8x5000, .i32⟩ : BufTy).Contents (Elt F) → (⟨S8x5000, .f32⟩ : BufTy).Contents (Elt F))
  :: unary main_v98 main_v99 (broadcastInDim S8x5000x1 ![0, 1] bcast_S8x5000_S8x5000x1_0_1 : (⟨S8x5000, .f32⟩ : BufTy).Contents (Elt F) → (⟨S8x5000x1, .f32⟩ : BufTy).Contents (Elt F))
  :: nullary main_cst_12 (constant S_ .f32 0x45800000#32)
  :: unary main_cst_12 main_v100 (broadcastInDim S8x5000x1 ![] bcast_S_S8x5000x1 : (⟨S_, .f32⟩ : BufTy).Contents (Elt F) → (⟨S8x5000x1, .f32⟩ : BufTy).Contents (Elt F))
  :: binary main_v99 main_v100 main_v101 (mulf : (⟨S8x5000x1, .f32⟩ : BufTy).Contents (Elt F) → (⟨S8x5000x1, .f32⟩ : BufTy).Contents (Elt F) → (⟨S8x5000x1, .f32⟩ : BufTy).Contents (Elt F))
  :: unary main_v101 main_v102 (broadcastInDim S8x5000x4 ![0, 1, 2] bcast_S8x5000x1_S8x5000x4_0_1_2 : (⟨S8x5000x1, .f32⟩ : BufTy).Contents (Elt F) → (⟨S8x5000x4, .f32⟩ : BufTy).Contents (Elt F))
  :: [] )
theorem pre17_sub : (pre17 : List (HloOp τ sig (Elt F))).Forall fun op => op.bufs ⊆ tcRefs τ sig :=
  ⟨unary_bufs_sub .., binary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., nary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub ..⟩
/-- Stretch of operations before the loop. -/
abbrev pre18 : List (HloOp τ sig (Elt F)) :=
  [ binary main_v91 main_v102 main_v103 (addf : (⟨S8x5000x4, .f32⟩ : BufTy).Contents (Elt F) → (⟨S8x5000x4, .f32⟩ : BufTy).Contents (Elt F) → (⟨S8x5000x4, .f32⟩ : BufTy).Contents (Elt F)),
    unary main_v103 main_v104 ((extractStridedSlice S8x5000x1 ![0, 0, 2] · slices_S8x5000x4_S8x5000x1_0_0_2) : (⟨S8x5000x4, .f32⟩ : BufTy).Contents (Elt F) → (⟨S8x5000x1, .f32⟩ : BufTy).Contents (Elt F)),
    reshape main_v104 main_v105 (rfl : (.f32 : EltTy) = .f32) shapeCasts_S8x5000x1_S8x5000,
    unary main_v103 main_v106 ((extractStridedSlice S8x5000x1 ![0, 0, 0] · slices_S8x5000x4_S8x5000x1_0_0_0) : (⟨S8x5000x4, .f32⟩ : BufTy).Contents (Elt F) → (⟨S8x5000x1, .f32⟩ : BufTy).Contents (Elt F)),
    reshape main_v106 main_v107 (rfl : (.f32 : EltTy) = .f32) shapeCasts_S8x5000x1_S8x5000,
    binary main_v105 main_v107 main_v108 (subf : (⟨S8x5000, .f32⟩ : BufTy).Contents (Elt F) → (⟨S8x5000, .f32⟩ : BufTy).Contents (Elt F) → (⟨S8x5000, .f32⟩ : BufTy).Contents (Elt F)),
    unary main_v103 main_v109 ((extractStridedSlice S8x5000x1 ![0, 0, 3] · slices_S8x5000x4_S8x5000x1_0_0_3) : (⟨S8x5000x4, .f32⟩ : BufTy).Contents (Elt F) → (⟨S8x5000x1, .f32⟩ : BufTy).Contents (Elt F)),
    reshape main_v109 main_v110 (rfl : (.f32 : EltTy) = .f32) shapeCasts_S8x5000x1_S8x5000,
    unary main_v103 main_v111 ((extractStridedSlice S8x5000x1 ![0, 0, 1] · slices_S8x5000x4_S8x5000x1_0_0_1) : (⟨S8x5000x4, .f32⟩ : BufTy).Contents (Elt F) → (⟨S8x5000x1, .f32⟩ : BufTy).Contents (Elt F)),
    reshape main_v111 main_v112 (rfl : (.f32 : EltTy) = .f32) shapeCasts_S8x5000x1_S8x5000,
    binary main_v110 main_v112 main_v113 (subf : (⟨S8x5000, .f32⟩ : BufTy).Contents (Elt F) → (⟨S8x5000, .f32⟩ : BufTy).Contents (Elt F) → (⟨S8x5000, .f32⟩ : BufTy).Contents (Elt F)),
    binary main_v108 main_v113 main_v114 (mulf : (⟨S8x5000, .f32⟩ : BufTy).Contents (Elt F) → (⟨S8x5000, .f32⟩ : BufTy).Contents (Elt F) → (⟨S8x5000, .f32⟩ : BufTy).Contents (Elt F)),
    nullary main_cst_13 (constant S_ .f32 0x00000000#32),
    unary main_cst_13 main_v115 (broadcastInDim S100x8x6 ![] bcast_S_S100x8x6 : (⟨S_, .f32⟩ : BufTy).Contents (Elt F) → (⟨S100x8x6, .f32⟩ : BufTy).Contents (Elt F)),
    nullary main_c_14 (constantI S_ 32 0#32),
    unary main_v91 main_v116_0 id,
    unary main_v24 main_v116_1 id,
    unary main_v103 main_v116_2 id,
    unary main_v114 main_v116_3 id,
    unary main_arg10 main_v116_4 id,
    unary main_c_14 main_v116_5 id,
    unary main_v97 main_v116_6 id,
    unary main_v115 main_v116_7 id ]
theorem pre18_sub : (pre18 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
/-- Stretch of operations of a trip. -/
abbrev trip0 : List (HloOp τ sig (Elt F)) :=
  [ TRef.nullary (.of main_while0b_call8_v0 : TRef sig ⟨S8x5000, .i32⟩) (iotaInDim S8x5000 32 1),
    TRef.nullary (.of main_while0b_call8_cst : TRef sig ⟨S_, .f32⟩) (constant S_ .f32 0xFF800000#32),
    TRef.nullary (.of main_while0b_call8_c : TRef sig ⟨S_, .i32⟩) (constantI S_ 32 0#32),
    TRef.quaternary (.of main_v116_6 : TRef sig ⟨S8x5000, .f32⟩) (.of main_while0b_call8_v0 : TRef sig ⟨S8x5000, .i32⟩) (.of main_while0b_call8_cst : TRef sig ⟨S_, .f32⟩) (.of main_while0b_call8_c : TRef sig ⟨S_, .i32⟩) (.of main_while0b_call8_v1_0 : TRef sig ⟨S8, .f32⟩) (fun x y u v j => (Host.argReduce reducer_argmax_f32_i32 x y u v reducesTo_S8x5000_S8_d1 h_S_ j).1),
    TRef.quaternary (.of main_v116_6 : TRef sig ⟨S8x5000, .f32⟩) (.of main_while0b_call8_v0 : TRef sig ⟨S8x5000, .i32⟩) (.of main_while0b_call8_cst : TRef sig ⟨S_, .f32⟩) (.of main_while0b_call8_c : TRef sig ⟨S_, .i32⟩) (.of main_while0b_v118 : TRef sig ⟨S8, .i32⟩) (fun x y u v j => (Host.argReduce reducer_argmax_f32_i32 x y u v reducesTo_S8x5000_S8_d1 h_S_ j).2) ]
theorem trip0_sub : (trip0 : List (HloOp τ sig (Elt F))).Forall fun op => op.bufs ⊆ tcRefs τ sig :=
  ⟨nullary_bufs_sub .., nullary_bufs_sub .., nullary_bufs_sub .., quaternary_bufs_sub .., quaternary_bufs_sub ..⟩
/-- Stretch of operations of a trip. -/
abbrev trip1 : List (HloOp τ sig (Elt F)) :=
  [ TRef.unary (.of main_while0b_v118 : TRef sig ⟨S8, .i32⟩) (.of main_while0b_call9_v0 : TRef sig ⟨S8x1, .i32⟩) (broadcastInDim S8x1 ![0] bcast_S8_S8x1_0),
    TRef.binary (.of main_v116_6 : TRef sig ⟨S8x5000, .f32⟩) (.of main_while0b_call9_v0 : TRef sig ⟨S8x1, .i32⟩) (.of main_while0b_v119 : TRef sig ⟨S8, .f32⟩) (fun x i => Host.gather gather_S8x5000_S8x1_S8_n_1_0_0_1_1_11 x i) ]
theorem trip1_sub : (trip1 : List (HloOp τ sig (Elt F))).Forall fun op => op.bufs ⊆ tcRefs τ sig :=
  ⟨unary_bufs_sub .., binary_bufs_sub ..⟩
/-- Stretch of operations of a trip. -/
abbrev trip2 : List (HloOp τ sig (Elt F)) :=
  [ TRef.unary (.of main_while0b_v118 : TRef sig ⟨S8, .i32⟩) (.of main_while0b_call10_v0 : TRef sig ⟨S8x1, .i32⟩) (broadcastInDim S8x1 ![0] bcast_S8_S8x1_0),
    TRef.binary (.of main_v116_0 : TRef sig ⟨S8x5000x4, .f32⟩) (.of main_while0b_call10_v0 : TRef sig ⟨S8x1, .i32⟩) (.of main_while0b_v120 : TRef sig ⟨S8x4, .f32⟩) (fun x i => Host.gather gather_S8x5000x4_S8x1_S8x4_1_1_0_0_1_1_114 x i) ]
theorem trip2_sub : (trip2 : List (HloOp τ sig (Elt F))).Forall fun op => op.bufs ⊆ tcRefs τ sig :=
  ⟨unary_bufs_sub .., binary_bufs_sub ..⟩
/-- Stretch of operations of a trip. -/
abbrev trip3 : List (HloOp τ sig (Elt F)) :=
  [ TRef.unary (.of main_while0b_v118 : TRef sig ⟨S8, .i32⟩) (.of main_while0b_call11_v0 : TRef sig ⟨S8x1, .i32⟩) (broadcastInDim S8x1 ![0] bcast_S8_S8x1_0),
    TRef.binary (.of main_v116_1 : TRef sig ⟨S8x5000, .i32⟩) (.of main_while0b_call11_v0 : TRef sig ⟨S8x1, .i32⟩) (.of main_while0b_v121 : TRef sig ⟨S8, .i32⟩) (fun x i => Host.gather gather_S8x5000_S8x1_S8_n_1_0_0_1_1_11 x i) ]
theorem trip3_sub : (trip3 : List (HloOp τ sig (Elt F))).Forall fun op => op.bufs ⊆ tcRefs τ sig :=
  ⟨unary_bufs_sub .., binary_bufs_sub ..⟩
/-- Stretch of operations of a trip. -/
abbrev trip4 : List (HloOp τ sig (Elt F)) :=
  [ TRef.unary (.of main_while0b_v118 : TRef sig ⟨S8, .i32⟩) (.of main_while0b_call12_v0 : TRef sig ⟨S8x1, .i32⟩) (broadcastInDim S8x1 ![0] bcast_S8_S8x1_0),
    TRef.binary (.of main_v116_2 : TRef sig ⟨S8x5000x4, .f32⟩) (.of main_while0b_call12_v0 : TRef sig ⟨S8x1, .i32⟩) (.of main_while0b_v122 : TRef sig ⟨S8x4, .f32⟩) (fun x i => Host.gather gather_S8x5000x4_S8x1_S8x4_1_1_0_0_1_1_114 x i) ]
theorem trip4_sub : (trip4 : List (HloOp τ sig (Elt F))).Forall fun op => op.bufs ⊆ tcRefs τ sig :=
  ⟨unary_bufs_sub .., binary_bufs_sub ..⟩
/-- Stretch of operations of a trip. -/
abbrev trip5 : List (HloOp τ sig (Elt F)) :=
  [ unary main_while0b_v122 main_while0b_v123 ((extractStridedSlice S8x1 ![0, 0] · slices_S8x4_S8x1_0_0) : (⟨S8x4, .f32⟩ : BufTy).Contents (Elt F) → (⟨S8x1, .f32⟩ : BufTy).Contents (Elt F)),
    reshape main_while0b_v123 main_while0b_v124 (rfl : (.f32 : EltTy) = .f32) shapeCasts_S8x1_S8,
    unary main_v116_2 main_while0b_v125 ((extractStridedSlice S8x5000x1 ![0, 0, 0] · slices_S8x5000x4_S8x5000x1_0_0_0) : (⟨S8x5000x4, .f32⟩ : BufTy).Contents (Elt F) → (⟨S8x5000x1, .f32⟩ : BufTy).Contents (Elt F)),
    reshape main_while0b_v125 main_while0b_v126 (rfl : (.f32 : EltTy) = .f32) shapeCasts_S8x5000x1_S8x5000,
    unary main_while0b_v124 main_while0b_v127 (broadcastInDim S8x1 ![0] bcast_S8_S8x1_0 : (⟨S8, .f32⟩ : BufTy).Contents (Elt F) → (⟨S8x1, .f32⟩ : BufTy).Contents (Elt F)),
    unary main_while0b_v127 main_while0b_v128 (broadcastInDim S8x5000 ![0, 1] bcast_S8x1_S8x5000_0_1 : (⟨S8x1, .f32⟩ : BufTy).Contents (Elt F) → (⟨S8x5000, .f32⟩ : BufTy).Contents (Elt F)),
    binary main_while0b_v128 main_while0b_v126 main_while0b_v129 (maximumf : (⟨S8x5000, .f32⟩ : BufTy).Contents (Elt F) → (⟨S8x5000, .f32⟩ : BufTy).Contents (Elt F) → (⟨S8x5000, .f32⟩ : BufTy).Contents (Elt F)),
    unary main_while0b_v122 main_while0b_v130 ((extractStridedSlice S8x1 ![0, 1] · slices_S8x4_S8x1_0_1) : (⟨S8x4, .f32⟩ : BufTy).Contents (Elt F) → (⟨S8x1, .f32⟩ : BufTy).Contents (Elt F)),
    reshape main_while0b_v130 main_while0b_v131 (rfl : (.f32 : EltTy) = .f32) shapeCasts_S8x1_S8,
    unary main_v116_2 main_while0b_v132 ((extractStridedSlice S8x5000x1 ![0, 0, 1] · slices_S8x5000x4_S8x5000x1_0_0_1) : (⟨S8x5000x4, .f32⟩ : BufTy).Contents (Elt F) → (⟨S8x5000x1, .f32⟩ : BufTy).Contents (Elt F)),
    reshape main_while0b_v132 main_while0b_v133 (rfl : (.f32 : EltTy) = .f32) shapeCasts_S8x5000x1_S8x5000,
    unary main_while0b_v131 main_while0b_v134 (broadcastInDim S8x1 ![0] bcast_S8_S8x1_0 : (⟨S8, .f32⟩ : BufTy).Contents (Elt F) → (⟨S8x1, .f32⟩ : BufTy).Contents (Elt F)),
    unary main_while0b_v134 main_while0b_v135 (broadcastInDim S8x5000 ![0, 1] bcast_S8x1_S8x5000_0_1 : (⟨S8x1, .f32⟩ : BufTy).Contents (Elt F) → (⟨S8x5000, .f32⟩ : BufTy).Contents (Elt F)),
    binary main_while0b_v135 main_while0b_v133 main_while0b_v136 (maximumf : (⟨S8x5000, .f32⟩ : BufTy).Contents (Elt F) → (⟨S8x5000, .f32⟩ : BufTy).Contents (Elt F) → (⟨S8x5000, .f32⟩ : BufTy).Contents (Elt F)),
    unary main_while0b_v122 main_while0b_v137 ((extractStridedSlice S8x1 ![0, 2] · slices_S8x4_S8x1_0_2) : (⟨S8x4, .f32⟩ : BufTy).Contents (Elt F) → (⟨S8x1, .f32⟩ : BufTy).Contents (Elt F)),
    reshape main_while0b_v137 main_while0b_v138 (rfl : (.f32 : EltTy) = .f32) shapeCasts_S8x1_S8,
    unary main_v116_2 main_while0b_v139 ((extractStridedSlice S8x5000x1 ![0, 0, 2] · slices_S8x5000x4_S8x5000x1_0_0_2) : (⟨S8x5000x4, .f32⟩ : BufTy).Contents (Elt F) → (⟨S8x5000x1, .f32⟩ : BufTy).Contents (Elt F)),
    reshape main_while0b_v139 main_while0b_v140 (rfl : (.f32 : EltTy) = .f32) shapeCasts_S8x5000x1_S8x5000,
    unary main_while0b_v138 main_while0b_v141 (broadcastInDim S8x1 ![0] bcast_S8_S8x1_0 : (⟨S8, .f32⟩ : BufTy).Contents (Elt F) → (⟨S8x1, .f32⟩ : BufTy).Contents (Elt F)),
    unary main_while0b_v141 main_while0b_v142 (broadcastInDim S8x5000 ![0, 1] bcast_S8x1_S8x5000_0_1 : (⟨S8x1, .f32⟩ : BufTy).Contents (Elt F) → (⟨S8x5000, .f32⟩ : BufTy).Contents (Elt F)),
    binary main_while0b_v142 main_while0b_v140 main_while0b_v143 (minimumf : (⟨S8x5000, .f32⟩ : BufTy).Contents (Elt F) → (⟨S8x5000, .f32⟩ : BufTy).Contents (Elt F) → (⟨S8x5000, .f32⟩ : BufTy).Contents (Elt F)),
    unary main_while0b_v122 main_while0b_v144 ((extractStridedSlice S8x1 ![0, 3] · slices_S8x4_S8x1_0_3) : (⟨S8x4, .f32⟩ : BufTy).Contents (Elt F) → (⟨S8x1, .f32⟩ : BufTy).Contents (Elt F)),
    reshape main_while0b_v144 main_while0b_v145 (rfl : (.f32 : EltTy) = .f32) shapeCasts_S8x1_S8,
    unary main_v116_2 main_while0b_v146 ((extractStridedSlice S8x5000x1 ![0, 0, 3] · slices_S8x5000x4_S8x5000x1_0_0_3) : (⟨S8x5000x4, .f32⟩ : BufTy).Contents (Elt F) → (⟨S8x5000x1, .f32⟩ : BufTy).Contents (Elt F)),
    reshape main_while0b_v146 main_while0b_v147 (rfl : (.f32 : EltTy) = .f32) shapeCasts_S8x5000x1_S8x5000,
    unary main_while0b_v145 main_while0b_v148 (broadcastInDim S8x1 ![0] bcast_S8_S8x1_0 : (⟨S8, .f32⟩ : BufTy).Contents (Elt F) → (⟨S8x1, .f32⟩ : BufTy).Contents (Elt F)),
    unary main_while0b_v148 main_while0b_v149 (broadcastInDim S8x5000 ![0, 1] bcast_S8x1_S8x5000_0_1 : (⟨S8x1, .f32⟩ : BufTy).Contents (Elt F) → (⟨S8x5000, .f32⟩ : BufTy).Contents (Elt F)),
    binary main_while0b_v149 main_while0b_v147 main_while0b_v150 (minimumf : (⟨S8x5000, .f32⟩ : BufTy).Contents (Elt F) → (⟨S8x5000, .f32⟩ : BufTy).Contents (Elt F) → (⟨S8x5000, .f32⟩ : BufTy).Contents (Elt F)),
    binary main_while0b_v143 main_while0b_v129 main_while0b_v151 (subf : (⟨S8x5000, .f32⟩ : BufTy).Contents (Elt F) → (⟨S8x5000, .f32⟩ : BufTy).Contents (Elt F) → (⟨S8x5000, .f32⟩ : BufTy).Contents (Elt F)),
    nullary main_while0b_cst_22 (constant S_ .f32 0x00000000#32) ]
theorem trip5_sub : (trip5 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., binary_bufs_sub .., nullary_bufs_sub ..⟩
/-- Stretch of operations of a trip. -/
abbrev trip6 : List (HloOp τ sig (Elt F)) :=
  [ TRef.unary (.of main_while0b_cst_22 : TRef sig ⟨S_, .f32⟩) (.of main_while0b_call13_v0 : TRef sig ⟨S_, .f32⟩) id,
    TRef.unary (.of main_while0b_call13_v0 : TRef sig ⟨S_, .f32⟩) (.of main_while0b_call13_v1 : TRef sig ⟨S8x5000, .f32⟩) (broadcastInDim S8x5000 ![] bcast_S_S8x5000),
    TRef.binary (.of main_while0b_call13_v1 : TRef sig ⟨S8x5000, .f32⟩) (.of main_while0b_v151 : TRef sig ⟨S8x5000, .f32⟩) (.of main_while0b_v152 : TRef sig ⟨S8x5000, .f32⟩) maximumf ]
theorem trip6_sub : (trip6 : List (HloOp τ sig (Elt F))).Forall fun op => op.bufs ⊆ tcRefs τ sig :=
  ⟨unary_bufs_sub .., unary_bufs_sub .., binary_bufs_sub ..⟩
/-- Stretch of operations of a trip. -/
abbrev trip7 : List (HloOp τ sig (Elt F)) :=
  [ binary main_while0b_v150 main_while0b_v136 main_while0b_v153 (subf : (⟨S8x5000, .f32⟩ : BufTy).Contents (Elt F) → (⟨S8x5000, .f32⟩ : BufTy).Contents (Elt F) → (⟨S8x5000, .f32⟩ : BufTy).Contents (Elt F)),
    nullary main_while0b_cst_23 (constant S_ .f32 0x00000000#32) ]
theorem trip7_sub : (trip7 : List (HloOp τ sig (Elt F))).Forall fun op => op.bufs ⊆ tcRefs τ sig :=
  ⟨binary_bufs_sub .., nullary_bufs_sub ..⟩
/-- Stretch of operations of a trip. -/
abbrev trip8 : List (HloOp τ sig (Elt F)) :=
  [ TRef.unary (.of main_while0b_cst_23 : TRef sig ⟨S_, .f32⟩) (.of main_while0b_call14_v0 : TRef sig ⟨S_, .f32⟩) id,
    TRef.unary (.of main_while0b_call14_v0 : TRef sig ⟨S_, .f32⟩) (.of main_while0b_call14_v1 : TRef sig ⟨S8x5000, .f32⟩) (broadcastInDim S8x5000 ![] bcast_S_S8x5000),
    TRef.binary (.of main_while0b_call14_v1 : TRef sig ⟨S8x5000, .f32⟩) (.of main_while0b_v153 : TRef sig ⟨S8x5000, .f32⟩) (.of main_while0b_v154 : TRef sig ⟨S8x5000, .f32⟩) maximumf ]
theorem trip8_sub : (trip8 : List (HloOp τ sig (Elt F))).Forall fun op => op.bufs ⊆ tcRefs τ sig :=
  ⟨unary_bufs_sub .., unary_bufs_sub .., binary_bufs_sub ..⟩
/-- Stretch of operations of a trip. -/
abbrev trip9 : List (HloOp τ sig (Elt F)) :=
  [ binary main_while0b_v152 main_while0b_v154 main_while0b_v155 (mulf : (⟨S8x5000, .f32⟩ : BufTy).Contents (Elt F) → (⟨S8x5000, .f32⟩ : BufTy).Contents (Elt F) → (⟨S8x5000, .f32⟩ : BufTy).Contents (Elt F)),
    unary main_while0b_v122 main_while0b_v156 ((extractStridedSlice S8x1 ![0, 2] · slices_S8x4_S8x1_0_2) : (⟨S8x4, .f32⟩ : BufTy).Contents (Elt F) → (⟨S8x1, .f32⟩ : BufTy).Contents (Elt F)),
    reshape main_while0b_v156 main_while0b_v157 (rfl : (.f32 : EltTy) = .f32) shapeCasts_S8x1_S8,
    unary main_while0b_v122 main_while0b_v158 ((extractStridedSlice S8x1 ![0, 0] · slices_S8x4_S8x1_0_0) : (⟨S8x4, .f32⟩ : BufTy).Contents (Elt F) → (⟨S8x1, .f32⟩ : BufTy).Contents (Elt F)),
    reshape main_while0b_v158 main_while0b_v159 (rfl : (.f32 : EltTy) = .f32) shapeCasts_S8x1_S8,
    binary main_while0b_v157 main_while0b_v159 main_while0b_v160 (subf : (⟨S8, .f32⟩ : BufTy).Contents (Elt F) → (⟨S8, .f32⟩ : BufTy).Contents (Elt F) → (⟨S8, .f32⟩ : BufTy).Contents (Elt F)),
    unary main_while0b_v122 main_while0b_v161 ((extractStridedSlice S8x1 ![0, 3] · slices_S8x4_S8x1_0_3) : (⟨S8x4, .f32⟩ : BufTy).Contents (Elt F) → (⟨S8x1, .f32⟩ : BufTy).Contents (Elt F)),
    reshape main_while0b_v161 main_while0b_v162 (rfl : (.f32 : EltTy) = .f32) shapeCasts_S8x1_S8,
    unary main_while0b_v122 main_while0b_v163 ((extractStridedSlice S8x1 ![0, 1] · slices_S8x4_S8x1_0_1) : (⟨S8x4, .f32⟩ : BufTy).Contents (Elt F) → (⟨S8x1, .f32⟩ : BufTy).Contents (Elt F)),
    reshape main_while0b_v163 main_while0b_v164 (rfl : (.f32 : EltTy) = .f32) shapeCasts_S8x1_S8,
    binary main_while0b_v162 main_while0b_v164 main_while0b_v165 (subf : (⟨S8, .f32⟩ : BufTy).Contents (Elt F) → (⟨S8, .f32⟩ : BufTy).Contents (Elt F) → (⟨S8, .f32⟩ : BufTy).Contents (Elt F)),
    binary main_while0b_v160 main_while0b_v165 main_while0b_v166 (mulf : (⟨S8, .f32⟩ : BufTy).Contents (Elt F) → (⟨S8, .f32⟩ : BufTy).Contents (Elt F) → (⟨S8, .f32⟩ : BufTy).Contents (Elt F)),
    unary main_while0b_v166 main_while0b_v167 (broadcastInDim S8x1 ![0] bcast_S8_S8x1_0 : (⟨S8, .f32⟩ : BufTy).Contents (Elt F) → (⟨S8x1, .f32⟩ : BufTy).Contents (Elt F)),
    unary main_while0b_v167 main_while0b_v168 (broadcastInDim S8x5000 ![0, 1] bcast_S8x1_S8x5000_0_1 : (⟨S8x1, .f32⟩ : BufTy).Contents (Elt F) → (⟨S8x5000, .f32⟩ : BufTy).Contents (Elt F)),
    binary main_while0b_v168 main_v116_3 main_while0b_v169 (addf : (⟨S8x5000, .f32⟩ : BufTy).Contents (Elt F) → (⟨S8x5000, .f32⟩ : BufTy).Contents (Elt F) → (⟨S8x5000, .f32⟩ : BufTy).Contents (Elt F)),
    binary main_while0b_v169 main_while0b_v155 main_while0b_v170 (subf : (⟨S8x5000, .f32⟩ : BufTy).Contents (Elt F) → (⟨S8x5000, .f32⟩ : BufTy).Contents (Elt F) → (⟨S8x5000, .f32⟩ : BufTy).Contents (Elt F)),
    nullary main_while0b_cst_24 (constant S_ .f32 0x322BCC77#32),
    unary main_while0b_cst_24 main_while0b_v171 (broadcastInDim S8x5000 ![] bcast_S_S8x5000 : (⟨S_, .f32⟩ : BufTy).Contents (Elt F) → (⟨S8x5000, .f32⟩ : BufTy).Contents (Elt F)),
    binary main_while0b_v170 main_while0b_v171 main_while0b_v172 (addf : (⟨S8x5000, .f32⟩ : BufTy).Contents (Elt F) → (⟨S8x5000, .f32⟩ : BufTy).Contents (Elt F) → (⟨S8x5000, .f32⟩ : BufTy).Contents (Elt F)),
    binary main_while0b_v155 main_while0b_v172 main_while0b_v173 (Host.divf : (⟨S8x5000, .f32⟩ : BufTy).Contents (Elt F) → (⟨S8x5000, .f32⟩ : BufTy).Contents (Elt F) → (⟨S8x5000, .f32⟩ : BufTy).Contents (Elt F)),
    nullary main_while0b_cst_25 (constant S_ .f32 0x3F000000#32),
    unary main_while0b_cst_25 main_while0b_v174 (broadcastInDim S8x5000 ![] bcast_S_S8x5000 : (⟨S_, .f32⟩ : BufTy).Contents (Elt F) → (⟨S8x5000, .f32⟩ : BufTy).Contents (Elt F)),
    binary main_while0b_v173 main_while0b_v174 main_while0b_v175 (cmpf .ogt : (⟨S8x5000, .f32⟩ : BufTy).Contents (Elt F) → (⟨S8x5000, .f32⟩ : BufTy).Contents (Elt F) → (⟨S8x5000, .i1⟩ : BufTy).Contents (Elt F)),
    nullary main_while0b_cst_26 (constant S_ .f32 0xBF800000#32) ]
theorem trip9_sub : (trip9 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub ..⟩
/-- Stretch of operations of a trip. -/
abbrev trip10 : List (HloOp τ sig (Elt F)) :=
  [ TRef.unary (.of main_while0b_cst_26 : TRef sig ⟨S_, .f32⟩) (.of main_while0b_call15_v0 : TRef sig ⟨S_, .f32⟩) id,
    TRef.unary (.of main_while0b_call15_v0 : TRef sig ⟨S_, .f32⟩) (.of main_while0b_call15_v1 : TRef sig ⟨S5000, .f32⟩) (broadcastInDim S5000 ![] bcast_S_S5000),
    TRef.unary (.of main_while0b_call15_v1 : TRef sig ⟨S5000, .f32⟩) (.of main_while0b_call15_v2 : TRef sig ⟨S8x5000, .f32⟩) (broadcastInDim S8x5000 ![1] bcast_S5000_S8x5000_1),
    TRef.ternary (.of main_while0b_v175 : TRef sig ⟨S8x5000, .i1⟩) (.of main_while0b_call15_v2 : TRef sig ⟨S8x5000, .f32⟩) (.of main_v116_6 : TRef sig ⟨S8x5000, .f32⟩) (.of main_while0b_v176 : TRef sig ⟨S8x5000, .f32⟩) select ]
theorem trip10_sub : (trip10 : List (HloOp τ sig (Elt F))).Forall fun op => op.bufs ⊆ tcRefs τ sig :=
  ⟨unary_bufs_sub .., unary_bufs_sub .., unary_bufs_sub .., ternary_bufs_sub ..⟩
/-- Stretch of operations of a trip. -/
abbrev trip11 : List (HloOp τ sig (Elt F)) :=
  ( nullary main_while0b_cst_27 (constant S_ .f32 0x00000000#32)
  :: unary main_while0b_cst_27 main_while0b_v177 (broadcastInDim S8 ![] bcast_S_S8 : (⟨S_, .f32⟩ : BufTy).Contents (Elt F) → (⟨S8, .f32⟩ : BufTy).Contents (Elt F))
  :: binary main_while0b_v119 main_while0b_v177 main_while0b_v178 (cmpf .ogt : (⟨S8, .f32⟩ : BufTy).Contents (Elt F) → (⟨S8, .f32⟩ : BufTy).Contents (Elt F) → (⟨S8, .i1⟩ : BufTy).Contents (Elt F))
  :: unary main_while0b_v178 main_while0b_v179 (uitofp .f32 : (⟨S8, .i1⟩ : BufTy).Contents (Elt F) → (⟨S8, .f32⟩ : BufTy).Contents (Elt F))
  :: unary main_while0b_v120 main_while0b_v180 ((extractStridedSlice S8x1 ![0, 1] · slices_S8x4_S8x1_0_1) : (⟨S8x4, .f32⟩ : BufTy).Contents (Elt F) → (⟨S8x1, .f32⟩ : BufTy).Contents (Elt F))
  :: reshape main_while0b_v180 main_while0b_v181 (rfl : (.f32 : EltTy) = .f32) shapeCasts_S8x1_S8
  :: binary main_while0b_v181 main_v116_4 main_while0b_v182 (mulf : (⟨S8, .f32⟩ : BufTy).Contents (Elt F) → (⟨S8, .f32⟩ : BufTy).Contents (Elt F) → (⟨S8, .f32⟩ : BufTy).Contents (Elt F))
  :: unary main_while0b_v120 main_while0b_v183 ((extractStridedSlice S8x1 ![0, 0] · slices_S8x4_S8x1_0_0) : (⟨S8x4, .f32⟩ : BufTy).Contents (Elt F) → (⟨S8x1, .f32⟩ : BufTy).Contents (Elt F))
  :: reshape main_while0b_v183 main_while0b_v184 (rfl : (.f32 : EltTy) = .f32) shapeCasts_S8x1_S8
  :: binary main_while0b_v184 main_v116_4 main_while0b_v185 (mulf : (⟨S8, .f32⟩ : BufTy).Contents (Elt F) → (⟨S8, .f32⟩ : BufTy).Contents (Elt F) → (⟨S8, .f32⟩ : BufTy).Contents (Elt F))
  :: unary main_while0b_v120 main_while0b_v186 ((extractStridedSlice S8x1 ![0, 3] · slices_S8x4_S8x1_0_3) : (⟨S8x4, .f32⟩ : BufTy).Contents (Elt F) → (⟨S8x1, .f32⟩ : BufTy).Contents (Elt F))
  :: reshape main_while0b_v186 main_while0b_v187 (rfl : (.f32 : EltTy) = .f32) shapeCasts_S8x1_S8
  :: unary main_while0b_v120 main_while0b_v188 ((extractStridedSlice S8x1 ![0, 1] · slices_S8x4_S8x1_0_1) : (⟨S8x4, .f32⟩ : BufTy).Contents (Elt F) → (⟨S8x1, .f32⟩ : BufTy).Contents (Elt F))
  :: reshape main_while0b_v188 main_while0b_v189 (rfl : (.f32 : EltTy) = .f32) shapeCasts_S8x1_S8
  :: binary main_while0b_v187 main_while0b_v189 main_while0b_v190 (subf : (⟨S8, .f32⟩ : BufTy).Contents (Elt F) → (⟨S8, .f32⟩ : BufTy).Contents (Elt F) → (⟨S8, .f32⟩ : BufTy).Contents (Elt F))
  :: binary main_while0b_v190 main_v116_4 main_while0b_v191 (mulf : (⟨S8, .f32⟩ : BufTy).Contents (Elt F) → (⟨S8, .f32⟩ : BufTy).Contents (Elt F) → (⟨S8, .f32⟩ : BufTy).Contents (Elt F))
  :: unary main_while0b_v120 main_while0b_v192 ((extractStridedSlice S8x1 ![0, 2] · slices_S8x4_S8x1_0_2) : (⟨S8x4, .f32⟩ : BufTy).Contents (Elt F) → (⟨S8x1, .f32⟩ : BufTy).Contents (Elt F))
  :: reshape main_while0b_v192 main_while0b_v193 (rfl : (.f32 : EltTy) = .f32) shapeCasts_S8x1_S8
  :: unary main_while0b_v120 main_while0b_v194 ((extractStridedSlice S8x1 ![0, 0] · slices_S8x4_S8x1_0_0) : (⟨S8x4, .f32⟩ : BufTy).Contents (Elt F) → (⟨S8x1, .f32⟩ : BufTy).Contents (Elt F))
  :: reshape main_while0b_v194 main_while0b_v195 (rfl : (.f32 : EltTy) = .f32) shapeCasts_S8x1_S8
  :: binary main_while0b_v193 main_while0b_v195 main_while0b_v196 (subf : (⟨S8, .f32⟩ : BufTy).Contents (Elt F) → (⟨S8, .f32⟩ : BufTy).Contents (Elt F) → (⟨S8, .f32⟩ : BufTy).Contents (Elt F))
  :: binary main_while0b_v196 main_v116_4 main_while0b_v197 (mulf : (⟨S8, .f32⟩ : BufTy).Contents (Elt F) → (⟨S8, .f32⟩ : BufTy).Contents (Elt F) → (⟨S8, .f32⟩ : BufTy).Contents (Elt F))
  :: unary main_while0b_v121 main_while0b_v198 (sitofp .f32 : (⟨S8, .i32⟩ : BufTy).Contents (Elt F) → (⟨S8, .f32⟩ : BufTy).Contents (Elt F))
  :: nullary main_while0b_cst_28 (constant S_ .f32 0x3F800000#32)
  :: unary main_while0b_cst_28 main_while0b_v199 (broadcastInDim S8 ![] bcast_S_S8 : (⟨S_, .f32⟩ : BufTy).Contents (Elt F) → (⟨S8, .f32⟩ : BufTy).Contents (Elt F))
  :: binary main_while0b_v198 main_while0b_v199 main_while0b_v200 (addf : (⟨S8, .f32⟩ : BufTy).Contents (Elt F) → (⟨S8, .f32⟩ : BufTy).Contents (Elt F) → (⟨S8, .f32⟩ : BufTy).Contents (Elt F))
  :: unary main_while0b_v182 main_while0b_v201 (broadcastInDim S1x8 ![1] bcast_S8_S1x8_1 : (⟨S8, .f32⟩ : BufTy).Contents (Elt F) → (⟨S1x8, .f32⟩ : BufTy).Contents (Elt F))
  :: unary main_while0b_v185 main_while0b_v202 (broadcastInDim S1x8 ![1] bcast_S8_S1x8_1 : (⟨S8, .f32⟩ : BufTy).Contents (Elt F) → (⟨S1x8, .f32⟩ : BufTy).Contents (Elt F))
  :: unary main_while0b_v191 main_while0b_v203 (broadcastInDim S1x8 ![1] bcast_S8_S1x8_1 : (⟨S8, .f32⟩ : BufTy).Contents (Elt F) → (⟨S1x8, .f32⟩ : BufTy).Contents (Elt F))
  :: unary main_while0b_v197 main_while0b_v204 (broadcastInDim S1x8 ![1] bcast_S8_S1x8_1 : (⟨S8, .f32⟩ : BufTy).Contents (Elt F) → (⟨S1x8, .f32⟩ : BufTy).Contents (Elt F))
  :: unary main_while0b_v119 main_while0b_v205 (broadcastInDim S1x8 ![1] bcast_S8_S1x8_1 : (⟨S8, .f32⟩ : BufTy).Contents (Elt F) → (⟨S1x8, .f32⟩ : BufTy).Contents (Elt F))
  :: unary main_while0b_v200 main_while0b_v206 (broadcastInDim S1x8 ![1] bcast_S8_S1x8_1 : (⟨S8, .f32⟩ : BufTy).Contents (Elt F) → (⟨S1x8, .f32⟩ : BufTy).Contents (Elt F))
  :: nary ![main_while0b_v201, main_while0b_v202, main_while0b_v203, main_while0b_v204, main_while0b_v205, main_while0b_v206] main_while0b_v207 (fun u => (concatenate S6x8 0 [⟨S1x8, (u 0 : (⟨S1x8, .f32⟩ : BufTy).Contents (Elt F))⟩, ⟨S1x8, (u 1 : (⟨S1x8, .f32⟩ : BufTy).Contents (Elt F))⟩, ⟨S1x8, (u 2 : (⟨S1x8, .f32⟩ : BufTy).Contents (Elt F))⟩, ⟨S1x8, (u 3 : (⟨S1x8, .f32⟩ : BufTy).Contents (Elt F))⟩, ⟨S1x8, (u 4 : (⟨S1x8, .f32⟩ : BufTy).Contents (Elt F))⟩, ⟨S1x8, (u 5 : (⟨S1x8, .f32⟩ : BufTy).Contents (Elt F))⟩] concatenates_S1x8_S1x8_S1x8_S1x8_S1x8_S1x8_S6x8_d0 : (⟨S6x8, .f32⟩ : BufTy).Contents (Elt F)))
  :: unary main_while0b_v207 main_while0b_v208 ((transpose S8x6 [1, 0] · transposes_S6x8_S8x6_1_0) : (⟨S6x8, .f32⟩ : BufTy).Contents (Elt F) → (⟨S8x6, .f32⟩ : BufTy).Contents (Elt F))
  :: unary main_while0b_v179 main_while0b_v209 (broadcastInDim S8x1 ![0] bcast_S8_S8x1_0 : (⟨S8, .f32⟩ : BufTy).Contents (Elt F) → (⟨S8x1, .f32⟩ : BufTy).Contents (Elt F))
  :: unary main_while0b_v209 main_while0b_v210 (broadcastInDim S8x6 ![0, 1] bcast_S8x1_S8x6_0_1 : (⟨S8x1, .f32⟩ : BufTy).Contents (Elt F) → (⟨S8x6, .f32⟩ : BufTy).Contents (Elt F))
  :: binary main_while0b_v208 main_while0b_v210 main_while0b_v211 (mulf : (⟨S8x6, .f32⟩ : BufTy).Contents (Elt F) → (⟨S8x6, .f32⟩ : BufTy).Contents (Elt F) → (⟨S8x6, .f32⟩ : BufTy).Contents (Elt F))
  :: [] )
theorem trip11_sub : (trip11 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., binary_bufs_sub .., unary_bufs_sub .., nullary_bufs_sub .., unary_bufs_sub .., binary_bufs_sub .., unary_bufs_sub .., unary_bufs_sub .., unary_bufs_sub .., unary_bufs_sub .., unary_bufs_sub .., unary_bufs_sub .., nary_bufs_sub .., unary_bufs_sub .., unary_bufs_sub .., unary_bufs_sub .., binary_bufs_sub ..⟩
/-- Stretch of operations of a trip. -/
abbrev trip12 : List (HloOp τ sig (Elt F)) :=
  [ TRef.unary (.of main_while0b_v211 : TRef sig ⟨S8x6, .f32⟩) (.of main_while0b_call16_v0 : TRef sig ⟨S1x8x6, .f32⟩) (broadcastInDim S1x8x6 ![1, 2] bcast_S8x6_S1x8x6_1_2),
    TRef.nullary (.of main_while0b_call16_c : TRef sig ⟨S_, .i32⟩) (constantI S_ 32 0#32),
    TRef.nullary (.of main_while0b_call16_c_0 : TRef sig ⟨S_, .i32⟩) (constantI S_ 32 0#32),
    TRef.binaryIndexed (.of main_v116_7 : TRef sig ⟨S100x8x6, .f32⟩) (.of main_while0b_call16_v0 : TRef sig ⟨S1x8x6, .f32⟩) ![(.of main_v116_5 : TRef sig ⟨S_, .i32⟩), (.of main_while0b_call16_c : TRef sig ⟨S_, .i32⟩), (.of main_while0b_call16_c_0 : TRef sig ⟨S_, .i32⟩)] (.of main_while0b_v212 : TRef sig ⟨S100x8x6, .f32⟩) (fun x u i => Host.dynamicUpdateSlice x u (fun k => (i k (Shape.Idx.first h_S_)).toInt) updateFits_S100x8x6_S1x8x6) ]
theorem trip12_sub : (trip12 : List (HloOp τ sig (Elt F))).Forall fun op => op.bufs ⊆ tcRefs τ sig :=
  ⟨unary_bufs_sub .., nullary_bufs_sub .., nullary_bufs_sub .., binaryIndexed_bufs_sub ..⟩
/-- Stretch of operations of a trip. -/
abbrev trip13 : List (HloOp τ sig (Elt F)) :=
  [ nullary main_while0b_c_29 (constantI S_ 32 1#32),
    binary main_v116_5 main_while0b_c_29 main_while0b_v213 (addi : (⟨S_, .i32⟩ : BufTy).Contents (Elt F) → (⟨S_, .i32⟩ : BufTy).Contents (Elt F) → (⟨S_, .i32⟩ : BufTy).Contents (Elt F)),
    unary main_while0b_v213 main_v116_5 id,
    unary main_while0b_v176 main_v116_6 id,
    unary main_while0b_v212 main_v116_7 id ]
theorem trip13_sub : (trip13 : List (HloOp τ sig (Elt F))).Forall fun op => op.bufs ⊆ tcRefs τ sig :=
  ⟨nullary_bufs_sub .., binary_bufs_sub .., unary_bufs_sub .., unary_bufs_sub .., unary_bufs_sub ..⟩
/-- Stretch of operations after the loop. -/
abbrev post0 : List (HloOp τ sig (Elt F)) :=
  [ unary main_v116_7 main_v117 ((transpose S8x100x6 [1, 0, 2] · transposes_S100x8x6_S8x100x6_1_0_2) : (⟨S100x8x6, .f32⟩ : BufTy).Contents (Elt F) → (⟨S8x100x6, .f32⟩ : BufTy).Contents (Elt F)) ]
theorem post0_sub : (post0 : List (HloOp τ sig (Elt F))).Forall fun op => op.bufs ⊆ tcRefs τ sig :=
  unary_bufs_sub ..
theorem main_part0_chain (c : Dev nD) : main_part0 (F := F) c = (Pipeline.chainK
  [ seq pre0,
    seq pre1,
    seq pre2,
    seq pre3,
    seq pre4,
    seq pre5,
    seq pre6,
    seq pre7,
    seq pre8,
    seq pre9,
    seq pre10,
    seq pre11 ]
  (seq pre12) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

theorem main_part1_chain (c : Dev nD) : main_part1 (F := F) c = (Pipeline.chainK
  [ seq pre13,
    seq pre14,
    seq pre15,
    seq pre16 ]
  (seq pre17) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons]
  chain_rfl

theorem main_part2_chain (c : Dev nD) : main_part2 (F := F) c = (Pipeline.chain
  [ seq pre18,
    HostLoop.enter 0,
    seq post0 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

theorem main_chain_windows (c : Dev nD) : main (F := F) c = (Pipeline.chain
  [ seq pre0,
    seq pre1,
    seq pre2,
    seq pre3,
    seq pre4,
    seq pre5,
    seq pre6,
    seq pre7,
    seq pre8,
    seq pre9,
    seq pre10,
    seq pre11,
    seq pre12,
    seq pre13,
    seq pre14,
    seq pre15,
    seq pre16,
    seq pre17,
    seq pre18,
    HostLoop.enter 0,
    seq post0 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

theorem while0_body_chain : main_while0_body (F := F) = (Pipeline.chain
  [ seq trip0,
    seq trip1,
    seq trip2,
    seq trip3,
    seq trip4,
    seq trip5,
    seq trip6,
    seq trip7,
    seq trip8,
    seq trip9,
    seq trip10,
    seq trip11,
    seq trip12,
    seq trip13 ] : Prog (TpuEff nD τ sig (Elt F) (HostLoop.Sig (Pipeline.Sig Λ₀ (Fin 0) fun p => (pcfgs (F := F) p).Adm) 1) .tc) PUnit) := by
  rewrite [Pipeline.chain_cons, Pipeline.chain_cons, Pipeline.chain_cons, Pipeline.chain_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.Proof.Ref

end
-- ==== Proof.RefRun.lean ====
/- The run of the reference program: its 100 trips as a fold over the buffers, and what stays unchanged. -/
module

public import proofs.«01_k».proof.Proof.RefOps

@[expose] public section

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

abbrev pre0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_values, main_indices, main_c]
theorem pre0_fresh : (pre0 : List (HloOp τ sig (Elt F))).Forall fun op => op.fresh = ∅ :=
  forall_fresh_of_map rfl
theorem pre0_writes : (pre0 : List (HloOp τ sig (Elt F))).Forall fun op => op.writes ⊆ (pre0_W.map (Proc.devRef (τ := τ) .tc)).toFinset :=
  forall_writes_sub_of_map rfl
abbrev pre1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v23]
theorem pre1_fresh : (pre1 : List (HloOp τ sig (Elt F))).Forall fun op => op.fresh = ∅ :=
  forall_fresh_of_map rfl
theorem pre1_writes : (pre1 : List (HloOp τ sig (Elt F))).Forall fun op => op.writes ⊆ (pre1_W.map (Proc.devRef (τ := τ) .tc)).toFinset :=
  forall_writes_sub_of_map rfl
abbrev pre2_W : List (Ref sig .tc) := [main_c_0]
theorem pre2_fresh : (pre2 : List (HloOp τ sig (Elt F))).Forall fun op => op.fresh = ∅ :=
  forall_fresh_of_map rfl
theorem pre2_writes : (pre2 : List (HloOp τ sig (Elt F))).Forall fun op => op.writes ⊆ (pre2_W.map (Proc.devRef (τ := τ) .tc)).toFinset :=
  forall_writes_sub_of_map rfl
abbrev pre3_W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v24]
theorem pre3_fresh : (pre3 : List (HloOp τ sig (Elt F))).Forall fun op => op.fresh = ∅ :=
  forall_fresh_of_map rfl
theorem pre3_writes : (pre3 : List (HloOp τ sig (Elt F))).Forall fun op => op.writes ⊆ (pre3_W.map (Proc.devRef (τ := τ) .tc)).toFinset :=
  forall_writes_sub_of_map rfl
abbrev pre4_W : List (Ref sig .tc) := [main_v25]
theorem pre4_fresh : (pre4 : List (HloOp τ sig (Elt F))).Forall fun op => op.fresh = ∅ :=
  forall_fresh_of_map rfl
theorem pre4_writes : (pre4 : List (HloOp τ sig (Elt F))).Forall fun op => op.writes ⊆ (pre4_W.map (Proc.devRef (τ := τ) .tc)).toFinset :=
  forall_writes_sub_of_map rfl
abbrev pre5_W : List (Ref sig .tc) := [main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v26]
theorem pre5_fresh : (pre5 : List (HloOp τ sig (Elt F))).Forall fun op => op.fresh = ∅ :=
  forall_fresh_of_map rfl
theorem pre5_writes : (pre5 : List (HloOp τ sig (Elt F))).Forall fun op => op.writes ⊆ (pre5_W.map (Proc.devRef (τ := τ) .tc)).toFinset :=
  forall_writes_sub_of_map rfl
abbrev pre6_W : List (Ref sig .tc) := [main_v27]
theorem pre6_fresh : (pre6 : List (HloOp τ sig (Elt F))).Forall fun op => op.fresh = ∅ :=
  forall_fresh_of_map rfl
theorem pre6_writes : (pre6 : List (HloOp τ sig (Elt F))).Forall fun op => op.writes ⊆ (pre6_W.map (Proc.devRef (τ := τ) .tc)).toFinset :=
  forall_writes_sub_of_map rfl
abbrev pre7_W : List (Ref sig .tc) := [main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v28]
theorem pre7_fresh : (pre7 : List (HloOp τ sig (Elt F))).Forall fun op => op.fresh = ∅ :=
  forall_fresh_of_map rfl
theorem pre7_writes : (pre7 : List (HloOp τ sig (Elt F))).Forall fun op => op.writes ⊆ (pre7_W.map (Proc.devRef (τ := τ) .tc)).toFinset :=
  forall_writes_sub_of_map rfl
abbrev pre8_W : List (Ref sig .tc) := [main_v29]
theorem pre8_fresh : (pre8 : List (HloOp τ sig (Elt F))).Forall fun op => op.fresh = ∅ :=
  forall_fresh_of_map rfl
theorem pre8_writes : (pre8 : List (HloOp τ sig (Elt F))).Forall fun op => op.writes ⊆ (pre8_W.map (Proc.devRef (τ := τ) .tc)).toFinset :=
  forall_writes_sub_of_map rfl
abbrev pre9_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v30]
theorem pre9_fresh : (pre9 : List (HloOp τ sig (Elt F))).Forall fun op => op.fresh = ∅ :=
  forall_fresh_of_map rfl
theorem pre9_writes : (pre9 : List (HloOp τ sig (Elt F))).Forall fun op => op.writes ⊆ (pre9_W.map (Proc.devRef (τ := τ) .tc)).toFinset :=
  forall_writes_sub_of_map rfl
abbrev pre10_W : List (Ref sig .tc) := [main_v31]
theorem pre10_fresh : (pre10 : List (HloOp τ sig (Elt F))).Forall fun op => op.fresh = ∅ :=
  forall_fresh_of_map rfl
theorem pre10_writes : (pre10 : List (HloOp τ sig (Elt F))).Forall fun op => op.writes ⊆ (pre10_W.map (Proc.devRef (τ := τ) .tc)).toFinset :=
  forall_writes_sub_of_map rfl
abbrev pre11_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v32]
theorem pre11_fresh : (pre11 : List (HloOp τ sig (Elt F))).Forall fun op => op.fresh = ∅ :=
  forall_fresh_of_map rfl
theorem pre11_writes : (pre11 : List (HloOp τ sig (Elt F))).Forall fun op => op.writes ⊆ (pre11_W.map (Proc.devRef (τ := τ) .tc)).toFinset :=
  forall_writes_sub_of_map rfl
abbrev pre12_W : List (Ref sig .tc) := [main_v33, main_v34, main_v35, main_v36, main_v37, main_cst, main_v38, main_v39, main_v40, main_v41, main_v42, main_v43, main_v44, main_cst_1, main_v45, main_v46, main_v47, main_v48, main_v49, main_v50, main_v51, main_v52, main_v53]
theorem pre12_fresh : (pre12 : List (HloOp τ sig (Elt F))).Forall fun op => op.fresh = ∅ :=
  forall_fresh_of_map rfl
theorem pre12_writes : (pre12 : List (HloOp τ sig (Elt F))).Forall fun op => op.writes ⊆ (pre12_W.map (Proc.devRef (τ := τ) .tc)).toFinset :=
  forall_writes_sub_of_map rfl
abbrev pre13_W : List (Ref sig .tc) := [main_v54, main_v55, main_v56, main_v57, main_v58, main_v59, main_v60, main_v61, main_v62, main_v63, main_v64, main_cst_2, main_cst_3]
theorem pre13_fresh : (pre13 : List (HloOp τ sig (Elt F))).Forall fun op => op.fresh = ∅ :=
  forall_fresh_of_map rfl
theorem pre13_writes : (pre13 : List (HloOp τ sig (Elt F))).Forall fun op => op.writes ⊆ (pre13_W.map (Proc.devRef (τ := τ) .tc)).toFinset :=
  forall_writes_sub_of_map rfl
abbrev pre14_W : List (Ref sig .tc) := [main_call6_v0, main_call6_v1, main_call6_v2, main_call6_v3, main_call6_v4, main_v65]
theorem pre14_fresh : (pre14 : List (HloOp τ sig (Elt F))).Forall fun op => op.fresh = ∅ :=
  forall_fresh_of_map rfl
theorem pre14_writes : (pre14 : List (HloOp τ sig (Elt F))).Forall fun op => op.writes ⊆ (pre14_W.map (Proc.devRef (τ := τ) .tc)).toFinset :=
  forall_writes_sub_of_map rfl
abbrev pre15_W : List (Ref sig .tc) := [main_v66, main_v67, main_cst_4, main_cst_5]
theorem pre15_fresh : (pre15 : List (HloOp τ sig (Elt F))).Forall fun op => op.fresh = ∅ :=
  forall_fresh_of_map rfl
theorem pre15_writes : (pre15 : List (HloOp τ sig (Elt F))).Forall fun op => op.writes ⊆ (pre15_W.map (Proc.devRef (τ := τ) .tc)).toFinset :=
  forall_writes_sub_of_map rfl
abbrev pre16_W : List (Ref sig .tc) := [main_call7_v0, main_call7_v1, main_call7_v2, main_call7_v3, main_call7_v4, main_v68]
theorem pre16_fresh : (pre16 : List (HloOp τ sig (Elt F))).Forall fun op => op.fresh = ∅ :=
  forall_fresh_of_map rfl
theorem pre16_writes : (pre16 : List (HloOp τ sig (Elt F))).Forall fun op => op.writes ⊆ (pre16_W.map (Proc.devRef (τ := τ) .tc)).toFinset :=
  forall_writes_sub_of_map rfl
abbrev pre17_W : List (Ref sig .tc) := [main_v69, main_v70, main_v71, main_v72, main_v73, main_v74, main_cst_6, main_v75, main_v76, main_v77, main_cst_7, main_v78, main_v79, main_v80, main_cst_8, main_v81, main_v82, main_v83, main_cst_9, main_v84, main_v85, main_v86, main_v87, main_v88, main_v89, main_v90, main_v91, main_v92, main_v93, main_cst_10, main_v94, main_v95, main_cst_11, main_v96, main_v97, main_v98, main_v99, main_cst_12, main_v100, main_v101, main_v102]
theorem pre17_fresh : (pre17 : List (HloOp τ sig (Elt F))).Forall fun op => op.fresh = ∅ :=
  forall_fresh_of_map rfl
theorem pre17_writes : (pre17 : List (HloOp τ sig (Elt F))).Forall fun op => op.writes ⊆ (pre17_W.map (Proc.devRef (τ := τ) .tc)).toFinset :=
  forall_writes_sub_of_map rfl
abbrev pre18_W : List (Ref sig .tc) := [main_v103, main_v104, main_v105, main_v106, main_v107, main_v108, main_v109, main_v110, main_v111, main_v112, main_v113, main_v114, main_cst_13, main_v115, main_c_14, main_v116_0, main_v116_1, main_v116_2, main_v116_3, main_v116_4, main_v116_5, main_v116_6, main_v116_7]
theorem pre18_fresh : (pre18 : List (HloOp τ sig (Elt F))).Forall fun op => op.fresh = ∅ :=
  forall_fresh_of_map rfl
theorem pre18_writes : (pre18 : List (HloOp τ sig (Elt F))).Forall fun op => op.writes ⊆ (pre18_W.map (Proc.devRef (τ := τ) .tc)).toFinset :=
  forall_writes_sub_of_map rfl
abbrev trip0_W : List (Ref sig .tc) := [main_while0b_call8_v0, main_while0b_call8_cst, main_while0b_call8_c, main_while0b_call8_v1_0, main_while0b_v118]
theorem trip0_fresh : (trip0 : List (HloOp τ sig (Elt F))).Forall fun op => op.fresh = ∅ :=
  forall_fresh_of_map rfl
theorem trip0_writes : (trip0 : List (HloOp τ sig (Elt F))).Forall fun op => op.writes ⊆ (trip0_W.map (Proc.devRef (τ := τ) .tc)).toFinset :=
  forall_writes_sub_of_map rfl
abbrev trip1_W : List (Ref sig .tc) := [main_while0b_call9_v0, main_while0b_v119]
theorem trip1_fresh : (trip1 : List (HloOp τ sig (Elt F))).Forall fun op => op.fresh = ∅ :=
  forall_fresh_of_map rfl
theorem trip1_writes : (trip1 : List (HloOp τ sig (Elt F))).Forall fun op => op.writes ⊆ (trip1_W.map (Proc.devRef (τ := τ) .tc)).toFinset :=
  forall_writes_sub_of_map rfl
abbrev trip2_W : List (Ref sig .tc) := [main_while0b_call10_v0, main_while0b_v120]
theorem trip2_fresh : (trip2 : List (HloOp τ sig (Elt F))).Forall fun op => op.fresh = ∅ :=
  forall_fresh_of_map rfl
theorem trip2_writes : (trip2 : List (HloOp τ sig (Elt F))).Forall fun op => op.writes ⊆ (trip2_W.map (Proc.devRef (τ := τ) .tc)).toFinset :=
  forall_writes_sub_of_map rfl
abbrev trip3_W : List (Ref sig .tc) := [main_while0b_call11_v0, main_while0b_v121]
theorem trip3_fresh : (trip3 : List (HloOp τ sig (Elt F))).Forall fun op => op.fresh = ∅ :=
  forall_fresh_of_map rfl
theorem trip3_writes : (trip3 : List (HloOp τ sig (Elt F))).Forall fun op => op.writes ⊆ (trip3_W.map (Proc.devRef (τ := τ) .tc)).toFinset :=
  forall_writes_sub_of_map rfl
abbrev trip4_W : List (Ref sig .tc) := [main_while0b_call12_v0, main_while0b_v122]
theorem trip4_fresh : (trip4 : List (HloOp τ sig (Elt F))).Forall fun op => op.fresh = ∅ :=
  forall_fresh_of_map rfl
theorem trip4_writes : (trip4 : List (HloOp τ sig (Elt F))).Forall fun op => op.writes ⊆ (trip4_W.map (Proc.devRef (τ := τ) .tc)).toFinset :=
  forall_writes_sub_of_map rfl
abbrev trip5_W : List (Ref sig .tc) := [main_while0b_v123, main_while0b_v124, main_while0b_v125, main_while0b_v126, main_while0b_v127, main_while0b_v128, main_while0b_v129, main_while0b_v130, main_while0b_v131, main_while0b_v132, main_while0b_v133, main_while0b_v134, main_while0b_v135, main_while0b_v136, main_while0b_v137, main_while0b_v138, main_while0b_v139, main_while0b_v140, main_while0b_v141, main_while0b_v142, main_while0b_v143, main_while0b_v144, main_while0b_v145, main_while0b_v146, main_while0b_v147, main_while0b_v148, main_while0b_v149, main_while0b_v150, main_while0b_v151, main_while0b_cst_22]
theorem trip5_fresh : (trip5 : List (HloOp τ sig (Elt F))).Forall fun op => op.fresh = ∅ :=
  forall_fresh_of_map rfl
theorem trip5_writes : (trip5 : List (HloOp τ sig (Elt F))).Forall fun op => op.writes ⊆ (trip5_W.map (Proc.devRef (τ := τ) .tc)).toFinset :=
  forall_writes_sub_of_map rfl
abbrev trip6_W : List (Ref sig .tc) := [main_while0b_call13_v0, main_while0b_call13_v1, main_while0b_v152]
theorem trip6_fresh : (trip6 : List (HloOp τ sig (Elt F))).Forall fun op => op.fresh = ∅ :=
  forall_fresh_of_map rfl
theorem trip6_writes : (trip6 : List (HloOp τ sig (Elt F))).Forall fun op => op.writes ⊆ (trip6_W.map (Proc.devRef (τ := τ) .tc)).toFinset :=
  forall_writes_sub_of_map rfl
abbrev trip7_W : List (Ref sig .tc) := [main_while0b_v153, main_while0b_cst_23]
theorem trip7_fresh : (trip7 : List (HloOp τ sig (Elt F))).Forall fun op => op.fresh = ∅ :=
  forall_fresh_of_map rfl
theorem trip7_writes : (trip7 : List (HloOp τ sig (Elt F))).Forall fun op => op.writes ⊆ (trip7_W.map (Proc.devRef (τ := τ) .tc)).toFinset :=
  forall_writes_sub_of_map rfl
abbrev trip8_W : List (Ref sig .tc) := [main_while0b_call14_v0, main_while0b_call14_v1, main_while0b_v154]
theorem trip8_fresh : (trip8 : List (HloOp τ sig (Elt F))).Forall fun op => op.fresh = ∅ :=
  forall_fresh_of_map rfl
theorem trip8_writes : (trip8 : List (HloOp τ sig (Elt F))).Forall fun op => op.writes ⊆ (trip8_W.map (Proc.devRef (τ := τ) .tc)).toFinset :=
  forall_writes_sub_of_map rfl
abbrev trip9_W : List (Ref sig .tc) := [main_while0b_v155, main_while0b_v156, main_while0b_v157, main_while0b_v158, main_while0b_v159, main_while0b_v160, main_while0b_v161, main_while0b_v162, main_while0b_v163, main_while0b_v164, main_while0b_v165, main_while0b_v166, main_while0b_v167, main_while0b_v168, main_while0b_v169, main_while0b_v170, main_while0b_cst_24, main_while0b_v171, main_while0b_v172, main_while0b_v173, main_while0b_cst_25, main_while0b_v174, main_while0b_v175, main_while0b_cst_26]
theorem trip9_fresh : (trip9 : List (HloOp τ sig (Elt F))).Forall fun op => op.fresh = ∅ :=
  forall_fresh_of_map rfl
theorem trip9_writes : (trip9 : List (HloOp τ sig (Elt F))).Forall fun op => op.writes ⊆ (trip9_W.map (Proc.devRef (τ := τ) .tc)).toFinset :=
  forall_writes_sub_of_map rfl
abbrev trip10_W : List (Ref sig .tc) := [main_while0b_call15_v0, main_while0b_call15_v1, main_while0b_call15_v2, main_while0b_v176]
theorem trip10_fresh : (trip10 : List (HloOp τ sig (Elt F))).Forall fun op => op.fresh = ∅ :=
  forall_fresh_of_map rfl
theorem trip10_writes : (trip10 : List (HloOp τ sig (Elt F))).Forall fun op => op.writes ⊆ (trip10_W.map (Proc.devRef (τ := τ) .tc)).toFinset :=
  forall_writes_sub_of_map rfl
abbrev trip11_W : List (Ref sig .tc) := [main_while0b_cst_27, main_while0b_v177, main_while0b_v178, main_while0b_v179, main_while0b_v180, main_while0b_v181, main_while0b_v182, main_while0b_v183, main_while0b_v184, main_while0b_v185, main_while0b_v186, main_while0b_v187, main_while0b_v188, main_while0b_v189, main_while0b_v190, main_while0b_v191, main_while0b_v192, main_while0b_v193, main_while0b_v194, main_while0b_v195, main_while0b_v196, main_while0b_v197, main_while0b_v198, main_while0b_cst_28, main_while0b_v199, main_while0b_v200, main_while0b_v201, main_while0b_v202, main_while0b_v203, main_while0b_v204, main_while0b_v205, main_while0b_v206, main_while0b_v207, main_while0b_v208, main_while0b_v209, main_while0b_v210, main_while0b_v211]
theorem trip11_fresh : (trip11 : List (HloOp τ sig (Elt F))).Forall fun op => op.fresh = ∅ :=
  forall_fresh_of_map rfl
theorem trip11_writes : (trip11 : List (HloOp τ sig (Elt F))).Forall fun op => op.writes ⊆ (trip11_W.map (Proc.devRef (τ := τ) .tc)).toFinset :=
  forall_writes_sub_of_map rfl
abbrev trip12_W : List (Ref sig .tc) := [main_while0b_call16_v0, main_while0b_call16_c, main_while0b_call16_c_0, main_while0b_v212]
theorem trip12_fresh : (trip12 : List (HloOp τ sig (Elt F))).Forall fun op => op.fresh = ∅ :=
  forall_fresh_of_map rfl
theorem trip12_writes : (trip12 : List (HloOp τ sig (Elt F))).Forall fun op => op.writes ⊆ (trip12_W.map (Proc.devRef (τ := τ) .tc)).toFinset :=
  forall_writes_sub_of_map rfl
abbrev trip13_W : List (Ref sig .tc) := [main_while0b_c_29, main_while0b_v213, main_v116_5, main_v116_6, main_v116_7]
theorem trip13_fresh : (trip13 : List (HloOp τ sig (Elt F))).Forall fun op => op.fresh = ∅ :=
  forall_fresh_of_map rfl
theorem trip13_writes : (trip13 : List (HloOp τ sig (Elt F))).Forall fun op => op.writes ⊆ (trip13_W.map (Proc.devRef (τ := τ) .tc)).toFinset :=
  forall_writes_sub_of_map rfl
abbrev post0_W : List (Ref sig .tc) := [main_v117]
theorem post0_fresh : (post0 : List (HloOp τ sig (Elt F))).Forall fun op => op.fresh = ∅ :=
  forall_fresh_of_map rfl
theorem post0_writes : (post0 : List (HloOp τ sig (Elt F))).Forall fun op => op.writes ⊆ (post0_W.map (Proc.devRef (τ := τ) .tc)).toFinset :=
  forall_writes_sub_of_map rfl

/-- The condition region's two operations: the bound, and the trip counter compared with it. -/
abbrev condOps : List (HloOp τ sig (Elt F)) :=
  [ nullary main_while0c_c_22 (constantI S_ 32 100#32),
    binary main_v116_5 main_while0c_c_22 main_while0c_v118 (cmpi .slt) ]
abbrev condOps_W : List (Ref sig .tc) := [main_while0c_c_22, main_while0c_v118]
theorem condOps_writes : (condOps : List (HloOp τ sig (Elt F))).Forall fun op => op.writes ⊆ (condOps_W.map (Proc.devRef (τ := τ) .tc)).toFinset :=
  forall_writes_sub_of_map rfl

abbrev preI : List (List (HloOp τ sig (Elt F))) := [pre0, pre1, pre2, pre3, pre4, pre5, pre6, pre7, pre8, pre9, pre10, pre11, pre12, pre13, pre14, pre15, pre16, pre17, pre18]
theorem preI_plain : Plain (preI (F := F)) := .cons pre0_sub (hf := List.forall_iff_forall_mem.mp pre0_fresh) (.cons pre1_sub (hf := List.forall_iff_forall_mem.mp pre1_fresh) (.cons pre2_sub (hf := List.forall_iff_forall_mem.mp pre2_fresh) (.cons pre3_sub (hf := List.forall_iff_forall_mem.mp pre3_fresh) (.cons pre4_sub (hf := List.forall_iff_forall_mem.mp pre4_fresh) (.cons pre5_sub (hf := List.forall_iff_forall_mem.mp pre5_fresh) (.cons pre6_sub (hf := List.forall_iff_forall_mem.mp pre6_fresh) (.cons pre7_sub (hf := List.forall_iff_forall_mem.mp pre7_fresh) (.cons pre8_sub (hf := List.forall_iff_forall_mem.mp pre8_fresh) (.cons pre9_sub (hf := List.forall_iff_forall_mem.mp pre9_fresh) (.cons pre10_sub (hf := List.forall_iff_forall_mem.mp pre10_fresh) (.cons pre11_sub (hf := List.forall_iff_forall_mem.mp pre11_fresh) (.cons pre12_sub (hf := List.forall_iff_forall_mem.mp pre12_fresh) (.cons pre13_sub (hf := List.forall_iff_forall_mem.mp pre13_fresh) (.cons pre14_sub (hf := List.forall_iff_forall_mem.mp pre14_fresh) (.cons pre15_sub (hf := List.forall_iff_forall_mem.mp pre15_fresh) (.cons pre16_sub (hf := List.forall_iff_forall_mem.mp pre16_fresh) (.cons pre17_sub (hf := List.forall_iff_forall_mem.mp pre17_fresh) (.cons pre18_sub (hf := List.forall_iff_forall_mem.mp pre18_fresh) (.nil)))))))))))))))))))
/-- What these stretches write, stretch by stretch. -/
abbrev preI_W : List (List (Ref sig .tc)) := [pre0_W, pre1_W, pre2_W, pre3_W, pre4_W, pre5_W, pre6_W, pre7_W, pre8_W, pre9_W, pre10_W, pre11_W, pre12_W, pre13_W, pre14_W, pre15_W, pre16_W, pre17_W, pre18_W]
/-- A buffer that no stretch writes keeps its contents. -/
theorem preI_keeps (V : Valuation τ sig (Elt F)) (r : Ref sig .tc) (h : ∀ W ∈ preI_W, r ∉ W) :
    afterL preI V (Proc.devRef .tc r) = V (Proc.devRef .tc r) := by
  simp only [preI, afterL_cons, afterL_nil]
  rw [after_of_writes_sub pre18 _ pre18_writes (h pre18_W (by simp only [preI_W, List.mem_cons, true_or, or_true])), after_of_writes_sub pre17 _ pre17_writes (h pre17_W (by simp only [preI_W, List.mem_cons, true_or, or_true])), after_of_writes_sub pre16 _ pre16_writes (h pre16_W (by simp only [preI_W, List.mem_cons, true_or, or_true])), after_of_writes_sub pre15 _ pre15_writes (h pre15_W (by simp only [preI_W, List.mem_cons, true_or, or_true])), after_of_writes_sub pre14 _ pre14_writes (h pre14_W (by simp only [preI_W, List.mem_cons, true_or, or_true])), after_of_writes_sub pre13 _ pre13_writes (h pre13_W (by simp only [preI_W, List.mem_cons, true_or, or_true])), after_of_writes_sub pre12 _ pre12_writes (h pre12_W (by simp only [preI_W, List.mem_cons, true_or, or_true])), after_of_writes_sub pre11 _ pre11_writes (h pre11_W (by simp only [preI_W, List.mem_cons, true_or, or_true])), after_of_writes_sub pre10 _ pre10_writes (h pre10_W (by simp only [preI_W, List.mem_cons, true_or, or_true])), after_of_writes_sub pre9 _ pre9_writes (h pre9_W (by simp only [preI_W, List.mem_cons, true_or, or_true])), after_of_writes_sub pre8 _ pre8_writes (h pre8_W (by simp only [preI_W, List.mem_cons, true_or, or_true])), after_of_writes_sub pre7 _ pre7_writes (h pre7_W (by simp only [preI_W, List.mem_cons, true_or, or_true])), after_of_writes_sub pre6 _ pre6_writes (h pre6_W (by simp only [preI_W, List.mem_cons, true_or, or_true])), after_of_writes_sub pre5 _ pre5_writes (h pre5_W (by simp only [preI_W, List.mem_cons, true_or, or_true])), after_of_writes_sub pre4 _ pre4_writes (h pre4_W (by simp only [preI_W, List.mem_cons, true_or, or_true])), after_of_writes_sub pre3 _ pre3_writes (h pre3_W (by simp only [preI_W, List.mem_cons, true_or, or_true])), after_of_writes_sub pre2 _ pre2_writes (h pre2_W (by simp only [preI_W, List.mem_cons, true_or, or_true])), after_of_writes_sub pre1 _ pre1_writes (h pre1_W (by simp only [preI_W, List.mem_cons, true_or, or_true])), after_of_writes_sub pre0 _ pre0_writes (h pre0_W (by simp only [preI_W, List.mem_cons, true_or, or_true]))]

abbrev bodyI : List (List (HloOp τ sig (Elt F))) := [trip0, trip1, trip2, trip3, trip4, trip5, trip6, trip7, trip8, trip9, trip10, trip11, trip12, trip13]
theorem bodyI_plain : Plain (bodyI (F := F)) := .cons trip0_sub (hf := List.forall_iff_forall_mem.mp trip0_fresh) (.cons trip1_sub (hf := List.forall_iff_forall_mem.mp trip1_fresh) (.cons trip2_sub (hf := List.forall_iff_forall_mem.mp trip2_fresh) (.cons trip3_sub (hf := List.forall_iff_forall_mem.mp trip3_fresh) (.cons trip4_sub (hf := List.forall_iff_forall_mem.mp trip4_fresh) (.cons trip5_sub (hf := List.forall_iff_forall_mem.mp trip5_fresh) (.cons trip6_sub (hf := List.forall_iff_forall_mem.mp trip6_fresh) (.cons trip7_sub (hf := List.forall_iff_forall_mem.mp trip7_fresh) (.cons trip8_sub (hf := List.forall_iff_forall_mem.mp trip8_fresh) (.cons trip9_sub (hf := List.forall_iff_forall_mem.mp trip9_fresh) (.cons trip10_sub (hf := List.forall_iff_forall_mem.mp trip10_fresh) (.cons trip11_sub (hf := List.forall_iff_forall_mem.mp trip11_fresh) (.cons trip12_sub (hf := List.forall_iff_forall_mem.mp trip12_fresh) (.cons trip13_sub (hf := List.forall_iff_forall_mem.mp trip13_fresh) (.nil))))))))))))))
/-- What these stretches write, stretch by stretch. -/
abbrev bodyI_W : List (List (Ref sig .tc)) := [trip0_W, trip1_W, trip2_W, trip3_W, trip4_W, trip5_W, trip6_W, trip7_W, trip8_W, trip9_W, trip10_W, trip11_W, trip12_W, trip13_W]
/-- A buffer that no stretch writes keeps its contents. -/
theorem bodyI_keeps (V : Valuation τ sig (Elt F)) (r : Ref sig .tc) (h : ∀ W ∈ bodyI_W, r ∉ W) :
    afterL bodyI V (Proc.devRef .tc r) = V (Proc.devRef .tc r) := by
  simp only [bodyI, afterL_cons, afterL_nil]
  rw [after_of_writes_sub trip13 _ trip13_writes (h trip13_W (by simp only [bodyI_W, List.mem_cons, true_or, or_true])), after_of_writes_sub trip12 _ trip12_writes (h trip12_W (by simp only [bodyI_W, List.mem_cons, true_or, or_true])), after_of_writes_sub trip11 _ trip11_writes (h trip11_W (by simp only [bodyI_W, List.mem_cons, true_or, or_true])), after_of_writes_sub trip10 _ trip10_writes (h trip10_W (by simp only [bodyI_W, List.mem_cons, true_or, or_true])), after_of_writes_sub trip9 _ trip9_writes (h trip9_W (by simp only [bodyI_W, List.mem_cons, true_or, or_true])), after_of_writes_sub trip8 _ trip8_writes (h trip8_W (by simp only [bodyI_W, List.mem_cons, true_or, or_true])), after_of_writes_sub trip7 _ trip7_writes (h trip7_W (by simp only [bodyI_W, List.mem_cons, true_or, or_true])), after_of_writes_sub trip6 _ trip6_writes (h trip6_W (by simp only [bodyI_W, List.mem_cons, true_or, or_true])), after_of_writes_sub trip5 _ trip5_writes (h trip5_W (by simp only [bodyI_W, List.mem_cons, true_or, or_true])), after_of_writes_sub trip4 _ trip4_writes (h trip4_W (by simp only [bodyI_W, List.mem_cons, true_or, or_true])), after_of_writes_sub trip3 _ trip3_writes (h trip3_W (by simp only [bodyI_W, List.mem_cons, true_or, or_true])), after_of_writes_sub trip2 _ trip2_writes (h trip2_W (by simp only [bodyI_W, List.mem_cons, true_or, or_true])), after_of_writes_sub trip1 _ trip1_writes (h trip1_W (by simp only [bodyI_W, List.mem_cons, true_or, or_true])), after_of_writes_sub trip0 _ trip0_writes (h trip0_W (by simp only [bodyI_W, List.mem_cons, true_or, or_true]))]

abbrev postI : List (List (HloOp τ sig (Elt F))) := [post0]
theorem postI_plain : Plain (postI (F := F)) := .cons post0_sub (hf := List.forall_iff_forall_mem.mp post0_fresh) (.nil)
/-- What these stretches write, stretch by stretch. -/
abbrev postI_W : List (List (Ref sig .tc)) := [post0_W]
/-- A buffer that no stretch writes keeps its contents. -/
theorem postI_keeps (V : Valuation τ sig (Elt F)) (r : Ref sig .tc) (h : ∀ W ∈ postI_W, r ∉ W) :
    afterL postI V (Proc.devRef .tc r) = V (Proc.devRef .tc r) := by
  simp only [postI, afterL_cons, afterL_nil]
  rw [after_of_writes_sub post0 _ post0_writes (h post0_W (by simp only [postI_W, List.mem_cons, true_or, or_true]))]

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

set_option maxRecDepth 100000 in
/-- The last stretch of a trip leaves the counter one step on. -/
theorem ctr_step (X : Valuation τ sig (Elt F)) :
    after trip13 X (Proc.devRef .tc main_v116_5) = addi (X (Proc.devRef .tc main_v116_5)) (constantI S_ 32 1#32) := by
  after_results
  rfl

/-- One trip leaves the counter one step on. -/
theorem ctr_body (X : Valuation τ sig (Elt F)) :
    afterL bodyI X (Proc.devRef .tc main_v116_5) = addi (X (Proc.devRef .tc main_v116_5)) (constantI S_ 32 1#32) := by
  simp only [bodyI, afterL_cons, afterL_nil]
  rw [ctr_step, after_of_writes_sub trip12 _ trip12_writes (by decide +kernel), after_of_writes_sub trip11 _ trip11_writes (by decide +kernel), after_of_writes_sub trip10 _ trip10_writes (by decide +kernel), after_of_writes_sub trip9 _ trip9_writes (by decide +kernel), after_of_writes_sub trip8 _ trip8_writes (by decide +kernel), after_of_writes_sub trip7 _ trip7_writes (by decide +kernel), after_of_writes_sub trip6 _ trip6_writes (by decide +kernel), after_of_writes_sub trip5 _ trip5_writes (by decide +kernel), after_of_writes_sub trip4 _ trip4_writes (by decide +kernel), after_of_writes_sub trip3 _ trip3_writes (by decide +kernel), after_of_writes_sub trip2 _ trip2_writes (by decide +kernel), after_of_writes_sub trip1 _ trip1_writes (by decide +kernel), after_of_writes_sub trip0 _ trip0_writes (by decide +kernel)]

/-- The counter is zero at the loop's entry. -/
theorem ctr_entry (c : Dev nD) : entryContents preI m c (Proc.devRef .tc main_v116_5) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v116_5) = fun _ => Scf.iv 0#32 1#32 k
  | 0 => by rw [show atK m 0 c = entryContents preI m c from rfl, ctr_entry, Scf.iv_zero]
  | k + 1 => by
    rw [show atK m (k + 1) c = afterL bodyI (after condOps (atK m k c)) from rfl, ctr_body,
      after_of_writes_sub condOps _ condOps_writes (by decide +kernel), atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v116_5 HostLoop.idx0)
        (HloOp.result _ (atK m k c) main_while0c_c_22 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps preI_plain bodyI_plain postI_plain
    (fun c => by rw [main_chain_windows]; rfl) (by rw [while0_body_chain]; rfl) 100 m ρ (cond_spec m)

end Cert.Proof.Ref

end
-- ==== Proof.RefStep.lean ====
/- One trip of the reference program as definitions: the state a trip hands the next, each value computed before the loop
   (`K_` without the arguments, `A_` from them), each value of a trip (`b` and its place), `init` and `step`. -/
module

public import proofs.«01_k».proof.Proof.Gen.ReferenceIdeal

@[expose] public section

noncomputable section

namespace Cert.Proof.Ref

open Idealize.ShloMosaic Cert.ReferenceIdeal Cert.ReferenceIdeal.Gen

variable {F : FTy → Type} [FloatOps F]

/-- The arguments' contents. -/
structure Args (F : FTy → Type) [FloatOps F] where
  main_arg0 : (⟨S8x810x64x64, .f32⟩ : BufTy).Contents (Elt F)
  main_arg1 : (⟨S8x810x32x32, .f32⟩ : BufTy).Contents (Elt F)
  main_arg2 : (⟨S8x810x16x16, .f32⟩ : BufTy).Contents (Elt F)
  main_arg3 : (⟨S8x810x8x8, .f32⟩ : BufTy).Contents (Elt F)
  main_arg4 : (⟨S8x810x4x4, .f32⟩ : BufTy).Contents (Elt F)
  main_arg5 : (⟨S8x36x64x64, .f32⟩ : BufTy).Contents (Elt F)
  main_arg6 : (⟨S8x36x32x32, .f32⟩ : BufTy).Contents (Elt F)
  main_arg7 : (⟨S8x36x16x16, .f32⟩ : BufTy).Contents (Elt F)
  main_arg8 : (⟨S8x36x8x8, .f32⟩ : BufTy).Contents (Elt F)
  main_arg9 : (⟨S8x36x4x4, .f32⟩ : BufTy).Contents (Elt F)
  main_arg10 : (⟨S8, .f32⟩ : BufTy).Contents (Elt F)
  main_arg11 : (⟨S49104x4, .f32⟩ : BufTy).Contents (Elt F)

/-- What a trip hands the next. -/
structure State (F : FTy → Type) [FloatOps F] where
  main_v116_6 : (⟨S8x5000, .f32⟩ : BufTy).Contents (Elt F)
  main_v116_7 : (⟨S100x8x6, .f32⟩ : BufTy).Contents (Elt F)
  main_v116_0 : (⟨S8x5000x4, .f32⟩ : BufTy).Contents (Elt F)
  main_v116_1 : (⟨S8x5000, .i32⟩ : BufTy).Contents (Elt F)
  main_v116_2 : (⟨S8x5000x4, .f32⟩ : BufTy).Contents (Elt F)
  main_v116_3 : (⟨S8x5000, .f32⟩ : BufTy).Contents (Elt F)
  main_v116_4 : (⟨S8, .f32⟩ : BufTy).Contents (Elt F)

/-! What @main computes before the loop without reading an argument. -/

def K_main_c : (⟨S_, .i32⟩ : BufTy).Contents (Elt F) := constantI S_ 32 90#32
def K_main_call0_v0 : (⟨S_, .i32⟩ : BufTy).Contents (Elt F) := id ((K_main_c (F := F)))
def K_main_call0_v1 : (⟨S8x5000, .i32⟩ : BufTy).Contents (Elt F) := broadcastInDim S8x5000 ![] bcast_S_S8x5000 ((K_main_call0_v0 (F := F)))
def K_main_call0_v4 : (⟨S_, .i32⟩ : BufTy).Contents (Elt F) := signi ((K_main_call0_v0 (F := F)))
def K_main_call0_v5 : (⟨S8x5000, .i32⟩ : BufTy).Contents (Elt F) := broadcastInDim S8x5000 ![] bcast_S_S8x5000 ((K_main_call0_v4 (F := F)))
def K_main_call0_v7 : (⟨S8x5000, .i32⟩ : BufTy).Contents (Elt F) := broadcastInDim S8x5000 ![] bcast_S_S8x5000 ((K_main_call0_v0 (F := F)))
def K_main_call0_c : (⟨S_, .i32⟩ : BufTy).Contents (Elt F) := constantI S_ 32 0#32
def K_main_call0_v9 : (⟨S8x5000, .i32⟩ : BufTy).Contents (Elt F) := broadcastInDim S8x5000 ![] bcast_S_S8x5000 ((K_main_call0_c (F := F)))
def K_main_call0_c_0 : (⟨S_, .i32⟩ : BufTy).Contents (Elt F) := constantI S_ 32 1#32
def K_main_call0_v12 : (⟨S8x5000, .i32⟩ : BufTy).Contents (Elt F) := broadcastInDim S8x5000 ![] bcast_S_S8x5000 ((K_main_call0_c_0 (F := F)))
def K_main_c_0 : (⟨S_, .i32⟩ : BufTy).Contents (Elt F) := constantI S_ 32 90#32
def K_main_call1_v0 : (⟨S_, .i32⟩ : BufTy).Contents (Elt F) := id ((K_main_c_0 (F := F)))
def K_main_call1_c : (⟨S_, .i32⟩ : BufTy).Contents (Elt F) := constantI S_ 32 0#32
def K_main_call1_v1 : (⟨S_, .i1⟩ : BufTy).Contents (Elt F) := cmpi .eq ((K_main_call1_v0 (F := F))) ((K_main_call1_c (F := F)))
def K_main_call1_c_0 : (⟨S_, .i32⟩ : BufTy).Contents (Elt F) := constantI S_ 32 1#32
def K_main_call1_v2 : (⟨S_, .i32⟩ : BufTy).Contents (Elt F) := select ((K_main_call1_v1 (F := F))) ((K_main_call1_c_0 (F := F))) ((K_main_call1_v0 (F := F)))
def K_main_call1_v3 : (⟨S8x5000, .i32⟩ : BufTy).Contents (Elt F) := broadcastInDim S8x5000 ![] bcast_S_S8x5000 ((K_main_call1_v2 (F := F)))
def K_main_call1_c_1 : (⟨S_, .i32⟩ : BufTy).Contents (Elt F) := constantI S_ 32 0#32
def K_main_call1_v5 : (⟨S8x5000, .i32⟩ : BufTy).Contents (Elt F) := broadcastInDim S8x5000 ![] bcast_S_S8x5000 ((K_main_call1_c_1 (F := F)))
def K_main_call1_c_2 : (⟨S_, .i32⟩ : BufTy).Contents (Elt F) := constantI S_ 32 0#32
def K_main_call1_v7 : (⟨S8x5000, .i32⟩ : BufTy).Contents (Elt F) := broadcastInDim S8x5000 ![] bcast_S_S8x5000 ((K_main_call1_c_2 (F := F)))
def K_main_call1_c_3 : (⟨S_, .i32⟩ : BufTy).Contents (Elt F) := constantI S_ 32 0#32
def K_main_call1_v9 : (⟨S_, .i1⟩ : BufTy).Contents (Elt F) := cmpi .slt ((K_main_call1_v2 (F := F))) ((K_main_call1_c_3 (F := F)))
def K_main_call1_v10 : (⟨S8x5000, .i1⟩ : BufTy).Contents (Elt F) := broadcastInDim S8x5000 ![] bcast_S_S8x5000 ((K_main_call1_v9 (F := F)))
def K_main_call1_v13 : (⟨S8x5000, .i32⟩ : BufTy).Contents (Elt F) := broadcastInDim S8x5000 ![] bcast_S_S8x5000 ((K_main_call1_v2 (F := F)))
def K_main_call2_c : (⟨S_, .i32⟩ : BufTy).Contents (Elt F) := constantI S_ 32 0#32
def K_main_call2_v0 : (⟨S8x5000x1, .i32⟩ : BufTy).Contents (Elt F) := broadcastInDim S8x5000x1 ![] bcast_S_S8x5000x1 ((K_main_call2_c (F := F)))
def K_main_call2_c_0 : (⟨S_, .i32⟩ : BufTy).Contents (Elt F) := constantI S_ 32 49104#32
def K_main_call2_v2 : (⟨S8x5000x1, .i32⟩ : BufTy).Contents (Elt F) := broadcastInDim S8x5000x1 ![] bcast_S_S8x5000x1 ((K_main_call2_c_0 (F := F)))
def K_main_call2_c_1 : (⟨S1, .i32⟩ : BufTy).Contents (Elt F) := constantI S1 32 49103#32
def K_main_call2_c_2 : (⟨S_, .i32⟩ : BufTy).Contents (Elt F) := constantI S_ 32 0#32
def K_main_call2_v5 : (⟨S8x5000x1, .i32⟩ : BufTy).Contents (Elt F) := broadcastInDim S8x5000x1 ![] bcast_S_S8x5000x1 ((K_main_call2_c_2 (F := F)))
def K_main_call2_v7 : (⟨S1x1x1, .i32⟩ : BufTy).Contents (Elt F) := broadcastInDim S1x1x1 ![2] bcast_S1_S1x1x1_2 ((K_main_call2_c_1 (F := F)))
def K_main_call2_v8 : (⟨S8x5000x1, .i32⟩ : BufTy).Contents (Elt F) := broadcastInDim S8x5000x1 ![0, 1, 2] bcast_S1x1x1_S8x5000x1_0_1_2 ((K_main_call2_v7 (F := F)))
def K_main_call2_c_3 : (⟨S_, .i1⟩ : BufTy).Contents (Elt F) := constantI S_ 1 1#1
def K_main_call2_cst : (⟨S_, .f32⟩ : BufTy).Contents (Elt F) := constant S_ .f32 0x7FC00000#32
def K_main_call2_v14 : (⟨S8x5000x4, .f32⟩ : BufTy).Contents (Elt F) := broadcastInDim S8x5000x4 ![] bcast_S_S8x5000x4 ((K_main_call2_cst (F := F)))
def K_main_call3_c : (⟨S_, .i32⟩ : BufTy).Contents (Elt F) := constantI S_ 32 0#32
def K_main_call3_v0 : (⟨S8x5000x1, .i32⟩ : BufTy).Contents (Elt F) := broadcastInDim S8x5000x1 ![] bcast_S_S8x5000x1 ((K_main_call3_c (F := F)))
def K_main_call3_c_0 : (⟨S_, .i32⟩ : BufTy).Contents (Elt F) := constantI S_ 32 49104#32
def K_main_call3_v2 : (⟨S8x5000x1, .i32⟩ : BufTy).Contents (Elt F) := broadcastInDim S8x5000x1 ![] bcast_S_S8x5000x1 ((K_main_call3_c_0 (F := F)))
def K_main_call3_c_1 : (⟨S1, .i32⟩ : BufTy).Contents (Elt F) := constantI S1 32 49103#32
def K_main_call3_c_2 : (⟨S_, .i32⟩ : BufTy).Contents (Elt F) := constantI S_ 32 0#32
def K_main_call3_v5 : (⟨S8x5000x1, .i32⟩ : BufTy).Contents (Elt F) := broadcastInDim S8x5000x1 ![] bcast_S_S8x5000x1 ((K_main_call3_c_2 (F := F)))
def K_main_call3_v7 : (⟨S1x1x1, .i32⟩ : BufTy).Contents (Elt F) := broadcastInDim S1x1x1 ![2] bcast_S1_S1x1x1_2 ((K_main_call3_c_1 (F := F)))
def K_main_call3_v8 : (⟨S8x5000x1, .i32⟩ : BufTy).Contents (Elt F) := broadcastInDim S8x5000x1 ![0, 1, 2] bcast_S1x1x1_S8x5000x1_0_1_2 ((K_main_call3_v7 (F := F)))
def K_main_call3_c_3 : (⟨S_, .i1⟩ : BufTy).Contents (Elt F) := constantI S_ 1 1#1
def K_main_call3_cst : (⟨S_, .f32⟩ : BufTy).Contents (Elt F) := constant S_ .f32 0x7FC00000#32
def K_main_call3_v14 : (⟨S8x5000x90, .f32⟩ : BufTy).Contents (Elt F) := broadcastInDim S8x5000x90 ![] bcast_S_S8x5000x90 ((K_main_call3_cst (F := F)))
def K_main_call4_c : (⟨S_, .i32⟩ : BufTy).Contents (Elt F) := constantI S_ 32 0#32
def K_main_call4_v0 : (⟨S8x5000x1, .i32⟩ : BufTy).Contents (Elt F) := broadcastInDim S8x5000x1 ![] bcast_S_S8x5000x1 ((K_main_call4_c (F := F)))
def K_main_call4_c_0 : (⟨S_, .i32⟩ : BufTy).Contents (Elt F) := constantI S_ 32 90#32
def K_main_call4_v2 : (⟨S8x5000x1, .i32⟩ : BufTy).Contents (Elt F) := broadcastInDim S8x5000x1 ![] bcast_S_S8x5000x1 ((K_main_call4_c_0 (F := F)))
def K_main_call4_c_1 : (⟨S1, .i32⟩ : BufTy).Contents (Elt F) := constantI S1 32 89#32
def K_main_call4_c_2 : (⟨S_, .i32⟩ : BufTy).Contents (Elt F) := constantI S_ 32 0#32
def K_main_call4_v6 : (⟨S8x5000x1x1, .i32⟩ : BufTy).Contents (Elt F) := broadcastInDim S8x5000x1x1 ![] bcast_S_S8x5000x1x1 ((K_main_call4_c_2 (F := F)))
def K_main_call4_v8 : (⟨S1x1x1x1, .i32⟩ : BufTy).Contents (Elt F) := broadcastInDim S1x1x1x1 ![3] bcast_S1_S1x1x1x1_3 ((K_main_call4_c_1 (F := F)))
def K_main_call4_v9 : (⟨S8x5000x1x1, .i32⟩ : BufTy).Contents (Elt F) := broadcastInDim S8x5000x1x1 ![0, 1, 2, 3] bcast_S1x1x1x1_S8x5000x1x1_0_1_2_3 ((K_main_call4_v8 (F := F)))
def K_main_call4_c_3 : (⟨S_, .i1⟩ : BufTy).Contents (Elt F) := constantI S_ 1 1#1
def K_main_call4_cst : (⟨S_, .f32⟩ : BufTy).Contents (Elt F) := constant S_ .f32 0x7FC00000#32
def K_main_call4_v14 : (⟨S8x5000x1, .f32⟩ : BufTy).Contents (Elt F) := broadcastInDim S8x5000x1 ![] bcast_S_S8x5000x1 ((K_main_call4_cst (F := F)))
def K_main_call5_c : (⟨S_, .i32⟩ : BufTy).Contents (Elt F) := constantI S_ 32 0#32
def K_main_call5_v0 : (⟨S8x5000, .i32⟩ : BufTy).Contents (Elt F) := broadcastInDim S8x5000 ![] bcast_S_S8x5000 ((K_main_call5_c (F := F)))
def K_main_call5_c_0 : (⟨S_, .i32⟩ : BufTy).Contents (Elt F) := constantI S_ 32 49104#32
def K_main_call5_v2 : (⟨S8x5000, .i32⟩ : BufTy).Contents (Elt F) := broadcastInDim S8x5000 ![] bcast_S_S8x5000 ((K_main_call5_c_0 (F := F)))
def K_main_call5_c_1 : (⟨S1, .i32⟩ : BufTy).Contents (Elt F) := constantI S1 32 49103#32
def K_main_call5_c_2 : (⟨S_, .i32⟩ : BufTy).Contents (Elt F) := constantI S_ 32 0#32
def K_main_call5_v6 : (⟨S8x5000x1, .i32⟩ : BufTy).Contents (Elt F) := broadcastInDim S8x5000x1 ![] bcast_S_S8x5000x1 ((K_main_call5_c_2 (F := F)))
def K_main_call5_v8 : (⟨S1x1x1, .i32⟩ : BufTy).Contents (Elt F) := broadcastInDim S1x1x1 ![2] bcast_S1_S1x1x1_2 ((K_main_call5_c_1 (F := F)))
def K_main_call5_v9 : (⟨S8x5000x1, .i32⟩ : BufTy).Contents (Elt F) := broadcastInDim S8x5000x1 ![0, 1, 2] bcast_S1x1x1_S8x5000x1_0_1_2 ((K_main_call5_v8 (F := F)))
def K_main_call5_c_3 : (⟨S_, .i1⟩ : BufTy).Contents (Elt F) := constantI S_ 1 1#1
def K_main_call5_cst : (⟨S_, .f32⟩ : BufTy).Contents (Elt F) := constant S_ .f32 0x7FC00000#32
def K_main_call5_v15 : (⟨S8x5000x4, .f32⟩ : BufTy).Contents (Elt F) := broadcastInDim S8x5000x4 ![] bcast_S_S8x5000x4 ((K_main_call5_cst (F := F)))
def K_main_cst : (⟨S_, .f32⟩ : BufTy).Contents (Elt F) := constant S_ .f32 0x40000000#32
def K_main_v38 : (⟨S8x5000, .f32⟩ : BufTy).Contents (Elt F) := broadcastInDim S8x5000 ![] bcast_S_S8x5000 ((K_main_cst (F := F)))
def K_main_cst_1 : (⟨S_, .f32⟩ : BufTy).Contents (Elt F) := constant S_ .f32 0x40000000#32
def K_main_v45 : (⟨S8x5000, .f32⟩ : BufTy).Contents (Elt F) := broadcastInDim S8x5000 ![] bcast_S_S8x5000 ((K_main_cst_1 (F := F)))
def K_main_cst_2 : (⟨S_, .f32⟩ : BufTy).Contents (Elt F) := constant S_ .f32 0xC1200000#32
def K_main_cst_3 : (⟨S_, .f32⟩ : BufTy).Contents (Elt F) := constant S_ .f32 0x40800000#32
def K_main_call6_v0 : (⟨S_, .f32⟩ : BufTy).Contents (Elt F) := id ((K_main_cst_2 (F := F)))
def K_main_call6_v1 : (⟨S8x5000, .f32⟩ : BufTy).Contents (Elt F) := broadcastInDim S8x5000 ![] bcast_S_S8x5000 ((K_main_call6_v0 (F := F)))
def K_main_call6_v3 : (⟨S_, .f32⟩ : BufTy).Contents (Elt F) := id ((K_main_cst_3 (F := F)))
def K_main_call6_v4 : (⟨S8x5000, .f32⟩ : BufTy).Contents (Elt F) := broadcastInDim S8x5000 ![] bcast_S_S8x5000 ((K_main_call6_v3 (F := F)))
def K_main_cst_4 : (⟨S_, .f32⟩ : BufTy).Contents (Elt F) := constant S_ .f32 0xC1200000#32
def K_main_cst_5 : (⟨S_, .f32⟩ : BufTy).Contents (Elt F) := constant S_ .f32 0x40800000#32
def K_main_call7_v0 : (⟨S_, .f32⟩ : BufTy).Contents (Elt F) := id ((K_main_cst_4 (F := F)))
def K_main_call7_v1 : (⟨S8x5000, .f32⟩ : BufTy).Contents (Elt F) := broadcastInDim S8x5000 ![] bcast_S_S8x5000 ((K_main_call7_v0 (F := F)))
def K_main_call7_v3 : (⟨S_, .f32⟩ : BufTy).Contents (Elt F) := id ((K_main_cst_5 (F := F)))
def K_main_call7_v4 : (⟨S8x5000, .f32⟩ : BufTy).Contents (Elt F) := broadcastInDim S8x5000 ![] bcast_S_S8x5000 ((K_main_call7_v3 (F := F)))
def K_main_cst_6 : (⟨S_, .f32⟩ : BufTy).Contents (Elt F) := constant S_ .f32 0x40000000#32
def K_main_v75 : (⟨S8x5000, .f32⟩ : BufTy).Contents (Elt F) := broadcastInDim S8x5000 ![] bcast_S_S8x5000 ((K_main_cst_6 (F := F)))
def K_main_cst_7 : (⟨S_, .f32⟩ : BufTy).Contents (Elt F) := constant S_ .f32 0x40000000#32
def K_main_v78 : (⟨S8x5000, .f32⟩ : BufTy).Contents (Elt F) := broadcastInDim S8x5000 ![] bcast_S_S8x5000 ((K_main_cst_7 (F := F)))
def K_main_cst_8 : (⟨S_, .f32⟩ : BufTy).Contents (Elt F) := constant S_ .f32 0x40000000#32
def K_main_v81 : (⟨S8x5000, .f32⟩ : BufTy).Contents (Elt F) := broadcastInDim S8x5000 ![] bcast_S_S8x5000 ((K_main_cst_8 (F := F)))
def K_main_cst_9 : (⟨S_, .f32⟩ : BufTy).Contents (Elt F) := constant S_ .f32 0x40000000#32
def K_main_v84 : (⟨S8x5000, .f32⟩ : BufTy).Contents (Elt F) := broadcastInDim S8x5000 ![] bcast_S_S8x5000 ((K_main_cst_9 (F := F)))
def K_main_cst_10 : (⟨S_, .f32⟩ : BufTy).Contents (Elt F) := constant S_ .f32 0x3F800000#32
def K_main_v94 : (⟨S8x5000, .f32⟩ : BufTy).Contents (Elt F) := broadcastInDim S8x5000 ![] bcast_S_S8x5000 ((K_main_cst_10 (F := F)))
def K_main_cst_11 : (⟨S_, .f32⟩ : BufTy).Contents (Elt F) := constant S_ .f32 0x3F800000#32
def K_main_v96 : (⟨S8x5000, .f32⟩ : BufTy).Contents (Elt F) := broadcastInDim S8x5000 ![] bcast_S_S8x5000 ((K_main_cst_11 (F := F)))
def K_main_cst_12 : (⟨S_, .f32⟩ : BufTy).Contents (Elt F) := constant S_ .f32 0x45800000#32
def K_main_v100 : (⟨S8x5000x1, .f32⟩ : BufTy).Contents (Elt F) := broadcastInDim S8x5000x1 ![] bcast_S_S8x5000x1 ((K_main_cst_12 (F := F)))
def K_main_cst_13 : (⟨S_, .f32⟩ : BufTy).Contents (Elt F) := constant S_ .f32 0x00000000#32
def K_main_v115 : (⟨S100x8x6, .f32⟩ : BufTy).Contents (Elt F) := broadcastInDim S100x8x6 ![] bcast_S_S100x8x6 ((K_main_cst_13 (F := F)))
def K_main_c_14 : (⟨S_, .i32⟩ : BufTy).Contents (Elt F) := constantI S_ 32 0#32

/-! What @main computes before the loop from its arguments, as functions of them. -/

def A_main_v0 (x : Args F) : (⟨S8x64x64x810, .f32⟩ : BufTy).Contents (Elt F) := transpose S8x64x64x810 [0, 2, 3, 1] x.main_arg0 transposes_S8x810x64x64_S8x64x64x810_0_2_3_1
def A_main_v1 (x : Args F) : (⟨S8x36864x90, .f32⟩ : BufTy).Contents (Elt F) := shapeCast _ ((A_main_v0 x)) shapeCasts_S8x64x64x810_S8x36864x90
def A_main_v2 (x : Args F) : (⟨S8x32x32x810, .f32⟩ : BufTy).Contents (Elt F) := transpose S8x32x32x810 [0, 2, 3, 1] x.main_arg1 transposes_S8x810x32x32_S8x32x32x810_0_2_3_1
def A_main_v3 (x : Args F) : (⟨S8x9216x90, .f32⟩ : BufTy).Contents (Elt F) := shapeCast _ ((A_main_v2 x)) shapeCasts_S8x32x32x810_S8x9216x90
def A_main_v4 (x : Args F) : (⟨S8x16x16x810, .f32⟩ : BufTy).Contents (Elt F) := transpose S8x16x16x810 [0, 2, 3, 1] x.main_arg2 transposes_S8x810x16x16_S8x16x16x810_0_2_3_1
def A_main_v5 (x : Args F) : (⟨S8x2304x90, .f32⟩ : BufTy).Contents (Elt F) := shapeCast _ ((A_main_v4 x)) shapeCasts_S8x16x16x810_S8x2304x90
def A_main_v6 (x : Args F) : (⟨S8x8x8x810, .f32⟩ : BufTy).Contents (Elt F) := transpose S8x8x8x810 [0, 2, 3, 1] x.main_arg3 transposes_S8x810x8x8_S8x8x8x810_0_2_3_1
def A_main_v7 (x : Args F) : (⟨S8x576x90, .f32⟩ : BufTy).Contents (Elt F) := shapeCast _ ((A_main_v6 x)) shapeCasts_S8x8x8x810_S8x576x90
def A_main_v8 (x : Args F) : (⟨S8x4x4x810, .f32⟩ : BufTy).Contents (Elt F) := transpose S8x4x4x810 [0, 2, 3, 1] x.main_arg4 transposes_S8x810x4x4_S8x4x4x810_0_2_3_1
def A_main_v9 (x : Args F) : (⟨S8x144x90, .f32⟩ : BufTy).Contents (Elt F) := shapeCast _ ((A_main_v8 x)) shapeCasts_S8x4x4x810_S8x144x90
def A_main_v10 (x : Args F) : (⟨S8x49104x90, .f32⟩ : BufTy).Contents (Elt F) := (concatenate S8x49104x90 1 [⟨S8x36864x90, (((A_main_v1 x)) : (⟨S8x36864x90, .f32⟩ : BufTy).Contents (Elt F))⟩, ⟨S8x9216x90, (((A_main_v3 x)) : (⟨S8x9216x90, .f32⟩ : BufTy).Contents (Elt F))⟩, ⟨S8x2304x90, (((A_main_v5 x)) : (⟨S8x2304x90, .f32⟩ : BufTy).Contents (Elt F))⟩, ⟨S8x576x90, (((A_main_v7 x)) : (⟨S8x576x90, .f32⟩ : BufTy).Contents (Elt F))⟩, ⟨S8x144x90, (((A_main_v9 x)) : (⟨S8x144x90, .f32⟩ : BufTy).Contents (Elt F))⟩] concatenates_S8x36864x90_S8x9216x90_S8x2304x90_S8x576x90_S8x144x90_S8x49104x90_d1 : (⟨S8x49104x90, .f32⟩ : BufTy).Contents (Elt F))
def A_main_v11 (x : Args F) : (⟨S8x64x64x36, .f32⟩ : BufTy).Contents (Elt F) := transpose S8x64x64x36 [0, 2, 3, 1] x.main_arg5 transposes_S8x36x64x64_S8x64x64x36_0_2_3_1
def A_main_v12 (x : Args F) : (⟨S8x36864x4, .f32⟩ : BufTy).Contents (Elt F) := shapeCast _ ((A_main_v11 x)) shapeCasts_S8x64x64x36_S8x36864x4
def A_main_v13 (x : Args F) : (⟨S8x32x32x36, .f32⟩ : BufTy).Contents (Elt F) := transpose S8x32x32x36 [0, 2, 3, 1] x.main_arg6 transposes_S8x36x32x32_S8x32x32x36_0_2_3_1
def A_main_v14 (x : Args F) : (⟨S8x9216x4, .f32⟩ : BufTy).Contents (Elt F) := shapeCast _ ((A_main_v13 x)) shapeCasts_S8x32x32x36_S8x9216x4
def A_main_v15 (x : Args F) : (⟨S8x16x16x36, .f32⟩ : BufTy).Contents (Elt F) := transpose S8x16x16x36 [0, 2, 3, 1] x.main_arg7 transposes_S8x36x16x16_S8x16x16x36_0_2_3_1
def A_main_v16 (x : Args F) : (⟨S8x2304x4, .f32⟩ : BufTy).Contents (Elt F) := shapeCast _ ((A_main_v15 x)) shapeCasts_S8x16x16x36_S8x2304x4
def A_main_v17 (x : Args F) : (⟨S8x8x8x36, .f32⟩ : BufTy).Contents (Elt F) := transpose S8x8x8x36 [0, 2, 3, 1] x.main_arg8 transposes_S8x36x8x8_S8x8x8x36_0_2_3_1
def A_main_v18 (x : Args F) : (⟨S8x576x4, .f32⟩ : BufTy).Contents (Elt F) := shapeCast _ ((A_main_v17 x)) shapeCasts_S8x8x8x36_S8x576x4
def A_main_v19 (x : Args F) : (⟨S8x4x4x36, .f32⟩ : BufTy).Contents (Elt F) := transpose S8x4x4x36 [0, 2, 3, 1] x.main_arg9 transposes_S8x36x4x4_S8x4x4x36_0_2_3_1
def A_main_v20 (x : Args F) : (⟨S8x144x4, .f32⟩ : BufTy).Contents (Elt F) := shapeCast _ ((A_main_v19 x)) shapeCasts_S8x4x4x36_S8x144x4
def A_main_v21 (x : Args F) : (⟨S8x49104x4, .f32⟩ : BufTy).Contents (Elt F) := (concatenate S8x49104x4 1 [⟨S8x36864x4, (((A_main_v12 x)) : (⟨S8x36864x4, .f32⟩ : BufTy).Contents (Elt F))⟩, ⟨S8x9216x4, (((A_main_v14 x)) : (⟨S8x9216x4, .f32⟩ : BufTy).Contents (Elt F))⟩, ⟨S8x2304x4, (((A_main_v16 x)) : (⟨S8x2304x4, .f32⟩ : BufTy).Contents (Elt F))⟩, ⟨S8x576x4, (((A_main_v18 x)) : (⟨S8x576x4, .f32⟩ : BufTy).Contents (Elt F))⟩, ⟨S8x144x4, (((A_main_v20 x)) : (⟨S8x144x4, .f32⟩ : BufTy).Contents (Elt F))⟩] concatenates_S8x36864x4_S8x9216x4_S8x2304x4_S8x576x4_S8x144x4_S8x49104x4_d1 : (⟨S8x49104x4, .f32⟩ : BufTy).Contents (Elt F))
def A_main_v22 (x : Args F) : (⟨S8x4419360, .f32⟩ : BufTy).Contents (Elt F) := shapeCast _ ((A_main_v10 x)) shapeCasts_S8x49104x90_S8x4419360
def A_main_indices (x : Args F) : (⟨S8x5000, .i32⟩ : BufTy).Contents (Elt F) := (Host.topK S8x5000 1 (FloatOps.cmpfTotal .gt) ((A_main_v22 x)) sliceFits_S8x4419360_S8x5000).2
def A_main_call0_v2 (x : Args F) : (⟨S8x5000, .i32⟩ : BufTy).Contents (Elt F) := Host.divsi ((A_main_indices x)) ((K_main_call0_v1 (F := F)))
def A_main_call0_v3 (x : Args F) : (⟨S8x5000, .i32⟩ : BufTy).Contents (Elt F) := signi ((A_main_indices x))
def A_main_call0_v6 (x : Args F) : (⟨S8x5000, .i1⟩ : BufTy).Contents (Elt F) := cmpi .ne ((A_main_call0_v3 x)) ((K_main_call0_v5 (F := F)))
def A_main_call0_v8 (x : Args F) : (⟨S8x5000, .i32⟩ : BufTy).Contents (Elt F) := Host.remsi ((A_main_indices x)) ((K_main_call0_v7 (F := F)))
def A_main_call0_v10 (x : Args F) : (⟨S8x5000, .i1⟩ : BufTy).Contents (Elt F) := cmpi .ne ((A_main_call0_v8 x)) ((K_main_call0_v9 (F := F)))
def A_main_call0_v11 (x : Args F) : (⟨S8x5000, .i1⟩ : BufTy).Contents (Elt F) := andi ((A_main_call0_v6 x)) ((A_main_call0_v10 x))
def A_main_call0_v13 (x : Args F) : (⟨S8x5000, .i32⟩ : BufTy).Contents (Elt F) := subi ((A_main_call0_v2 x)) ((K_main_call0_v12 (F := F)))
def A_main_v23 (x : Args F) : (⟨S8x5000, .i32⟩ : BufTy).Contents (Elt F) := select ((A_main_call0_v11 x)) ((A_main_call0_v13 x)) ((A_main_call0_v2 x))
def A_main_call1_v4 (x : Args F) : (⟨S8x5000, .i32⟩ : BufTy).Contents (Elt F) := Host.remsi ((A_main_indices x)) ((K_main_call1_v3 (F := F)))
def A_main_call1_v6 (x : Args F) : (⟨S8x5000, .i1⟩ : BufTy).Contents (Elt F) := cmpi .ne ((A_main_call1_v4 x)) ((K_main_call1_v5 (F := F)))
def A_main_call1_v8 (x : Args F) : (⟨S8x5000, .i1⟩ : BufTy).Contents (Elt F) := cmpi .slt ((A_main_call1_v4 x)) ((K_main_call1_v7 (F := F)))
def A_main_call1_v11 (x : Args F) : (⟨S8x5000, .i1⟩ : BufTy).Contents (Elt F) := cmpi .ne ((A_main_call1_v8 x)) ((K_main_call1_v10 (F := F)))
def A_main_call1_v12 (x : Args F) : (⟨S8x5000, .i1⟩ : BufTy).Contents (Elt F) := andi ((A_main_call1_v11 x)) ((A_main_call1_v6 x))
def A_main_call1_v14 (x : Args F) : (⟨S8x5000, .i32⟩ : BufTy).Contents (Elt F) := addi ((A_main_call1_v4 x)) ((K_main_call1_v13 (F := F)))
def A_main_v24 (x : Args F) : (⟨S8x5000, .i32⟩ : BufTy).Contents (Elt F) := select ((A_main_call1_v12 x)) ((A_main_call1_v14 x)) ((A_main_call1_v4 x))
def A_main_v25 (x : Args F) : (⟨S8x5000x1, .i32⟩ : BufTy).Contents (Elt F) := broadcastInDim S8x5000x1 ![0, 1] bcast_S8x5000_S8x5000x1_0_1 ((A_main_v23 x))
def A_main_call2_v1 (x : Args F) : (⟨S8x5000x1, .i1⟩ : BufTy).Contents (Elt F) := cmpi .slt ((A_main_v25 x)) ((K_main_call2_v0 (F := F)))
def A_main_call2_v3 (x : Args F) : (⟨S8x5000x1, .i32⟩ : BufTy).Contents (Elt F) := addi ((A_main_v25 x)) ((K_main_call2_v2 (F := F)))
def A_main_call2_v4 (x : Args F) : (⟨S8x5000x1, .i32⟩ : BufTy).Contents (Elt F) := select ((A_main_call2_v1 x)) ((A_main_call2_v3 x)) ((A_main_v25 x))
def A_main_call2_v6 (x : Args F) : (⟨S8x5000x1, .i1⟩ : BufTy).Contents (Elt F) := cmpi .sge ((A_main_call2_v4 x)) ((K_main_call2_v5 (F := F)))
def A_main_call2_v9 (x : Args F) : (⟨S8x5000x1, .i1⟩ : BufTy).Contents (Elt F) := cmpi .sle ((A_main_call2_v4 x)) ((K_main_call2_v8 (F := F)))
def A_main_call2_v10 (x : Args F) : (⟨S8x5000x1, .i1⟩ : BufTy).Contents (Elt F) := andi ((A_main_call2_v6 x)) ((A_main_call2_v9 x))
def A_main_call2_v11 (x : Args F) : (⟨S8x5000, .i1⟩ : BufTy).Contents (Elt F) := Host.reduce IntOp.andi ((A_main_call2_v10 x)) ((K_main_call2_c_3 (F := F))) reducesTo_S8x5000x1_S8x5000_d2 h_S_
def A_main_call2_v12 (x : Args F) : (⟨S8x5000x4, .f32⟩ : BufTy).Contents (Elt F) := Host.gather gather_S8x49104x4_S8x5000x1_S8x5000x4_2_1_0_0_1_2_114 ((A_main_v21 x)) ((A_main_call2_v4 x))
def A_main_call2_v13 (x : Args F) : (⟨S8x5000x4, .i1⟩ : BufTy).Contents (Elt F) := broadcastInDim S8x5000x4 ![0, 1] bcast_S8x5000_S8x5000x4_0_1 ((A_main_call2_v11 x))
def A_main_v26 (x : Args F) : (⟨S8x5000x4, .f32⟩ : BufTy).Contents (Elt F) := select ((A_main_call2_v13 x)) ((A_main_call2_v12 x)) ((K_main_call2_v14 (F := F)))
def A_main_v27 (x : Args F) : (⟨S8x5000x1, .i32⟩ : BufTy).Contents (Elt F) := broadcastInDim S8x5000x1 ![0, 1] bcast_S8x5000_S8x5000x1_0_1 ((A_main_v23 x))
def A_main_call3_v1 (x : Args F) : (⟨S8x5000x1, .i1⟩ : BufTy).Contents (Elt F) := cmpi .slt ((A_main_v27 x)) ((K_main_call3_v0 (F := F)))
def A_main_call3_v3 (x : Args F) : (⟨S8x5000x1, .i32⟩ : BufTy).Contents (Elt F) := addi ((A_main_v27 x)) ((K_main_call3_v2 (F := F)))
def A_main_call3_v4 (x : Args F) : (⟨S8x5000x1, .i32⟩ : BufTy).Contents (Elt F) := select ((A_main_call3_v1 x)) ((A_main_call3_v3 x)) ((A_main_v27 x))
def A_main_call3_v6 (x : Args F) : (⟨S8x5000x1, .i1⟩ : BufTy).Contents (Elt F) := cmpi .sge ((A_main_call3_v4 x)) ((K_main_call3_v5 (F := F)))
def A_main_call3_v9 (x : Args F) : (⟨S8x5000x1, .i1⟩ : BufTy).Contents (Elt F) := cmpi .sle ((A_main_call3_v4 x)) ((K_main_call3_v8 (F := F)))
def A_main_call3_v10 (x : Args F) : (⟨S8x5000x1, .i1⟩ : BufTy).Contents (Elt F) := andi ((A_main_call3_v6 x)) ((A_main_call3_v9 x))
def A_main_call3_v11 (x : Args F) : (⟨S8x5000, .i1⟩ : BufTy).Contents (Elt F) := Host.reduce IntOp.andi ((A_main_call3_v10 x)) ((K_main_call3_c_3 (F := F))) reducesTo_S8x5000x1_S8x5000_d2 h_S_
def A_main_call3_v12 (x : Args F) : (⟨S8x5000x90, .f32⟩ : BufTy).Contents (Elt F) := Host.gather gather_S8x49104x90_S8x5000x1_S8x5000x90_2_1_0_0_1_2_1190 ((A_main_v10 x)) ((A_main_call3_v4 x))
def A_main_call3_v13 (x : Args F) : (⟨S8x5000x90, .i1⟩ : BufTy).Contents (Elt F) := broadcastInDim S8x5000x90 ![0, 1] bcast_S8x5000_S8x5000x90_0_1 ((A_main_call3_v11 x))
def A_main_v28 (x : Args F) : (⟨S8x5000x90, .f32⟩ : BufTy).Contents (Elt F) := select ((A_main_call3_v13 x)) ((A_main_call3_v12 x)) ((K_main_call3_v14 (F := F)))
def A_main_v29 (x : Args F) : (⟨S8x5000x1, .i32⟩ : BufTy).Contents (Elt F) := broadcastInDim S8x5000x1 ![0, 1] bcast_S8x5000_S8x5000x1_0_1 ((A_main_v24 x))
def A_main_call4_v1 (x : Args F) : (⟨S8x5000x1, .i1⟩ : BufTy).Contents (Elt F) := cmpi .slt ((A_main_v29 x)) ((K_main_call4_v0 (F := F)))
def A_main_call4_v3 (x : Args F) : (⟨S8x5000x1, .i32⟩ : BufTy).Contents (Elt F) := addi ((A_main_v29 x)) ((K_main_call4_v2 (F := F)))
def A_main_call4_v4 (x : Args F) : (⟨S8x5000x1, .i32⟩ : BufTy).Contents (Elt F) := select ((A_main_call4_v1 x)) ((A_main_call4_v3 x)) ((A_main_v29 x))
def A_main_call4_v5 (x : Args F) : (⟨S8x5000x1x1, .i32⟩ : BufTy).Contents (Elt F) := shapeCast S8x5000x1x1 ((A_main_call4_v4 x)) shapeCasts_S8x5000x1_S8x5000x1x1
def A_main_call4_v7 (x : Args F) : (⟨S8x5000x1x1, .i1⟩ : BufTy).Contents (Elt F) := cmpi .sge ((A_main_call4_v5 x)) ((K_main_call4_v6 (F := F)))
def A_main_call4_v10 (x : Args F) : (⟨S8x5000x1x1, .i1⟩ : BufTy).Contents (Elt F) := cmpi .sle ((A_main_call4_v5 x)) ((K_main_call4_v9 (F := F)))
def A_main_call4_v11 (x : Args F) : (⟨S8x5000x1x1, .i1⟩ : BufTy).Contents (Elt F) := andi ((A_main_call4_v7 x)) ((A_main_call4_v10 x))
def A_main_call4_v12 (x : Args F) : (⟨S8x5000x1, .i1⟩ : BufTy).Contents (Elt F) := Host.reduce IntOp.andi ((A_main_call4_v11 x)) ((K_main_call4_c_3 (F := F))) reducesTo_S8x5000x1x1_S8x5000x1_d3 h_S_
def A_main_call4_v13 (x : Args F) : (⟨S8x5000x1, .f32⟩ : BufTy).Contents (Elt F) := Host.gather gather_S8x5000x90_S8x5000x1x1_S8x5000x1_n_2_01_01_2_3_111 ((A_main_v28 x)) ((A_main_call4_v5 x))
def A_main_v30 (x : Args F) : (⟨S8x5000x1, .f32⟩ : BufTy).Contents (Elt F) := select ((A_main_call4_v12 x)) ((A_main_call4_v13 x)) ((K_main_call4_v14 (F := F)))
def A_main_v31 (x : Args F) : (⟨S8x5000, .f32⟩ : BufTy).Contents (Elt F) := shapeCast _ ((A_main_v30 x)) shapeCasts_S8x5000x1_S8x5000
def A_main_call5_v1 (x : Args F) : (⟨S8x5000, .i1⟩ : BufTy).Contents (Elt F) := cmpi .slt ((A_main_v23 x)) ((K_main_call5_v0 (F := F)))
def A_main_call5_v3 (x : Args F) : (⟨S8x5000, .i32⟩ : BufTy).Contents (Elt F) := addi ((A_main_v23 x)) ((K_main_call5_v2 (F := F)))
def A_main_call5_v4 (x : Args F) : (⟨S8x5000, .i32⟩ : BufTy).Contents (Elt F) := select ((A_main_call5_v1 x)) ((A_main_call5_v3 x)) ((A_main_v23 x))
def A_main_call5_v5 (x : Args F) : (⟨S8x5000x1, .i32⟩ : BufTy).Contents (Elt F) := broadcastInDim S8x5000x1 ![0, 1] bcast_S8x5000_S8x5000x1_0_1 ((A_main_call5_v4 x))
def A_main_call5_v7 (x : Args F) : (⟨S8x5000x1, .i1⟩ : BufTy).Contents (Elt F) := cmpi .sge ((A_main_call5_v5 x)) ((K_main_call5_v6 (F := F)))
def A_main_call5_v10 (x : Args F) : (⟨S8x5000x1, .i1⟩ : BufTy).Contents (Elt F) := cmpi .sle ((A_main_call5_v5 x)) ((K_main_call5_v9 (F := F)))
def A_main_call5_v11 (x : Args F) : (⟨S8x5000x1, .i1⟩ : BufTy).Contents (Elt F) := andi ((A_main_call5_v7 x)) ((A_main_call5_v10 x))
def A_main_call5_v12 (x : Args F) : (⟨S8x5000, .i1⟩ : BufTy).Contents (Elt F) := Host.reduce IntOp.andi ((A_main_call5_v11 x)) ((K_main_call5_c_3 (F := F))) reducesTo_S8x5000x1_S8x5000_d2 h_S_
def A_main_call5_v13 (x : Args F) : (⟨S8x5000x4, .f32⟩ : BufTy).Contents (Elt F) := Host.gather gather_S49104x4_S8x5000x1_S8x5000x4_2_0_n_n_0_2_14 x.main_arg11 ((A_main_call5_v5 x))
def A_main_call5_v14 (x : Args F) : (⟨S8x5000x4, .i1⟩ : BufTy).Contents (Elt F) := broadcastInDim S8x5000x4 ![0, 1] bcast_S8x5000_S8x5000x4_0_1 ((A_main_call5_v12 x))
def A_main_v32 (x : Args F) : (⟨S8x5000x4, .f32⟩ : BufTy).Contents (Elt F) := select ((A_main_call5_v14 x)) ((A_main_call5_v13 x)) ((K_main_call5_v15 (F := F)))
def A_main_v33 (x : Args F) : (⟨S8x5000x1, .f32⟩ : BufTy).Contents (Elt F) := extractStridedSlice S8x5000x1 ![0, 0, 0] ((A_main_v32 x)) slices_S8x5000x4_S8x5000x1_0_0_0
def A_main_v34 (x : Args F) : (⟨S8x5000, .f32⟩ : BufTy).Contents (Elt F) := shapeCast _ ((A_main_v33 x)) shapeCasts_S8x5000x1_S8x5000
def A_main_v35 (x : Args F) : (⟨S8x5000x1, .f32⟩ : BufTy).Contents (Elt F) := extractStridedSlice S8x5000x1 ![0, 0, 2] ((A_main_v32 x)) slices_S8x5000x4_S8x5000x1_0_0_2
def A_main_v36 (x : Args F) : (⟨S8x5000, .f32⟩ : BufTy).Contents (Elt F) := shapeCast _ ((A_main_v35 x)) shapeCasts_S8x5000x1_S8x5000
def A_main_v37 (x : Args F) : (⟨S8x5000, .f32⟩ : BufTy).Contents (Elt F) := addf ((A_main_v34 x)) ((A_main_v36 x))
def A_main_v39 (x : Args F) : (⟨S8x5000, .f32⟩ : BufTy).Contents (Elt F) := Host.divf ((A_main_v37 x)) ((K_main_v38 (F := F)))
def A_main_v40 (x : Args F) : (⟨S8x5000x1, .f32⟩ : BufTy).Contents (Elt F) := extractStridedSlice S8x5000x1 ![0, 0, 1] ((A_main_v32 x)) slices_S8x5000x4_S8x5000x1_0_0_1
def A_main_v41 (x : Args F) : (⟨S8x5000, .f32⟩ : BufTy).Contents (Elt F) := shapeCast _ ((A_main_v40 x)) shapeCasts_S8x5000x1_S8x5000
def A_main_v42 (x : Args F) : (⟨S8x5000x1, .f32⟩ : BufTy).Contents (Elt F) := extractStridedSlice S8x5000x1 ![0, 0, 3] ((A_main_v32 x)) slices_S8x5000x4_S8x5000x1_0_0_3
def A_main_v43 (x : Args F) : (⟨S8x5000, .f32⟩ : BufTy).Contents (Elt F) := shapeCast _ ((A_main_v42 x)) shapeCasts_S8x5000x1_S8x5000
def A_main_v44 (x : Args F) : (⟨S8x5000, .f32⟩ : BufTy).Contents (Elt F) := addf ((A_main_v41 x)) ((A_main_v43 x))
def A_main_v46 (x : Args F) : (⟨S8x5000, .f32⟩ : BufTy).Contents (Elt F) := Host.divf ((A_main_v44 x)) ((K_main_v45 (F := F)))
def A_main_v47 (x : Args F) : (⟨S8x5000x1, .f32⟩ : BufTy).Contents (Elt F) := extractStridedSlice S8x5000x1 ![0, 0, 2] ((A_main_v32 x)) slices_S8x5000x4_S8x5000x1_0_0_2
def A_main_v48 (x : Args F) : (⟨S8x5000, .f32⟩ : BufTy).Contents (Elt F) := shapeCast _ ((A_main_v47 x)) shapeCasts_S8x5000x1_S8x5000
def A_main_v49 (x : Args F) : (⟨S8x5000x1, .f32⟩ : BufTy).Contents (Elt F) := extractStridedSlice S8x5000x1 ![0, 0, 0] ((A_main_v32 x)) slices_S8x5000x4_S8x5000x1_0_0_0
def A_main_v50 (x : Args F) : (⟨S8x5000, .f32⟩ : BufTy).Contents (Elt F) := shapeCast _ ((A_main_v49 x)) shapeCasts_S8x5000x1_S8x5000
def A_main_v51 (x : Args F) : (⟨S8x5000, .f32⟩ : BufTy).Contents (Elt F) := subf ((A_main_v48 x)) ((A_main_v50 x))
def A_main_v52 (x : Args F) : (⟨S8x5000x1, .f32⟩ : BufTy).Contents (Elt F) := extractStridedSlice S8x5000x1 ![0, 0, 3] ((A_main_v32 x)) slices_S8x5000x4_S8x5000x1_0_0_3
def A_main_v53 (x : Args F) : (⟨S8x5000, .f32⟩ : BufTy).Contents (Elt F) := shapeCast _ ((A_main_v52 x)) shapeCasts_S8x5000x1_S8x5000
def A_main_v54 (x : Args F) : (⟨S8x5000x1, .f32⟩ : BufTy).Contents (Elt F) := extractStridedSlice S8x5000x1 ![0, 0, 1] ((A_main_v32 x)) slices_S8x5000x4_S8x5000x1_0_0_1
def A_main_v55 (x : Args F) : (⟨S8x5000, .f32⟩ : BufTy).Contents (Elt F) := shapeCast _ ((A_main_v54 x)) shapeCasts_S8x5000x1_S8x5000
def A_main_v56 (x : Args F) : (⟨S8x5000, .f32⟩ : BufTy).Contents (Elt F) := subf ((A_main_v53 x)) ((A_main_v55 x))
def A_main_v57 (x : Args F) : (⟨S8x5000x1, .f32⟩ : BufTy).Contents (Elt F) := extractStridedSlice S8x5000x1 ![0, 0, 0] ((A_main_v26 x)) slices_S8x5000x4_S8x5000x1_0_0_0
def A_main_v58 (x : Args F) : (⟨S8x5000, .f32⟩ : BufTy).Contents (Elt F) := shapeCast _ ((A_main_v57 x)) shapeCasts_S8x5000x1_S8x5000
def A_main_v59 (x : Args F) : (⟨S8x5000x1, .f32⟩ : BufTy).Contents (Elt F) := extractStridedSlice S8x5000x1 ![0, 0, 1] ((A_main_v26 x)) slices_S8x5000x4_S8x5000x1_0_0_1
def A_main_v60 (x : Args F) : (⟨S8x5000, .f32⟩ : BufTy).Contents (Elt F) := shapeCast _ ((A_main_v59 x)) shapeCasts_S8x5000x1_S8x5000
def A_main_v61 (x : Args F) : (⟨S8x5000x1, .f32⟩ : BufTy).Contents (Elt F) := extractStridedSlice S8x5000x1 ![0, 0, 2] ((A_main_v26 x)) slices_S8x5000x4_S8x5000x1_0_0_2
def A_main_v62 (x : Args F) : (⟨S8x5000, .f32⟩ : BufTy).Contents (Elt F) := shapeCast _ ((A_main_v61 x)) shapeCasts_S8x5000x1_S8x5000
def A_main_v63 (x : Args F) : (⟨S8x5000x1, .f32⟩ : BufTy).Contents (Elt F) := extractStridedSlice S8x5000x1 ![0, 0, 3] ((A_main_v26 x)) slices_S8x5000x4_S8x5000x1_0_0_3
def A_main_v64 (x : Args F) : (⟨S8x5000, .f32⟩ : BufTy).Contents (Elt F) := shapeCast _ ((A_main_v63 x)) shapeCasts_S8x5000x1_S8x5000
def A_main_call6_v2 (x : Args F) : (⟨S8x5000, .f32⟩ : BufTy).Contents (Elt F) := maximumf ((K_main_call6_v1 (F := F))) ((A_main_v64 x))
def A_main_v65 (x : Args F) : (⟨S8x5000, .f32⟩ : BufTy).Contents (Elt F) := minimumf ((K_main_call6_v4 (F := F))) ((A_main_call6_v2 x))
def A_main_v66 (x : Args F) : (⟨S8x5000, .f32⟩ : BufTy).Contents (Elt F) := Host.exp ((A_main_v65 x))
def A_main_v67 (x : Args F) : (⟨S8x5000, .f32⟩ : BufTy).Contents (Elt F) := mulf ((A_main_v66 x)) ((A_main_v56 x))
def A_main_call7_v2 (x : Args F) : (⟨S8x5000, .f32⟩ : BufTy).Contents (Elt F) := maximumf ((K_main_call7_v1 (F := F))) ((A_main_v62 x))
def A_main_v68 (x : Args F) : (⟨S8x5000, .f32⟩ : BufTy).Contents (Elt F) := minimumf ((K_main_call7_v4 (F := F))) ((A_main_call7_v2 x))
def A_main_v69 (x : Args F) : (⟨S8x5000, .f32⟩ : BufTy).Contents (Elt F) := Host.exp ((A_main_v68 x))
def A_main_v70 (x : Args F) : (⟨S8x5000, .f32⟩ : BufTy).Contents (Elt F) := mulf ((A_main_v69 x)) ((A_main_v51 x))
def A_main_v71 (x : Args F) : (⟨S8x5000, .f32⟩ : BufTy).Contents (Elt F) := mulf ((A_main_v58 x)) ((A_main_v51 x))
def A_main_v72 (x : Args F) : (⟨S8x5000, .f32⟩ : BufTy).Contents (Elt F) := addf ((A_main_v71 x)) ((A_main_v39 x))
def A_main_v73 (x : Args F) : (⟨S8x5000, .f32⟩ : BufTy).Contents (Elt F) := mulf ((A_main_v60 x)) ((A_main_v56 x))
def A_main_v74 (x : Args F) : (⟨S8x5000, .f32⟩ : BufTy).Contents (Elt F) := addf ((A_main_v73 x)) ((A_main_v46 x))
def A_main_v76 (x : Args F) : (⟨S8x5000, .f32⟩ : BufTy).Contents (Elt F) := Host.divf ((A_main_v70 x)) ((K_main_v75 (F := F)))
def A_main_v77 (x : Args F) : (⟨S8x5000, .f32⟩ : BufTy).Contents (Elt F) := subf ((A_main_v72 x)) ((A_main_v76 x))
def A_main_v79 (x : Args F) : (⟨S8x5000, .f32⟩ : BufTy).Contents (Elt F) := Host.divf ((A_main_v67 x)) ((K_main_v78 (F := F)))
def A_main_v80 (x : Args F) : (⟨S8x5000, .f32⟩ : BufTy).Contents (Elt F) := subf ((A_main_v74 x)) ((A_main_v79 x))
def A_main_v82 (x : Args F) : (⟨S8x5000, .f32⟩ : BufTy).Contents (Elt F) := Host.divf ((A_main_v70 x)) ((K_main_v81 (F := F)))
def A_main_v83 (x : Args F) : (⟨S8x5000, .f32⟩ : BufTy).Contents (Elt F) := addf ((A_main_v72 x)) ((A_main_v82 x))
def A_main_v85 (x : Args F) : (⟨S8x5000, .f32⟩ : BufTy).Contents (Elt F) := Host.divf ((A_main_v67 x)) ((K_main_v84 (F := F)))
def A_main_v86 (x : Args F) : (⟨S8x5000, .f32⟩ : BufTy).Contents (Elt F) := addf ((A_main_v74 x)) ((A_main_v85 x))
def A_main_v87 (x : Args F) : (⟨S8x5000x1, .f32⟩ : BufTy).Contents (Elt F) := broadcastInDim S8x5000x1 ![0, 1] bcast_S8x5000_S8x5000x1_0_1 ((A_main_v77 x))
def A_main_v88 (x : Args F) : (⟨S8x5000x1, .f32⟩ : BufTy).Contents (Elt F) := broadcastInDim S8x5000x1 ![0, 1] bcast_S8x5000_S8x5000x1_0_1 ((A_main_v80 x))
def A_main_v89 (x : Args F) : (⟨S8x5000x1, .f32⟩ : BufTy).Contents (Elt F) := broadcastInDim S8x5000x1 ![0, 1] bcast_S8x5000_S8x5000x1_0_1 ((A_main_v83 x))
def A_main_v90 (x : Args F) : (⟨S8x5000x1, .f32⟩ : BufTy).Contents (Elt F) := broadcastInDim S8x5000x1 ![0, 1] bcast_S8x5000_S8x5000x1_0_1 ((A_main_v86 x))
def A_main_v91 (x : Args F) : (⟨S8x5000x4, .f32⟩ : BufTy).Contents (Elt F) := (concatenate S8x5000x4 2 [⟨S8x5000x1, (((A_main_v87 x)) : (⟨S8x5000x1, .f32⟩ : BufTy).Contents (Elt F))⟩, ⟨S8x5000x1, (((A_main_v88 x)) : (⟨S8x5000x1, .f32⟩ : BufTy).Contents (Elt F))⟩, ⟨S8x5000x1, (((A_main_v89 x)) : (⟨S8x5000x1, .f32⟩ : BufTy).Contents (Elt F))⟩, ⟨S8x5000x1, (((A_main_v90 x)) : (⟨S8x5000x1, .f32⟩ : BufTy).Contents (Elt F))⟩] concatenates_S8x5000x1_S8x5000x1_S8x5000x1_S8x5000x1_S8x5000x4_d2 : (⟨S8x5000x4, .f32⟩ : BufTy).Contents (Elt F))
def A_main_v92 (x : Args F) : (⟨S8x5000, .f32⟩ : BufTy).Contents (Elt F) := Host.negf ((A_main_v31 x))
def A_main_v93 (x : Args F) : (⟨S8x5000, .f32⟩ : BufTy).Contents (Elt F) := Host.exp ((A_main_v92 x))
def A_main_v95 (x : Args F) : (⟨S8x5000, .f32⟩ : BufTy).Contents (Elt F) := addf ((K_main_v94 (F := F))) ((A_main_v93 x))
def A_main_v97 (x : Args F) : (⟨S8x5000, .f32⟩ : BufTy).Contents (Elt F) := Host.divf ((K_main_v96 (F := F))) ((A_main_v95 x))
def A_main_v98 (x : Args F) : (⟨S8x5000, .f32⟩ : BufTy).Contents (Elt F) := sitofp .f32 ((A_main_v24 x))
def A_main_v99 (x : Args F) : (⟨S8x5000x1, .f32⟩ : BufTy).Contents (Elt F) := broadcastInDim S8x5000x1 ![0, 1] bcast_S8x5000_S8x5000x1_0_1 ((A_main_v98 x))
def A_main_v101 (x : Args F) : (⟨S8x5000x1, .f32⟩ : BufTy).Contents (Elt F) := mulf ((A_main_v99 x)) ((K_main_v100 (F := F)))
def A_main_v102 (x : Args F) : (⟨S8x5000x4, .f32⟩ : BufTy).Contents (Elt F) := broadcastInDim S8x5000x4 ![0, 1, 2] bcast_S8x5000x1_S8x5000x4_0_1_2 ((A_main_v101 x))
def A_main_v103 (x : Args F) : (⟨S8x5000x4, .f32⟩ : BufTy).Contents (Elt F) := addf ((A_main_v91 x)) ((A_main_v102 x))
def A_main_v104 (x : Args F) : (⟨S8x5000x1, .f32⟩ : BufTy).Contents (Elt F) := extractStridedSlice S8x5000x1 ![0, 0, 2] ((A_main_v103 x)) slices_S8x5000x4_S8x5000x1_0_0_2
def A_main_v105 (x : Args F) : (⟨S8x5000, .f32⟩ : BufTy).Contents (Elt F) := shapeCast _ ((A_main_v104 x)) shapeCasts_S8x5000x1_S8x5000
def A_main_v106 (x : Args F) : (⟨S8x5000x1, .f32⟩ : BufTy).Contents (Elt F) := extractStridedSlice S8x5000x1 ![0, 0, 0] ((A_main_v103 x)) slices_S8x5000x4_S8x5000x1_0_0_0
def A_main_v107 (x : Args F) : (⟨S8x5000, .f32⟩ : BufTy).Contents (Elt F) := shapeCast _ ((A_main_v106 x)) shapeCasts_S8x5000x1_S8x5000
def A_main_v108 (x : Args F) : (⟨S8x5000, .f32⟩ : BufTy).Contents (Elt F) := subf ((A_main_v105 x)) ((A_main_v107 x))
def A_main_v109 (x : Args F) : (⟨S8x5000x1, .f32⟩ : BufTy).Contents (Elt F) := extractStridedSlice S8x5000x1 ![0, 0, 3] ((A_main_v103 x)) slices_S8x5000x4_S8x5000x1_0_0_3
def A_main_v110 (x : Args F) : (⟨S8x5000, .f32⟩ : BufTy).Contents (Elt F) := shapeCast _ ((A_main_v109 x)) shapeCasts_S8x5000x1_S8x5000
def A_main_v111 (x : Args F) : (⟨S8x5000x1, .f32⟩ : BufTy).Contents (Elt F) := extractStridedSlice S8x5000x1 ![0, 0, 1] ((A_main_v103 x)) slices_S8x5000x4_S8x5000x1_0_0_1
def A_main_v112 (x : Args F) : (⟨S8x5000, .f32⟩ : BufTy).Contents (Elt F) := shapeCast _ ((A_main_v111 x)) shapeCasts_S8x5000x1_S8x5000
def A_main_v113 (x : Args F) : (⟨S8x5000, .f32⟩ : BufTy).Contents (Elt F) := subf ((A_main_v110 x)) ((A_main_v112 x))
def A_main_v114 (x : Args F) : (⟨S8x5000, .f32⟩ : BufTy).Contents (Elt F) := mulf ((A_main_v108 x)) ((A_main_v113 x))

/-! One trip's values, in the body's order. -/

def b0 (j : ℕ) (s : State F) : (⟨S8x5000, .i32⟩ : BufTy).Contents (Elt F) :=
  iotaInDim S8x5000 32 1
def b1 (j : ℕ) (s : State F) : (⟨S_, .f32⟩ : BufTy).Contents (Elt F) :=
  constant S_ .f32 0xFF800000#32
def b2 (j : ℕ) (s : State F) : (⟨S_, .i32⟩ : BufTy).Contents (Elt F) :=
  constantI S_ 32 0#32
def b3 (j : ℕ) (s : State F) : (⟨S8, .f32⟩ : BufTy).Contents (Elt F) :=
  (fun e => (Host.argReduce reducer_argmax_f32_i32 (s.main_v116_6) ((b0 j s)) ((b1 j s)) ((b2 j s)) reducesTo_S8x5000_S8_d1 h_S_ e).1)
def b4 (j : ℕ) (s : State F) : (⟨S8, .i32⟩ : BufTy).Contents (Elt F) :=
  (fun e => (Host.argReduce reducer_argmax_f32_i32 (s.main_v116_6) ((b0 j s)) ((b1 j s)) ((b2 j s)) reducesTo_S8x5000_S8_d1 h_S_ e).2)
def b5 (j : ℕ) (s : State F) : (⟨S8x1, .i32⟩ : BufTy).Contents (Elt F) :=
  broadcastInDim S8x1 ![0] bcast_S8_S8x1_0 ((b4 j s))
def b6 (j : ℕ) (s : State F) : (⟨S8, .f32⟩ : BufTy).Contents (Elt F) :=
  Host.gather gather_S8x5000_S8x1_S8_n_1_0_0_1_1_11 (s.main_v116_6) ((b5 j s))
def b7 (j : ℕ) (s : State F) : (⟨S8x1, .i32⟩ : BufTy).Contents (Elt F) :=
  broadcastInDim S8x1 ![0] bcast_S8_S8x1_0 ((b4 j s))
def b8 (j : ℕ) (s : State F) : (⟨S8x4, .f32⟩ : BufTy).Contents (Elt F) :=
  Host.gather gather_S8x5000x4_S8x1_S8x4_1_1_0_0_1_1_114 (s.main_v116_0) ((b7 j s))
def b9 (j : ℕ) (s : State F) : (⟨S8x1, .i32⟩ : BufTy).Contents (Elt F) :=
  broadcastInDim S8x1 ![0] bcast_S8_S8x1_0 ((b4 j s))
def b10 (j : ℕ) (s : State F) : (⟨S8, .i32⟩ : BufTy).Contents (Elt F) :=
  Host.gather gather_S8x5000_S8x1_S8_n_1_0_0_1_1_11 (s.main_v116_1) ((b9 j s))
def b11 (j : ℕ) (s : State F) : (⟨S8x1, .i32⟩ : BufTy).Contents (Elt F) :=
  broadcastInDim S8x1 ![0] bcast_S8_S8x1_0 ((b4 j s))
def b12 (j : ℕ) (s : State F) : (⟨S8x4, .f32⟩ : BufTy).Contents (Elt F) :=
  Host.gather gather_S8x5000x4_S8x1_S8x4_1_1_0_0_1_1_114 (s.main_v116_2) ((b11 j s))
def b13 (j : ℕ) (s : State F) : (⟨S8x1, .f32⟩ : BufTy).Contents (Elt F) :=
  extractStridedSlice S8x1 ![0, 0] ((b12 j s)) slices_S8x4_S8x1_0_0
def b14 (j : ℕ) (s : State F) : (⟨S8, .f32⟩ : BufTy).Contents (Elt F) :=
  shapeCast S8 ((b13 j s)) shapeCasts_S8x1_S8
def b15 (j : ℕ) (s : State F) : (⟨S8x5000x1, .f32⟩ : BufTy).Contents (Elt F) :=
  extractStridedSlice S8x5000x1 ![0, 0, 0] (s.main_v116_2) slices_S8x5000x4_S8x5000x1_0_0_0
def b16 (j : ℕ) (s : State F) : (⟨S8x5000, .f32⟩ : BufTy).Contents (Elt F) :=
  shapeCast S8x5000 ((b15 j s)) shapeCasts_S8x5000x1_S8x5000
def b17 (j : ℕ) (s : State F) : (⟨S8x1, .f32⟩ : BufTy).Contents (Elt F) :=
  broadcastInDim S8x1 ![0] bcast_S8_S8x1_0 ((b14 j s))
def b18 (j : ℕ) (s : State F) : (⟨S8x5000, .f32⟩ : BufTy).Contents (Elt F) :=
  broadcastInDim S8x5000 ![0, 1] bcast_S8x1_S8x5000_0_1 ((b17 j s))
def b19 (j : ℕ) (s : State F) : (⟨S8x5000, .f32⟩ : BufTy).Contents (Elt F) :=
  maximumf ((b18 j s)) ((b16 j s))
def b20 (j : ℕ) (s : State F) : (⟨S8x1, .f32⟩ : BufTy).Contents (Elt F) :=
  extractStridedSlice S8x1 ![0, 1] ((b12 j s)) slices_S8x4_S8x1_0_1
def b21 (j : ℕ) (s : State F) : (⟨S8, .f32⟩ : BufTy).Contents (Elt F) :=
  shapeCast S8 ((b20 j s)) shapeCasts_S8x1_S8
def b22 (j : ℕ) (s : State F) : (⟨S8x5000x1, .f32⟩ : BufTy).Contents (Elt F) :=
  extractStridedSlice S8x5000x1 ![0, 0, 1] (s.main_v116_2) slices_S8x5000x4_S8x5000x1_0_0_1
def b23 (j : ℕ) (s : State F) : (⟨S8x5000, .f32⟩ : BufTy).Contents (Elt F) :=
  shapeCast S8x5000 ((b22 j s)) shapeCasts_S8x5000x1_S8x5000
def b24 (j : ℕ) (s : State F) : (⟨S8x1, .f32⟩ : BufTy).Contents (Elt F) :=
  broadcastInDim S8x1 ![0] bcast_S8_S8x1_0 ((b21 j s))
def b25 (j : ℕ) (s : State F) : (⟨S8x5000, .f32⟩ : BufTy).Contents (Elt F) :=
  broadcastInDim S8x5000 ![0, 1] bcast_S8x1_S8x5000_0_1 ((b24 j s))
def b26 (j : ℕ) (s : State F) : (⟨S8x5000, .f32⟩ : BufTy).Contents (Elt F) :=
  maximumf ((b25 j s)) ((b23 j s))
def b27 (j : ℕ) (s : State F) : (⟨S8x1, .f32⟩ : BufTy).Contents (Elt F) :=
  extractStridedSlice S8x1 ![0, 2] ((b12 j s)) slices_S8x4_S8x1_0_2
def b28 (j : ℕ) (s : State F) : (⟨S8, .f32⟩ : BufTy).Contents (Elt F) :=
  shapeCast S8 ((b27 j s)) shapeCasts_S8x1_S8
def b29 (j : ℕ) (s : State F) : (⟨S8x5000x1, .f32⟩ : BufTy).Contents (Elt F) :=
  extractStridedSlice S8x5000x1 ![0, 0, 2] (s.main_v116_2) slices_S8x5000x4_S8x5000x1_0_0_2
def b30 (j : ℕ) (s : State F) : (⟨S8x5000, .f32⟩ : BufTy).Contents (Elt F) :=
  shapeCast S8x5000 ((b29 j s)) shapeCasts_S8x5000x1_S8x5000
def b31 (j : ℕ) (s : State F) : (⟨S8x1, .f32⟩ : BufTy).Contents (Elt F) :=
  broadcastInDim S8x1 ![0] bcast_S8_S8x1_0 ((b28 j s))
def b32 (j : ℕ) (s : State F) : (⟨S8x5000, .f32⟩ : BufTy).Contents (Elt F) :=
  broadcastInDim S8x5000 ![0, 1] bcast_S8x1_S8x5000_0_1 ((b31 j s))
def b33 (j : ℕ) (s : State F) : (⟨S8x5000, .f32⟩ : BufTy).Contents (Elt F) :=
  minimumf ((b32 j s)) ((b30 j s))
def b34 (j : ℕ) (s : State F) : (⟨S8x1, .f32⟩ : BufTy).Contents (Elt F) :=
  extractStridedSlice S8x1 ![0, 3] ((b12 j s)) slices_S8x4_S8x1_0_3
def b35 (j : ℕ) (s : State F) : (⟨S8, .f32⟩ : BufTy).Contents (Elt F) :=
  shapeCast S8 ((b34 j s)) shapeCasts_S8x1_S8
def b36 (j : ℕ) (s : State F) : (⟨S8x5000x1, .f32⟩ : BufTy).Contents (Elt F) :=
  extractStridedSlice S8x5000x1 ![0, 0, 3] (s.main_v116_2) slices_S8x5000x4_S8x5000x1_0_0_3
def b37 (j : ℕ) (s : State F) : (⟨S8x5000, .f32⟩ : BufTy).Contents (Elt F) :=
  shapeCast S8x5000 ((b36 j s)) shapeCasts_S8x5000x1_S8x5000
def b38 (j : ℕ) (s : State F) : (⟨S8x1, .f32⟩ : BufTy).Contents (Elt F) :=
  broadcastInDim S8x1 ![0] bcast_S8_S8x1_0 ((b35 j s))
def b39 (j : ℕ) (s : State F) : (⟨S8x5000, .f32⟩ : BufTy).Contents (Elt F) :=
  broadcastInDim S8x5000 ![0, 1] bcast_S8x1_S8x5000_0_1 ((b38 j s))
def b40 (j : ℕ) (s : State F) : (⟨S8x5000, .f32⟩ : BufTy).Contents (Elt F) :=
  minimumf ((b39 j s)) ((b37 j s))
def b41 (j : ℕ) (s : State F) : (⟨S8x5000, .f32⟩ : BufTy).Contents (Elt F) :=
  subf ((b33 j s)) ((b19 j s))
def b42 (j : ℕ) (s : State F) : (⟨S_, .f32⟩ : BufTy).Contents (Elt F) :=
  constant S_ .f32 0x00000000#32
def b43 (j : ℕ) (s : State F) : (⟨S_, .f32⟩ : BufTy).Contents (Elt F) := b42 j s
theorem b43_id (j : ℕ) (s : State F) : b43 j s = b42 j s := rfl
def b44 (j : ℕ) (s : State F) : (⟨S8x5000, .f32⟩ : BufTy).Contents (Elt F) :=
  broadcastInDim S8x5000 ![] bcast_S_S8x5000 ((b43 j s))
def b45 (j : ℕ) (s : State F) : (⟨S8x5000, .f32⟩ : BufTy).Contents (Elt F) :=
  maximumf ((b44 j s)) ((b41 j s))
def b46 (j : ℕ) (s : State F) : (⟨S8x5000, .f32⟩ : BufTy).Contents (Elt F) :=
  subf ((b40 j s)) ((b26 j s))
def b47 (j : ℕ) (s : State F) : (⟨S_, .f32⟩ : BufTy).Contents (Elt F) :=
  constant S_ .f32 0x00000000#32
def b48 (j : ℕ) (s : State F) : (⟨S_, .f32⟩ : BufTy).Contents (Elt F) := b47 j s
theorem b48_id (j : ℕ) (s : State F) : b48 j s = b47 j s := rfl
def b49 (j : ℕ) (s : State F) : (⟨S8x5000, .f32⟩ : BufTy).Contents (Elt F) :=
  broadcastInDim S8x5000 ![] bcast_S_S8x5000 ((b48 j s))
def b50 (j : ℕ) (s : State F) : (⟨S8x5000, .f32⟩ : BufTy).Contents (Elt F) :=
  maximumf ((b49 j s)) ((b46 j s))
def b51 (j : ℕ) (s : State F) : (⟨S8x5000, .f32⟩ : BufTy).Contents (Elt F) :=
  mulf ((b45 j s)) ((b50 j s))
def b52 (j : ℕ) (s : State F) : (⟨S8x1, .f32⟩ : BufTy).Contents (Elt F) :=
  extractStridedSlice S8x1 ![0, 2] ((b12 j s)) slices_S8x4_S8x1_0_2
def b53 (j : ℕ) (s : State F) : (⟨S8, .f32⟩ : BufTy).Contents (Elt F) :=
  shapeCast S8 ((b52 j s)) shapeCasts_S8x1_S8
def b54 (j : ℕ) (s : State F) : (⟨S8x1, .f32⟩ : BufTy).Contents (Elt F) :=
  extractStridedSlice S8x1 ![0, 0] ((b12 j s)) slices_S8x4_S8x1_0_0
def b55 (j : ℕ) (s : State F) : (⟨S8, .f32⟩ : BufTy).Contents (Elt F) :=
  shapeCast S8 ((b54 j s)) shapeCasts_S8x1_S8
def b56 (j : ℕ) (s : State F) : (⟨S8, .f32⟩ : BufTy).Contents (Elt F) :=
  subf ((b53 j s)) ((b55 j s))
def b57 (j : ℕ) (s : State F) : (⟨S8x1, .f32⟩ : BufTy).Contents (Elt F) :=
  extractStridedSlice S8x1 ![0, 3] ((b12 j s)) slices_S8x4_S8x1_0_3
def b58 (j : ℕ) (s : State F) : (⟨S8, .f32⟩ : BufTy).Contents (Elt F) :=
  shapeCast S8 ((b57 j s)) shapeCasts_S8x1_S8
def b59 (j : ℕ) (s : State F) : (⟨S8x1, .f32⟩ : BufTy).Contents (Elt F) :=
  extractStridedSlice S8x1 ![0, 1] ((b12 j s)) slices_S8x4_S8x1_0_1
def b60 (j : ℕ) (s : State F) : (⟨S8, .f32⟩ : BufTy).Contents (Elt F) :=
  shapeCast S8 ((b59 j s)) shapeCasts_S8x1_S8
def b61 (j : ℕ) (s : State F) : (⟨S8, .f32⟩ : BufTy).Contents (Elt F) :=
  subf ((b58 j s)) ((b60 j s))
def b62 (j : ℕ) (s : State F) : (⟨S8, .f32⟩ : BufTy).Contents (Elt F) :=
  mulf ((b56 j s)) ((b61 j s))
def b63 (j : ℕ) (s : State F) : (⟨S8x1, .f32⟩ : BufTy).Contents (Elt F) :=
  broadcastInDim S8x1 ![0] bcast_S8_S8x1_0 ((b62 j s))
def b64 (j : ℕ) (s : State F) : (⟨S8x5000, .f32⟩ : BufTy).Contents (Elt F) :=
  broadcastInDim S8x5000 ![0, 1] bcast_S8x1_S8x5000_0_1 ((b63 j s))
def b65 (j : ℕ) (s : State F) : (⟨S8x5000, .f32⟩ : BufTy).Contents (Elt F) :=
  addf ((b64 j s)) (s.main_v116_3)
def b66 (j : ℕ) (s : State F) : (⟨S8x5000, .f32⟩ : BufTy).Contents (Elt F) :=
  subf ((b65 j s)) ((b51 j s))
def b67 (j : ℕ) (s : State F) : (⟨S_, .f32⟩ : BufTy).Contents (Elt F) :=
  constant S_ .f32 0x322BCC77#32
def b68 (j : ℕ) (s : State F) : (⟨S8x5000, .f32⟩ : BufTy).Contents (Elt F) :=
  broadcastInDim S8x5000 ![] bcast_S_S8x5000 ((b67 j s))
def b69 (j : ℕ) (s : State F) : (⟨S8x5000, .f32⟩ : BufTy).Contents (Elt F) :=
  addf ((b66 j s)) ((b68 j s))
def b70 (j : ℕ) (s : State F) : (⟨S8x5000, .f32⟩ : BufTy).Contents (Elt F) :=
  Host.divf ((b51 j s)) ((b69 j s))
def b71 (j : ℕ) (s : State F) : (⟨S_, .f32⟩ : BufTy).Contents (Elt F) :=
  constant S_ .f32 0x3F000000#32
def b72 (j : ℕ) (s : State F) : (⟨S8x5000, .f32⟩ : BufTy).Contents (Elt F) :=
  broadcastInDim S8x5000 ![] bcast_S_S8x5000 ((b71 j s))
def b73 (j : ℕ) (s : State F) : (⟨S8x5000, .i1⟩ : BufTy).Contents (Elt F) :=
  cmpf .ogt ((b70 j s)) ((b72 j s))
def b74 (j : ℕ) (s : State F) : (⟨S_, .f32⟩ : BufTy).Contents (Elt F) :=
  constant S_ .f32 0xBF800000#32
def b75 (j : ℕ) (s : State F) : (⟨S_, .f32⟩ : BufTy).Contents (Elt F) := b74 j s
theorem b75_id (j : ℕ) (s : State F) : b75 j s = b74 j s := rfl
def b76 (j : ℕ) (s : State F) : (⟨S5000, .f32⟩ : BufTy).Contents (Elt F) :=
  broadcastInDim S5000 ![] bcast_S_S5000 ((b75 j s))
def b77 (j : ℕ) (s : State F) : (⟨S8x5000, .f32⟩ : BufTy).Contents (Elt F) :=
  broadcastInDim S8x5000 ![1] bcast_S5000_S8x5000_1 ((b76 j s))
def b78 (j : ℕ) (s : State F) : (⟨S8x5000, .f32⟩ : BufTy).Contents (Elt F) :=
  select ((b73 j s)) ((b77 j s)) (s.main_v116_6)
def b79 (j : ℕ) (s : State F) : (⟨S_, .f32⟩ : BufTy).Contents (Elt F) :=
  constant S_ .f32 0x00000000#32
def b80 (j : ℕ) (s : State F) : (⟨S8, .f32⟩ : BufTy).Contents (Elt F) :=
  broadcastInDim S8 ![] bcast_S_S8 ((b79 j s))
def b81 (j : ℕ) (s : State F) : (⟨S8, .i1⟩ : BufTy).Contents (Elt F) :=
  cmpf .ogt ((b6 j s)) ((b80 j s))
def b82 (j : ℕ) (s : State F) : (⟨S8, .f32⟩ : BufTy).Contents (Elt F) :=
  uitofp .f32 ((b81 j s))
def b83 (j : ℕ) (s : State F) : (⟨S8x1, .f32⟩ : BufTy).Contents (Elt F) :=
  extractStridedSlice S8x1 ![0, 1] ((b8 j s)) slices_S8x4_S8x1_0_1
def b84 (j : ℕ) (s : State F) : (⟨S8, .f32⟩ : BufTy).Contents (Elt F) :=
  shapeCast S8 ((b83 j s)) shapeCasts_S8x1_S8
def b85 (j : ℕ) (s : State F) : (⟨S8, .f32⟩ : BufTy).Contents (Elt F) :=
  mulf ((b84 j s)) (s.main_v116_4)
def b86 (j : ℕ) (s : State F) : (⟨S8x1, .f32⟩ : BufTy).Contents (Elt F) :=
  extractStridedSlice S8x1 ![0, 0] ((b8 j s)) slices_S8x4_S8x1_0_0
def b87 (j : ℕ) (s : State F) : (⟨S8, .f32⟩ : BufTy).Contents (Elt F) :=
  shapeCast S8 ((b86 j s)) shapeCasts_S8x1_S8
def b88 (j : ℕ) (s : State F) : (⟨S8, .f32⟩ : BufTy).Contents (Elt F) :=
  mulf ((b87 j s)) (s.main_v116_4)
def b89 (j : ℕ) (s : State F) : (⟨S8x1, .f32⟩ : BufTy).Contents (Elt F) :=
  extractStridedSlice S8x1 ![0, 3] ((b8 j s)) slices_S8x4_S8x1_0_3
def b90 (j : ℕ) (s : State F) : (⟨S8, .f32⟩ : BufTy).Contents (Elt F) :=
  shapeCast S8 ((b89 j s)) shapeCasts_S8x1_S8
def b91 (j : ℕ) (s : State F) : (⟨S8x1, .f32⟩ : BufTy).Contents (Elt F) :=
  extractStridedSlice S8x1 ![0, 1] ((b8 j s)) slices_S8x4_S8x1_0_1
def b92 (j : ℕ) (s : State F) : (⟨S8, .f32⟩ : BufTy).Contents (Elt F) :=
  shapeCast S8 ((b91 j s)) shapeCasts_S8x1_S8
def b93 (j : ℕ) (s : State F) : (⟨S8, .f32⟩ : BufTy).Contents (Elt F) :=
  subf ((b90 j s)) ((b92 j s))
def b94 (j : ℕ) (s : State F) : (⟨S8, .f32⟩ : BufTy).Contents (Elt F) :=
  mulf ((b93 j s)) (s.main_v116_4)
def b95 (j : ℕ) (s : State F) : (⟨S8x1, .f32⟩ : BufTy).Contents (Elt F) :=
  extractStridedSlice S8x1 ![0, 2] ((b8 j s)) slices_S8x4_S8x1_0_2
def b96 (j : ℕ) (s : State F) : (⟨S8, .f32⟩ : BufTy).Contents (Elt F) :=
  shapeCast S8 ((b95 j s)) shapeCasts_S8x1_S8
def b97 (j : ℕ) (s : State F) : (⟨S8x1, .f32⟩ : BufTy).Contents (Elt F) :=
  extractStridedSlice S8x1 ![0, 0] ((b8 j s)) slices_S8x4_S8x1_0_0
def b98 (j : ℕ) (s : State F) : (⟨S8, .f32⟩ : BufTy).Contents (Elt F) :=
  shapeCast S8 ((b97 j s)) shapeCasts_S8x1_S8
def b99 (j : ℕ) (s : State F) : (⟨S8, .f32⟩ : BufTy).Contents (Elt F) :=
  subf ((b96 j s)) ((b98 j s))
def b100 (j : ℕ) (s : State F) : (⟨S8, .f32⟩ : BufTy).Contents (Elt F) :=
  mulf ((b99 j s)) (s.main_v116_4)
def b101 (j : ℕ) (s : State F) : (⟨S8, .f32⟩ : BufTy).Contents (Elt F) :=
  sitofp .f32 ((b10 j s))
def b102 (j : ℕ) (s : State F) : (⟨S_, .f32⟩ : BufTy).Contents (Elt F) :=
  constant S_ .f32 0x3F800000#32
def b103 (j : ℕ) (s : State F) : (⟨S8, .f32⟩ : BufTy).Contents (Elt F) :=
  broadcastInDim S8 ![] bcast_S_S8 ((b102 j s))
def b104 (j : ℕ) (s : State F) : (⟨S8, .f32⟩ : BufTy).Contents (Elt F) :=
  addf ((b101 j s)) ((b103 j s))
def b105 (j : ℕ) (s : State F) : (⟨S1x8, .f32⟩ : BufTy).Contents (Elt F) :=
  broadcastInDim S1x8 ![1] bcast_S8_S1x8_1 ((b85 j s))
def b106 (j : ℕ) (s : State F) : (⟨S1x8, .f32⟩ : BufTy).Contents (Elt F) :=
  broadcastInDim S1x8 ![1] bcast_S8_S1x8_1 ((b88 j s))
def b107 (j : ℕ) (s : State F) : (⟨S1x8, .f32⟩ : BufTy).Contents (Elt F) :=
  broadcastInDim S1x8 ![1] bcast_S8_S1x8_1 ((b94 j s))
def b108 (j : ℕ) (s : State F) : (⟨S1x8, .f32⟩ : BufTy).Contents (Elt F) :=
  broadcastInDim S1x8 ![1] bcast_S8_S1x8_1 ((b100 j s))
def b109 (j : ℕ) (s : State F) : (⟨S1x8, .f32⟩ : BufTy).Contents (Elt F) :=
  broadcastInDim S1x8 ![1] bcast_S8_S1x8_1 ((b6 j s))
def b110 (j : ℕ) (s : State F) : (⟨S1x8, .f32⟩ : BufTy).Contents (Elt F) :=
  broadcastInDim S1x8 ![1] bcast_S8_S1x8_1 ((b104 j s))
def b111 (j : ℕ) (s : State F) : (⟨S6x8, .f32⟩ : BufTy).Contents (Elt F) :=
  (concatenate S6x8 0 [⟨S1x8, (((b105 j s)) : (⟨S1x8, .f32⟩ : BufTy).Contents (Elt F))⟩, ⟨S1x8, (((b106 j s)) : (⟨S1x8, .f32⟩ : BufTy).Contents (Elt F))⟩, ⟨S1x8, (((b107 j s)) : (⟨S1x8, .f32⟩ : BufTy).Contents (Elt F))⟩, ⟨S1x8, (((b108 j s)) : (⟨S1x8, .f32⟩ : BufTy).Contents (Elt F))⟩, ⟨S1x8, (((b109 j s)) : (⟨S1x8, .f32⟩ : BufTy).Contents (Elt F))⟩, ⟨S1x8, (((b110 j s)) : (⟨S1x8, .f32⟩ : BufTy).Contents (Elt F))⟩] concatenates_S1x8_S1x8_S1x8_S1x8_S1x8_S1x8_S6x8_d0 : (⟨S6x8, .f32⟩ : BufTy).Contents (Elt F))
def b112 (j : ℕ) (s : State F) : (⟨S8x6, .f32⟩ : BufTy).Contents (Elt F) :=
  transpose S8x6 [1, 0] ((b111 j s)) transposes_S6x8_S8x6_1_0
def b113 (j : ℕ) (s : State F) : (⟨S8x1, .f32⟩ : BufTy).Contents (Elt F) :=
  broadcastInDim S8x1 ![0] bcast_S8_S8x1_0 ((b82 j s))
def b114 (j : ℕ) (s : State F) : (⟨S8x6, .f32⟩ : BufTy).Contents (Elt F) :=
  broadcastInDim S8x6 ![0, 1] bcast_S8x1_S8x6_0_1 ((b113 j s))
def b115 (j : ℕ) (s : State F) : (⟨S8x6, .f32⟩ : BufTy).Contents (Elt F) :=
  mulf ((b112 j s)) ((b114 j s))
def b116 (j : ℕ) (s : State F) : (⟨S1x8x6, .f32⟩ : BufTy).Contents (Elt F) :=
  broadcastInDim S1x8x6 ![1, 2] bcast_S8x6_S1x8x6_1_2 ((b115 j s))
def b117 (j : ℕ) (s : State F) : (⟨S_, .i32⟩ : BufTy).Contents (Elt F) :=
  constantI S_ 32 0#32
def b118 (j : ℕ) (s : State F) : (⟨S_, .i32⟩ : BufTy).Contents (Elt F) :=
  constantI S_ 32 0#32
def b119 (j : ℕ) (s : State F) : (⟨S100x8x6, .f32⟩ : BufTy).Contents (Elt F) :=
  Host.dynamicUpdateSlice (s.main_v116_7) ((b116 j s)) (fun k => (((![(constantI S_ 32 (BitVec.ofNat 32 j) : (⟨S_, .i32⟩ : BufTy).Contents (Elt F)), (b117 j s), (b118 j s)] : Fin 3 → (⟨S_, .i32⟩ : BufTy).Contents (Elt F))) k (Shape.Idx.first h_S_)).toInt) updateFits_S100x8x6_S1x8x6

/-- The state @main hands the first trip, of the arguments it copies in or computes from. -/
def init (x : Args F) : State F :=
  { main_v116_6 := A_main_v97 x, main_v116_7 := K_main_v115 (F := F), main_v116_0 := A_main_v91 x, main_v116_1 := A_main_v24 x, main_v116_2 := A_main_v103 x, main_v116_3 := A_main_v114 x, main_v116_4 := x.main_arg10 }

/-- One trip. -/
def step (j : ℕ) (s : State F) : State F :=
  { main_v116_6 := b78 j s, main_v116_7 := b119 j s, main_v116_0 := s.main_v116_0, main_v116_1 := s.main_v116_1, main_v116_2 := s.main_v116_2, main_v116_3 := s.main_v116_3, main_v116_4 := s.main_v116_4 }
theorem step_main_v116_6 (j : ℕ) (s : State F) : (step j s).main_v116_6 = b78 j s := by unfold step; rfl
theorem step_main_v116_7 (j : ℕ) (s : State F) : (step j s).main_v116_7 = b119 j s := by unfold step; rfl

/-- `main_v117`, which the operations after the loop make, of the loop's last state. -/
def R_main_v117 (s : State F) : (⟨S8x100x6, .f32⟩ : BufTy).Contents (Elt F) :=
  transpose S8x100x6 [1, 0, 2] (s.main_v116_7) transposes_S100x8x6_S8x100x6_1_0_2

end Cert.Proof.Ref

end
-- ==== Proof.RefPre.lean ====
/- What the stretches before the reference's loop leave in each buffer that a later operation reads. -/
module

public import proofs.«01_k».proof.Proof.RefRun
public import proofs.«01_k».proof.Proof.RefStep

@[expose] public section

set_option maxRecDepth 4000
set_option maxHeartbeats 200000

noncomputable section

namespace Cert.Proof.Ref

open Idealize.ShloMosaic Idealize.ShloMosaic.TcCoe Idealize.SL.Sem Idealize.ShloMosaic.StableHlo
open Cert.ReferenceIdeal Cert.ReferenceIdeal.Gen

variable {F : FTy → Type} [FloatOps F]

variable (V : Valuation τ sig (Elt F))

/-- The arguments that a valuation holds. -/
def held : Args F where
  main_arg0 := V (Proc.devRef .tc main_arg0)
  main_arg1 := V (Proc.devRef .tc main_arg1)
  main_arg2 := V (Proc.devRef .tc main_arg2)
  main_arg3 := V (Proc.devRef .tc main_arg3)
  main_arg4 := V (Proc.devRef .tc main_arg4)
  main_arg5 := V (Proc.devRef .tc main_arg5)
  main_arg6 := V (Proc.devRef .tc main_arg6)
  main_arg7 := V (Proc.devRef .tc main_arg7)
  main_arg8 := V (Proc.devRef .tc main_arg8)
  main_arg9 := V (Proc.devRef .tc main_arg9)
  main_arg10 := V (Proc.devRef .tc main_arg10)
  main_arg11 := V (Proc.devRef .tc main_arg11)

/-! The contents after each stretch. -/

def v0 : Valuation τ sig (Elt F) := after pre0 V
def v1 : Valuation τ sig (Elt F) := after pre1 (v0 V)
def v2 : Valuation τ sig (Elt F) := after pre2 (v1 V)
def v3 : Valuation τ sig (Elt F) := after pre3 (v2 V)
def v4 : Valuation τ sig (Elt F) := after pre4 (v3 V)
def v5 : Valuation τ sig (Elt F) := after pre5 (v4 V)
def v6 : Valuation τ sig (Elt F) := after pre6 (v5 V)
def v7 : Valuation τ sig (Elt F) := after pre7 (v6 V)
def v8 : Valuation τ sig (Elt F) := after pre8 (v7 V)
def v9 : Valuation τ sig (Elt F) := after pre9 (v8 V)
def v10 : Valuation τ sig (Elt F) := after pre10 (v9 V)
def v11 : Valuation τ sig (Elt F) := after pre11 (v10 V)
def v12 : Valuation τ sig (Elt F) := after pre12 (v11 V)
def v13 : Valuation τ sig (Elt F) := after pre13 (v12 V)
def v14 : Valuation τ sig (Elt F) := after pre14 (v13 V)
def v15 : Valuation τ sig (Elt F) := after pre15 (v14 V)
def v16 : Valuation τ sig (Elt F) := after pre16 (v15 V)
def v17 : Valuation τ sig (Elt F) := after pre17 (v16 V)
def v18 : Valuation τ sig (Elt F) := after pre18 (v17 V)

theorem after_preI : afterL preI V = v18 V := rfl

theorem e0_main_v10 : v0 V (no_index (Proc.devRef .tc main_v10)) = A_main_v10 (held V) := by
  unfold v0
  after_reads_simp
  try simp only [TRef.ofBuf_toBuf]
  try simp -implicitDefEqProofs only [TRef.ofBuf, TRef.toBuf, cast_eq]
  rfl
theorem e0_main_c : v0 V (no_index (Proc.devRef .tc main_c)) = K_main_c (F := F) := by
  unfold v0
  after_reads_simp
  try simp only [TRef.ofBuf_toBuf]
  try simp -implicitDefEqProofs only [TRef.ofBuf, TRef.toBuf, cast_eq]
  rfl
theorem e0_main_indices : v0 V (no_index (Proc.devRef .tc main_indices)) = A_main_indices (held V) := by
  unfold v0
  after_reads_simp
  try simp only [TRef.ofBuf_toBuf]
  try simp -implicitDefEqProofs only [TRef.ofBuf, TRef.toBuf, cast_eq]
  rfl
theorem e0_main_v21 : v0 V (no_index (Proc.devRef .tc main_v21)) = A_main_v21 (held V) := by
  unfold v0
  after_reads_simp
  try simp only [TRef.ofBuf_toBuf]
  try simp -implicitDefEqProofs only [TRef.ofBuf, TRef.toBuf, cast_eq]
  rfl
theorem e0_main_arg11 : v0 V (no_index (Proc.devRef .tc main_arg11)) = (held V).main_arg11 := (after_of_writes_sub pre0 _ pre0_writes (by decide +kernel)).trans (rfl)
theorem e0_main_arg10 : v0 V (no_index (Proc.devRef .tc main_arg10)) = (held V).main_arg10 := (after_of_writes_sub pre0 _ pre0_writes (by decide +kernel)).trans (rfl)
theorem e1_main_v10 : v1 V (no_index (Proc.devRef .tc main_v10)) = A_main_v10 (held V) := (after_of_writes_sub pre1 _ pre1_writes (by decide +kernel)).trans (e0_main_v10 V)
theorem e1_main_indices : v1 V (no_index (Proc.devRef .tc main_indices)) = A_main_indices (held V) := (after_of_writes_sub pre1 _ pre1_writes (by decide +kernel)).trans (e0_main_indices V)
theorem e1_main_v23 : v1 V (no_index (Proc.devRef .tc main_v23)) = A_main_v23 (held V) := by
  unfold v1
  after_reads_simp
  try simp only [e0_main_c,e0_main_indices]
  try simp only [TRef.ofBuf_toBuf]
  try simp -implicitDefEqProofs only [TRef.ofBuf, TRef.toBuf, cast_eq]
  rfl
theorem e1_main_v21 : v1 V (no_index (Proc.devRef .tc main_v21)) = A_main_v21 (held V) := (after_of_writes_sub pre1 _ pre1_writes (by decide +kernel)).trans (e0_main_v21 V)
theorem e1_main_arg11 : v1 V (no_index (Proc.devRef .tc main_arg11)) = (held V).main_arg11 := (after_of_writes_sub pre1 _ pre1_writes (by decide +kernel)).trans (e0_main_arg11 V)
theorem e1_main_arg10 : v1 V (no_index (Proc.devRef .tc main_arg10)) = (held V).main_arg10 := (after_of_writes_sub pre1 _ pre1_writes (by decide +kernel)).trans (e0_main_arg10 V)
theorem e2_main_v10 : v2 V (no_index (Proc.devRef .tc main_v10)) = A_main_v10 (held V) := (after_of_writes_sub pre2 _ pre2_writes (by decide +kernel)).trans (e1_main_v10 V)
theorem e2_main_indices : v2 V (no_index (Proc.devRef .tc main_indices)) = A_main_indices (held V) := (after_of_writes_sub pre2 _ pre2_writes (by decide +kernel)).trans (e1_main_indices V)
theorem e2_main_c_0 : v2 V (no_index (Proc.devRef .tc main_c_0)) = K_main_c_0 (F := F) := by
  unfold v2
  after_reads_simp
  try simp only [TRef.ofBuf_toBuf]
  try simp -implicitDefEqProofs only [TRef.ofBuf, TRef.toBuf, cast_eq]
  rfl
theorem e2_main_v23 : v2 V (no_index (Proc.devRef .tc main_v23)) = A_main_v23 (held V) := (after_of_writes_sub pre2 _ pre2_writes (by decide +kernel)).trans (e1_main_v23 V)
theorem e2_main_v21 : v2 V (no_index (Proc.devRef .tc main_v21)) = A_main_v21 (held V) := (after_of_writes_sub pre2 _ pre2_writes (by decide +kernel)).trans (e1_main_v21 V)
theorem e2_main_arg11 : v2 V (no_index (Proc.devRef .tc main_arg11)) = (held V).main_arg11 := (after_of_writes_sub pre2 _ pre2_writes (by decide +kernel)).trans (e1_main_arg11 V)
theorem e2_main_arg10 : v2 V (no_index (Proc.devRef .tc main_arg10)) = (held V).main_arg10 := (after_of_writes_sub pre2 _ pre2_writes (by decide +kernel)).trans (e1_main_arg10 V)
theorem e3_main_v10 : v3 V (no_index (Proc.devRef .tc main_v10)) = A_main_v10 (held V) := (after_of_writes_sub pre3 _ pre3_writes (by decide +kernel)).trans (e2_main_v10 V)
theorem e3_main_v23 : v3 V (no_index (Proc.devRef .tc main_v23)) = A_main_v23 (held V) := (after_of_writes_sub pre3 _ pre3_writes (by decide +kernel)).trans (e2_main_v23 V)
theorem e3_main_v21 : v3 V (no_index (Proc.devRef .tc main_v21)) = A_main_v21 (held V) := (after_of_writes_sub pre3 _ pre3_writes (by decide +kernel)).trans (e2_main_v21 V)
theorem e3_main_v24 : v3 V (no_index (Proc.devRef .tc main_v24)) = A_main_v24 (held V) := by
  unfold v3
  after_reads_simp
  try simp only [e2_main_c_0,e2_main_indices]
  try simp only [TRef.ofBuf_toBuf]
  try simp -implicitDefEqProofs only [TRef.ofBuf, TRef.toBuf, cast_eq]
  rfl
theorem e3_main_arg11 : v3 V (no_index (Proc.devRef .tc main_arg11)) = (held V).main_arg11 := (after_of_writes_sub pre3 _ pre3_writes (by decide +kernel)).trans (e2_main_arg11 V)
theorem e3_main_arg10 : v3 V (no_index (Proc.devRef .tc main_arg10)) = (held V).main_arg10 := (after_of_writes_sub pre3 _ pre3_writes (by decide +kernel)).trans (e2_main_arg10 V)
theorem e4_main_v10 : v4 V (no_index (Proc.devRef .tc main_v10)) = A_main_v10 (held V) := (after_of_writes_sub pre4 _ pre4_writes (by decide +kernel)).trans (e3_main_v10 V)
theorem e4_main_v23 : v4 V (no_index (Proc.devRef .tc main_v23)) = A_main_v23 (held V) := (after_of_writes_sub pre4 _ pre4_writes (by decide +kernel)).trans (e3_main_v23 V)
theorem e4_main_v25 : v4 V (no_index (Proc.devRef .tc main_v25)) = A_main_v25 (held V) := by
  unfold v4
  after_reads_simp
  try simp only [e3_main_v23]
  try simp only [TRef.ofBuf_toBuf]
  try simp -implicitDefEqProofs only [TRef.ofBuf, TRef.toBuf, cast_eq]
  rfl
theorem e4_main_v21 : v4 V (no_index (Proc.devRef .tc main_v21)) = A_main_v21 (held V) := (after_of_writes_sub pre4 _ pre4_writes (by decide +kernel)).trans (e3_main_v21 V)
theorem e4_main_v24 : v4 V (no_index (Proc.devRef .tc main_v24)) = A_main_v24 (held V) := (after_of_writes_sub pre4 _ pre4_writes (by decide +kernel)).trans (e3_main_v24 V)
theorem e4_main_arg11 : v4 V (no_index (Proc.devRef .tc main_arg11)) = (held V).main_arg11 := (after_of_writes_sub pre4 _ pre4_writes (by decide +kernel)).trans (e3_main_arg11 V)
theorem e4_main_arg10 : v4 V (no_index (Proc.devRef .tc main_arg10)) = (held V).main_arg10 := (after_of_writes_sub pre4 _ pre4_writes (by decide +kernel)).trans (e3_main_arg10 V)
theorem e5_main_v10 : v5 V (no_index (Proc.devRef .tc main_v10)) = A_main_v10 (held V) := (after_of_writes_sub pre5 _ pre5_writes (by decide +kernel)).trans (e4_main_v10 V)
theorem e5_main_v23 : v5 V (no_index (Proc.devRef .tc main_v23)) = A_main_v23 (held V) := (after_of_writes_sub pre5 _ pre5_writes (by decide +kernel)).trans (e4_main_v23 V)
theorem e5_main_v24 : v5 V (no_index (Proc.devRef .tc main_v24)) = A_main_v24 (held V) := (after_of_writes_sub pre5 _ pre5_writes (by decide +kernel)).trans (e4_main_v24 V)
theorem e5_main_arg11 : v5 V (no_index (Proc.devRef .tc main_arg11)) = (held V).main_arg11 := (after_of_writes_sub pre5 _ pre5_writes (by decide +kernel)).trans (e4_main_arg11 V)
theorem e5_main_v26 : v5 V (no_index (Proc.devRef .tc main_v26)) = A_main_v26 (held V) := by
  unfold v5
  after_reads_simp
  try simp only [e4_main_v25,e4_main_v21]
  try simp only [TRef.ofBuf_toBuf]
  try simp -implicitDefEqProofs only [TRef.ofBuf, TRef.toBuf, cast_eq]
  rfl
theorem e5_main_arg10 : v5 V (no_index (Proc.devRef .tc main_arg10)) = (held V).main_arg10 := (after_of_writes_sub pre5 _ pre5_writes (by decide +kernel)).trans (e4_main_arg10 V)
theorem e6_main_v10 : v6 V (no_index (Proc.devRef .tc main_v10)) = A_main_v10 (held V) := (after_of_writes_sub pre6 _ pre6_writes (by decide +kernel)).trans (e5_main_v10 V)
theorem e6_main_v23 : v6 V (no_index (Proc.devRef .tc main_v23)) = A_main_v23 (held V) := (after_of_writes_sub pre6 _ pre6_writes (by decide +kernel)).trans (e5_main_v23 V)
theorem e6_main_v27 : v6 V (no_index (Proc.devRef .tc main_v27)) = A_main_v27 (held V) := by
  unfold v6
  after_reads_simp
  try simp only [e5_main_v23]
  try simp only [TRef.ofBuf_toBuf]
  try simp -implicitDefEqProofs only [TRef.ofBuf, TRef.toBuf, cast_eq]
  rfl
theorem e6_main_v24 : v6 V (no_index (Proc.devRef .tc main_v24)) = A_main_v24 (held V) := (after_of_writes_sub pre6 _ pre6_writes (by decide +kernel)).trans (e5_main_v24 V)
theorem e6_main_arg11 : v6 V (no_index (Proc.devRef .tc main_arg11)) = (held V).main_arg11 := (after_of_writes_sub pre6 _ pre6_writes (by decide +kernel)).trans (e5_main_arg11 V)
theorem e6_main_v26 : v6 V (no_index (Proc.devRef .tc main_v26)) = A_main_v26 (held V) := (after_of_writes_sub pre6 _ pre6_writes (by decide +kernel)).trans (e5_main_v26 V)
theorem e6_main_arg10 : v6 V (no_index (Proc.devRef .tc main_arg10)) = (held V).main_arg10 := (after_of_writes_sub pre6 _ pre6_writes (by decide +kernel)).trans (e5_main_arg10 V)
theorem e7_main_v23 : v7 V (no_index (Proc.devRef .tc main_v23)) = A_main_v23 (held V) := (after_of_writes_sub pre7 _ pre7_writes (by decide +kernel)).trans (e6_main_v23 V)
theorem e7_main_v24 : v7 V (no_index (Proc.devRef .tc main_v24)) = A_main_v24 (held V) := (after_of_writes_sub pre7 _ pre7_writes (by decide +kernel)).trans (e6_main_v24 V)
theorem e7_main_v28 : v7 V (no_index (Proc.devRef .tc main_v28)) = A_main_v28 (held V) := by
  unfold v7
  after_reads_simp
  try simp only [e6_main_v27,e6_main_v10]
  try simp only [TRef.ofBuf_toBuf]
  try simp -implicitDefEqProofs only [TRef.ofBuf, TRef.toBuf, cast_eq]
  rfl
theorem e7_main_arg11 : v7 V (no_index (Proc.devRef .tc main_arg11)) = (held V).main_arg11 := (after_of_writes_sub pre7 _ pre7_writes (by decide +kernel)).trans (e6_main_arg11 V)
theorem e7_main_v26 : v7 V (no_index (Proc.devRef .tc main_v26)) = A_main_v26 (held V) := (after_of_writes_sub pre7 _ pre7_writes (by decide +kernel)).trans (e6_main_v26 V)
theorem e7_main_arg10 : v7 V (no_index (Proc.devRef .tc main_arg10)) = (held V).main_arg10 := (after_of_writes_sub pre7 _ pre7_writes (by decide +kernel)).trans (e6_main_arg10 V)
theorem e8_main_v23 : v8 V (no_index (Proc.devRef .tc main_v23)) = A_main_v23 (held V) := (after_of_writes_sub pre8 _ pre8_writes (by decide +kernel)).trans (e7_main_v23 V)
theorem e8_main_v24 : v8 V (no_index (Proc.devRef .tc main_v24)) = A_main_v24 (held V) := (after_of_writes_sub pre8 _ pre8_writes (by decide +kernel)).trans (e7_main_v24 V)
theorem e8_main_v29 : v8 V (no_index (Proc.devRef .tc main_v29)) = A_main_v29 (held V) := by
  unfold v8
  after_reads_simp
  try simp only [e7_main_v24]
  try simp only [TRef.ofBuf_toBuf]
  try simp -implicitDefEqProofs only [TRef.ofBuf, TRef.toBuf, cast_eq]
  rfl
theorem e8_main_v28 : v8 V (no_index (Proc.devRef .tc main_v28)) = A_main_v28 (held V) := (after_of_writes_sub pre8 _ pre8_writes (by decide +kernel)).trans (e7_main_v28 V)
theorem e8_main_arg11 : v8 V (no_index (Proc.devRef .tc main_arg11)) = (held V).main_arg11 := (after_of_writes_sub pre8 _ pre8_writes (by decide +kernel)).trans (e7_main_arg11 V)
theorem e8_main_v26 : v8 V (no_index (Proc.devRef .tc main_v26)) = A_main_v26 (held V) := (after_of_writes_sub pre8 _ pre8_writes (by decide +kernel)).trans (e7_main_v26 V)
theorem e8_main_arg10 : v8 V (no_index (Proc.devRef .tc main_arg10)) = (held V).main_arg10 := (after_of_writes_sub pre8 _ pre8_writes (by decide +kernel)).trans (e7_main_arg10 V)
theorem e9_main_v23 : v9 V (no_index (Proc.devRef .tc main_v23)) = A_main_v23 (held V) := (after_of_writes_sub pre9 _ pre9_writes (by decide +kernel)).trans (e8_main_v23 V)
theorem e9_main_v24 : v9 V (no_index (Proc.devRef .tc main_v24)) = A_main_v24 (held V) := (after_of_writes_sub pre9 _ pre9_writes (by decide +kernel)).trans (e8_main_v24 V)
theorem e9_main_v30 : v9 V (no_index (Proc.devRef .tc main_v30)) = A_main_v30 (held V) := by
  unfold v9
  after_reads_simp
  try simp only [e8_main_v29,e8_main_v28]
  try simp only [TRef.ofBuf_toBuf]
  try simp -implicitDefEqProofs only [TRef.ofBuf, TRef.toBuf, cast_eq]
  rfl
theorem e9_main_arg11 : v9 V (no_index (Proc.devRef .tc main_arg11)) = (held V).main_arg11 := (after_of_writes_sub pre9 _ pre9_writes (by decide +kernel)).trans (e8_main_arg11 V)
theorem e9_main_v26 : v9 V (no_index (Proc.devRef .tc main_v26)) = A_main_v26 (held V) := (after_of_writes_sub pre9 _ pre9_writes (by decide +kernel)).trans (e8_main_v26 V)
theorem e9_main_arg10 : v9 V (no_index (Proc.devRef .tc main_arg10)) = (held V).main_arg10 := (after_of_writes_sub pre9 _ pre9_writes (by decide +kernel)).trans (e8_main_arg10 V)
theorem e10_main_v23 : v10 V (no_index (Proc.devRef .tc main_v23)) = A_main_v23 (held V) := (after_of_writes_sub pre10 _ pre10_writes (by decide +kernel)).trans (e9_main_v23 V)
theorem e10_main_v24 : v10 V (no_index (Proc.devRef .tc main_v24)) = A_main_v24 (held V) := (after_of_writes_sub pre10 _ pre10_writes (by decide +kernel)).trans (e9_main_v24 V)
theorem e10_main_arg11 : v10 V (no_index (Proc.devRef .tc main_arg11)) = (held V).main_arg11 := (after_of_writes_sub pre10 _ pre10_writes (by decide +kernel)).trans (e9_main_arg11 V)
theorem e10_main_v26 : v10 V (no_index (Proc.devRef .tc main_v26)) = A_main_v26 (held V) := (after_of_writes_sub pre10 _ pre10_writes (by decide +kernel)).trans (e9_main_v26 V)
theorem e10_main_v31 : v10 V (no_index (Proc.devRef .tc main_v31)) = A_main_v31 (held V) := by
  unfold v10
  after_reads_simp
  try simp only [e9_main_v30]
  try simp only [TRef.ofBuf_toBuf]
  try simp -implicitDefEqProofs only [TRef.ofBuf, TRef.toBuf, cast_eq]
  rfl
theorem e10_main_arg10 : v10 V (no_index (Proc.devRef .tc main_arg10)) = (held V).main_arg10 := (after_of_writes_sub pre10 _ pre10_writes (by decide +kernel)).trans (e9_main_arg10 V)
theorem e11_main_v24 : v11 V (no_index (Proc.devRef .tc main_v24)) = A_main_v24 (held V) := (after_of_writes_sub pre11 _ pre11_writes (by decide +kernel)).trans (e10_main_v24 V)
theorem e11_main_v32 : v11 V (no_index (Proc.devRef .tc main_v32)) = A_main_v32 (held V) := by
  unfold v11
  after_reads_simp
  try simp only [e10_main_v23,e10_main_arg11]
  try simp only [TRef.ofBuf_toBuf]
  try simp -implicitDefEqProofs only [TRef.ofBuf, TRef.toBuf, cast_eq]
  rfl
theorem e11_main_v26 : v11 V (no_index (Proc.devRef .tc main_v26)) = A_main_v26 (held V) := (after_of_writes_sub pre11 _ pre11_writes (by decide +kernel)).trans (e10_main_v26 V)
theorem e11_main_v31 : v11 V (no_index (Proc.devRef .tc main_v31)) = A_main_v31 (held V) := (after_of_writes_sub pre11 _ pre11_writes (by decide +kernel)).trans (e10_main_v31 V)
theorem e11_main_arg10 : v11 V (no_index (Proc.devRef .tc main_arg10)) = (held V).main_arg10 := (after_of_writes_sub pre11 _ pre11_writes (by decide +kernel)).trans (e10_main_arg10 V)
theorem e12_main_v24 : v12 V (no_index (Proc.devRef .tc main_v24)) = A_main_v24 (held V) := (after_of_writes_sub pre12 _ pre12_writes (by decide +kernel)).trans (e11_main_v24 V)
theorem e12_main_v32 : v12 V (no_index (Proc.devRef .tc main_v32)) = A_main_v32 (held V) := (after_of_writes_sub pre12 _ pre12_writes (by decide +kernel)).trans (e11_main_v32 V)
theorem e12_main_v53 : v12 V (no_index (Proc.devRef .tc main_v53)) = A_main_v53 (held V) := by
  unfold v12
  after_reads_simp
  try simp only [e11_main_v32]
  try simp only [TRef.ofBuf_toBuf]
  try simp -implicitDefEqProofs only [TRef.ofBuf, TRef.toBuf, cast_eq]
  rfl
theorem e12_main_v26 : v12 V (no_index (Proc.devRef .tc main_v26)) = A_main_v26 (held V) := (after_of_writes_sub pre12 _ pre12_writes (by decide +kernel)).trans (e11_main_v26 V)
theorem e12_main_v51 : v12 V (no_index (Proc.devRef .tc main_v51)) = A_main_v51 (held V) := by
  unfold v12
  after_reads_simp
  try simp only [e11_main_v32]
  try simp only [TRef.ofBuf_toBuf]
  try simp -implicitDefEqProofs only [TRef.ofBuf, TRef.toBuf, cast_eq]
  rfl
theorem e12_main_v39 : v12 V (no_index (Proc.devRef .tc main_v39)) = A_main_v39 (held V) := by
  unfold v12
  after_reads_simp
  try simp only [e11_main_v32]
  try simp only [TRef.ofBuf_toBuf]
  try simp -implicitDefEqProofs only [TRef.ofBuf, TRef.toBuf, cast_eq]
  rfl
theorem e12_main_v46 : v12 V (no_index (Proc.devRef .tc main_v46)) = A_main_v46 (held V) := by
  unfold v12
  after_reads_simp
  try simp only [e11_main_v32]
  try simp only [TRef.ofBuf_toBuf]
  try simp -implicitDefEqProofs only [TRef.ofBuf, TRef.toBuf, cast_eq]
  rfl
theorem e12_main_v31 : v12 V (no_index (Proc.devRef .tc main_v31)) = A_main_v31 (held V) := (after_of_writes_sub pre12 _ pre12_writes (by decide +kernel)).trans (e11_main_v31 V)
theorem e12_main_arg10 : v12 V (no_index (Proc.devRef .tc main_arg10)) = (held V).main_arg10 := (after_of_writes_sub pre12 _ pre12_writes (by decide +kernel)).trans (e11_main_arg10 V)
theorem e13_main_v24 : v13 V (no_index (Proc.devRef .tc main_v24)) = A_main_v24 (held V) := (after_of_writes_sub pre13 _ pre13_writes (by decide +kernel)).trans (e12_main_v24 V)
theorem e13_main_cst_2 : v13 V (no_index (Proc.devRef .tc main_cst_2)) = K_main_cst_2 (F := F) := by
  unfold v13
  after_reads_simp
  try simp only [e12_main_v32,e12_main_v53,e12_main_v26]
  try simp only [TRef.ofBuf_toBuf]
  try simp -implicitDefEqProofs only [TRef.ofBuf, TRef.toBuf, cast_eq]
  rfl
theorem e13_main_v64 : v13 V (no_index (Proc.devRef .tc main_v64)) = A_main_v64 (held V) := by
  unfold v13
  after_reads_simp
  try simp only [e12_main_v32,e12_main_v53,e12_main_v26]
  try simp only [TRef.ofBuf_toBuf]
  try simp -implicitDefEqProofs only [TRef.ofBuf, TRef.toBuf, cast_eq]
  rfl
theorem e13_main_cst_3 : v13 V (no_index (Proc.devRef .tc main_cst_3)) = K_main_cst_3 (F := F) := by
  unfold v13
  after_reads_simp
  try simp only [e12_main_v32,e12_main_v53,e12_main_v26]
  try simp only [TRef.ofBuf_toBuf]
  try simp -implicitDefEqProofs only [TRef.ofBuf, TRef.toBuf, cast_eq]
  rfl
theorem e13_main_v56 : v13 V (no_index (Proc.devRef .tc main_v56)) = A_main_v56 (held V) := by
  unfold v13
  after_reads_simp
  try simp only [e12_main_v32,e12_main_v53,e12_main_v26]
  try simp only [TRef.ofBuf_toBuf]
  try simp -implicitDefEqProofs only [TRef.ofBuf, TRef.toBuf, cast_eq]
  rfl
theorem e13_main_v62 : v13 V (no_index (Proc.devRef .tc main_v62)) = A_main_v62 (held V) := by
  unfold v13
  after_reads_simp
  try simp only [e12_main_v32,e12_main_v53,e12_main_v26]
  try simp only [TRef.ofBuf_toBuf]
  try simp -implicitDefEqProofs only [TRef.ofBuf, TRef.toBuf, cast_eq]
  rfl
theorem e13_main_v51 : v13 V (no_index (Proc.devRef .tc main_v51)) = A_main_v51 (held V) := (after_of_writes_sub pre13 _ pre13_writes (by decide +kernel)).trans (e12_main_v51 V)
theorem e13_main_v58 : v13 V (no_index (Proc.devRef .tc main_v58)) = A_main_v58 (held V) := by
  unfold v13
  after_reads_simp
  try simp only [e12_main_v32,e12_main_v53,e12_main_v26]
  try simp only [TRef.ofBuf_toBuf]
  try simp -implicitDefEqProofs only [TRef.ofBuf, TRef.toBuf, cast_eq]
  rfl
theorem e13_main_v39 : v13 V (no_index (Proc.devRef .tc main_v39)) = A_main_v39 (held V) := (after_of_writes_sub pre13 _ pre13_writes (by decide +kernel)).trans (e12_main_v39 V)
theorem e13_main_v60 : v13 V (no_index (Proc.devRef .tc main_v60)) = A_main_v60 (held V) := by
  unfold v13
  after_reads_simp
  try simp only [e12_main_v32,e12_main_v53,e12_main_v26]
  try simp only [TRef.ofBuf_toBuf]
  try simp -implicitDefEqProofs only [TRef.ofBuf, TRef.toBuf, cast_eq]
  rfl
theorem e13_main_v46 : v13 V (no_index (Proc.devRef .tc main_v46)) = A_main_v46 (held V) := (after_of_writes_sub pre13 _ pre13_writes (by decide +kernel)).trans (e12_main_v46 V)
theorem e13_main_v31 : v13 V (no_index (Proc.devRef .tc main_v31)) = A_main_v31 (held V) := (after_of_writes_sub pre13 _ pre13_writes (by decide +kernel)).trans (e12_main_v31 V)
theorem e13_main_arg10 : v13 V (no_index (Proc.devRef .tc main_arg10)) = (held V).main_arg10 := (after_of_writes_sub pre13 _ pre13_writes (by decide +kernel)).trans (e12_main_arg10 V)
theorem e14_main_v24 : v14 V (no_index (Proc.devRef .tc main_v24)) = A_main_v24 (held V) := (after_of_writes_sub pre14 _ pre14_writes (by decide +kernel)).trans (e13_main_v24 V)
theorem e14_main_v65 : v14 V (no_index (Proc.devRef .tc main_v65)) = A_main_v65 (held V) := by
  unfold v14
  after_reads_simp
  try simp only [e13_main_cst_2,e13_main_v64,e13_main_cst_3]
  try simp only [TRef.ofBuf_toBuf]
  try simp -implicitDefEqProofs only [TRef.ofBuf, TRef.toBuf, cast_eq]
  rfl
theorem e14_main_v56 : v14 V (no_index (Proc.devRef .tc main_v56)) = A_main_v56 (held V) := (after_of_writes_sub pre14 _ pre14_writes (by decide +kernel)).trans (e13_main_v56 V)
theorem e14_main_v62 : v14 V (no_index (Proc.devRef .tc main_v62)) = A_main_v62 (held V) := (after_of_writes_sub pre14 _ pre14_writes (by decide +kernel)).trans (e13_main_v62 V)
theorem e14_main_v51 : v14 V (no_index (Proc.devRef .tc main_v51)) = A_main_v51 (held V) := (after_of_writes_sub pre14 _ pre14_writes (by decide +kernel)).trans (e13_main_v51 V)
theorem e14_main_v58 : v14 V (no_index (Proc.devRef .tc main_v58)) = A_main_v58 (held V) := (after_of_writes_sub pre14 _ pre14_writes (by decide +kernel)).trans (e13_main_v58 V)
theorem e14_main_v39 : v14 V (no_index (Proc.devRef .tc main_v39)) = A_main_v39 (held V) := (after_of_writes_sub pre14 _ pre14_writes (by decide +kernel)).trans (e13_main_v39 V)
theorem e14_main_v60 : v14 V (no_index (Proc.devRef .tc main_v60)) = A_main_v60 (held V) := (after_of_writes_sub pre14 _ pre14_writes (by decide +kernel)).trans (e13_main_v60 V)
theorem e14_main_v46 : v14 V (no_index (Proc.devRef .tc main_v46)) = A_main_v46 (held V) := (after_of_writes_sub pre14 _ pre14_writes (by decide +kernel)).trans (e13_main_v46 V)
theorem e14_main_v31 : v14 V (no_index (Proc.devRef .tc main_v31)) = A_main_v31 (held V) := (after_of_writes_sub pre14 _ pre14_writes (by decide +kernel)).trans (e13_main_v31 V)
theorem e14_main_arg10 : v14 V (no_index (Proc.devRef .tc main_arg10)) = (held V).main_arg10 := (after_of_writes_sub pre14 _ pre14_writes (by decide +kernel)).trans (e13_main_arg10 V)
theorem e15_main_v24 : v15 V (no_index (Proc.devRef .tc main_v24)) = A_main_v24 (held V) := (after_of_writes_sub pre15 _ pre15_writes (by decide +kernel)).trans (e14_main_v24 V)
theorem e15_main_v56 : v15 V (no_index (Proc.devRef .tc main_v56)) = A_main_v56 (held V) := (after_of_writes_sub pre15 _ pre15_writes (by decide +kernel)).trans (e14_main_v56 V)
theorem e15_main_cst_4 : v15 V (no_index (Proc.devRef .tc main_cst_4)) = K_main_cst_4 (F := F) := by
  unfold v15
  after_reads_simp
  try simp only [e14_main_v65,e14_main_v56]
  try simp only [TRef.ofBuf_toBuf]
  try simp -implicitDefEqProofs only [TRef.ofBuf, TRef.toBuf, cast_eq]
  rfl
theorem e15_main_v62 : v15 V (no_index (Proc.devRef .tc main_v62)) = A_main_v62 (held V) := (after_of_writes_sub pre15 _ pre15_writes (by decide +kernel)).trans (e14_main_v62 V)
theorem e15_main_cst_5 : v15 V (no_index (Proc.devRef .tc main_cst_5)) = K_main_cst_5 (F := F) := by
  unfold v15
  after_reads_simp
  try simp only [e14_main_v65,e14_main_v56]
  try simp only [TRef.ofBuf_toBuf]
  try simp -implicitDefEqProofs only [TRef.ofBuf, TRef.toBuf, cast_eq]
  rfl
theorem e15_main_v51 : v15 V (no_index (Proc.devRef .tc main_v51)) = A_main_v51 (held V) := (after_of_writes_sub pre15 _ pre15_writes (by decide +kernel)).trans (e14_main_v51 V)
theorem e15_main_v58 : v15 V (no_index (Proc.devRef .tc main_v58)) = A_main_v58 (held V) := (after_of_writes_sub pre15 _ pre15_writes (by decide +kernel)).trans (e14_main_v58 V)
theorem e15_main_v39 : v15 V (no_index (Proc.devRef .tc main_v39)) = A_main_v39 (held V) := (after_of_writes_sub pre15 _ pre15_writes (by decide +kernel)).trans (e14_main_v39 V)
theorem e15_main_v60 : v15 V (no_index (Proc.devRef .tc main_v60)) = A_main_v60 (held V) := (after_of_writes_sub pre15 _ pre15_writes (by decide +kernel)).trans (e14_main_v60 V)
theorem e15_main_v46 : v15 V (no_index (Proc.devRef .tc main_v46)) = A_main_v46 (held V) := (after_of_writes_sub pre15 _ pre15_writes (by decide +kernel)).trans (e14_main_v46 V)
theorem e15_main_v67 : v15 V (no_index (Proc.devRef .tc main_v67)) = A_main_v67 (held V) := by
  unfold v15
  after_reads_simp
  try simp only [e14_main_v65,e14_main_v56]
  try simp only [TRef.ofBuf_toBuf]
  try simp -implicitDefEqProofs only [TRef.ofBuf, TRef.toBuf, cast_eq]
  rfl
theorem e15_main_v31 : v15 V (no_index (Proc.devRef .tc main_v31)) = A_main_v31 (held V) := (after_of_writes_sub pre15 _ pre15_writes (by decide +kernel)).trans (e14_main_v31 V)
theorem e15_main_arg10 : v15 V (no_index (Proc.devRef .tc main_arg10)) = (held V).main_arg10 := (after_of_writes_sub pre15 _ pre15_writes (by decide +kernel)).trans (e14_main_arg10 V)
theorem e16_main_v24 : v16 V (no_index (Proc.devRef .tc main_v24)) = A_main_v24 (held V) := (after_of_writes_sub pre16 _ pre16_writes (by decide +kernel)).trans (e15_main_v24 V)
theorem e16_main_v56 : v16 V (no_index (Proc.devRef .tc main_v56)) = A_main_v56 (held V) := (after_of_writes_sub pre16 _ pre16_writes (by decide +kernel)).trans (e15_main_v56 V)
theorem e16_main_v68 : v16 V (no_index (Proc.devRef .tc main_v68)) = A_main_v68 (held V) := by
  unfold v16
  after_reads_simp
  try simp only [e15_main_cst_4,e15_main_v62,e15_main_cst_5]
  try simp only [TRef.ofBuf_toBuf]
  try simp -implicitDefEqProofs only [TRef.ofBuf, TRef.toBuf, cast_eq]
  rfl
theorem e16_main_v51 : v16 V (no_index (Proc.devRef .tc main_v51)) = A_main_v51 (held V) := (after_of_writes_sub pre16 _ pre16_writes (by decide +kernel)).trans (e15_main_v51 V)
theorem e16_main_v58 : v16 V (no_index (Proc.devRef .tc main_v58)) = A_main_v58 (held V) := (after_of_writes_sub pre16 _ pre16_writes (by decide +kernel)).trans (e15_main_v58 V)
theorem e16_main_v39 : v16 V (no_index (Proc.devRef .tc main_v39)) = A_main_v39 (held V) := (after_of_writes_sub pre16 _ pre16_writes (by decide +kernel)).trans (e15_main_v39 V)
theorem e16_main_v60 : v16 V (no_index (Proc.devRef .tc main_v60)) = A_main_v60 (held V) := (after_of_writes_sub pre16 _ pre16_writes (by decide +kernel)).trans (e15_main_v60 V)
theorem e16_main_v46 : v16 V (no_index (Proc.devRef .tc main_v46)) = A_main_v46 (held V) := (after_of_writes_sub pre16 _ pre16_writes (by decide +kernel)).trans (e15_main_v46 V)
theorem e16_main_v67 : v16 V (no_index (Proc.devRef .tc main_v67)) = A_main_v67 (held V) := (after_of_writes_sub pre16 _ pre16_writes (by decide +kernel)).trans (e15_main_v67 V)
theorem e16_main_v31 : v16 V (no_index (Proc.devRef .tc main_v31)) = A_main_v31 (held V) := (after_of_writes_sub pre16 _ pre16_writes (by decide +kernel)).trans (e15_main_v31 V)
theorem e16_main_arg10 : v16 V (no_index (Proc.devRef .tc main_arg10)) = (held V).main_arg10 := (after_of_writes_sub pre16 _ pre16_writes (by decide +kernel)).trans (e15_main_arg10 V)
theorem e17_main_v24 : v17 V (no_index (Proc.devRef .tc main_v24)) = A_main_v24 (held V) := (after_of_writes_sub pre17 _ pre17_writes (by decide +kernel)).trans (e16_main_v24 V)
theorem e17_main_v91 : v17 V (no_index (Proc.devRef .tc main_v91)) = A_main_v91 (held V) := by
  have h87 : upto pre17 (v16 V) 26 (Proc.devRef .tc main_v87) = A_main_v87 (held V) := by
    show after (pre17.take 26) (v16 V) (Proc.devRef .tc main_v87) = _
    unfold pre17
    simp only [List.take]
    after_reads_simp
    simp only [e16_main_v68,e16_main_v51,e16_main_v58,e16_main_v39,e16_main_v60,e16_main_v56,e16_main_v46,e16_main_v67,e16_main_v31,e16_main_v24]
    rfl
  have h88 : upto pre17 (v16 V) 26 (Proc.devRef .tc main_v88) = A_main_v88 (held V) := by
    show after (pre17.take 26) (v16 V) (Proc.devRef .tc main_v88) = _
    unfold pre17
    simp only [List.take]
    after_reads_simp
    simp only [e16_main_v68,e16_main_v51,e16_main_v58,e16_main_v39,e16_main_v60,e16_main_v56,e16_main_v46,e16_main_v67,e16_main_v31,e16_main_v24]
    rfl
  have h89 : upto pre17 (v16 V) 26 (Proc.devRef .tc main_v89) = A_main_v89 (held V) := by
    show after (pre17.take 26) (v16 V) (Proc.devRef .tc main_v89) = _
    unfold pre17
    simp only [List.take]
    after_reads_simp
    simp only [e16_main_v68,e16_main_v51,e16_main_v58,e16_main_v39,e16_main_v60,e16_main_v56,e16_main_v46,e16_main_v67,e16_main_v31,e16_main_v24]
    rfl
  have h90 : upto pre17 (v16 V) 26 (Proc.devRef .tc main_v90) = A_main_v90 (held V) := by
    show after (pre17.take 26) (v16 V) (Proc.devRef .tc main_v90) = _
    unfold pre17
    simp only [List.take]
    after_reads_simp
    simp only [e16_main_v68,e16_main_v51,e16_main_v58,e16_main_v39,e16_main_v60,e16_main_v56,e16_main_v46,e16_main_v67,e16_main_v31,e16_main_v24]
    rfl
  unfold v17
  after_reads_simp
  simp only [Matrix.cons_val]
  rw [h87, h88, h89, h90]
  rfl
theorem e17_main_v102 : v17 V (no_index (Proc.devRef .tc main_v102)) = A_main_v102 (held V) := by
  unfold v17
  after_reads_simp
  try simp only [e16_main_v68,e16_main_v51,e16_main_v58,e16_main_v39,e16_main_v60,e16_main_v56,e16_main_v46,e16_main_v67,e16_main_v31,e16_main_v24]
  try simp only [TRef.ofBuf_toBuf]
  try simp -implicitDefEqProofs only [TRef.ofBuf, TRef.toBuf, cast_eq]
  rfl
theorem e17_main_arg10 : v17 V (no_index (Proc.devRef .tc main_arg10)) = (held V).main_arg10 := (after_of_writes_sub pre17 _ pre17_writes (by decide +kernel)).trans (e16_main_arg10 V)
theorem e17_main_v97 : v17 V (no_index (Proc.devRef .tc main_v97)) = A_main_v97 (held V) := by
  unfold v17
  after_reads_simp
  try simp only [e16_main_v68,e16_main_v51,e16_main_v58,e16_main_v39,e16_main_v60,e16_main_v56,e16_main_v46,e16_main_v67,e16_main_v31,e16_main_v24]
  try simp only [TRef.ofBuf_toBuf]
  try simp -implicitDefEqProofs only [TRef.ofBuf, TRef.toBuf, cast_eq]
  rfl
theorem e18_main_v116_6 : v18 V (no_index (Proc.devRef .tc main_v116_6)) = A_main_v97 (held V) := by
  unfold v18
  after_reads_simp
  try simp only [e17_main_v91,e17_main_v102,e17_main_v24,e17_main_arg10,e17_main_v97]
  try simp only [TRef.ofBuf_toBuf]
  try simp -implicitDefEqProofs only [TRef.ofBuf, TRef.toBuf, cast_eq]
  rfl
theorem e18_main_v116_7 : v18 V (no_index (Proc.devRef .tc main_v116_7)) = K_main_v115 (F := F) := by
  unfold v18
  after_reads_simp
  try simp only [e17_main_v91,e17_main_v102,e17_main_v24,e17_main_arg10,e17_main_v97]
  try simp only [TRef.ofBuf_toBuf]
  try simp -implicitDefEqProofs only [TRef.ofBuf, TRef.toBuf, cast_eq]
  rfl
theorem e18_main_v116_0 : v18 V (no_index (Proc.devRef .tc main_v116_0)) = A_main_v91 (held V) := by
  unfold v18
  after_reads_simp
  try simp only [e17_main_v91,e17_main_v102,e17_main_v24,e17_main_arg10,e17_main_v97]
  try simp only [TRef.ofBuf_toBuf]
  try simp -implicitDefEqProofs only [TRef.ofBuf, TRef.toBuf, cast_eq]
  rfl
theorem e18_main_v116_1 : v18 V (no_index (Proc.devRef .tc main_v116_1)) = A_main_v24 (held V) := by
  unfold v18
  after_reads_simp
  try simp only [e17_main_v91,e17_main_v102,e17_main_v24,e17_main_arg10,e17_main_v97]
  try simp only [TRef.ofBuf_toBuf]
  try simp -implicitDefEqProofs only [TRef.ofBuf, TRef.toBuf, cast_eq]
  rfl
theorem e18_main_v116_2 : v18 V (no_index (Proc.devRef .tc main_v116_2)) = A_main_v103 (held V) := by
  unfold v18
  after_reads_simp
  try simp only [e17_main_v91,e17_main_v102,e17_main_v24,e17_main_arg10,e17_main_v97]
  try simp only [TRef.ofBuf_toBuf]
  try simp -implicitDefEqProofs only [TRef.ofBuf, TRef.toBuf, cast_eq]
  rfl
theorem e18_main_v116_3 : v18 V (no_index (Proc.devRef .tc main_v116_3)) = A_main_v114 (held V) := by
  unfold v18
  after_reads_simp
  try simp only [e17_main_v91,e17_main_v102,e17_main_v24,e17_main_arg10,e17_main_v97]
  try simp only [TRef.ofBuf_toBuf]
  try simp -implicitDefEqProofs only [TRef.ofBuf, TRef.toBuf, cast_eq]
  rfl
theorem e18_main_v116_4 : v18 V (no_index (Proc.devRef .tc main_v116_4)) = (held V).main_arg10 := by
  unfold v18
  after_reads_simp
  try simp only [e17_main_v91,e17_main_v102,e17_main_v24,e17_main_arg10,e17_main_v97]
  try simp only [TRef.ofBuf_toBuf]
  try simp -implicitDefEqProofs only [TRef.ofBuf, TRef.toBuf, cast_eq]
  rfl
theorem e18_main_v116_5 : v18 V (no_index (Proc.devRef .tc main_v116_5)) = K_main_c_14 (F := F) := by
  unfold v18
  after_reads_simp
  try simp only [e17_main_v91,e17_main_v102,e17_main_v24,e17_main_arg10,e17_main_v97]
  try simp only [TRef.ofBuf_toBuf]
  try simp -implicitDefEqProofs only [TRef.ofBuf, TRef.toBuf, cast_eq]
  rfl

end Cert.Proof.Ref

end
-- ==== Proof.RefHolds.lean ====
/- The reference's result: the state after 100 trips of `step`, read off the fold of the run. -/
module

public import proofs.«01_k».proof.Proof.RefRun
public import proofs.«01_k».proof.Proof.RefStep
public import proofs.«01_k».proof.Proof.RefPre

@[expose] public section

noncomputable section

namespace Cert.Proof.Ref

open Idealize.ShloMosaic Idealize.ShloMosaic.TcCoe Idealize.SL.Sem Idealize.ShloMosaic.StableHlo
open Cert.ReferenceIdeal Cert.ReferenceIdeal.Gen

variable {F : FTy → Type} [FloatOps F]

variable (V0 : Valuation τ sig (Elt F)) (s : State F) (j : ℕ)

/-- The valuation holds the state at the carried buffers and the trip's number at the counter. -/
structure Holds : Prop where
  f_6 : V0 (Proc.devRef .tc main_v116_6) = s.main_v116_6
  f_7 : V0 (Proc.devRef .tc main_v116_7) = s.main_v116_7
  f_0 : V0 (Proc.devRef .tc main_v116_0) = s.main_v116_0
  f_1 : V0 (Proc.devRef .tc main_v116_1) = s.main_v116_1
  f_2 : V0 (Proc.devRef .tc main_v116_2) = s.main_v116_2
  f_3 : V0 (Proc.devRef .tc main_v116_3) = s.main_v116_3
  f_4 : V0 (Proc.devRef .tc main_v116_4) = s.main_v116_4
  n_5 : V0 (Proc.devRef .tc main_v116_5) = constantI S_ 32 (BitVec.ofNat 32 j)

variable {V0 s j}

/-- The condition writes no carried buffer. -/
theorem holds_cond (h : Holds V0 s j) : Holds (after condOps V0) s j where
  f_6 := (after_of_writes_sub condOps _ condOps_writes (by decide +kernel)).trans h.f_6
  f_7 := (after_of_writes_sub condOps _ condOps_writes (by decide +kernel)).trans h.f_7
  f_0 := (after_of_writes_sub condOps _ condOps_writes (by decide +kernel)).trans h.f_0
  f_1 := (after_of_writes_sub condOps _ condOps_writes (by decide +kernel)).trans h.f_1
  f_2 := (after_of_writes_sub condOps _ condOps_writes (by decide +kernel)).trans h.f_2
  f_3 := (after_of_writes_sub condOps _ condOps_writes (by decide +kernel)).trans h.f_3
  f_4 := (after_of_writes_sub condOps _ condOps_writes (by decide +kernel)).trans h.f_4
  n_5 := (after_of_writes_sub condOps _ condOps_writes (by decide +kernel)).trans h.n_5

set_option maxRecDepth 65536 in
set_option maxHeartbeats 4000000 in
theorem trip_scores (h : Holds V0 s j) : afterL bodyI V0 (Proc.devRef .tc main_v116_6) = b78 j s := by
  obtain ⟨s6, s7, s0, s1, s2, s3, s4⟩ := s
  obtain ⟨h6, h7, h0, h1, h2, h3, h4, h5⟩ := h
  dsimp only at h6 h7 h0 h1 h2 h3 h4
  subst h6 h7 h0 h1 h2 h3 h4
  simp only [afterL_cons, afterL_nil]
  after_reads_simp
  rfl

set_option maxRecDepth 65536 in
/-- The last two stretches of a trip put the row of detections into the array, at the trip's number. -/
theorem dets_tail (X : Valuation τ sig (Elt F)) :
    after trip13 (after trip12 X) (Proc.devRef .tc main_v116_7)
      = Host.dynamicUpdateSlice (X (Proc.devRef .tc main_v116_7))
          (broadcastInDim S1x8x6 ![1, 2] bcast_S8x6_S1x8x6_1_2 (X (Proc.devRef .tc main_while0b_v211)))
          (fun k => ((![X (Proc.devRef .tc main_v116_5), constantI S_ 32 0#32, constantI S_ 32 0#32]
              : Fin 3 → (⟨S_, .i32⟩ : BufTy).Contents (Elt F)) k (Shape.Idx.first h_S_)).toInt) updateFits_S100x8x6_S1x8x6 := by
  after_reads_simp
  refine congrArg (fun i => Host.dynamicUpdateSlice _ _ i _) (funext fun k => ?_)
  fin_cases k
  · after_reads_simp; rfl
  · after_reads_simp; rfl
  · after_reads_simp; rfl

set_option maxRecDepth 65536 in
set_option maxHeartbeats 4000000 in
theorem trip_dets (h : Holds V0 s j) : afterL bodyI V0 (Proc.devRef .tc main_v116_7) = b119 j s := by
  obtain ⟨s6, s7, s0, s1, s2, s3, s4⟩ := s
  obtain ⟨h6, h7, h0, h1, h2, h3, h4, h5⟩ := h
  dsimp only at h6 h7 h0 h1 h2 h3 h4
  subst h6 h7 h0 h1 h2 h3 h4
  simp only [afterL_cons, afterL_nil]
  rw [dets_tail]
  unfold b119 b116
  congr 1
  · after_reads_simp
    show (fun k => BitVec.toInt (![V0 (Proc.devRef .tc main_v116_5), constantI S_ 32 0#32, constantI S_ 32 0#32] k (Shape.Idx.first h_S_))) = _
    rw [h5]
    rfl

/-- One trip keeps the valuation holding. -/
theorem holds_step (h : Holds V0 s j) : Holds (afterL bodyI V0) (step j s) (j + 1) where
  f_6 := (trip_scores h).trans (step_main_v116_6 j s).symm
  f_7 := (trip_dets h).trans (step_main_v116_7 j s).symm
  n_5 := by
    rw [ctr_body, h.n_5]
    funext i
    exact (BitVec.ofNat_add j 1).symm
  f_0 := (bodyI_keeps V0 _ (by decide +kernel)).trans h.f_0
  f_1 := (bodyI_keeps V0 _ (by decide +kernel)).trans h.f_1
  f_2 := (bodyI_keeps V0 _ (by decide +kernel)).trans h.f_2
  f_3 := (bodyI_keeps V0 _ (by decide +kernel)).trans h.f_3
  f_4 := (bodyI_keeps V0 _ (by decide +kernel)).trans h.f_4

variable (m : (ℓ : Loc nD τ sig) → Buf (Elt F) ℓ) (c : Dev nD)

/-- The arguments as a run's first memory holds them. -/
abbrev argsOf : Args F where
  main_arg0 := m ((c.tc : Thread nD τ).loc main_arg0)
  main_arg1 := m ((c.tc : Thread nD τ).loc main_arg1)
  main_arg2 := m ((c.tc : Thread nD τ).loc main_arg2)
  main_arg3 := m ((c.tc : Thread nD τ).loc main_arg3)
  main_arg4 := m ((c.tc : Thread nD τ).loc main_arg4)
  main_arg5 := m ((c.tc : Thread nD τ).loc main_arg5)
  main_arg6 := m ((c.tc : Thread nD τ).loc main_arg6)
  main_arg7 := m ((c.tc : Thread nD τ).loc main_arg7)
  main_arg8 := m ((c.tc : Thread nD τ).loc main_arg8)
  main_arg9 := m ((c.tc : Thread nD τ).loc main_arg9)
  main_arg10 := m ((c.tc : Thread nD τ).loc main_arg10)
  main_arg11 := m ((c.tc : Thread nD τ).loc main_arg11)

theorem entry_6 : entryContents preI m c (Proc.devRef .tc main_v116_6) = (init (argsOf m c)).main_v116_6 := by
  refine (congrFun (after_preI _) _).trans ((e18_main_v116_6 _).trans ?_)
  unfold init
  rfl

theorem entry_7 : entryContents preI m c (Proc.devRef .tc main_v116_7) = (init (argsOf m c)).main_v116_7 := by
  refine (congrFun (after_preI _) _).trans ((e18_main_v116_7 _).trans ?_)
  unfold init
  rfl

theorem entry_0 : entryContents preI m c (Proc.devRef .tc main_v116_0) = (init (argsOf m c)).main_v116_0 := by
  refine (congrFun (after_preI _) _).trans ((e18_main_v116_0 _).trans ?_)
  unfold init
  rfl

theorem entry_1 : entryContents preI m c (Proc.devRef .tc main_v116_1) = (init (argsOf m c)).main_v116_1 := by
  refine (congrFun (after_preI _) _).trans ((e18_main_v116_1 _).trans ?_)
  unfold init
  rfl

theorem entry_2 : entryContents preI m c (Proc.devRef .tc main_v116_2) = (init (argsOf m c)).main_v116_2 := by
  refine (congrFun (after_preI _) _).trans ((e18_main_v116_2 _).trans ?_)
  unfold init
  rfl

theorem entry_3 : entryContents preI m c (Proc.devRef .tc main_v116_3) = (init (argsOf m c)).main_v116_3 := by
  refine (congrFun (after_preI _) _).trans ((e18_main_v116_3 _).trans ?_)
  unfold init
  rfl

theorem entry_4 : entryContents preI m c (Proc.devRef .tc main_v116_4) = (init (argsOf m c)).main_v116_4 := by
  refine (congrFun (after_preI _) _).trans ((e18_main_v116_4 _).trans ?_)
  unfold init
  rfl

/-- What the stretches before the loop leave: the initial state and number 0. -/
theorem entry_holds : Holds (entryContents preI m c) (init (argsOf m c)) 0 :=
  ⟨entry_6 m c, entry_7 m c, entry_0 m c, entry_1 m c, entry_2 m c, entry_3 m c, entry_4 m c, ctr_entry m c⟩

/-- The state before trip `k`. -/
def state (x : Args F) : ℕ → State F
  | 0 => init x
  | k + 1 => step k (state x k)

theorem holds_iter : ∀ k, Holds (atK m k c) (state (argsOf m c) k) k
  | 0 => entry_holds m c
  | k + 1 => holds_step (holds_cond (holds_iter k))

/-- A buffer that no operation of the program writes ends as it began. -/
theorem final_keeps (r : Ref sig .tc) (h1 : ∀ W ∈ preI_W, r ∉ W) (h2 : ∀ W ∈ bodyI_W, r ∉ W) (h3 : ∀ W ∈ postI_W, r ∉ W) (h4 : r ∉ condOps_W) :
    finalContents condOps preI bodyI postI 100 m c (Proc.devRef .tc r) = m ((c.tc : Thread nD τ).loc r) := by
  have hk : ∀ k, atK m k c (Proc.devRef .tc r) = m ((c.tc : Thread nD τ).loc r) := by
    intro k
    induction k with
    | zero => exact preI_keeps _ r h1
    | succ k ih => exact (bodyI_keeps _ r h2).trans ((after_of_writes_sub condOps _ condOps_writes h4).trans ih)
  exact (postI_keeps _ r h3).trans ((after_of_writes_sub condOps _ condOps_writes h4).trans (hk 100))

theorem final_result :
    finalContents condOps preI bodyI postI 100 m c (Proc.devRef .tc main_v117) = R_main_v117 (state (argsOf m c) 100) := by
  have h := holds_cond (holds_iter m c 100)
  unfold R_main_v117
  rw [← h.f_7]
  simp only [finalContents, afterL_cons, afterL_nil]
  after_results

/-- THE RUN: every weakly fair execution ends with the result at the state after 100 trips and every argument as it was. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v117) = R_main_v117 (state (argsOf m c) 100)
      ∧ ∀ a : Ref sig .tc, (Proc.devRef .tc a : DevRef τ sig).isScoped = false → (∀ W ∈ preI_W, a ∉ W) → (∀ W ∈ bodyI_W, a ∉ W) → (∀ W ∈ postI_W, a ∉ W) → a ∉ condOps_W →
        r.2.mem ((c.tc : Thread nD τ).loc a) = m ((c.tc : Thread nD τ).loc a) :=
  (θ_run defs _ _).mono (fun _ h c =>
    ⟨(h c main_v117 rfl).trans (final_result m c), fun a ha h1 h2 h3 h4 => (h c a ha).trans (final_keeps m c a h1 h2 h3 h4)⟩) (run_fold m ρ)

end Cert.Proof.Ref

end
-- ==== Proof.Frames.lean ====
/- The claims that need no value: the three frames, and that the idealized kernel states the printed one. -/
module

public import proofs.«01_k».proof.Defs
public import proofs.«01_k».proof.Proof.KRun
public import proofs.«01_k».proof.Proof.KIRun
public import proofs.«01_k».proof.Proof.RefHolds
public import Idealize.ShloMosaic.Lib.Quiescent

@[expose] public section

noncomputable section

namespace Cert.Proof

open Idealize.ShloMosaic Idealize.SL.Sem

theorem frame_kernel : Cert.quiescent_Kernel := fun m ρ _ => Cert.Proof.K.frame m ρ

theorem frame_kernelIdeal : Cert.quiescent_KernelIdeal := fun m ρ _ => Cert.Proof.KI.frame m ρ

namespace Ref

open Cert.ReferenceIdeal

/-- The reference's arguments end as they began. -/
theorem args_kept {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v117) = R_main_v117 (state (argsOf m c) 100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c).1,
      (h c).2 main_arg0 rfl (by decide +kernel) (by decide +kernel) (by decide +kernel) (by decide +kernel),
      (h c).2 main_arg1 rfl (by decide +kernel) (by decide +kernel) (by decide +kernel) (by decide +kernel),
      (h c).2 main_arg2 rfl (by decide +kernel) (by decide +kernel) (by decide +kernel) (by decide +kernel),
      (h c).2 main_arg3 rfl (by decide +kernel) (by decide +kernel) (by decide +kernel) (by decide +kernel),
      (h c).2 main_arg4 rfl (by decide +kernel) (by decide +kernel) (by decide +kernel) (by decide +kernel),
      (h c).2 main_arg5 rfl (by decide +kernel) (by decide +kernel) (by decide +kernel) (by decide +kernel),
      (h c).2 main_arg6 rfl (by decide +kernel) (by decide +kernel) (by decide +kernel) (by decide +kernel),
      (h c).2 main_arg7 rfl (by decide +kernel) (by decide +kernel) (by decide +kernel) (by decide +kernel),
      (h c).2 main_arg8 rfl (by decide +kernel) (by decide +kernel) (by decide +kernel) (by decide +kernel),
      (h c).2 main_arg9 rfl (by decide +kernel) (by decide +kernel) (by decide +kernel) (by decide +kernel),
      (h c).2 main_arg10 rfl (by decide +kernel) (by decide +kernel) (by decide +kernel) (by decide +kernel),
      (h c).2 main_arg11 rfl (by decide +kernel) (by decide +kernel) (by decide +kernel) (by decide +kernel)⟩) (run m ρ)

end Ref

theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩) (Ref.args_kept m ρ)

/-- The one literal that is named: −10⁹, as a float the word 0xCE6E6B28, stands for −∞. -/
theorem preserves : Cert.preserves_Kernel_KernelIdeal :=
  IdealRules.named_const.statement Cert.KernelIdeal.κ "minus_infinity" .f32 0xCE6E6B28#32 ⊥ rfl

end Cert.Proof

end
-- ==== Proof.KIPre.lean ====
/- What the operations before the kernel's launch leave in each buffer that a later operation or the launch reads. -/
module

public import proofs.«01_k».proof.Proof.Gen.KernelIdeal.Frame
public import proofs.«01_k».proof.Proof.RefStep
public import Idealize.ShloMosaic.Lib.StableHlo.RunRead
public import Idealize.ShloMosaic.Lib.StableHlo.RunLoop

@[expose] public section

set_option maxRecDepth 4000
set_option maxHeartbeats 200000

noncomputable section

namespace Cert.Proof.KI

open Idealize.ShloMosaic Idealize.ShloMosaic.TcCoe Idealize.SL.Sem Idealize.ShloMosaic.StableHlo
open Cert.KernelIdeal Cert.KernelIdeal.Gen
open Cert.Proof.Ref (Args)

variable {F : FTy → Type} [FloatOps F] [Named F]

/-! Each value before the launch, of the arguments. -/

def T_main_v0 (x : Args F) : (⟨S8x64x64x810, .f32⟩ : BufTy).Contents (Elt F) := (((transpose S8x64x64x810 [0, 2, 3, 1] · transposes_S8x810x64x64_S8x64x64x810_0_2_3_1) : (⟨S8x810x64x64, .f32⟩ : BufTy).Contents (Elt F) → (⟨S8x64x64x810, .f32⟩ : BufTy).Contents (Elt F))) x.main_arg0
def T_main_v1 (x : Args F) : (⟨S8x36864x90, .f32⟩ : BufTy).Contents (Elt F) := (shapeCast _ (T_main_v0 x) shapeCasts_S8x64x64x810_S8x36864x90)
def T_main_v2 (x : Args F) : (⟨S8x32x32x810, .f32⟩ : BufTy).Contents (Elt F) := (((transpose S8x32x32x810 [0, 2, 3, 1] · transposes_S8x810x32x32_S8x32x32x810_0_2_3_1) : (⟨S8x810x32x32, .f32⟩ : BufTy).Contents (Elt F) → (⟨S8x32x32x810, .f32⟩ : BufTy).Contents (Elt F))) x.main_arg1
def T_main_v3 (x : Args F) : (⟨S8x9216x90, .f32⟩ : BufTy).Contents (Elt F) := (shapeCast _ (T_main_v2 x) shapeCasts_S8x32x32x810_S8x9216x90)
def T_main_v4 (x : Args F) : (⟨S8x16x16x810, .f32⟩ : BufTy).Contents (Elt F) := (((transpose S8x16x16x810 [0, 2, 3, 1] · transposes_S8x810x16x16_S8x16x16x810_0_2_3_1) : (⟨S8x810x16x16, .f32⟩ : BufTy).Contents (Elt F) → (⟨S8x16x16x810, .f32⟩ : BufTy).Contents (Elt F))) x.main_arg2
def T_main_v5 (x : Args F) : (⟨S8x2304x90, .f32⟩ : BufTy).Contents (Elt F) := (shapeCast _ (T_main_v4 x) shapeCasts_S8x16x16x810_S8x2304x90)
def T_main_v6 (x : Args F) : (⟨S8x8x8x810, .f32⟩ : BufTy).Contents (Elt F) := (((transpose S8x8x8x810 [0, 2, 3, 1] · transposes_S8x810x8x8_S8x8x8x810_0_2_3_1) : (⟨S8x810x8x8, .f32⟩ : BufTy).Contents (Elt F) → (⟨S8x8x8x810, .f32⟩ : BufTy).Contents (Elt F))) x.main_arg3
def T_main_v7 (x : Args F) : (⟨S8x576x90, .f32⟩ : BufTy).Contents (Elt F) := (shapeCast _ (T_main_v6 x) shapeCasts_S8x8x8x810_S8x576x90)
def T_main_v8 (x : Args F) : (⟨S8x4x4x810, .f32⟩ : BufTy).Contents (Elt F) := (((transpose S8x4x4x810 [0, 2, 3, 1] · transposes_S8x810x4x4_S8x4x4x810_0_2_3_1) : (⟨S8x810x4x4, .f32⟩ : BufTy).Contents (Elt F) → (⟨S8x4x4x810, .f32⟩ : BufTy).Contents (Elt F))) x.main_arg4
def T_main_v9 (x : Args F) : (⟨S8x144x90, .f32⟩ : BufTy).Contents (Elt F) := (shapeCast _ (T_main_v8 x) shapeCasts_S8x4x4x810_S8x144x90)
def T_main_v10 (x : Args F) : (⟨S8x49104x90, .f32⟩ : BufTy).Contents (Elt F) := (concatenate S8x49104x90 1 [⟨S8x36864x90, ((T_main_v1 x) : (⟨S8x36864x90, .f32⟩ : BufTy).Contents (Elt F))⟩, ⟨S8x9216x90, ((T_main_v3 x) : (⟨S8x9216x90, .f32⟩ : BufTy).Contents (Elt F))⟩, ⟨S8x2304x90, ((T_main_v5 x) : (⟨S8x2304x90, .f32⟩ : BufTy).Contents (Elt F))⟩, ⟨S8x576x90, ((T_main_v7 x) : (⟨S8x576x90, .f32⟩ : BufTy).Contents (Elt F))⟩, ⟨S8x144x90, ((T_main_v9 x) : (⟨S8x144x90, .f32⟩ : BufTy).Contents (Elt F))⟩] concatenates_S8x36864x90_S8x9216x90_S8x2304x90_S8x576x90_S8x144x90_S8x49104x90_d1 : (⟨S8x49104x90, .f32⟩ : BufTy).Contents (Elt F))
def T_main_v11 (x : Args F) : (⟨S8x64x64x36, .f32⟩ : BufTy).Contents (Elt F) := (((transpose S8x64x64x36 [0, 2, 3, 1] · transposes_S8x36x64x64_S8x64x64x36_0_2_3_1) : (⟨S8x36x64x64, .f32⟩ : BufTy).Contents (Elt F) → (⟨S8x64x64x36, .f32⟩ : BufTy).Contents (Elt F))) x.main_arg5
def T_main_v12 (x : Args F) : (⟨S8x36864x4, .f32⟩ : BufTy).Contents (Elt F) := (shapeCast _ (T_main_v11 x) shapeCasts_S8x64x64x36_S8x36864x4)
def T_main_v13 (x : Args F) : (⟨S8x32x32x36, .f32⟩ : BufTy).Contents (Elt F) := (((transpose S8x32x32x36 [0, 2, 3, 1] · transposes_S8x36x32x32_S8x32x32x36_0_2_3_1) : (⟨S8x36x32x32, .f32⟩ : BufTy).Contents (Elt F) → (⟨S8x32x32x36, .f32⟩ : BufTy).Contents (Elt F))) x.main_arg6
def T_main_v14 (x : Args F) : (⟨S8x9216x4, .f32⟩ : BufTy).Contents (Elt F) := (shapeCast _ (T_main_v13 x) shapeCasts_S8x32x32x36_S8x9216x4)
def T_main_v15 (x : Args F) : (⟨S8x16x16x36, .f32⟩ : BufTy).Contents (Elt F) := (((transpose S8x16x16x36 [0, 2, 3, 1] · transposes_S8x36x16x16_S8x16x16x36_0_2_3_1) : (⟨S8x36x16x16, .f32⟩ : BufTy).Contents (Elt F) → (⟨S8x16x16x36, .f32⟩ : BufTy).Contents (Elt F))) x.main_arg7
def T_main_v16 (x : Args F) : (⟨S8x2304x4, .f32⟩ : BufTy).Contents (Elt F) := (shapeCast _ (T_main_v15 x) shapeCasts_S8x16x16x36_S8x2304x4)
def T_main_v17 (x : Args F) : (⟨S8x8x8x36, .f32⟩ : BufTy).Contents (Elt F) := (((transpose S8x8x8x36 [0, 2, 3, 1] · transposes_S8x36x8x8_S8x8x8x36_0_2_3_1) : (⟨S8x36x8x8, .f32⟩ : BufTy).Contents (Elt F) → (⟨S8x8x8x36, .f32⟩ : BufTy).Contents (Elt F))) x.main_arg8
def T_main_v18 (x : Args F) : (⟨S8x576x4, .f32⟩ : BufTy).Contents (Elt F) := (shapeCast _ (T_main_v17 x) shapeCasts_S8x8x8x36_S8x576x4)
def T_main_v19 (x : Args F) : (⟨S8x4x4x36, .f32⟩ : BufTy).Contents (Elt F) := (((transpose S8x4x4x36 [0, 2, 3, 1] · transposes_S8x36x4x4_S8x4x4x36_0_2_3_1) : (⟨S8x36x4x4, .f32⟩ : BufTy).Contents (Elt F) → (⟨S8x4x4x36, .f32⟩ : BufTy).Contents (Elt F))) x.main_arg9
def T_main_v20 (x : Args F) : (⟨S8x144x4, .f32⟩ : BufTy).Contents (Elt F) := (shapeCast _ (T_main_v19 x) shapeCasts_S8x4x4x36_S8x144x4)
def T_main_v21 (x : Args F) : (⟨S8x49104x4, .f32⟩ : BufTy).Contents (Elt F) := (concatenate S8x49104x4 1 [⟨S8x36864x4, ((T_main_v12 x) : (⟨S8x36864x4, .f32⟩ : BufTy).Contents (Elt F))⟩, ⟨S8x9216x4, ((T_main_v14 x) : (⟨S8x9216x4, .f32⟩ : BufTy).Contents (Elt F))⟩, ⟨S8x2304x4, ((T_main_v16 x) : (⟨S8x2304x4, .f32⟩ : BufTy).Contents (Elt F))⟩, ⟨S8x576x4, ((T_main_v18 x) : (⟨S8x576x4, .f32⟩ : BufTy).Contents (Elt F))⟩, ⟨S8x144x4, ((T_main_v20 x) : (⟨S8x144x4, .f32⟩ : BufTy).Contents (Elt F))⟩] concatenates_S8x36864x4_S8x9216x4_S8x2304x4_S8x576x4_S8x144x4_S8x49104x4_d1 : (⟨S8x49104x4, .f32⟩ : BufTy).Contents (Elt F))
def T_main_v22 (x : Args F) : (⟨S8x4419360, .f32⟩ : BufTy).Contents (Elt F) := (shapeCast _ (T_main_v10 x) shapeCasts_S8x49104x90_S8x4419360)
def T_main_values (x : Args F) : (⟨S8x5000, .f32⟩ : BufTy).Contents (Elt F) := (((fun x => (Host.topK S8x5000 1 (FloatOps.cmpfTotal .gt) x sliceFits_S8x4419360_S8x5000).1) : (⟨S8x4419360, .f32⟩ : BufTy).Contents (Elt F) → (⟨S8x5000, .f32⟩ : BufTy).Contents (Elt F))) (T_main_v22 x)
def T_main_indices (x : Args F) : (⟨S8x5000, .i32⟩ : BufTy).Contents (Elt F) := (((fun x => (Host.topK S8x5000 1 (FloatOps.cmpfTotal .gt) x sliceFits_S8x4419360_S8x5000).2) : (⟨S8x4419360, .f32⟩ : BufTy).Contents (Elt F) → (⟨S8x5000, .i32⟩ : BufTy).Contents (Elt F))) (T_main_v22 x)
def T_main_c (x : Args F) : (⟨S_, .i32⟩ : BufTy).Contents (Elt F) := (constantI S_ 32 90#32)
def T_main_call0_v0 (x : Args F) : (⟨S_, .i32⟩ : BufTy).Contents (Elt F) := (id) (T_main_c x)
def T_main_call0_v1 (x : Args F) : (⟨S8x5000, .i32⟩ : BufTy).Contents (Elt F) := ((broadcastInDim S8x5000 ![] bcast_S_S8x5000)) (T_main_call0_v0 x)
def T_main_call0_v2 (x : Args F) : (⟨S8x5000, .i32⟩ : BufTy).Contents (Elt F) := (Host.divsi) (T_main_indices x) (T_main_call0_v1 x)
def T_main_call0_v3 (x : Args F) : (⟨S8x5000, .i32⟩ : BufTy).Contents (Elt F) := (signi) (T_main_indices x)
def T_main_call0_v4 (x : Args F) : (⟨S_, .i32⟩ : BufTy).Contents (Elt F) := (signi) (T_main_call0_v0 x)
def T_main_call0_v5 (x : Args F) : (⟨S8x5000, .i32⟩ : BufTy).Contents (Elt F) := ((broadcastInDim S8x5000 ![] bcast_S_S8x5000)) (T_main_call0_v4 x)
def T_main_call0_v6 (x : Args F) : (⟨S8x5000, .i1⟩ : BufTy).Contents (Elt F) := ((cmpi .ne)) (T_main_call0_v3 x) (T_main_call0_v5 x)
def T_main_call0_v7 (x : Args F) : (⟨S8x5000, .i32⟩ : BufTy).Contents (Elt F) := ((broadcastInDim S8x5000 ![] bcast_S_S8x5000)) (T_main_call0_v0 x)
def T_main_call0_v8 (x : Args F) : (⟨S8x5000, .i32⟩ : BufTy).Contents (Elt F) := (Host.remsi) (T_main_indices x) (T_main_call0_v7 x)
def T_main_call0_c (x : Args F) : (⟨S_, .i32⟩ : BufTy).Contents (Elt F) := (constantI S_ 32 0#32)
def T_main_call0_v9 (x : Args F) : (⟨S8x5000, .i32⟩ : BufTy).Contents (Elt F) := ((broadcastInDim S8x5000 ![] bcast_S_S8x5000)) (T_main_call0_c x)
def T_main_call0_v10 (x : Args F) : (⟨S8x5000, .i1⟩ : BufTy).Contents (Elt F) := ((cmpi .ne)) (T_main_call0_v8 x) (T_main_call0_v9 x)
def T_main_call0_v11 (x : Args F) : (⟨S8x5000, .i1⟩ : BufTy).Contents (Elt F) := (andi) (T_main_call0_v6 x) (T_main_call0_v10 x)
def T_main_call0_c_0 (x : Args F) : (⟨S_, .i32⟩ : BufTy).Contents (Elt F) := (constantI S_ 32 1#32)
def T_main_call0_v12 (x : Args F) : (⟨S8x5000, .i32⟩ : BufTy).Contents (Elt F) := ((broadcastInDim S8x5000 ![] bcast_S_S8x5000)) (T_main_call0_c_0 x)
def T_main_call0_v13 (x : Args F) : (⟨S8x5000, .i32⟩ : BufTy).Contents (Elt F) := (subi) (T_main_call0_v2 x) (T_main_call0_v12 x)
def T_main_v23 (x : Args F) : (⟨S8x5000, .i32⟩ : BufTy).Contents (Elt F) := (select) (T_main_call0_v11 x) (T_main_call0_v13 x) (T_main_call0_v2 x)
def T_main_c_0 (x : Args F) : (⟨S_, .i32⟩ : BufTy).Contents (Elt F) := (constantI S_ 32 90#32)
def T_main_call1_v0 (x : Args F) : (⟨S_, .i32⟩ : BufTy).Contents (Elt F) := (id) (T_main_c_0 x)
def T_main_call1_c (x : Args F) : (⟨S_, .i32⟩ : BufTy).Contents (Elt F) := (constantI S_ 32 0#32)
def T_main_call1_v1 (x : Args F) : (⟨S_, .i1⟩ : BufTy).Contents (Elt F) := ((cmpi .eq)) (T_main_call1_v0 x) (T_main_call1_c x)
def T_main_call1_c_0 (x : Args F) : (⟨S_, .i32⟩ : BufTy).Contents (Elt F) := (constantI S_ 32 1#32)
def T_main_call1_v2 (x : Args F) : (⟨S_, .i32⟩ : BufTy).Contents (Elt F) := (select) (T_main_call1_v1 x) (T_main_call1_c_0 x) (T_main_call1_v0 x)
def T_main_call1_v3 (x : Args F) : (⟨S8x5000, .i32⟩ : BufTy).Contents (Elt F) := ((broadcastInDim S8x5000 ![] bcast_S_S8x5000)) (T_main_call1_v2 x)
def T_main_call1_v4 (x : Args F) : (⟨S8x5000, .i32⟩ : BufTy).Contents (Elt F) := (Host.remsi) (T_main_indices x) (T_main_call1_v3 x)
def T_main_call1_c_1 (x : Args F) : (⟨S_, .i32⟩ : BufTy).Contents (Elt F) := (constantI S_ 32 0#32)
def T_main_call1_v5 (x : Args F) : (⟨S8x5000, .i32⟩ : BufTy).Contents (Elt F) := ((broadcastInDim S8x5000 ![] bcast_S_S8x5000)) (T_main_call1_c_1 x)
def T_main_call1_v6 (x : Args F) : (⟨S8x5000, .i1⟩ : BufTy).Contents (Elt F) := ((cmpi .ne)) (T_main_call1_v4 x) (T_main_call1_v5 x)
def T_main_call1_c_2 (x : Args F) : (⟨S_, .i32⟩ : BufTy).Contents (Elt F) := (constantI S_ 32 0#32)
def T_main_call1_v7 (x : Args F) : (⟨S8x5000, .i32⟩ : BufTy).Contents (Elt F) := ((broadcastInDim S8x5000 ![] bcast_S_S8x5000)) (T_main_call1_c_2 x)
def T_main_call1_v8 (x : Args F) : (⟨S8x5000, .i1⟩ : BufTy).Contents (Elt F) := ((cmpi .slt)) (T_main_call1_v4 x) (T_main_call1_v7 x)
def T_main_call1_c_3 (x : Args F) : (⟨S_, .i32⟩ : BufTy).Contents (Elt F) := (constantI S_ 32 0#32)
def T_main_call1_v9 (x : Args F) : (⟨S_, .i1⟩ : BufTy).Contents (Elt F) := ((cmpi .slt)) (T_main_call1_v2 x) (T_main_call1_c_3 x)
def T_main_call1_v10 (x : Args F) : (⟨S8x5000, .i1⟩ : BufTy).Contents (Elt F) := ((broadcastInDim S8x5000 ![] bcast_S_S8x5000)) (T_main_call1_v9 x)
def T_main_call1_v11 (x : Args F) : (⟨S8x5000, .i1⟩ : BufTy).Contents (Elt F) := ((cmpi .ne)) (T_main_call1_v8 x) (T_main_call1_v10 x)
def T_main_call1_v12 (x : Args F) : (⟨S8x5000, .i1⟩ : BufTy).Contents (Elt F) := (andi) (T_main_call1_v11 x) (T_main_call1_v6 x)
def T_main_call1_v13 (x : Args F) : (⟨S8x5000, .i32⟩ : BufTy).Contents (Elt F) := ((broadcastInDim S8x5000 ![] bcast_S_S8x5000)) (T_main_call1_v2 x)
def T_main_call1_v14 (x : Args F) : (⟨S8x5000, .i32⟩ : BufTy).Contents (Elt F) := (addi) (T_main_call1_v4 x) (T_main_call1_v13 x)
def T_main_v24 (x : Args F) : (⟨S8x5000, .i32⟩ : BufTy).Contents (Elt F) := (select) (T_main_call1_v12 x) (T_main_call1_v14 x) (T_main_call1_v4 x)
def T_main_v25 (x : Args F) : (⟨S8x5000x1, .i32⟩ : BufTy).Contents (Elt F) := ((broadcastInDim S8x5000x1 ![0, 1] bcast_S8x5000_S8x5000x1_0_1 : (⟨S8x5000, .i32⟩ : BufTy).Contents (Elt F) → (⟨S8x5000x1, .i32⟩ : BufTy).Contents (Elt F))) (T_main_v23 x)
def T_main_call2_c (x : Args F) : (⟨S_, .i32⟩ : BufTy).Contents (Elt F) := (constantI S_ 32 0#32)
def T_main_call2_v0 (x : Args F) : (⟨S8x5000x1, .i32⟩ : BufTy).Contents (Elt F) := ((broadcastInDim S8x5000x1 ![] bcast_S_S8x5000x1)) (T_main_call2_c x)
def T_main_call2_v1 (x : Args F) : (⟨S8x5000x1, .i1⟩ : BufTy).Contents (Elt F) := ((cmpi .slt)) (T_main_v25 x) (T_main_call2_v0 x)
def T_main_call2_c_0 (x : Args F) : (⟨S_, .i32⟩ : BufTy).Contents (Elt F) := (constantI S_ 32 49104#32)
def T_main_call2_v2 (x : Args F) : (⟨S8x5000x1, .i32⟩ : BufTy).Contents (Elt F) := ((broadcastInDim S8x5000x1 ![] bcast_S_S8x5000x1)) (T_main_call2_c_0 x)
def T_main_call2_v3 (x : Args F) : (⟨S8x5000x1, .i32⟩ : BufTy).Contents (Elt F) := (addi) (T_main_v25 x) (T_main_call2_v2 x)
def T_main_call2_v4 (x : Args F) : (⟨S8x5000x1, .i32⟩ : BufTy).Contents (Elt F) := (select) (T_main_call2_v1 x) (T_main_call2_v3 x) (T_main_v25 x)
def T_main_call2_c_1 (x : Args F) : (⟨S1, .i32⟩ : BufTy).Contents (Elt F) := (constantI S1 32 49103#32)
def T_main_call2_c_2 (x : Args F) : (⟨S_, .i32⟩ : BufTy).Contents (Elt F) := (constantI S_ 32 0#32)
def T_main_call2_v5 (x : Args F) : (⟨S8x5000x1, .i32⟩ : BufTy).Contents (Elt F) := ((broadcastInDim S8x5000x1 ![] bcast_S_S8x5000x1)) (T_main_call2_c_2 x)
def T_main_call2_v6 (x : Args F) : (⟨S8x5000x1, .i1⟩ : BufTy).Contents (Elt F) := ((cmpi .sge)) (T_main_call2_v4 x) (T_main_call2_v5 x)
def T_main_call2_v7 (x : Args F) : (⟨S1x1x1, .i32⟩ : BufTy).Contents (Elt F) := ((broadcastInDim S1x1x1 ![2] bcast_S1_S1x1x1_2)) (T_main_call2_c_1 x)
def T_main_call2_v8 (x : Args F) : (⟨S8x5000x1, .i32⟩ : BufTy).Contents (Elt F) := ((broadcastInDim S8x5000x1 ![0, 1, 2] bcast_S1x1x1_S8x5000x1_0_1_2)) (T_main_call2_v7 x)
def T_main_call2_v9 (x : Args F) : (⟨S8x5000x1, .i1⟩ : BufTy).Contents (Elt F) := ((cmpi .sle)) (T_main_call2_v4 x) (T_main_call2_v8 x)
def T_main_call2_v10 (x : Args F) : (⟨S8x5000x1, .i1⟩ : BufTy).Contents (Elt F) := (andi) (T_main_call2_v6 x) (T_main_call2_v9 x)
def T_main_call2_c_3 (x : Args F) : (⟨S_, .i1⟩ : BufTy).Contents (Elt F) := (constantI S_ 1 1#1)
def T_main_call2_v11 (x : Args F) : (⟨S8x5000, .i1⟩ : BufTy).Contents (Elt F) := ((fun x v => Host.reduce IntOp.andi x v reducesTo_S8x5000x1_S8x5000_d2 h_S_)) (T_main_call2_v10 x) (T_main_call2_c_3 x)
def T_main_call2_v12 (x : Args F) : (⟨S8x5000x4, .f32⟩ : BufTy).Contents (Elt F) := ((fun x i => Host.gather gather_S8x49104x4_S8x5000x1_S8x5000x4_2_1_0_0_1_2_114 x i)) (T_main_v21 x) (T_main_call2_v4 x)
def T_main_call2_v13 (x : Args F) : (⟨S8x5000x4, .i1⟩ : BufTy).Contents (Elt F) := ((broadcastInDim S8x5000x4 ![0, 1] bcast_S8x5000_S8x5000x4_0_1)) (T_main_call2_v11 x)
def T_main_call2_cst (x : Args F) : (⟨S_, .f32⟩ : BufTy).Contents (Elt F) := (constant S_ .f32 0x7FC00000#32)
def T_main_call2_v14 (x : Args F) : (⟨S8x5000x4, .f32⟩ : BufTy).Contents (Elt F) := ((broadcastInDim S8x5000x4 ![] bcast_S_S8x5000x4)) (T_main_call2_cst x)
def T_main_v26 (x : Args F) : (⟨S8x5000x4, .f32⟩ : BufTy).Contents (Elt F) := (select) (T_main_call2_v13 x) (T_main_call2_v12 x) (T_main_call2_v14 x)
def T_main_call3_c (x : Args F) : (⟨S_, .i32⟩ : BufTy).Contents (Elt F) := (constantI S_ 32 0#32)
def T_main_call3_v0 (x : Args F) : (⟨S8x5000, .i32⟩ : BufTy).Contents (Elt F) := ((broadcastInDim S8x5000 ![] bcast_S_S8x5000)) (T_main_call3_c x)
def T_main_call3_v1 (x : Args F) : (⟨S8x5000, .i1⟩ : BufTy).Contents (Elt F) := ((cmpi .slt)) (T_main_v23 x) (T_main_call3_v0 x)
def T_main_call3_c_0 (x : Args F) : (⟨S_, .i32⟩ : BufTy).Contents (Elt F) := (constantI S_ 32 49104#32)
def T_main_call3_v2 (x : Args F) : (⟨S8x5000, .i32⟩ : BufTy).Contents (Elt F) := ((broadcastInDim S8x5000 ![] bcast_S_S8x5000)) (T_main_call3_c_0 x)
def T_main_call3_v3 (x : Args F) : (⟨S8x5000, .i32⟩ : BufTy).Contents (Elt F) := (addi) (T_main_v23 x) (T_main_call3_v2 x)
def T_main_call3_v4 (x : Args F) : (⟨S8x5000, .i32⟩ : BufTy).Contents (Elt F) := (select) (T_main_call3_v1 x) (T_main_call3_v3 x) (T_main_v23 x)
def T_main_call3_v5 (x : Args F) : (⟨S8x5000x1, .i32⟩ : BufTy).Contents (Elt F) := ((broadcastInDim S8x5000x1 ![0, 1] bcast_S8x5000_S8x5000x1_0_1)) (T_main_call3_v4 x)
def T_main_call3_c_1 (x : Args F) : (⟨S1, .i32⟩ : BufTy).Contents (Elt F) := (constantI S1 32 49103#32)
def T_main_call3_c_2 (x : Args F) : (⟨S_, .i32⟩ : BufTy).Contents (Elt F) := (constantI S_ 32 0#32)
def T_main_call3_v6 (x : Args F) : (⟨S8x5000x1, .i32⟩ : BufTy).Contents (Elt F) := ((broadcastInDim S8x5000x1 ![] bcast_S_S8x5000x1)) (T_main_call3_c_2 x)
def T_main_call3_v7 (x : Args F) : (⟨S8x5000x1, .i1⟩ : BufTy).Contents (Elt F) := ((cmpi .sge)) (T_main_call3_v5 x) (T_main_call3_v6 x)
def T_main_call3_v8 (x : Args F) : (⟨S1x1x1, .i32⟩ : BufTy).Contents (Elt F) := ((broadcastInDim S1x1x1 ![2] bcast_S1_S1x1x1_2)) (T_main_call3_c_1 x)
def T_main_call3_v9 (x : Args F) : (⟨S8x5000x1, .i32⟩ : BufTy).Contents (Elt F) := ((broadcastInDim S8x5000x1 ![0, 1, 2] bcast_S1x1x1_S8x5000x1_0_1_2)) (T_main_call3_v8 x)
def T_main_call3_v10 (x : Args F) : (⟨S8x5000x1, .i1⟩ : BufTy).Contents (Elt F) := ((cmpi .sle)) (T_main_call3_v5 x) (T_main_call3_v9 x)
def T_main_call3_v11 (x : Args F) : (⟨S8x5000x1, .i1⟩ : BufTy).Contents (Elt F) := (andi) (T_main_call3_v7 x) (T_main_call3_v10 x)
def T_main_call3_c_3 (x : Args F) : (⟨S_, .i1⟩ : BufTy).Contents (Elt F) := (constantI S_ 1 1#1)
def T_main_call3_v12 (x : Args F) : (⟨S8x5000, .i1⟩ : BufTy).Contents (Elt F) := ((fun x v => Host.reduce IntOp.andi x v reducesTo_S8x5000x1_S8x5000_d2 h_S_)) (T_main_call3_v11 x) (T_main_call3_c_3 x)
def T_main_call3_v13 (x : Args F) : (⟨S8x5000x4, .f32⟩ : BufTy).Contents (Elt F) := ((fun x i => Host.gather gather_S49104x4_S8x5000x1_S8x5000x4_2_0_n_n_0_2_14 x i)) x.main_arg11 (T_main_call3_v5 x)
def T_main_call3_v14 (x : Args F) : (⟨S8x5000x4, .i1⟩ : BufTy).Contents (Elt F) := ((broadcastInDim S8x5000x4 ![0, 1] bcast_S8x5000_S8x5000x4_0_1)) (T_main_call3_v12 x)
def T_main_call3_cst (x : Args F) : (⟨S_, .f32⟩ : BufTy).Contents (Elt F) := (constant S_ .f32 0x7FC00000#32)
def T_main_call3_v15 (x : Args F) : (⟨S8x5000x4, .f32⟩ : BufTy).Contents (Elt F) := ((broadcastInDim S8x5000x4 ![] bcast_S_S8x5000x4)) (T_main_call3_cst x)
def T_main_v27 (x : Args F) : (⟨S8x5000x4, .f32⟩ : BufTy).Contents (Elt F) := (select) (T_main_call3_v14 x) (T_main_call3_v13 x) (T_main_call3_v15 x)
def T_main_cst (x : Args F) : (⟨S_, .f32⟩ : BufTy).Contents (Elt F) := (constant S_ .f32 0xCE6E6B28#32)
def T_main_call4_v0 (x : Args F) : (⟨S_, .f32⟩ : BufTy).Contents (Elt F) := (id) (T_main_cst x)
def T_main_v28 (x : Args F) : (⟨S8x5120, .f32⟩ : BufTy).Contents (Elt F) := ((fun x v => pad S8x5120 ![0, 0] ![0, 120] ![0, 0] x v pads_S8x5000_S8x5120_000_01200 h_S_)) (T_main_values x) (T_main_call4_v0 x)
def T_main_v29 (x : Args F) : (⟨S8x5000, .f32⟩ : BufTy).Contents (Elt F) := ((sitofp .f32 : (⟨S8x5000, .i32⟩ : BufTy).Contents (Elt F) → (⟨S8x5000, .f32⟩ : BufTy).Contents (Elt F))) (T_main_v24 x)
def T_main_c_1 (x : Args F) : (⟨S_, .i32⟩ : BufTy).Contents (Elt F) := (constantI S_ 32 0#32)
def T_main_call5_v0 (x : Args F) : (⟨S_, .f32⟩ : BufTy).Contents (Elt F) := ((sitofp .f32)) (T_main_c_1 x)
def T_main_v30 (x : Args F) : (⟨S8x5120, .f32⟩ : BufTy).Contents (Elt F) := ((fun x v => pad S8x5120 ![0, 0] ![0, 120] ![0, 0] x v pads_S8x5000_S8x5120_000_01200 h_S_)) (T_main_v29 x) (T_main_call5_v0 x)
def T_main_c_2 (x : Args F) : (⟨S_, .i32⟩ : BufTy).Contents (Elt F) := (constantI S_ 32 0#32)
def T_main_call6_v0 (x : Args F) : (⟨S_, .f32⟩ : BufTy).Contents (Elt F) := ((sitofp .f32)) (T_main_c_2 x)
def T_main_v31 (x : Args F) : (⟨S8x5120x4, .f32⟩ : BufTy).Contents (Elt F) := ((fun x v => pad S8x5120x4 ![0, 0, 0] ![0, 120, 0] ![0, 0, 0] x v pads_S8x5000x4_S8x5120x4_000_01200_000 h_S_)) (T_main_v26 x) (T_main_call6_v0 x)
def T_main_v32 (x : Args F) : (⟨S8x4x5120, .f32⟩ : BufTy).Contents (Elt F) := (((transpose S8x4x5120 [0, 2, 1] · transposes_S8x5120x4_S8x4x5120_0_2_1) : (⟨S8x5120x4, .f32⟩ : BufTy).Contents (Elt F) → (⟨S8x4x5120, .f32⟩ : BufTy).Contents (Elt F))) (T_main_v31 x)
def T_main_c_3 (x : Args F) : (⟨S_, .i32⟩ : BufTy).Contents (Elt F) := (constantI S_ 32 0#32)
def T_main_call7_v0 (x : Args F) : (⟨S_, .f32⟩ : BufTy).Contents (Elt F) := ((sitofp .f32)) (T_main_c_3 x)
def T_main_v33 (x : Args F) : (⟨S8x5120x4, .f32⟩ : BufTy).Contents (Elt F) := ((fun x v => pad S8x5120x4 ![0, 0, 0] ![0, 120, 0] ![0, 0, 0] x v pads_S8x5000x4_S8x5120x4_000_01200_000 h_S_)) (T_main_v27 x) (T_main_call7_v0 x)
def T_main_v34 (x : Args F) : (⟨S8x4x5120, .f32⟩ : BufTy).Contents (Elt F) := (((transpose S8x4x5120 [0, 2, 1] · transposes_S8x5120x4_S8x4x5120_0_2_1) : (⟨S8x5120x4, .f32⟩ : BufTy).Contents (Elt F) → (⟨S8x4x5120, .f32⟩ : BufTy).Contents (Elt F))) (T_main_v33 x)
def T_main_v35 (x : Args F) : (⟨S8x1, .f32⟩ : BufTy).Contents (Elt F) := (shapeCast _ x.main_arg10 shapeCasts_S8_S8x1)

variable (V : Valuation τ sig (Elt F))

/-- The arguments that a valuation holds. -/
def held : Args F where
  main_arg0 := V (Proc.devRef .tc main_arg0)
  main_arg1 := V (Proc.devRef .tc main_arg1)
  main_arg2 := V (Proc.devRef .tc main_arg2)
  main_arg3 := V (Proc.devRef .tc main_arg3)
  main_arg4 := V (Proc.devRef .tc main_arg4)
  main_arg5 := V (Proc.devRef .tc main_arg5)
  main_arg6 := V (Proc.devRef .tc main_arg6)
  main_arg7 := V (Proc.devRef .tc main_arg7)
  main_arg8 := V (Proc.devRef .tc main_arg8)
  main_arg9 := V (Proc.devRef .tc main_arg9)
  main_arg10 := V (Proc.devRef .tc main_arg10)
  main_arg11 := V (Proc.devRef .tc main_arg11)

/-! The contents after each stretch. -/

def v0 : Valuation τ sig (Elt F) := after hostOps0 V
abbrev W0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_values, main_indices, main_c]
theorem writes0 : (hostOps0 : List (HloOp τ sig (Elt F))).Forall fun op => op.writes ⊆ (W0.map (Proc.devRef (τ := τ) .tc)).toFinset :=
  forall_writes_sub_of_map rfl
def v1 : Valuation τ sig (Elt F) := after hostOps0_1 (v0 V)
abbrev W1 : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v23]
theorem writes1 : (hostOps0_1 : List (HloOp τ sig (Elt F))).Forall fun op => op.writes ⊆ (W1.map (Proc.devRef (τ := τ) .tc)).toFinset :=
  forall_writes_sub_of_map rfl
def v2 : Valuation τ sig (Elt F) := after hostOps0_2 (v1 V)
abbrev W2 : List (Ref sig .tc) := [main_c_0]
theorem writes2 : (hostOps0_2 : List (HloOp τ sig (Elt F))).Forall fun op => op.writes ⊆ (W2.map (Proc.devRef (τ := τ) .tc)).toFinset :=
  forall_writes_sub_of_map rfl
def v3 : Valuation τ sig (Elt F) := after hostOps0_3 (v2 V)
abbrev W3 : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v24]
theorem writes3 : (hostOps0_3 : List (HloOp τ sig (Elt F))).Forall fun op => op.writes ⊆ (W3.map (Proc.devRef (τ := τ) .tc)).toFinset :=
  forall_writes_sub_of_map rfl
def v4 : Valuation τ sig (Elt F) := after hostOps0_4 (v3 V)
abbrev W4 : List (Ref sig .tc) := [main_v25]
theorem writes4 : (hostOps0_4 : List (HloOp τ sig (Elt F))).Forall fun op => op.writes ⊆ (W4.map (Proc.devRef (τ := τ) .tc)).toFinset :=
  forall_writes_sub_of_map rfl
def v5 : Valuation τ sig (Elt F) := after hostOps0_5 (v4 V)
abbrev W5 : List (Ref sig .tc) := [main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v26]
theorem writes5 : (hostOps0_5 : List (HloOp τ sig (Elt F))).Forall fun op => op.writes ⊆ (W5.map (Proc.devRef (τ := τ) .tc)).toFinset :=
  forall_writes_sub_of_map rfl
def v6 : Valuation τ sig (Elt F) := after hostOps0_6 (v5 V)
abbrev W6 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v27]
theorem writes6 : (hostOps0_6 : List (HloOp τ sig (Elt F))).Forall fun op => op.writes ⊆ (W6.map (Proc.devRef (τ := τ) .tc)).toFinset :=
  forall_writes_sub_of_map rfl
def v7 : Valuation τ sig (Elt F) := after hostOps0_7 (v6 V)
abbrev W7 : List (Ref sig .tc) := [main_cst]
theorem writes7 : (hostOps0_7 : List (HloOp τ sig (Elt F))).Forall fun op => op.writes ⊆ (W7.map (Proc.devRef (τ := τ) .tc)).toFinset :=
  forall_writes_sub_of_map rfl
def v8 : Valuation τ sig (Elt F) := after hostOps0_8 (v7 V)
abbrev W8 : List (Ref sig .tc) := [main_call4_v0, main_v28]
theorem writes8 : (hostOps0_8 : List (HloOp τ sig (Elt F))).Forall fun op => op.writes ⊆ (W8.map (Proc.devRef (τ := τ) .tc)).toFinset :=
  forall_writes_sub_of_map rfl
def v9 : Valuation τ sig (Elt F) := after hostOps0_9 (v8 V)
abbrev W9 : List (Ref sig .tc) := [main_v29, main_c_1]
theorem writes9 : (hostOps0_9 : List (HloOp τ sig (Elt F))).Forall fun op => op.writes ⊆ (W9.map (Proc.devRef (τ := τ) .tc)).toFinset :=
  forall_writes_sub_of_map rfl
def v10 : Valuation τ sig (Elt F) := after hostOps0_10 (v9 V)
abbrev W10 : List (Ref sig .tc) := [main_call5_v0, main_v30]
theorem writes10 : (hostOps0_10 : List (HloOp τ sig (Elt F))).Forall fun op => op.writes ⊆ (W10.map (Proc.devRef (τ := τ) .tc)).toFinset :=
  forall_writes_sub_of_map rfl
def v11 : Valuation τ sig (Elt F) := after hostOps0_11 (v10 V)
abbrev W11 : List (Ref sig .tc) := [main_c_2]
theorem writes11 : (hostOps0_11 : List (HloOp τ sig (Elt F))).Forall fun op => op.writes ⊆ (W11.map (Proc.devRef (τ := τ) .tc)).toFinset :=
  forall_writes_sub_of_map rfl
def v12 : Valuation τ sig (Elt F) := after hostOps0_12 (v11 V)
abbrev W12 : List (Ref sig .tc) := [main_call6_v0, main_v31]
theorem writes12 : (hostOps0_12 : List (HloOp τ sig (Elt F))).Forall fun op => op.writes ⊆ (W12.map (Proc.devRef (τ := τ) .tc)).toFinset :=
  forall_writes_sub_of_map rfl
def v13 : Valuation τ sig (Elt F) := after hostOps0_13 (v12 V)
abbrev W13 : List (Ref sig .tc) := [main_v32, main_c_3]
theorem writes13 : (hostOps0_13 : List (HloOp τ sig (Elt F))).Forall fun op => op.writes ⊆ (W13.map (Proc.devRef (τ := τ) .tc)).toFinset :=
  forall_writes_sub_of_map rfl
def v14 : Valuation τ sig (Elt F) := after hostOps0_14 (v13 V)
abbrev W14 : List (Ref sig .tc) := [main_call7_v0, main_v33]
theorem writes14 : (hostOps0_14 : List (HloOp τ sig (Elt F))).Forall fun op => op.writes ⊆ (W14.map (Proc.devRef (τ := τ) .tc)).toFinset :=
  forall_writes_sub_of_map rfl
def v15 : Valuation τ sig (Elt F) := after hostOps0_15 (v14 V)
abbrev W15 : List (Ref sig .tc) := [main_v34, main_v35]
theorem writes15 : (hostOps0_15 : List (HloOp τ sig (Elt F))).Forall fun op => op.writes ⊆ (W15.map (Proc.devRef (τ := τ) .tc)).toFinset :=
  forall_writes_sub_of_map rfl

theorem after_prefix : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V = v15 V := (afterL_eq_after_flatten _ V).symm

theorem e0_main_c : v0 V (no_index (Proc.devRef .tc main_c)) = T_main_c (held V) := by
  unfold v0
  after_reads_simp
  try simp only [TRef.ofBuf_toBuf]
  try simp -implicitDefEqProofs only [TRef.ofBuf, TRef.toBuf, cast_eq]
  rfl
theorem e0_main_indices : v0 V (no_index (Proc.devRef .tc main_indices)) = T_main_indices (held V) := by
  unfold v0
  after_reads_simp
  try simp only [TRef.ofBuf_toBuf]
  try simp -implicitDefEqProofs only [TRef.ofBuf, TRef.toBuf, cast_eq]
  rfl
theorem e0_main_v21 : v0 V (no_index (Proc.devRef .tc main_v21)) = T_main_v21 (held V) := by
  unfold v0
  after_reads_simp
  try simp only [TRef.ofBuf_toBuf]
  try simp -implicitDefEqProofs only [TRef.ofBuf, TRef.toBuf, cast_eq]
  rfl
theorem e0_main_arg11 : v0 V (no_index (Proc.devRef .tc main_arg11)) = (held V).main_arg11 := (after_of_writes_sub hostOps0 _ writes0 (by decide +kernel)).trans (rfl)
theorem e0_main_values : v0 V (no_index (Proc.devRef .tc main_values)) = T_main_values (held V) := by
  unfold v0
  after_reads_simp
  try simp only [TRef.ofBuf_toBuf]
  try simp -implicitDefEqProofs only [TRef.ofBuf, TRef.toBuf, cast_eq]
  rfl
theorem e0_main_arg10 : v0 V (no_index (Proc.devRef .tc main_arg10)) = (held V).main_arg10 := (after_of_writes_sub hostOps0 _ writes0 (by decide +kernel)).trans (rfl)
theorem e1_main_indices : v1 V (no_index (Proc.devRef .tc main_indices)) = T_main_indices (held V) := (after_of_writes_sub hostOps0_1 _ writes1 (by decide +kernel)).trans (e0_main_indices V)
theorem e1_main_v23 : v1 V (no_index (Proc.devRef .tc main_v23)) = T_main_v23 (held V) := by
  unfold v1
  after_reads_simp
  try simp only [e0_main_c, e0_main_indices]
  try simp only [TRef.ofBuf_toBuf]
  try simp -implicitDefEqProofs only [TRef.ofBuf, TRef.toBuf, cast_eq]
  rfl
theorem e1_main_v21 : v1 V (no_index (Proc.devRef .tc main_v21)) = T_main_v21 (held V) := (after_of_writes_sub hostOps0_1 _ writes1 (by decide +kernel)).trans (e0_main_v21 V)
theorem e1_main_arg11 : v1 V (no_index (Proc.devRef .tc main_arg11)) = (held V).main_arg11 := (after_of_writes_sub hostOps0_1 _ writes1 (by decide +kernel)).trans (e0_main_arg11 V)
theorem e1_main_values : v1 V (no_index (Proc.devRef .tc main_values)) = T_main_values (held V) := (after_of_writes_sub hostOps0_1 _ writes1 (by decide +kernel)).trans (e0_main_values V)
theorem e1_main_arg10 : v1 V (no_index (Proc.devRef .tc main_arg10)) = (held V).main_arg10 := (after_of_writes_sub hostOps0_1 _ writes1 (by decide +kernel)).trans (e0_main_arg10 V)
theorem e2_main_indices : v2 V (no_index (Proc.devRef .tc main_indices)) = T_main_indices (held V) := (after_of_writes_sub hostOps0_2 _ writes2 (by decide +kernel)).trans (e1_main_indices V)
theorem e2_main_c_0 : v2 V (no_index (Proc.devRef .tc main_c_0)) = T_main_c_0 (held V) := by
  unfold v2
  after_reads_simp
  try simp only [TRef.ofBuf_toBuf]
  try simp -implicitDefEqProofs only [TRef.ofBuf, TRef.toBuf, cast_eq]
  rfl
theorem e2_main_v23 : v2 V (no_index (Proc.devRef .tc main_v23)) = T_main_v23 (held V) := (after_of_writes_sub hostOps0_2 _ writes2 (by decide +kernel)).trans (e1_main_v23 V)
theorem e2_main_v21 : v2 V (no_index (Proc.devRef .tc main_v21)) = T_main_v21 (held V) := (after_of_writes_sub hostOps0_2 _ writes2 (by decide +kernel)).trans (e1_main_v21 V)
theorem e2_main_arg11 : v2 V (no_index (Proc.devRef .tc main_arg11)) = (held V).main_arg11 := (after_of_writes_sub hostOps0_2 _ writes2 (by decide +kernel)).trans (e1_main_arg11 V)
theorem e2_main_values : v2 V (no_index (Proc.devRef .tc main_values)) = T_main_values (held V) := (after_of_writes_sub hostOps0_2 _ writes2 (by decide +kernel)).trans (e1_main_values V)
theorem e2_main_arg10 : v2 V (no_index (Proc.devRef .tc main_arg10)) = (held V).main_arg10 := (after_of_writes_sub hostOps0_2 _ writes2 (by decide +kernel)).trans (e1_main_arg10 V)
theorem e3_main_v23 : v3 V (no_index (Proc.devRef .tc main_v23)) = T_main_v23 (held V) := (after_of_writes_sub hostOps0_3 _ writes3 (by decide +kernel)).trans (e2_main_v23 V)
theorem e3_main_v21 : v3 V (no_index (Proc.devRef .tc main_v21)) = T_main_v21 (held V) := (after_of_writes_sub hostOps0_3 _ writes3 (by decide +kernel)).trans (e2_main_v21 V)
theorem e3_main_arg11 : v3 V (no_index (Proc.devRef .tc main_arg11)) = (held V).main_arg11 := (after_of_writes_sub hostOps0_3 _ writes3 (by decide +kernel)).trans (e2_main_arg11 V)
theorem e3_main_values : v3 V (no_index (Proc.devRef .tc main_values)) = T_main_values (held V) := (after_of_writes_sub hostOps0_3 _ writes3 (by decide +kernel)).trans (e2_main_values V)
theorem e3_main_v24 : v3 V (no_index (Proc.devRef .tc main_v24)) = T_main_v24 (held V) := by
  unfold v3
  after_reads_simp
  try simp only [e2_main_c_0, e2_main_indices]
  try simp only [TRef.ofBuf_toBuf]
  try simp -implicitDefEqProofs only [TRef.ofBuf, TRef.toBuf, cast_eq]
  rfl
theorem e3_main_arg10 : v3 V (no_index (Proc.devRef .tc main_arg10)) = (held V).main_arg10 := (after_of_writes_sub hostOps0_3 _ writes3 (by decide +kernel)).trans (e2_main_arg10 V)
theorem e4_main_v23 : v4 V (no_index (Proc.devRef .tc main_v23)) = T_main_v23 (held V) := (after_of_writes_sub hostOps0_4 _ writes4 (by decide +kernel)).trans (e3_main_v23 V)
theorem e4_main_v25 : v4 V (no_index (Proc.devRef .tc main_v25)) = T_main_v25 (held V) := by
  unfold v4
  after_reads_simp
  try simp only [e3_main_v23]
  try simp only [TRef.ofBuf_toBuf]
  try simp -implicitDefEqProofs only [TRef.ofBuf, TRef.toBuf, cast_eq]
  rfl
theorem e4_main_v21 : v4 V (no_index (Proc.devRef .tc main_v21)) = T_main_v21 (held V) := (after_of_writes_sub hostOps0_4 _ writes4 (by decide +kernel)).trans (e3_main_v21 V)
theorem e4_main_arg11 : v4 V (no_index (Proc.devRef .tc main_arg11)) = (held V).main_arg11 := (after_of_writes_sub hostOps0_4 _ writes4 (by decide +kernel)).trans (e3_main_arg11 V)
theorem e4_main_values : v4 V (no_index (Proc.devRef .tc main_values)) = T_main_values (held V) := (after_of_writes_sub hostOps0_4 _ writes4 (by decide +kernel)).trans (e3_main_values V)
theorem e4_main_v24 : v4 V (no_index (Proc.devRef .tc main_v24)) = T_main_v24 (held V) := (after_of_writes_sub hostOps0_4 _ writes4 (by decide +kernel)).trans (e3_main_v24 V)
theorem e4_main_arg10 : v4 V (no_index (Proc.devRef .tc main_arg10)) = (held V).main_arg10 := (after_of_writes_sub hostOps0_4 _ writes4 (by decide +kernel)).trans (e3_main_arg10 V)
theorem e5_main_v23 : v5 V (no_index (Proc.devRef .tc main_v23)) = T_main_v23 (held V) := (after_of_writes_sub hostOps0_5 _ writes5 (by decide +kernel)).trans (e4_main_v23 V)
theorem e5_main_arg11 : v5 V (no_index (Proc.devRef .tc main_arg11)) = (held V).main_arg11 := (after_of_writes_sub hostOps0_5 _ writes5 (by decide +kernel)).trans (e4_main_arg11 V)
theorem e5_main_values : v5 V (no_index (Proc.devRef .tc main_values)) = T_main_values (held V) := (after_of_writes_sub hostOps0_5 _ writes5 (by decide +kernel)).trans (e4_main_values V)
theorem e5_main_v24 : v5 V (no_index (Proc.devRef .tc main_v24)) = T_main_v24 (held V) := (after_of_writes_sub hostOps0_5 _ writes5 (by decide +kernel)).trans (e4_main_v24 V)
theorem e5_main_v26 : v5 V (no_index (Proc.devRef .tc main_v26)) = T_main_v26 (held V) := by
  unfold v5
  after_reads_simp
  try simp only [e4_main_v25, e4_main_v21]
  try simp only [TRef.ofBuf_toBuf]
  try simp -implicitDefEqProofs only [TRef.ofBuf, TRef.toBuf, cast_eq]
  rfl
theorem e5_main_arg10 : v5 V (no_index (Proc.devRef .tc main_arg10)) = (held V).main_arg10 := (after_of_writes_sub hostOps0_5 _ writes5 (by decide +kernel)).trans (e4_main_arg10 V)
theorem e6_main_values : v6 V (no_index (Proc.devRef .tc main_values)) = T_main_values (held V) := (after_of_writes_sub hostOps0_6 _ writes6 (by decide +kernel)).trans (e5_main_values V)
theorem e6_main_v24 : v6 V (no_index (Proc.devRef .tc main_v24)) = T_main_v24 (held V) := (after_of_writes_sub hostOps0_6 _ writes6 (by decide +kernel)).trans (e5_main_v24 V)
theorem e6_main_v26 : v6 V (no_index (Proc.devRef .tc main_v26)) = T_main_v26 (held V) := (after_of_writes_sub hostOps0_6 _ writes6 (by decide +kernel)).trans (e5_main_v26 V)
theorem e6_main_v27 : v6 V (no_index (Proc.devRef .tc main_v27)) = T_main_v27 (held V) := by
  unfold v6
  after_reads_simp
  try simp only [e5_main_v23, e5_main_arg11]
  try simp only [TRef.ofBuf_toBuf]
  try simp -implicitDefEqProofs only [TRef.ofBuf, TRef.toBuf, cast_eq]
  rfl
theorem e6_main_arg10 : v6 V (no_index (Proc.devRef .tc main_arg10)) = (held V).main_arg10 := (after_of_writes_sub hostOps0_6 _ writes6 (by decide +kernel)).trans (e5_main_arg10 V)
theorem e7_main_cst : v7 V (no_index (Proc.devRef .tc main_cst)) = T_main_cst (held V) := by
  unfold v7
  after_reads_simp
  try simp only [TRef.ofBuf_toBuf]
  try simp -implicitDefEqProofs only [TRef.ofBuf, TRef.toBuf, cast_eq]
  rfl
theorem e7_main_values : v7 V (no_index (Proc.devRef .tc main_values)) = T_main_values (held V) := (after_of_writes_sub hostOps0_7 _ writes7 (by decide +kernel)).trans (e6_main_values V)
theorem e7_main_v24 : v7 V (no_index (Proc.devRef .tc main_v24)) = T_main_v24 (held V) := (after_of_writes_sub hostOps0_7 _ writes7 (by decide +kernel)).trans (e6_main_v24 V)
theorem e7_main_v26 : v7 V (no_index (Proc.devRef .tc main_v26)) = T_main_v26 (held V) := (after_of_writes_sub hostOps0_7 _ writes7 (by decide +kernel)).trans (e6_main_v26 V)
theorem e7_main_v27 : v7 V (no_index (Proc.devRef .tc main_v27)) = T_main_v27 (held V) := (after_of_writes_sub hostOps0_7 _ writes7 (by decide +kernel)).trans (e6_main_v27 V)
theorem e7_main_arg10 : v7 V (no_index (Proc.devRef .tc main_arg10)) = (held V).main_arg10 := (after_of_writes_sub hostOps0_7 _ writes7 (by decide +kernel)).trans (e6_main_arg10 V)
theorem e8_main_v24 : v8 V (no_index (Proc.devRef .tc main_v24)) = T_main_v24 (held V) := (after_of_writes_sub hostOps0_8 _ writes8 (by decide +kernel)).trans (e7_main_v24 V)
theorem e8_main_v26 : v8 V (no_index (Proc.devRef .tc main_v26)) = T_main_v26 (held V) := (after_of_writes_sub hostOps0_8 _ writes8 (by decide +kernel)).trans (e7_main_v26 V)
theorem e8_main_v27 : v8 V (no_index (Proc.devRef .tc main_v27)) = T_main_v27 (held V) := (after_of_writes_sub hostOps0_8 _ writes8 (by decide +kernel)).trans (e7_main_v27 V)
theorem e8_main_arg10 : v8 V (no_index (Proc.devRef .tc main_arg10)) = (held V).main_arg10 := (after_of_writes_sub hostOps0_8 _ writes8 (by decide +kernel)).trans (e7_main_arg10 V)
theorem e8_main_v28 : v8 V (no_index (Proc.devRef .tc main_v28)) = T_main_v28 (held V) := by
  unfold v8
  after_reads_simp
  try simp only [e7_main_cst, e7_main_values]
  try simp only [TRef.ofBuf_toBuf]
  try simp -implicitDefEqProofs only [TRef.ofBuf, TRef.toBuf, cast_eq]
  rfl
theorem e9_main_c_1 : v9 V (no_index (Proc.devRef .tc main_c_1)) = T_main_c_1 (held V) := by
  unfold v9
  after_reads_simp
  try simp only [e8_main_v24]
  try simp only [TRef.ofBuf_toBuf]
  try simp -implicitDefEqProofs only [TRef.ofBuf, TRef.toBuf, cast_eq]
  rfl
theorem e9_main_v29 : v9 V (no_index (Proc.devRef .tc main_v29)) = T_main_v29 (held V) := by
  unfold v9
  after_reads_simp
  try simp only [e8_main_v24]
  try simp only [TRef.ofBuf_toBuf]
  try simp -implicitDefEqProofs only [TRef.ofBuf, TRef.toBuf, cast_eq]
  rfl
theorem e9_main_v26 : v9 V (no_index (Proc.devRef .tc main_v26)) = T_main_v26 (held V) := (after_of_writes_sub hostOps0_9 _ writes9 (by decide +kernel)).trans (e8_main_v26 V)
theorem e9_main_v27 : v9 V (no_index (Proc.devRef .tc main_v27)) = T_main_v27 (held V) := (after_of_writes_sub hostOps0_9 _ writes9 (by decide +kernel)).trans (e8_main_v27 V)
theorem e9_main_arg10 : v9 V (no_index (Proc.devRef .tc main_arg10)) = (held V).main_arg10 := (after_of_writes_sub hostOps0_9 _ writes9 (by decide +kernel)).trans (e8_main_arg10 V)
theorem e9_main_v28 : v9 V (no_index (Proc.devRef .tc main_v28)) = T_main_v28 (held V) := (after_of_writes_sub hostOps0_9 _ writes9 (by decide +kernel)).trans (e8_main_v28 V)
theorem e10_main_v26 : v10 V (no_index (Proc.devRef .tc main_v26)) = T_main_v26 (held V) := (after_of_writes_sub hostOps0_10 _ writes10 (by decide +kernel)).trans (e9_main_v26 V)
theorem e10_main_v27 : v10 V (no_index (Proc.devRef .tc main_v27)) = T_main_v27 (held V) := (after_of_writes_sub hostOps0_10 _ writes10 (by decide +kernel)).trans (e9_main_v27 V)
theorem e10_main_arg10 : v10 V (no_index (Proc.devRef .tc main_arg10)) = (held V).main_arg10 := (after_of_writes_sub hostOps0_10 _ writes10 (by decide +kernel)).trans (e9_main_arg10 V)
theorem e10_main_v28 : v10 V (no_index (Proc.devRef .tc main_v28)) = T_main_v28 (held V) := (after_of_writes_sub hostOps0_10 _ writes10 (by decide +kernel)).trans (e9_main_v28 V)
theorem e10_main_v30 : v10 V (no_index (Proc.devRef .tc main_v30)) = T_main_v30 (held V) := by
  unfold v10
  after_reads_simp
  try simp only [e9_main_c_1, e9_main_v29]
  try simp only [TRef.ofBuf_toBuf]
  try simp -implicitDefEqProofs only [TRef.ofBuf, TRef.toBuf, cast_eq]
  rfl
theorem e11_main_c_2 : v11 V (no_index (Proc.devRef .tc main_c_2)) = T_main_c_2 (held V) := by
  unfold v11
  after_reads_simp
  try simp only [TRef.ofBuf_toBuf]
  try simp -implicitDefEqProofs only [TRef.ofBuf, TRef.toBuf, cast_eq]
  rfl
theorem e11_main_v26 : v11 V (no_index (Proc.devRef .tc main_v26)) = T_main_v26 (held V) := (after_of_writes_sub hostOps0_11 _ writes11 (by decide +kernel)).trans (e10_main_v26 V)
theorem e11_main_v27 : v11 V (no_index (Proc.devRef .tc main_v27)) = T_main_v27 (held V) := (after_of_writes_sub hostOps0_11 _ writes11 (by decide +kernel)).trans (e10_main_v27 V)
theorem e11_main_arg10 : v11 V (no_index (Proc.devRef .tc main_arg10)) = (held V).main_arg10 := (after_of_writes_sub hostOps0_11 _ writes11 (by decide +kernel)).trans (e10_main_arg10 V)
theorem e11_main_v28 : v11 V (no_index (Proc.devRef .tc main_v28)) = T_main_v28 (held V) := (after_of_writes_sub hostOps0_11 _ writes11 (by decide +kernel)).trans (e10_main_v28 V)
theorem e11_main_v30 : v11 V (no_index (Proc.devRef .tc main_v30)) = T_main_v30 (held V) := (after_of_writes_sub hostOps0_11 _ writes11 (by decide +kernel)).trans (e10_main_v30 V)
theorem e12_main_v31 : v12 V (no_index (Proc.devRef .tc main_v31)) = T_main_v31 (held V) := by
  unfold v12
  after_reads_simp
  try simp only [e11_main_c_2, e11_main_v26]
  try simp only [TRef.ofBuf_toBuf]
  try simp -implicitDefEqProofs only [TRef.ofBuf, TRef.toBuf, cast_eq]
  rfl
theorem e12_main_v27 : v12 V (no_index (Proc.devRef .tc main_v27)) = T_main_v27 (held V) := (after_of_writes_sub hostOps0_12 _ writes12 (by decide +kernel)).trans (e11_main_v27 V)
theorem e12_main_arg10 : v12 V (no_index (Proc.devRef .tc main_arg10)) = (held V).main_arg10 := (after_of_writes_sub hostOps0_12 _ writes12 (by decide +kernel)).trans (e11_main_arg10 V)
theorem e12_main_v28 : v12 V (no_index (Proc.devRef .tc main_v28)) = T_main_v28 (held V) := (after_of_writes_sub hostOps0_12 _ writes12 (by decide +kernel)).trans (e11_main_v28 V)
theorem e12_main_v30 : v12 V (no_index (Proc.devRef .tc main_v30)) = T_main_v30 (held V) := (after_of_writes_sub hostOps0_12 _ writes12 (by decide +kernel)).trans (e11_main_v30 V)
theorem e13_main_c_3 : v13 V (no_index (Proc.devRef .tc main_c_3)) = T_main_c_3 (held V) := by
  unfold v13
  after_reads_simp
  try simp only [e12_main_v31]
  try simp only [TRef.ofBuf_toBuf]
  try simp -implicitDefEqProofs only [TRef.ofBuf, TRef.toBuf, cast_eq]
  rfl
theorem e13_main_v27 : v13 V (no_index (Proc.devRef .tc main_v27)) = T_main_v27 (held V) := (after_of_writes_sub hostOps0_13 _ writes13 (by decide +kernel)).trans (e12_main_v27 V)
theorem e13_main_arg10 : v13 V (no_index (Proc.devRef .tc main_arg10)) = (held V).main_arg10 := (after_of_writes_sub hostOps0_13 _ writes13 (by decide +kernel)).trans (e12_main_arg10 V)
theorem e13_main_v28 : v13 V (no_index (Proc.devRef .tc main_v28)) = T_main_v28 (held V) := (after_of_writes_sub hostOps0_13 _ writes13 (by decide +kernel)).trans (e12_main_v28 V)
theorem e13_main_v32 : v13 V (no_index (Proc.devRef .tc main_v32)) = T_main_v32 (held V) := by
  unfold v13
  after_reads_simp
  try simp only [e12_main_v31]
  try simp only [TRef.ofBuf_toBuf]
  try simp -implicitDefEqProofs only [TRef.ofBuf, TRef.toBuf, cast_eq]
  rfl
theorem e13_main_v30 : v13 V (no_index (Proc.devRef .tc main_v30)) = T_main_v30 (held V) := (after_of_writes_sub hostOps0_13 _ writes13 (by decide +kernel)).trans (e12_main_v30 V)
theorem e14_main_v33 : v14 V (no_index (Proc.devRef .tc main_v33)) = T_main_v33 (held V) := by
  unfold v14
  after_reads_simp
  try simp only [e13_main_c_3, e13_main_v27]
  try simp only [TRef.ofBuf_toBuf]
  try simp -implicitDefEqProofs only [TRef.ofBuf, TRef.toBuf, cast_eq]
  rfl
theorem e14_main_arg10 : v14 V (no_index (Proc.devRef .tc main_arg10)) = (held V).main_arg10 := (after_of_writes_sub hostOps0_14 _ writes14 (by decide +kernel)).trans (e13_main_arg10 V)
theorem e14_main_v28 : v14 V (no_index (Proc.devRef .tc main_v28)) = T_main_v28 (held V) := (after_of_writes_sub hostOps0_14 _ writes14 (by decide +kernel)).trans (e13_main_v28 V)
theorem e14_main_v32 : v14 V (no_index (Proc.devRef .tc main_v32)) = T_main_v32 (held V) := (after_of_writes_sub hostOps0_14 _ writes14 (by decide +kernel)).trans (e13_main_v32 V)
theorem e14_main_v30 : v14 V (no_index (Proc.devRef .tc main_v30)) = T_main_v30 (held V) := (after_of_writes_sub hostOps0_14 _ writes14 (by decide +kernel)).trans (e13_main_v30 V)
theorem e15_main_v28 : v15 V (no_index (Proc.devRef .tc main_v28)) = T_main_v28 (held V) := (after_of_writes_sub hostOps0_15 _ writes15 (by decide +kernel)).trans (e14_main_v28 V)
theorem e15_main_v32 : v15 V (no_index (Proc.devRef .tc main_v32)) = T_main_v32 (held V) := (after_of_writes_sub hostOps0_15 _ writes15 (by decide +kernel)).trans (e14_main_v32 V)
theorem e15_main_v34 : v15 V (no_index (Proc.devRef .tc main_v34)) = T_main_v34 (held V) := by
  unfold v15
  after_reads_simp
  try simp only [e14_main_v33, e14_main_arg10]
  try simp only [TRef.ofBuf_toBuf]
  try simp -implicitDefEqProofs only [TRef.ofBuf, TRef.toBuf, cast_eq]
  rfl
theorem e15_main_v30 : v15 V (no_index (Proc.devRef .tc main_v30)) = T_main_v30 (held V) := (after_of_writes_sub hostOps0_15 _ writes15 (by decide +kernel)).trans (e14_main_v30 V)
theorem e15_main_v35 : v15 V (no_index (Proc.devRef .tc main_v35)) = T_main_v35 (held V) := by
  unfold v15
  after_reads_simp
  try simp only [e14_main_v33, e14_main_arg10]
  try simp only [TRef.ofBuf_toBuf]
  try simp -implicitDefEqProofs only [TRef.ofBuf, TRef.toBuf, cast_eq]
  rfl

end Cert.Proof.KI

end
-- ==== Proof.Alg1.lean ====
module
public import proofs.«01_k».proof.Proof.KIRun
public import proofs.«01_k».proof.Proof.KIPre
public import proofs.«01_k».proof.Proof.RefPre
public import Idealize.ShloMosaic.Lib.Pointwise
public import Idealize.ShloMosaic.Lib.IdealHost

/-! # The values that the loops of the kernel and of the reference read

At the extended reals. The kernel pads its 5000 rows to 5120 lanes and keeps the four corners of the boxes apart, where the
reference keeps them as the last axis of one array; halves are a product by one half in the kernel and a division by two in the
reference. Lane `j` of the kernel's arrays holds what row `j` of the reference's arrays holds. -/

@[expose] public section
set_option maxRecDepth 16384
set_option maxHeartbeats 1000000
noncomputable section
namespace Cert.Proof.Alg
open Idealize.ShloMosaic Idealize.ShloMosaic.TcCoe
open Cert.KernelIdeal Cert.KernelIdeal.Gen

/-- The values that the kernel's loop reads and does not change, from the arguments. -/
abbrev fx (x : Ref.Args Ideal) : KI.Fixed Ideal := KI.fixed (KI.T_main_v32 x) (KI.T_main_v34 x) (KI.T_main_v30 x) (KI.T_main_v35 x)

/-- The lane of a row. -/
abbrev up (j : Fin 5000) : Fin 5120 := ⟨j.val, by have := j.isLt; omega⟩

/-! The two programs choose the same rows. -/
theorem v24_eq (x : Ref.Args Ideal) : KI.T_main_v24 x = Ref.A_main_v24 x := rfl
theorem v26_eq (x : Ref.Args Ideal) : KI.T_main_v26 x = Ref.A_main_v26 x := rfl
theorem v27_eq (x : Ref.Args Ideal) : KI.T_main_v27 x = Ref.A_main_v32 x := rfl

/-! ## Constants -/

theorem ofBits_two : Ideal.ofBits .f32 1073741824#32 = ((2 : ℝ) : EReal) := by
  simp [Ideal.ofBits, Ideal.ieee, -EReal.coe_mul]; norm_num
theorem ofBits_half : Ideal.ofBits .f32 1056964608#32 = ((1 / 2 : ℝ) : EReal) := by
  simp [Ideal.ofBits, Ideal.ieee, -EReal.coe_mul]; norm_num
theorem ofBits_minus_one : Ideal.ofBits .f32 3212836864#32 = ((-(1 : ℝ)) : EReal) := by
  simp [Ideal.ofBits, Ideal.ieee, -EReal.coe_mul, -EReal.coe_neg]; norm_num

/-- A division by two is a product by one half. -/
theorem div_ofBits_two (a : EReal) : Ideal.div a (Ideal.ofBits .f32 1073741824#32) = a * Ideal.ofBits .f32 1056964608#32 := by
  rw [ofBits_two, ofBits_half, Ideal.div_coe (by norm_num)]

/-! ## The reference's boxes -/

theorem v39_at (x : Ref.Args Ideal) (b : Fin 8) (j : Fin 5000) : Ref.A_main_v39 x (ix2 b j) =
    Ideal.div (Ref.A_main_v32 x (ix3 b j 0) + Ref.A_main_v32 x (ix3 b j 2)) (Ideal.ofBits .f32 1073741824#32) := by
  unfold Ref.A_main_v39 Ref.A_main_v37 Ref.A_main_v36 Ref.A_main_v35 Ref.A_main_v34 Ref.A_main_v33 Ref.K_main_v38 Ref.K_main_cst
  pointwise

theorem v46_at (x : Ref.Args Ideal) (b : Fin 8) (j : Fin 5000) : Ref.A_main_v46 x (ix2 b j) =
    Ideal.div (Ref.A_main_v32 x (ix3 b j 1) + Ref.A_main_v32 x (ix3 b j 3)) (Ideal.ofBits .f32 1073741824#32) := by
  unfold Ref.A_main_v46 Ref.A_main_v44 Ref.A_main_v43 Ref.A_main_v42 Ref.A_main_v41 Ref.A_main_v40 Ref.K_main_v45 Ref.K_main_cst_1
  pointwise

theorem v51_at (x : Ref.Args Ideal) (b : Fin 8) (j : Fin 5000) : Ref.A_main_v51 x (ix2 b j) =
    Ref.A_main_v32 x (ix3 b j 2) - Ref.A_main_v32 x (ix3 b j 0) := by
  unfold Ref.A_main_v51 Ref.A_main_v50 Ref.A_main_v49 Ref.A_main_v48 Ref.A_main_v47
  pointwise

theorem v56_at (x : Ref.Args Ideal) (b : Fin 8) (j : Fin 5000) : Ref.A_main_v56 x (ix2 b j) =
    Ref.A_main_v32 x (ix3 b j 3) - Ref.A_main_v32 x (ix3 b j 1) := by
  unfold Ref.A_main_v56 Ref.A_main_v55 Ref.A_main_v54 Ref.A_main_v53 Ref.A_main_v52
  pointwise

theorem v67_at (x : Ref.Args Ideal) (b : Fin 8) (j : Fin 5000) : Ref.A_main_v67 x (ix2 b j) =
    Ideal.exp (min (Ideal.ofBits .f32 1082130432#32) (max (Ideal.ofBits .f32 3240099840#32) (Ref.A_main_v26 x (ix3 b j 3)))) *
      Ref.A_main_v56 x (ix2 b j) := by
  unfold Ref.A_main_v67 Ref.A_main_v66 Ref.A_main_v65 Ref.A_main_call6_v2 Ref.A_main_v64 Ref.A_main_v63 Ref.K_main_call6_v1 Ref.K_main_call6_v4 Ref.K_main_call6_v0 Ref.K_main_call6_v3 Ref.K_main_cst_2 Ref.K_main_cst_3
  unfold id
  pointwise

theorem v70_at (x : Ref.Args Ideal) (b : Fin 8) (j : Fin 5000) : Ref.A_main_v70 x (ix2 b j) =
    Ideal.exp (min (Ideal.ofBits .f32 1082130432#32) (max (Ideal.ofBits .f32 3240099840#32) (Ref.A_main_v26 x (ix3 b j 2)))) *
      Ref.A_main_v51 x (ix2 b j) := by
  unfold Ref.A_main_v70 Ref.A_main_v69 Ref.A_main_v68 Ref.A_main_call7_v2 Ref.A_main_v62 Ref.A_main_v61 Ref.K_main_call7_v1 Ref.K_main_call7_v4 Ref.K_main_call7_v0 Ref.K_main_call7_v3 Ref.K_main_cst_4 Ref.K_main_cst_5
  unfold id
  pointwise

theorem v72_at (x : Ref.Args Ideal) (b : Fin 8) (j : Fin 5000) : Ref.A_main_v72 x (ix2 b j) =
    Ref.A_main_v26 x (ix3 b j 0) * Ref.A_main_v51 x (ix2 b j) + Ref.A_main_v39 x (ix2 b j) := by
  unfold Ref.A_main_v72 Ref.A_main_v71 Ref.A_main_v58 Ref.A_main_v57
  pointwise

theorem v74_at (x : Ref.Args Ideal) (b : Fin 8) (j : Fin 5000) : Ref.A_main_v74 x (ix2 b j) =
    Ref.A_main_v26 x (ix3 b j 1) * Ref.A_main_v56 x (ix2 b j) + Ref.A_main_v46 x (ix2 b j) := by
  unfold Ref.A_main_v74 Ref.A_main_v73 Ref.A_main_v60 Ref.A_main_v59
  pointwise

theorem v91_at0 (x : Ref.Args Ideal) (b : Fin 8) (j : Fin 5000) : Ref.A_main_v91 x (ix3 b j 0) =
    Ref.A_main_v72 x (ix2 b j) - Ideal.div (Ref.A_main_v70 x (ix2 b j)) (Ideal.ofBits .f32 1073741824#32) := by
  unfold Ref.A_main_v91 Ref.A_main_v87 Ref.A_main_v77 Ref.A_main_v76 Ref.K_main_v75 Ref.K_main_cst_6
  pointwise

theorem v91_at1 (x : Ref.Args Ideal) (b : Fin 8) (j : Fin 5000) : Ref.A_main_v91 x (ix3 b j 1) =
    Ref.A_main_v74 x (ix2 b j) - Ideal.div (Ref.A_main_v67 x (ix2 b j)) (Ideal.ofBits .f32 1073741824#32) := by
  unfold Ref.A_main_v91 Ref.A_main_v88 Ref.A_main_v80 Ref.A_main_v79 Ref.K_main_v78 Ref.K_main_cst_7
  pointwise

theorem v91_at2 (x : Ref.Args Ideal) (b : Fin 8) (j : Fin 5000) : Ref.A_main_v91 x (ix3 b j 2) =
    Ref.A_main_v72 x (ix2 b j) + Ideal.div (Ref.A_main_v70 x (ix2 b j)) (Ideal.ofBits .f32 1073741824#32) := by
  unfold Ref.A_main_v91 Ref.A_main_v89 Ref.A_main_v83 Ref.A_main_v82 Ref.K_main_v81 Ref.K_main_cst_8
  pointwise

theorem v91_at3 (x : Ref.Args Ideal) (b : Fin 8) (j : Fin 5000) : Ref.A_main_v91 x (ix3 b j 3) =
    Ref.A_main_v74 x (ix2 b j) + Ideal.div (Ref.A_main_v67 x (ix2 b j)) (Ideal.ofBits .f32 1073741824#32) := by
  unfold Ref.A_main_v91 Ref.A_main_v90 Ref.A_main_v86 Ref.A_main_v85 Ref.K_main_v84 Ref.K_main_cst_9
  pointwise

theorem v98_at (x : Ref.Args Ideal) (b : Fin 8) (j : Fin 5000) : Ref.A_main_v98 x (ix2 b j) =
    (FloatOps.sitofp (F := Ideal) .f32 (Ref.A_main_v24 x (ix2 b j))) := by
  unfold Ref.A_main_v98
  pointwise

theorem v103_at0 (x : Ref.Args Ideal) (b : Fin 8) (j : Fin 5000) : Ref.A_main_v103 x (ix3 b j 0) =
    Ref.A_main_v91 x (ix3 b j 0) + Ref.A_main_v98 x (ix2 b j) * Ideal.ofBits .f32 1166016512#32 := by
  unfold Ref.A_main_v103 Ref.A_main_v102 Ref.A_main_v101 Ref.A_main_v99 Ref.K_main_v100 Ref.K_main_cst_12
  pointwise

theorem v103_at1 (x : Ref.Args Ideal) (b : Fin 8) (j : Fin 5000) : Ref.A_main_v103 x (ix3 b j 1) =
    Ref.A_main_v91 x (ix3 b j 1) + Ref.A_main_v98 x (ix2 b j) * Ideal.ofBits .f32 1166016512#32 := by
  unfold Ref.A_main_v103 Ref.A_main_v102 Ref.A_main_v101 Ref.A_main_v99 Ref.K_main_v100 Ref.K_main_cst_12
  pointwise

theorem v103_at2 (x : Ref.Args Ideal) (b : Fin 8) (j : Fin 5000) : Ref.A_main_v103 x (ix3 b j 2) =
    Ref.A_main_v91 x (ix3 b j 2) + Ref.A_main_v98 x (ix2 b j) * Ideal.ofBits .f32 1166016512#32 := by
  unfold Ref.A_main_v103 Ref.A_main_v102 Ref.A_main_v101 Ref.A_main_v99 Ref.K_main_v100 Ref.K_main_cst_12
  pointwise

theorem v103_at3 (x : Ref.Args Ideal) (b : Fin 8) (j : Fin 5000) : Ref.A_main_v103 x (ix3 b j 3) =
    Ref.A_main_v91 x (ix3 b j 3) + Ref.A_main_v98 x (ix2 b j) * Ideal.ofBits .f32 1166016512#32 := by
  unfold Ref.A_main_v103 Ref.A_main_v102 Ref.A_main_v101 Ref.A_main_v99 Ref.K_main_v100 Ref.K_main_cst_12
  pointwise

theorem v114_at (x : Ref.Args Ideal) (b : Fin 8) (j : Fin 5000) : Ref.A_main_v114 x (ix2 b j) =
    (Ref.A_main_v103 x (ix3 b j 2) - Ref.A_main_v103 x (ix3 b j 0)) *
      (Ref.A_main_v103 x (ix3 b j 3) - Ref.A_main_v103 x (ix3 b j 1)) := by
  unfold Ref.A_main_v114 Ref.A_main_v113 Ref.A_main_v112 Ref.A_main_v111 Ref.A_main_v110 Ref.A_main_v109 Ref.A_main_v108 Ref.A_main_v107 Ref.A_main_v106 Ref.A_main_v105 Ref.A_main_v104
  pointwise

theorem v97_at (x : Ref.Args Ideal) (b : Fin 8) (j : Fin 5000) : Ref.A_main_v97 x (ix2 b j) =
    Ideal.logistic (Ref.A_main_v31 x (ix2 b j)) := by
  unfold Ref.A_main_v97 Ref.A_main_v95 Ref.A_main_v93 Ref.A_main_v92 Ref.K_main_v94 Ref.K_main_v96 Ref.K_main_cst_10 Ref.K_main_cst_11
  pointwise
  rfl

/-! ## The kernel's boxes -/

theorem y0_eq (x : Ref.Args Ideal) (b : Fin 8) (j : Fin 5000) : (fx x).y0 (ix2 b (up j)) = Ref.A_main_v91 x (ix3 b j 0) := by
  rw [v91_at0, v72_at, v70_at, v51_at, v39_at, div_ofBits_two, div_ofBits_two]
  unfold fx KI.fixed KI.T_main_v32 KI.T_main_v34 KI.T_main_v31 KI.T_main_v33
  rw [v26_eq, v27_eq]
  unfold_payloads
  pointwise
theorem x0_eq (x : Ref.Args Ideal) (b : Fin 8) (j : Fin 5000) : (fx x).x0 (ix2 b (up j)) = Ref.A_main_v91 x (ix3 b j 1) := by
  rw [v91_at1, v74_at, v67_at, v56_at, v46_at, div_ofBits_two, div_ofBits_two]
  unfold fx KI.fixed KI.T_main_v32 KI.T_main_v34 KI.T_main_v31 KI.T_main_v33
  rw [v26_eq, v27_eq]
  unfold_payloads
  pointwise
theorem y1_eq (x : Ref.Args Ideal) (b : Fin 8) (j : Fin 5000) : (fx x).y1 (ix2 b (up j)) = Ref.A_main_v91 x (ix3 b j 2) := by
  rw [v91_at2, v72_at, v70_at, v51_at, v39_at, div_ofBits_two, div_ofBits_two]
  unfold fx KI.fixed KI.T_main_v32 KI.T_main_v34 KI.T_main_v31 KI.T_main_v33
  rw [v26_eq, v27_eq]
  unfold_payloads
  pointwise
theorem x1_eq (x : Ref.Args Ideal) (b : Fin 8) (j : Fin 5000) : (fx x).x1 (ix2 b (up j)) = Ref.A_main_v91 x (ix3 b j 3) := by
  rw [v91_at3, v74_at, v67_at, v56_at, v46_at, div_ofBits_two, div_ofBits_two]
  unfold fx KI.fixed KI.T_main_v32 KI.T_main_v34 KI.T_main_v31 KI.T_main_v33
  rw [v26_eq, v27_eq]
  unfold_payloads
  pointwise

theorem cls_eq (x : Ref.Args Ideal) (b : Fin 8) (j : Fin 5000) : (fx x).cls (ix2 b (up j)) = Ref.A_main_v98 x (ix2 b j) := by
  rw [v98_at]
  unfold fx KI.fixed KI.T_main_v30 KI.T_main_v29
  rw [v24_eq]
  unfold_payloads
  pointwise
theorem scale_eq (x : Ref.Args Ideal) (b : Fin 8) : (fx x).scale (ix2 b 0) = x.main_arg10 (ix1 b) := by
  unfold fx KI.fixed KI.T_main_v35
  unfold_payloads
  pointwise
theorem ny0_eq (x : Ref.Args Ideal) (b : Fin 8) (j : Fin 5000) : (fx x).ny0 (ix2 b (up j)) = Ref.A_main_v103 x (ix3 b j 0) := by
  rw [v103_at0, ← y0_eq, ← cls_eq]; rfl
theorem nx0_eq (x : Ref.Args Ideal) (b : Fin 8) (j : Fin 5000) : (fx x).nx0 (ix2 b (up j)) = Ref.A_main_v103 x (ix3 b j 1) := by
  rw [v103_at1, ← x0_eq, ← cls_eq]; rfl
theorem ny1_eq (x : Ref.Args Ideal) (b : Fin 8) (j : Fin 5000) : (fx x).ny1 (ix2 b (up j)) = Ref.A_main_v103 x (ix3 b j 2) := by
  rw [v103_at2, ← y1_eq, ← cls_eq]; rfl
theorem nx1_eq (x : Ref.Args Ideal) (b : Fin 8) (j : Fin 5000) : (fx x).nx1 (ix2 b (up j)) = Ref.A_main_v103 x (ix3 b j 3) := by
  rw [v103_at3, ← x1_eq, ← cls_eq]; rfl
theorem area_eq (x : Ref.Args Ideal) (b : Fin 8) (j : Fin 5000) : (fx x).area (ix2 b (up j)) = Ref.A_main_v114 x (ix2 b j) := by
  rw [v114_at, ← ny0_eq, ← nx0_eq, ← ny1_eq, ← nx1_eq]; rfl

/-! ## The kernel's scores -/

theorem neg_inf : (Named.named κ "minus_infinity" 3463342888#32 : Ideal .f32) = ⊥ := IdealRules.named_const.ideal_named_scalar _ _ _ _ rfl

/-- On the lane of a row, the sigmoid of the row's logit. -/
theorem scores_row (x : Ref.Args Ideal) (b : Fin 8) (j : Fin 5000) :
    KI.scores (KI.T_main_v28 x) (ix2 b (up j)) = Ideal.logistic (KI.T_main_values x (ix2 b j)) := by
  unfold KI.scores KI.T_main_v28
  unfold_payloads
  pointwise
  rw [WordCmp.cmpi_slt_ofNat (by have := j.isLt; omega) (by decide), decide_eq_true j.isLt, show BitVec.ofBool true = 1#1 from rfl, ValueIdx.select_one]

/-- On the lanes past the rows, zero. -/
theorem scores_pad (x : Ref.Args Ideal) (b : Fin 8) (j : Fin 5120) (h : 5000 ≤ j.val) :
    KI.scores (KI.T_main_v28 x) (ix2 b j) = 0 := by
  unfold KI.scores KI.T_main_v28
  unfold_payloads
  pointwise
  have h' := j.isLt
  rw [WordCmp.cmpi_slt_ofNat (by omega) (by decide), decide_eq_false (by omega), neg_inf, show BitVec.ofBool false = 0#1 from rfl,
    ValueIdx.select_zero]
  exact Ideal.logistic_bot

end Cert.Proof.Alg
end
-- ==== Proof.Alg2.lean ====
module
public import proofs.«01_k».proof.Proof.KIRun
public import proofs.«01_k».proof.Proof.RefStep
public import Idealize.ShloMosaic.Lib.Pointwise
public import Idealize.ShloMosaic.Lib.IdealHost

/-! # The best row

Each trip of both loops takes the row of the highest score, the first of them on ties. The reference does so by an arg-max and
gathers at its position; the kernel takes the maximum, then the least lane that holds it, and reads an array there as the sum over
the lanes of the array masked to that lane. Both are the array's entry at the first place of the maximum. -/

@[expose] public section
set_option maxRecDepth 16384
set_option maxHeartbeats 1000000
noncomputable section
namespace Cert.Proof.Alg
open Idealize.ShloMosaic Idealize.ShloMosaic.TcCoe

/-- `p` is the first place of the maximum of `v`. -/
structure IsFirst {n : ℕ} (v : Fin n → EReal) (p : Fin n) : Prop where
  max : ∀ j, v j ≤ v p
  first : ∀ j, v j = v p → p ≤ j

theorem exists_isFirst {n : ℕ} (v : Fin (n + 1) → EReal) : ∃ p, IsFirst v p := by
  obtain ⟨q, hq⟩ := Finite.exists_max v
  have hne : (Finset.univ.filter fun j => v j = v q).Nonempty := ⟨q, by simp⟩
  have hp := Finset.min'_mem _ hne
  simp only [Finset.mem_filter, Finset.mem_univ, true_and] at hp
  refine ⟨Finset.min' _ hne, ⟨fun j => by rw [hp]; exact hq j, fun j hj => Finset.min'_le _ _ (by simp [hj, hp])⟩⟩

theorem ofBits_neg_inf : Ideal.ofBits .f32 4286578688#32 = ⊥ := by simp [Ideal.ofBits, Ideal.ieee]

/-! ## In the kernel -/

theorem fold_max {n : ℕ} (v : Fin n → EReal) (p : Fin n) (h : IsFirst v p) :
    Finset.fold max (Ideal.ofBits .f32 4286578688#32) v Finset.univ = v p := by
  rw [ofBits_neg_inf]
  refine le_antisymm ((Finset.fold_max_le _).2 ⟨bot_le, fun j _ => h.max j⟩) ((Finset.le_fold_max _).2 (Or.inr ⟨p, Finset.mem_univ _, le_rfl⟩))

theorem toInt_minsi (x y : BitVec 32) : (IntOp.minsi x y).toInt = min x.toInt y.toInt := by
  unfold IntOp.minsi
  rw [BitVec.slt_eq_decide]
  by_cases h : x.toInt < y.toInt
  · simp [h, min_eq_left h.le]
  · simp [h, min_eq_right (not_lt.1 h)]

theorem toInt_lane {j : ℕ} (h : j < 1073741824) : (BitVec.ofNat 32 j).toInt = j := by
  rw [BitVec.toInt_eq_toNat_cond, BitVec.toNat_ofNat, Nat.mod_eq_of_lt (by omega), if_pos (by omega)]

/-- The least lane that holds the maximum. -/
theorem fold_first (v : Fin 5120 → EReal) (p : Fin 5120) (h : IsFirst v p) :
    Finset.fold IntOp.minsi 2147483647#32 (fun x => if v x = Finset.fold max (Ideal.ofBits .f32 4286578688#32) v Finset.univ then
      BitVec.ofNat 32 x.val else 1073741824#32) Finset.univ = BitVec.ofNat 32 p.val := by
  rw [fold_max v p h]
  apply BitVec.eq_of_toInt_eq
  have hp := p.isLt
  refine le_antisymm ?_ ?_
  · refine (Finset.fold_op_rel_iff_or (r := fun c d => BitVec.toInt d ≤ BitVec.toInt c) (c := BitVec.ofNat 32 p.val) ?_).2
      (Or.inr ⟨p, Finset.mem_univ _, by simp⟩)
    intro x y z; simp [toInt_minsi]
  · refine (Finset.fold_op_rel_iff_and (r := fun c d => BitVec.toInt c ≤ BitVec.toInt d) (c := BitVec.ofNat 32 p.val) ?_).2
      ⟨?_, fun j _ => ?_⟩
    · intro x y z; simp [toInt_minsi]
    · rw [toInt_lane (by omega)]; show (p.val : ℤ) ≤ 2147483647; omega
    · have hj := j.isLt
      by_cases e : v j = v p
      · rw [if_pos e, toInt_lane (by omega), toInt_lane (by omega)]
        exact_mod_cast h.first j e
      · rw [if_neg e, toInt_lane (by omega)]; show (p.val : ℤ) ≤ 1073741824; omega

section Kernel
open Cert.KernelIdeal Cert.KernelIdeal.Gen

theorem best_at (s : FVec Ideal S8x5120 .f32) (b : Fin 8) (p : Fin 5120) (h : IsFirst (fun j => s (ix2 b j)) p) :
    k0_pay2 s (ix2 b 0) = s (ix2 b p) := by
  unfold_payloads
  pointwise
  exact fold_max _ p h

/-- An array read at the best lane. -/
theorem pick_at (x s : FVec Ideal S8x5120 .f32) (b : Fin 8) (p : Fin 5120) (h : IsFirst (fun j => s (ix2 b j)) p) :
    k0_pay4 x KI.lanes s (ix2 b 0) = x (ix2 b p) := by
  unfold KI.lanes
  unfold_payloads
  pointwise
  rw [fold_first (fun j => s (ix2 b j)) p h, Finset.sum_eq_single p]
  · rw [WordCmp.cmpi_eq_eq, decide_eq_true rfl]; rfl
  · intro j _ hj
    have hp := p.isLt
    have hj' := j.isLt
    rw [WordCmp.cmpi_eq_eq, decide_eq_false]
    · rfl
    · intro e
      apply hj
      have := congrArg BitVec.toInt e
      rw [toInt_lane (by omega), toInt_lane (by omega)] at this
      exact Fin.ext (by exact_mod_cast this)
  · intro hp; exact absurd (Finset.mem_univ _) hp

/-- Whether the best score is positive, as a number. -/
theorem valid_at (m : FVec Ideal S8x1 .f32) (b : Fin 8) : k0_pay18 m (ix2 b 0) = if 0 < m (ix2 b 0) then 1 else 0 := by
  unfold_payloads
  pointwise

theorem slot_at (k : ℕ) (hk : k < 100) (b : Fin 8) (r : Fin 128) :
    k0_pay19 KI.slots (Scf.iv 0#32 1#32 k) (ix2 b r) = BitVec.ofBool (decide (r.val = k)) := by
  unfold KI.slots k0_pay19
  pointwise
  rw [show Scf.iv 0#32 1#32 k = BitVec.ofNat 32 k by simp [Scf.iv]]
  have hr := r.isLt
  rw [WordCmp.cmpi_eq_eq]
  congr 1
  refine decide_eq_decide.2 ⟨fun e => ?_, fun e => by rw [e]⟩
  have := congrArg BitVec.toInt e
  rw [toInt_lane (by omega), toInt_lane (by omega)] at this
  exact_mod_cast this
end Kernel

/-! ## In the reference -/

section Reference
open Cert.ReferenceIdeal Cert.ReferenceIdeal.Gen Cert.Proof.Ref

/-- Of two pairs of a value and a place the reducer keeps the higher value, and the lower place on equal values. -/
theorem reducer_spec (a b : EReal × BitVec 32) :
    (reducer_argmax_f32_i32 (F := Ideal) a b = a ∨ reducer_argmax_f32_i32 (F := Ideal) a b = b) ∧
    (∀ z, z = a ∨ z = b → z.1 ≤ (reducer_argmax_f32_i32 (F := Ideal) a b).1 ∧
      (z.1 = (reducer_argmax_f32_i32 (F := Ideal) a b).1 → (reducer_argmax_f32_i32 (F := Ideal) a b).2.toInt ≤ z.2.toInt)) := by
  obtain ⟨a1, a2⟩ := a
  obtain ⟨b1, b2⟩ := b
  have hr : reducer_argmax_f32_i32 (F := Ideal) (a1, a2) (b1, b2) =
      if b1 < a1 then (a1, a2) else if a1 = b1 ∧ a2.toInt < b2.toInt then (a1, a2) else (b1, b2) := by
    unfold reducer_argmax_f32_i32
    simp only [Ideal.cmpf_def, Ideal.cmp, WordCmp.cmpi_slt_eq, IntOp.ori, IntOp.andi]
    rcases lt_trichotomy a1 b1 with h | h | h
    · simp [h, h.ne, h.ne', not_lt.2 h.le, Scalar.select]
    · subst h
      by_cases h2 : a2.toInt < b2.toInt <;> simp [h2, Scalar.select]
    · simp [h, h.ne, h.ne', Scalar.select]
  rw [hr]
  rcases lt_trichotomy a1 b1 with h | h | h
  · rw [if_neg (not_lt.2 h.le), if_neg (fun e => h.ne e.1)]
    refine ⟨Or.inr rfl, ?_⟩
    rintro z (rfl | rfl)
    · exact ⟨h.le, fun e => absurd e h.ne⟩
    · exact ⟨le_rfl, fun _ => le_rfl⟩
  · subst h
    rw [if_neg (lt_irrefl _)]
    by_cases h2 : a2.toInt < b2.toInt
    · rw [if_pos ⟨rfl, h2⟩]
      refine ⟨Or.inl rfl, ?_⟩
      rintro z (rfl | rfl)
      · exact ⟨le_rfl, fun _ => le_rfl⟩
      · exact ⟨le_rfl, fun _ => h2.le⟩
    · rw [if_neg (fun e => h2 e.2)]
      refine ⟨Or.inr rfl, ?_⟩
      rintro z (rfl | rfl)
      · exact ⟨le_rfl, fun _ => not_lt.1 h2⟩
      · exact ⟨le_rfl, fun _ => le_rfl⟩
  · rw [if_pos h]
    refine ⟨Or.inl rfl, ?_⟩
    rintro z (rfl | rfl)
    · exact ⟨le_rfl, fun _ => le_rfl⟩
    · exact ⟨h.le, fun e => absurd e h.ne⟩

/-- So a fold by the reducer keeps the highest value, with its lowest place. -/
theorem foldl_reducer (l : List (EReal × BitVec 32)) (e : EReal × BitVec 32) :
    (l.foldl (reducer_argmax_f32_i32 (F := Ideal)) e = e ∨ l.foldl (reducer_argmax_f32_i32 (F := Ideal)) e ∈ l) ∧
    (∀ z, z = e ∨ z ∈ l → z.1 ≤ (l.foldl (reducer_argmax_f32_i32 (F := Ideal)) e).1 ∧
      (z.1 = (l.foldl (reducer_argmax_f32_i32 (F := Ideal)) e).1 →
        (l.foldl (reducer_argmax_f32_i32 (F := Ideal)) e).2.toInt ≤ z.2.toInt)) := by
  induction l generalizing e with
  | nil =>
    refine ⟨Or.inl rfl, ?_⟩
    rintro z (rfl | h)
    · exact ⟨le_rfl, fun _ => le_rfl⟩
    · exact absurd h (List.not_mem_nil)
  | cons a l ih =>
    rw [List.foldl_cons]
    obtain ⟨h1, h2⟩ := ih (reducer_argmax_f32_i32 (F := Ideal) e a)
    obtain ⟨g1, g2⟩ := reducer_spec e a
    refine ⟨?_, fun z hz => ?_⟩
    · rcases h1 with h1 | h1
      · rw [h1]
        rcases g1 with g1 | g1
        · exact Or.inl g1
        · exact Or.inr (by rw [g1]; exact List.mem_cons_self)
      · exact Or.inr (List.mem_cons_of_mem _ h1)
    · have key : z = e ∨ z = a → z.1 ≤ (l.foldl (reducer_argmax_f32_i32 (F := Ideal)) (reducer_argmax_f32_i32 (F := Ideal) e a)).1 ∧
          (z.1 = (l.foldl (reducer_argmax_f32_i32 (F := Ideal)) (reducer_argmax_f32_i32 (F := Ideal) e a)).1 →
          (l.foldl (reducer_argmax_f32_i32 (F := Ideal)) (reducer_argmax_f32_i32 (F := Ideal) e a)).2.toInt ≤ z.2.toInt) := by
        intro hz
        obtain ⟨k1, k2⟩ := g2 z hz
        obtain ⟨m1, m2⟩ := h2 _ (Or.inl rfl)
        refine ⟨k1.trans m1, fun e' => ?_⟩
        have e1 := le_antisymm m1 (e' ▸ k1)
        exact (m2 e1).trans (k2 (e'.trans e1.symm))
      rcases hz with rfl | hz
      · exact key (Or.inl rfl)
      · rcases List.mem_cons.1 hz with rfl | hz
        · exact key (Or.inr rfl)
        · exact h2 z (Or.inr hz)

theorem drop_ix (h : S8x5000.ReducesTo [1] S8) (i : S8x5000.Idx) (b : Fin 8) : h.drop i = ix1 b ↔ i 0 = b := by
  constructor
  · intro e
    have := congrFun e 0
    exact Fin.ext (congrArg Fin.val this)
  · intro e
    funext a
    obtain rfl : a = 0 := Subsingleton.elim _ _
    exact Fin.ext (congrArg Fin.val e)

/-- The arg-max of scores of which some are positive is the first place of the maximum. -/
theorem argmax_at (k : ℕ) (s : Ref.State Ideal) (b : Fin 8) (p : Fin 5000)
    (h : IsFirst (fun j => s.main_v116_6 (ix2 b j)) p) (hpos : 0 < s.main_v116_6 (ix2 b p)) :
    Ref.b4 k s (ix1 b) = BitVec.ofNat 32 p.val := by
  unfold b4 b2 b1 b0
  beta_reduce
  rw [Ideal.argReduce_eq_reduce2, Host.reduce2_eq_foldl_fiber]
  set l := Host.argReduceFiber s.main_v116_6 (iotaInDim S8x5000 32 1) reducesTo_S8x5000_S8_d1 (ix1 b) with hl
  have mem : ∀ z, z ∈ l ↔ ∃ j : Fin 5000, z = (s.main_v116_6 (ix2 b j), BitVec.ofNat 32 j.val) := by
    intro z
    rw [hl]
    unfold Host.argReduceFiber
    simp only [List.mem_map, List.mem_filter, List.mem_finRange, true_and, decide_eq_true_eq]
    constructor
    · rintro ⟨n, hn, rfl⟩
      have hn' := (drop_ix _ _ b).1 hn
      refine ⟨(S8x5000.rowMajor.symm n) 1, ?_⟩
      have e : S8x5000.rowMajor.symm n = ix2 b ((S8x5000.rowMajor.symm n) 1) := by
        rw [← hn']; exact eq_ix2 _
      exact Prod.ext (congrArg s.main_v116_6 e) rfl
    · rintro ⟨j, rfl⟩
      refine ⟨S8x5000.rowMajor (ix2 b j), ?_, ?_⟩
      · rw [Equiv.symm_apply_apply]; exact (drop_ix _ _ b).2 rfl
      · rw [Equiv.symm_apply_apply]; rfl
  obtain ⟨h1, h2⟩ := foldl_reducer l (constant (F := Ideal) S_ .f32 4286578688#32 (Shape.Idx.first h_S_), constantI S_ 32 0#32 (Shape.Idx.first h_S_))
  set r := l.foldl (reducer_argmax_f32_i32 (F := Ideal)) (constant (F := Ideal) S_ .f32 4286578688#32 (Shape.Idx.first h_S_), constantI S_ 32 0#32 (Shape.Idx.first h_S_)) with hr
  obtain ⟨k1, k2⟩ := h2 _ (Or.inr ((mem _).2 ⟨p, rfl⟩))
  have hmem : r ∈ l := by
    rcases h1 with h1 | h1
    · exfalso
      have e : r.1 = ⊥ := by rw [h1]; exact ofBits_neg_inf
      rw [e] at k1
      exact absurd (hpos.trans_le k1) (by simp)
    · exact h1
  obtain ⟨j, hj⟩ := (mem _).1 hmem
  rw [hj] at k1 k2 ⊢
  have e := le_antisymm k1 (h.max j)
  have k2' := k2 e
  have hjl := j.isLt
  have hpl := p.isLt
  rw [toInt_lane (by omega), toInt_lane (by omega)] at k2'
  have : j = p := le_antisymm (by exact_mod_cast k2') (h.first j e.symm)
  rw [this]

/-- A gather of one entry per image. -/
theorem gather_entry {α : Type} (X : S8x5000.Idx → α) (I : IVec S8x1 32) (b : Fin 8) (p : Fin 5000)
    (h : I (ix2 b 0) = BitVec.ofNat 32 p.val) : Host.gather gather_S8x5000_S8x1_S8_n_1_0_0_1_1_11 X I (ix1 b) = X (ix2 b p) := by
  unfold Host.gather
  congr 1
  funext a
  refine Fin.ext ?_
  have hp := p.isLt
  fin_cases a
  · show GatherDims.start _ _ _ _ + GatherDims.batchCoord _ _ _ + GatherDims.offCoord _ _ _ = _
    rw [GatherDims.start_batching _ _ _ _ (by decide), GatherDims.offCoord_eq_zero _ _ _ (by decide)]
    unfold GatherDims.batchCoord
    rw [dif_pos (by decide)]
    show 0 + b.val + 0 = b.val
    omega
  · show GatherDims.start _ _ _ _ + GatherDims.batchCoord _ _ _ + GatherDims.offCoord _ _ _ = _
    rw [GatherDims.batchCoord_eq_zero _ _ _ (by decide), GatherDims.offCoord_eq_zero _ _ _ (by decide)]
    unfold GatherDims.start
    rw [dif_pos (by decide)]
    have e : GatherDims.siIdx gather_S8x5000_S8x1_S8_n_1_0_0_1_1_11 (ix1 b) ⟨0, by decide⟩ = ix2 b 0 := by
      funext c; fin_cases c <;> rfl
    show min (I (GatherDims.siIdx gather_S8x5000_S8x1_S8_n_1_0_0_1_1_11 (ix1 b) ⟨0, by decide⟩)).toInt.toNat (5000 - 1) + 0 + 0 = p.val
    rw [e, h, toInt_lane (by omega)]; omega

/-- Whatever its start, such a gather reads an entry of its own image. -/
theorem gather_some {α : Type} (X : S8x5000.Idx → α) (I : IVec S8x1 32) (b : Fin 8) :
    ∃ q : Fin 5000, Host.gather gather_S8x5000_S8x1_S8_n_1_0_0_1_1_11 X I (ix1 b) = X (ix2 b q) := by
  refine ⟨gather_S8x5000_S8x1_S8_n_1_0_0_1_1_11.operandIdx (ix1 b) I 1, ?_⟩
  unfold Host.gather
  refine congrArg X ((eq_ix2 _).trans ?_)
  congr 1
  refine Fin.ext ?_
  show GatherDims.start _ _ _ _ + GatherDims.batchCoord _ _ _ + GatherDims.offCoord _ _ _ = _
  rw [GatherDims.start_batching _ _ _ _ (by decide), GatherDims.offCoord_eq_zero _ _ _ (by decide)]
  unfold GatherDims.batchCoord
  rw [dif_pos (by decide)]
  show 0 + b.val + 0 = b.val
  omega

/-- A gather of one row of four per image. -/
theorem gather_row {α : Type} (X : S8x5000x4.Idx → α) (I : IVec S8x1 32) (b : Fin 8) (c : Fin 4) (p : Fin 5000)
    (h : I (ix2 b 0) = BitVec.ofNat 32 p.val) :
    Host.gather gather_S8x5000x4_S8x1_S8x4_1_1_0_0_1_1_114 X I (ix2 b c) = X (ix3 b p c) := by
  unfold Host.gather
  congr 1
  funext a
  refine Fin.ext ?_
  have hp := p.isLt
  fin_cases a
  · show GatherDims.start _ _ _ _ + GatherDims.batchCoord _ _ _ + GatherDims.offCoord _ _ _ = _
    rw [GatherDims.start_batching _ _ _ _ (by decide), GatherDims.offCoord_eq_zero _ _ _ (by decide)]
    unfold GatherDims.batchCoord
    rw [dif_pos (by decide)]
    show 0 + b.val + 0 = b.val
    omega
  · show GatherDims.start _ _ _ _ + GatherDims.batchCoord _ _ _ + GatherDims.offCoord _ _ _ = _
    rw [GatherDims.batchCoord_eq_zero _ _ _ (by decide), GatherDims.offCoord_eq_zero _ _ _ (by decide)]
    unfold GatherDims.start
    rw [dif_pos (by decide)]
    have e : GatherDims.siIdx gather_S8x5000x4_S8x1_S8x4_1_1_0_0_1_1_114 (ix2 b c) ⟨0, by decide⟩ = ix2 b 0 := by
      funext c; fin_cases c <;> rfl
    show min (I (GatherDims.siIdx gather_S8x5000x4_S8x1_S8x4_1_1_0_0_1_1_114 (ix2 b c) ⟨0, by decide⟩)).toInt.toNat (5000 - 1) + 0 + 0 = p.val
    rw [e, h, toInt_lane (by omega)]; omega
  · show GatherDims.start _ _ _ _ + GatherDims.batchCoord _ _ _ + GatherDims.offCoord _ _ _ = _
    rw [GatherDims.batchCoord_eq_zero _ _ _ (by decide)]
    unfold GatherDims.start
    rw [dif_neg (by decide)]
    show 0 + 0 + c.val = c.val
    omega

end Reference
end Cert.Proof.Alg
end
-- ==== Proof.Alg3.lean ====
module
public import proofs.«01_k».proof.Proof.Alg1
public import proofs.«01_k».proof.Proof.Alg2

/-! # One trip of the loop

At the extended reals, of one image: as long as some score is positive the two loops take the same row, lower the same scores to
minus one and write the same detection. Once no score is positive both write zeros, and no score becomes positive again: the
rows they then take may differ, and do not matter. -/

@[expose] public section
set_option maxRecDepth 16384
set_option maxHeartbeats 1000000
noncomputable section
namespace Cert.Proof.Alg
open Idealize.ShloMosaic Idealize.ShloMosaic.TcCoe

/-- What the kernel's loop reads is what the reference's loop reads. -/
structure Match (f : KI.Fixed Ideal) (s : Ref.State Ideal) : Prop where
  y0 : ∀ b j, f.y0 (ix2 b (up j)) = s.main_v116_0 (ix3 b j 0)
  x0 : ∀ b j, f.x0 (ix2 b (up j)) = s.main_v116_0 (ix3 b j 1)
  y1 : ∀ b j, f.y1 (ix2 b (up j)) = s.main_v116_0 (ix3 b j 2)
  x1 : ∀ b j, f.x1 (ix2 b (up j)) = s.main_v116_0 (ix3 b j 3)
  cls : ∀ (b : Fin 8) (j : Fin 5000), f.cls (ix2 b (up j)) = (FloatOps.sitofp (F := Ideal) .f32 (s.main_v116_1 (ix2 b j)))
  ny0 : ∀ b j, f.ny0 (ix2 b (up j)) = s.main_v116_2 (ix3 b j 0)
  nx0 : ∀ b j, f.nx0 (ix2 b (up j)) = s.main_v116_2 (ix3 b j 1)
  ny1 : ∀ b j, f.ny1 (ix2 b (up j)) = s.main_v116_2 (ix3 b j 2)
  nx1 : ∀ b j, f.nx1 (ix2 b (up j)) = s.main_v116_2 (ix3 b j 3)
  moved : ∀ b j c, s.main_v116_2 (ix3 b j c) =
    s.main_v116_0 (ix3 b j c) + (FloatOps.sitofp (F := Ideal) .f32 (s.main_v116_1 (ix2 b j))) * Ideal.ofBits .f32 1166016512#32
  area : ∀ b j, f.area (ix2 b (up j)) = s.main_v116_3 (ix2 b j)
  scale : ∀ b, f.scale (ix2 b 0) = s.main_v116_4 (ix1 b)

/-- Of one image, the scores of the two loops: the same row by row, or none positive in either; and none positive past the rows. -/
structure Agree (v : FVec Ideal KernelIdeal.S8x5120 .f32) (w : FVec Ideal ReferenceIdeal.S8x5000 .f32) (b : Fin 8) : Prop where
  rows : (∀ j : Fin 5000, v (ix2 b (up j)) = w (ix2 b j)) ∨ ((∀ j : Fin 5120, v (ix2 b j) ≤ 0) ∧ ∀ j : Fin 5000, w (ix2 b j) ≤ 0)
  pad : ∀ j : Fin 5120, 5000 ≤ j.val → v (ix2 b j) ≤ 0

/-- So both have their first maximum at one row, or no score is positive. -/
theorem Agree.cases {v : FVec Ideal KernelIdeal.S8x5120 .f32} {w : FVec Ideal ReferenceIdeal.S8x5000 .f32} {b : Fin 8} (h : Agree v w b) :
    (∃ p : Fin 5000, IsFirst (fun j => v (ix2 b j)) (up p) ∧ IsFirst (fun j => w (ix2 b j)) p ∧ 0 < w (ix2 b p) ∧
      ∀ j : Fin 5000, v (ix2 b (up j)) = w (ix2 b j)) ∨
    ((∀ j : Fin 5120, v (ix2 b j) ≤ 0) ∧ ∀ j : Fin 5000, w (ix2 b j) ≤ 0) := by
  obtain ⟨q, hq⟩ := exists_isFirst (n := 4999) (fun j => w (ix2 b j))
  rcases h.rows with e | e
  · by_cases hp : 0 < w (ix2 b q)
    · refine Or.inl ⟨q, ⟨fun j => ?_, fun j hj => ?_⟩, hq, hp, e⟩
      · show v (ix2 b j) ≤ v (ix2 b (up q))
        rw [e q]
        by_cases hj : j.val < 5000
        · exact (e ⟨j.val, hj⟩).le.trans (hq.max _)
        · exact (h.pad j (by omega)).trans hp.le
      · show q.val ≤ j.val
        by_cases hj' : j.val < 5000
        · exact hq.first ⟨j.val, hj'⟩ ((e ⟨j.val, hj'⟩).symm.trans (hj.trans (e q)))
        · have := q.isLt; omega
    · have hw : ∀ j : Fin 5000, w (ix2 b j) ≤ 0 := fun j => (hq.max j).trans (not_lt.1 hp)
      refine Or.inr ⟨fun j => ?_, hw⟩
      by_cases hj : j.val < 5000
      · exact (e ⟨j.val, hj⟩).le.trans (hw _)
      · exact h.pad j (by omega)
  · exact Or.inr e

/-- What a score becomes, from the best row's moved corners, its own moved corners, its area and what it was. -/
def lower (r0 r1 r2 r3 y0 x0 y1 x1 a old : EReal) : EReal :=
  if Ideal.ofBits .f32 1056964608#32 < Ideal.div (max 0 (min r2 y1 - max r0 y0) * max 0 (min r3 x1 - max r1 x0))
      ((r2 - r0) * (r3 - r1) + a - max 0 (min r2 y1 - max r0 y0) * max 0 (min r3 x1 - max r1 x0) + Ideal.ofBits .f32 841731191#32) then
    Ideal.ofBits .f32 3212836864#32 else old

theorem lower_nonpos {r0 r1 r2 r3 y0 x0 y1 x1 a old : EReal} (h : old ≤ 0) : lower r0 r1 r2 r3 y0 x0 y1 x1 a old ≤ 0 := by
  unfold lower
  split
  · rw [ofBits_minus_one]; exact EReal.coe_nonpos.mpr (by norm_num)
  · exact h

/-! ## In the reference -/
section Reference
open Cert.ReferenceIdeal Cert.ReferenceIdeal.Gen Cert.Proof.Ref

variable (k : ℕ) (s : Ref.State Ideal) (b : Fin 8)

/-- One or zero, as the best score is positive or not. -/
theorem ref_valid : b82 k s (ix1 b) = if 0 < b6 k s (ix1 b) then 1 else 0 := by
  unfold b82 b81 b80 b79
  pointwise
  show (((BitVec.ofBool (decide (0 < b6 k s (ix1 b)))).toNat : ℝ) : EReal) = _
  by_cases h : 0 < b6 k s (ix1 b) <;> simp [h]

theorem ref_lower (i : Fin 5000) : b78 k s (ix2 b i) = lower (b12 k s (ix2 b 0)) (b12 k s (ix2 b 1)) (b12 k s (ix2 b 2)) (b12 k s (ix2 b 3))
    (s.main_v116_2 (ix3 b i 0)) (s.main_v116_2 (ix3 b i 1)) (s.main_v116_2 (ix3 b i 2)) (s.main_v116_2 (ix3 b i 3))
    (s.main_v116_3 (ix2 b i)) (s.main_v116_6 (ix2 b i)) := by
  unfold lower
  unfold b78 b77 b76 b75 b74 b73 b72 b71 b70 b69 b68 b67 b66 b65 b64 b63 b62 b61 b60 b59 b58 b57 b56 b55 b54 b53 b52 b51 b50 b49 b48 b47 b46 b45 b44 b43 b42 b41 b40 b39 b38 b37 b36 b35 b34 b33 b32 b31 b30 b29 b28 b27 b26 b25 b24 b23 b22 b21 b20 b19 b18 b17 b16 b15 b14 b13
  pointwise

theorem ref_row0 : b115 k s (ix2 b 0) = b8 k s (ix2 b 1) * s.main_v116_4 (ix1 b) * b82 k s (ix1 b) := by
  unfold b115 b114 b113 b112 b111 b105 b85 b84 b83
  pointwise

theorem ref_row1 : b115 k s (ix2 b 1) = b8 k s (ix2 b 0) * s.main_v116_4 (ix1 b) * b82 k s (ix1 b) := by
  unfold b115 b114 b113 b112 b111 b106 b88 b87 b86
  pointwise

theorem ref_row2 : b115 k s (ix2 b 2) = (b8 k s (ix2 b 3) - b8 k s (ix2 b 1)) * s.main_v116_4 (ix1 b) * b82 k s (ix1 b) := by
  unfold b115 b114 b113 b112 b111 b107 b94 b93 b92 b91 b90 b89
  pointwise

theorem ref_row3 : b115 k s (ix2 b 3) = (b8 k s (ix2 b 2) - b8 k s (ix2 b 0)) * s.main_v116_4 (ix1 b) * b82 k s (ix1 b) := by
  unfold b115 b114 b113 b112 b111 b108 b100 b99 b98 b97 b96 b95
  pointwise

theorem ref_row4 : b115 k s (ix2 b 4) = b6 k s (ix1 b) * b82 k s (ix1 b) := by
  unfold b115 b114 b113 b112 b111 b109
  pointwise

theorem ref_row5 : b115 k s (ix2 b 5) = ((FloatOps.sitofp (F := Ideal) .f32 (b10 k s (ix1 b))) + 1) * b82 k s (ix1 b) := by
  unfold b115 b114 b113 b112 b111 b110 b104 b103 b102 b101
  pointwise

theorem ref_row_zero (h : ∀ j : Fin 5000, s.main_v116_6 (ix2 b j) ≤ 0) (c : Fin 6) : b115 k s (ix2 b c) = 0 := by
  have hv : b82 k s (ix1 b) = 0 := by
    rw [ref_valid, if_neg]
    obtain ⟨q, hq⟩ := gather_some s.main_v116_6 (b5 k s) b
    unfold b6
    rw [hq]
    exact not_lt.2 (h q)
  fin_cases c
  · exact (ref_row0 k s b).trans (by rw [hv, mul_zero])
  · exact (ref_row1 k s b).trans (by rw [hv, mul_zero])
  · exact (ref_row2 k s b).trans (by rw [hv, mul_zero])
  · exact (ref_row3 k s b).trans (by rw [hv, mul_zero])
  · exact (ref_row4 k s b).trans (by rw [hv, mul_zero])
  · exact (ref_row5 k s b).trans (by rw [hv, mul_zero])

section Best
variable {k s b} {p : Fin 5000} (h : b4 k s (ix1 b) = BitVec.ofNat 32 p.val)
include h

theorem ref_best : b6 k s (ix1 b) = s.main_v116_6 (ix2 b p) := by
  unfold b6
  refine gather_entry _ _ b p ?_
  unfold b5
  pointwise
  exact h
theorem ref_cls : b10 k s (ix1 b) = s.main_v116_1 (ix2 b p) := by
  unfold b10
  refine gather_entry _ _ b p ?_
  unfold b9
  pointwise
  exact h
theorem ref_box (c : Fin 4) : b8 k s (ix2 b c) = s.main_v116_0 (ix3 b p c) := by
  unfold b8
  refine gather_row _ _ b c p ?_
  unfold b7
  pointwise
  exact h
theorem ref_moved (c : Fin 4) : b12 k s (ix2 b c) = s.main_v116_2 (ix3 b p c) := by
  unfold b12
  refine gather_row _ _ b c p ?_
  unfold b11
  pointwise
  exact h
end Best

/-- An update of the one row `k`. -/
theorem row_update (X : S100x8x6.Idx → EReal) (U : S1x8x6.Idx → EReal) (start : Fin 3 → Int) (k : ℕ) (hk : k < 100)
    (h : S100x8x6.Slices (fun _ => 0) S1x8x6) (e : ∀ a, start a = ((![k, 0, 0] : Fin 3 → ℕ) a : ℤ)) (r : Fin 100) (b : Fin 8) (c : Fin 6) :
    Host.dynamicUpdateSlice X U start h (ix3 r b c) = if r.val = k then U (ix3 0 b c) else X (ix3 r b c) := by
  have hs : S100x8x6.Slices ![k, 0, 0] S1x8x6 := ⟨rfl, by intro a; fin_cases a <;> simp [S100x8x6, S1x8x6] <;> omega⟩
  rw [WordCmp.dynamicUpdateSlice_eq_update X U start h ![k, 0, 0] hs e]
  pointwise
  by_cases e' : r.val = k
  · rw [dif_pos (by omega), if_pos e']
    exact congrArg (fun z => U (ix3 z b c)) (Subsingleton.elim _ _)
  · rw [dif_neg (by omega), if_neg e']

/-- The detections after a trip: the trip's own row is the row it made, the others are what they were. -/
theorem ref_dets (hk : k < 100) (r : Fin 100) (c : Fin 6) :
    b119 k s (ix3 r b c) = if r.val = k then b115 k s (ix2 b c) else s.main_v116_7 (ix3 r b c) := by
  unfold b119
  refine (row_update _ _ _ k hk _ ?_ r b c).trans ?_
  · intro a
    unfold b118 b117
    fin_cases a
    · show (BitVec.ofNat 32 k).toInt = (k : ℤ)
      exact toInt_lane (by omega)
    · rfl
    · rfl
  · unfold b116
    pointwise

end Reference

/-! ## In the kernel -/
section Kernel
open Cert.KernelIdeal Cert.KernelIdeal.Gen

variable (f : KI.Fixed Ideal) (k : ℕ) (a : KI.Carry Ideal) (b : Fin 8)

section Best
variable {a b} {p : Fin 5120} (h : IsFirst (fun j => a.1 (ix2 b j)) p)
include h

theorem ker_lower (j : Fin 5120) : (KI.trip f k a).1 (ix2 b j) =
    lower (f.y0 (ix2 b p) + f.cls (ix2 b p) * Ideal.ofBits .f32 1166016512#32) (f.x0 (ix2 b p) + f.cls (ix2 b p) * Ideal.ofBits .f32 1166016512#32)
      (f.y1 (ix2 b p) + f.cls (ix2 b p) * Ideal.ofBits .f32 1166016512#32) (f.x1 (ix2 b p) + f.cls (ix2 b p) * Ideal.ofBits .f32 1166016512#32)
      (f.ny0 (ix2 b j)) (f.nx0 (ix2 b j)) (f.ny1 (ix2 b j)) (f.nx1 (ix2 b j)) (f.area (ix2 b j)) (a.1 (ix2 b j)) := by
  have hc : k0_pay8 f.cls KI.lanes a.1 (ix2 b 0) = f.cls (ix2 b p) := pick_at f.cls a.1 b p h
  have e0 : k0_pay10 f.cls f.y0 KI.lanes a.1 (ix2 b 0) = f.y0 (ix2 b p) + f.cls (ix2 b p) * Ideal.ofBits .f32 1166016512#32 := by
    rw [← hc, ← pick_at f.y0 a.1 b p h]; rfl
  have e1 : k0_pay11 f.cls f.x0 KI.lanes a.1 (ix2 b 0) = f.x0 (ix2 b p) + f.cls (ix2 b p) * Ideal.ofBits .f32 1166016512#32 := by
    rw [← hc, ← pick_at f.x0 a.1 b p h]; rfl
  have e2 : k0_pay12 f.cls f.y1 KI.lanes a.1 (ix2 b 0) = f.y1 (ix2 b p) + f.cls (ix2 b p) * Ideal.ofBits .f32 1166016512#32 := by
    rw [← hc, ← pick_at f.y1 a.1 b p h]; rfl
  have e3 : k0_pay13 f.cls f.x1 KI.lanes a.1 (ix2 b 0) = f.x1 (ix2 b p) + f.cls (ix2 b p) * Ideal.ofBits .f32 1166016512#32 := by
    rw [← hc, ← pick_at f.x1 a.1 b p h]; rfl
  have e14 : k0_pay14 f.cls f.x0 f.nx0 KI.lanes a.1 (ix2 b j) = max (k0_pay11 f.cls f.x0 KI.lanes a.1 (ix2 b 0)) (f.nx0 (ix2 b j)) := rfl
  have e15 : k0_pay15 f.cls f.x1 f.nx1 KI.lanes a.1 (ix2 b j) = min (k0_pay13 f.cls f.x1 KI.lanes a.1 (ix2 b 0)) (f.nx1 (ix2 b j)) := rfl
  have e16 : k0_pay16 f.cls f.y0 f.y1 f.ny0 f.ny1 KI.lanes a.1 (ix2 b j) =
    min (k0_pay12 f.cls f.y1 KI.lanes a.1 (ix2 b 0)) (f.ny1 (ix2 b j)) - max (k0_pay10 f.cls f.y0 KI.lanes a.1 (ix2 b 0)) (f.ny0 (ix2 b j)) := rfl
  unfold lower
  dsimp only [KI.trip]
  unfold k0_pay17
  pointwise
  rw [e14, e15, e16, e0, e1, e2, e3]
  simp only [max_comm _ (0 : EReal)]

/-- One or zero, as the best score is positive or not. -/
theorem ker_valid : k0_pay18 (k0_pay2 a.1) (ix2 b 0) = if 0 < a.1 (ix2 b p) then 1 else 0 := by
  rw [valid_at, best_at a.1 b p h]

theorem ker_row0 (hk : k < 100) (r : Fin 128) : (KI.trip f k a).2.1 (ix2 b r) =
    if r.val = k then f.x0 (ix2 b p) * f.scale (ix2 b 0) * k0_pay18 (k0_pay2 a.1) (ix2 b 0) else a.2.1 (ix2 b r) := by
  have ex0 : k0_pay5 f.x0 KI.lanes a.1 (ix2 b 0) = f.x0 (ix2 b p) := pick_at f.x0 a.1 b p h
  rw [← ex0]
  have hs := slot_at k hk b r
  dsimp only [KI.trip]
  unfold k0_pay20
  pointwise
  rw [hs]
  by_cases e : r.val = k
  · rw [if_pos e, decide_eq_true e]; rfl
  · rw [if_neg e, decide_eq_false e]; rfl

theorem ker_row1 (hk : k < 100) (r : Fin 128) : (KI.trip f k a).2.2.1 (ix2 b r) =
    if r.val = k then f.y0 (ix2 b p) * f.scale (ix2 b 0) * k0_pay18 (k0_pay2 a.1) (ix2 b 0) else a.2.2.1 (ix2 b r) := by
  have ey0 : k0_pay4 f.y0 KI.lanes a.1 (ix2 b 0) = f.y0 (ix2 b p) := pick_at f.y0 a.1 b p h
  rw [← ey0]
  have hs := slot_at k hk b r
  dsimp only [KI.trip]
  unfold k0_pay21
  pointwise
  rw [hs]
  by_cases e : r.val = k
  · rw [if_pos e, decide_eq_true e]; rfl
  · rw [if_neg e, decide_eq_false e]; rfl

theorem ker_row2 (hk : k < 100) (r : Fin 128) : (KI.trip f k a).2.2.2.1 (ix2 b r) =
    if r.val = k then (f.x1 (ix2 b p) - f.x0 (ix2 b p)) * f.scale (ix2 b 0) * k0_pay18 (k0_pay2 a.1) (ix2 b 0) else a.2.2.2.1 (ix2 b r) := by
  have ex0 : k0_pay5 f.x0 KI.lanes a.1 (ix2 b 0) = f.x0 (ix2 b p) := pick_at f.x0 a.1 b p h
  have ex1 : k0_pay7 f.x1 KI.lanes a.1 (ix2 b 0) = f.x1 (ix2 b p) := pick_at f.x1 a.1 b p h
  rw [← ex0, ← ex1]
  have hs := slot_at k hk b r
  dsimp only [KI.trip]
  unfold k0_pay22
  pointwise
  rw [hs]
  by_cases e : r.val = k
  · rw [if_pos e, decide_eq_true e]; rfl
  · rw [if_neg e, decide_eq_false e]; rfl

theorem ker_row3 (hk : k < 100) (r : Fin 128) : (KI.trip f k a).2.2.2.2.1 (ix2 b r) =
    if r.val = k then (f.y1 (ix2 b p) - f.y0 (ix2 b p)) * f.scale (ix2 b 0) * k0_pay18 (k0_pay2 a.1) (ix2 b 0) else a.2.2.2.2.1 (ix2 b r) := by
  have ey0 : k0_pay4 f.y0 KI.lanes a.1 (ix2 b 0) = f.y0 (ix2 b p) := pick_at f.y0 a.1 b p h
  have ey1 : k0_pay6 f.y1 KI.lanes a.1 (ix2 b 0) = f.y1 (ix2 b p) := pick_at f.y1 a.1 b p h
  rw [← ey0, ← ey1]
  have hs := slot_at k hk b r
  dsimp only [KI.trip]
  unfold k0_pay23
  pointwise
  rw [hs]
  by_cases e : r.val = k
  · rw [if_pos e, decide_eq_true e]; rfl
  · rw [if_neg e, decide_eq_false e]; rfl

theorem ker_row4 (hk : k < 100) (r : Fin 128) : (KI.trip f k a).2.2.2.2.2.1 (ix2 b r) =
    if r.val = k then a.1 (ix2 b p) * k0_pay18 (k0_pay2 a.1) (ix2 b 0) else a.2.2.2.2.2.1 (ix2 b r) := by
  rw [← best_at a.1 b p h]
  have hs := slot_at k hk b r
  dsimp only [KI.trip]
  unfold k0_pay24
  pointwise
  rw [hs]
  by_cases e : r.val = k
  · rw [if_pos e, decide_eq_true e]; rfl
  · rw [if_neg e, decide_eq_false e]; rfl

theorem ker_row5 (hk : k < 100) (r : Fin 128) : (KI.trip f k a).2.2.2.2.2.2 (ix2 b r) =
    if r.val = k then (f.cls (ix2 b p) + 1) * k0_pay18 (k0_pay2 a.1) (ix2 b 0) else a.2.2.2.2.2.2 (ix2 b r) := by
  have ecls : k0_pay8 f.cls KI.lanes a.1 (ix2 b 0) = f.cls (ix2 b p) := pick_at f.cls a.1 b p h
  rw [← ecls]
  have hs := slot_at k hk b r
  dsimp only [KI.trip]
  unfold k0_pay55
  pointwise
  rw [hs]
  by_cases e : r.val = k
  · rw [if_pos e, decide_eq_true e]; rfl
  · rw [if_neg e, decide_eq_false e]; rfl

end Best
end Kernel

/-! ## The two together -/

variable {f : KI.Fixed Ideal} {s : Ref.State Ideal} {a : KI.Carry Ideal} {b : Fin 8} {k : ℕ}

theorem agree_trip (m : Match f s) (h : Agree a.1 s.main_v116_6 b) : Agree (KI.trip f k a).1 (Ref.b78 k s) b := by
  obtain ⟨q, hq⟩ := exists_isFirst (n := 5119) (fun j => a.1 (ix2 b j))
  have hpad : ∀ j : Fin 5120, 5000 ≤ j.val → (KI.trip f k a).1 (ix2 b j) ≤ 0 := fun j hj => by
    rw [ker_lower f k hq]; exact lower_nonpos (h.pad j hj)
  rcases h.cases with ⟨p, hv, hw, hpos, e⟩ | ⟨hv, hw⟩
  · refine ⟨Or.inl fun j => ?_, hpad⟩
    have hr := argmax_at k s b p hw hpos
    rw [ker_lower f k hv, ref_lower, ref_moved hr, ref_moved hr, ref_moved hr, ref_moved hr]
    rw [m.ny0, m.nx0, m.ny1, m.nx1, m.area, e, m.y0, m.x0, m.y1, m.x1, m.cls, ← m.moved, ← m.moved, ← m.moved, ← m.moved]
  · refine ⟨Or.inr ⟨fun j => ?_, fun j => ?_⟩, hpad⟩
    · rw [ker_lower f k hq]; exact lower_nonpos (hv j)
    · rw [ref_lower]; exact lower_nonpos (hw j)

theorem det0 (m : Match f s) (h : Agree a.1 s.main_v116_6 b) (hk : k < 100) (r : Fin 128) : (KI.trip f k a).2.1 (ix2 b r) =
    if r.val = k then Ref.b115 k s (ix2 b 0) else a.2.1 (ix2 b r) := by
  rcases h.cases with ⟨p, hv, hw, hpos, e⟩ | ⟨hv, hw⟩
  · have hr := argmax_at k s b p hw hpos
    rw [ker_row0 f k hv hk, ker_valid hv, ref_row0, ref_valid, ref_best hr, e, m.x0, m.scale, ref_box hr]
  · obtain ⟨q, hq⟩ := exists_isFirst (n := 5119) (fun j => a.1 (ix2 b j))
    rw [ker_row0 f k hq hk, ker_valid hq, if_neg (not_lt.2 (hv q)), mul_zero, ref_row_zero k s b hw]

theorem det1 (m : Match f s) (h : Agree a.1 s.main_v116_6 b) (hk : k < 100) (r : Fin 128) : (KI.trip f k a).2.2.1 (ix2 b r) =
    if r.val = k then Ref.b115 k s (ix2 b 1) else a.2.2.1 (ix2 b r) := by
  rcases h.cases with ⟨p, hv, hw, hpos, e⟩ | ⟨hv, hw⟩
  · have hr := argmax_at k s b p hw hpos
    rw [ker_row1 f k hv hk, ker_valid hv, ref_row1, ref_valid, ref_best hr, e, m.y0, m.scale, ref_box hr]
  · obtain ⟨q, hq⟩ := exists_isFirst (n := 5119) (fun j => a.1 (ix2 b j))
    rw [ker_row1 f k hq hk, ker_valid hq, if_neg (not_lt.2 (hv q)), mul_zero, ref_row_zero k s b hw]

theorem det2 (m : Match f s) (h : Agree a.1 s.main_v116_6 b) (hk : k < 100) (r : Fin 128) : (KI.trip f k a).2.2.2.1 (ix2 b r) =
    if r.val = k then Ref.b115 k s (ix2 b 2) else a.2.2.2.1 (ix2 b r) := by
  rcases h.cases with ⟨p, hv, hw, hpos, e⟩ | ⟨hv, hw⟩
  · have hr := argmax_at k s b p hw hpos
    rw [ker_row2 f k hv hk, ker_valid hv, ref_row2, ref_valid, ref_best hr, e, m.x1, m.x0, m.scale, ref_box hr, ref_box hr]
  · obtain ⟨q, hq⟩ := exists_isFirst (n := 5119) (fun j => a.1 (ix2 b j))
    rw [ker_row2 f k hq hk, ker_valid hq, if_neg (not_lt.2 (hv q)), mul_zero, ref_row_zero k s b hw]

theorem det3 (m : Match f s) (h : Agree a.1 s.main_v116_6 b) (hk : k < 100) (r : Fin 128) : (KI.trip f k a).2.2.2.2.1 (ix2 b r) =
    if r.val = k then Ref.b115 k s (ix2 b 3) else a.2.2.2.2.1 (ix2 b r) := by
  rcases h.cases with ⟨p, hv, hw, hpos, e⟩ | ⟨hv, hw⟩
  · have hr := argmax_at k s b p hw hpos
    rw [ker_row3 f k hv hk, ker_valid hv, ref_row3, ref_valid, ref_best hr, e, m.y1, m.y0, m.scale, ref_box hr, ref_box hr]
  · obtain ⟨q, hq⟩ := exists_isFirst (n := 5119) (fun j => a.1 (ix2 b j))
    rw [ker_row3 f k hq hk, ker_valid hq, if_neg (not_lt.2 (hv q)), mul_zero, ref_row_zero k s b hw]

theorem det4 (m : Match f s) (h : Agree a.1 s.main_v116_6 b) (hk : k < 100) (r : Fin 128) : (KI.trip f k a).2.2.2.2.2.1 (ix2 b r) =
    if r.val = k then Ref.b115 k s (ix2 b 4) else a.2.2.2.2.2.1 (ix2 b r) := by
  rcases h.cases with ⟨p, hv, hw, hpos, e⟩ | ⟨hv, hw⟩
  · have hr := argmax_at k s b p hw hpos
    rw [ker_row4 f k hv hk, ker_valid hv, ref_row4, ref_valid, ref_best hr, e]
  · obtain ⟨q, hq⟩ := exists_isFirst (n := 5119) (fun j => a.1 (ix2 b j))
    rw [ker_row4 f k hq hk, ker_valid hq, if_neg (not_lt.2 (hv q)), mul_zero, ref_row_zero k s b hw]

theorem det5 (m : Match f s) (h : Agree a.1 s.main_v116_6 b) (hk : k < 100) (r : Fin 128) : (KI.trip f k a).2.2.2.2.2.2 (ix2 b r) =
    if r.val = k then Ref.b115 k s (ix2 b 5) else a.2.2.2.2.2.2 (ix2 b r) := by
  rcases h.cases with ⟨p, hv, hw, hpos, e⟩ | ⟨hv, hw⟩
  · have hr := argmax_at k s b p hw hpos
    rw [ker_row5 f k hv hk, ker_valid hv, ref_row5, ref_valid, ref_best hr, e, m.cls, ref_cls hr]
  · obtain ⟨q, hq⟩ := exists_isFirst (n := 5119) (fun j => a.1 (ix2 b j))
    rw [ker_row5 f k hq hk, ker_valid hq, if_neg (not_lt.2 (hv q)), mul_zero, ref_row_zero k s b hw]

end Cert.Proof.Alg
end
-- ==== Proof.Alg4.lean ====
module
public import proofs.«01_k».proof.Proof.Alg1
public import proofs.«01_k».proof.Proof.Alg2

/-! # The scores that the loops start from

The kernel takes the 5000 logits as the top-k gives them. The reference keeps the positions alone, splits each into an anchor and
a class, and looks the logits up again there: the values of a top-k are the entries at its positions, a position below
49104 · 90 has its quotient below 49104 and its remainder below 90, and so the looked-up logit is the top-k's own. -/

@[expose] public section
set_option maxRecDepth 16384
set_option maxHeartbeats 1000000
noncomputable section
namespace Cert.Proof.Alg
open Idealize.ShloMosaic Idealize.ShloMosaic.TcCoe
open Cert.ReferenceIdeal Cert.ReferenceIdeal.Gen Cert.Proof.Ref

/-- An entry of a top-k is the operand's entry at the position that the top-k names. -/
theorem topK_entry {α : Type} {s t : Shape} (d : ℕ) (hd : d < s.rank) (gt : α → α → BitVec 1) (x : s.Idx → α)
    (h : s.Slices (fun _ => 0) t) (j : t.Idx) :
    ∃ (i : s.Idx) (σ : Fin (s.size ⟨d, hd⟩)), (∀ a, (i a).val = (j (a.cast h.1.symm)).val) ∧
      (Host.topK t d gt x h).1 j = x (i.along ⟨d, hd⟩ σ) ∧ (Host.topK t d gt x h).2 j = BitVec.ofNat 32 σ.val := by
  unfold Host.topK Host.sort2
  simp only [dif_pos hd]
  refine ⟨_, _, ?_, rfl, ?_⟩
  · intro a; exact Nat.zero_add _
  · unfold extractStridedSlice iotaInDim Shape.Idx.along
    simp only [Function.update_self]

theorem v22_eq (x : Ref.Args Ideal) : KI.T_main_v22 x = A_main_v22 x := rfl

theorem values_at (x : Ref.Args Ideal) (b : Fin 8) (j : Fin 5000) : ∃ σ : Fin 4419360,
    KI.T_main_values x (ix2 b j) = A_main_v22 x (ix2 b σ) ∧ A_main_indices x (ix2 b j) = BitVec.ofNat 32 σ.val := by
  unfold KI.T_main_values A_main_indices
  rw [v22_eq]
  obtain ⟨i, σ, hi, h1, h2⟩ := topK_entry (α := EReal) (s := S8x4419360) (t := S8x5000) 1 (by decide)
    (FloatOps.cmpfTotal (F := Ideal) (φ := .f32) .gt) (A_main_v22 x) sliceFits_S8x4419360_S8x5000 (ix2 b j)
  refine ⟨σ, h1.trans ?_, h2⟩
  refine congrArg (A_main_v22 x) ((eq_ix2 _).trans ?_)
  have e0 : (i 0 : Fin 8) = b := Fin.ext (hi 0)
  have e : i.along ⟨1, by decide⟩ σ 0 = i 0 := by
    unfold Shape.Idx.along
    exact Function.update_of_ne (by decide) _ _
  have e1 : i.along ⟨1, by decide⟩ σ 1 = σ := by
    unfold Shape.Idx.along
    exact Function.update_self _ _ _
  show ix2 (i.along ⟨1, by decide⟩ σ 0) (i.along ⟨1, by decide⟩ σ 1) = ix2 b σ
  rw [e, e1, e0]
  rfl

/-! ## A position's anchor and class -/

theorem divsi_90 {σ : ℕ} (h : σ < 4419360) : IntOp.divsi ArithUnit.host (BitVec.ofNat 32 σ) 90#32 = BitVec.ofNat 32 (σ / 90) := by
  apply BitVec.eq_of_toInt_eq
  have h1 : IntOp.divsi ArithUnit.host (BitVec.ofNat 32 σ) 90#32 = (BitVec.ofNat 32 σ).sdiv 90#32 := by
    unfold IntOp.divsi
    refine if_neg ?_
    rintro (h | ⟨_, h⟩) <;> exact absurd h (by decide)
  rw [h1, BitVec.toInt_sdiv, toInt_lane (by omega), toInt_lane (by omega), toInt_lane (by omega)]
  have e : ((σ : ℤ).tdiv ((90 : ℕ) : ℤ)) = ((σ / 90 : ℕ) : ℤ) := by
    rw [Int.tdiv_eq_ediv_of_nonneg (by omega)]; rfl
  rw [e, Int.bmod_eq_of_le (by omega) (by omega)]

theorem remsi_90 {σ : ℕ} (h : σ < 4419360) : IntOp.remsi ArithUnit.host (BitVec.ofNat 32 σ) 90#32 = BitVec.ofNat 32 (σ % 90) := by
  apply BitVec.eq_of_toInt_eq
  have h1 : IntOp.remsi ArithUnit.host (BitVec.ofNat 32 σ) 90#32 = (BitVec.ofNat 32 σ).srem 90#32 := by
    unfold IntOp.remsi
    refine if_neg ?_
    rintro (h | ⟨_, h⟩) <;> exact absurd h (by decide)
  rw [h1, BitVec.toInt_srem, toInt_lane (by omega), toInt_lane (by omega), toInt_lane (by omega)]
  rw [Int.tmod_eq_emod_of_nonneg (by omega)]; rfl

section Position
variable {x : Ref.Args Ideal} {b : Fin 8} {j : Fin 5000} {σ : ℕ} (h : A_main_indices x (ix2 b j) = BitVec.ofNat 32 σ) (hσ : σ < 4419360)
include h hσ

/-- The anchor's number. -/
theorem v23_at : A_main_v23 x (ix2 b j) = BitVec.ofNat 32 (σ / 90) := by
  unfold A_main_v23 A_main_call0_v13 A_main_call0_v11 A_main_call0_v10 A_main_call0_v8 A_main_call0_v6 A_main_call0_v3 A_main_call0_v2 K_main_call0_v12 K_main_call0_c_0 K_main_call0_v9 K_main_call0_c K_main_call0_v7 K_main_call0_v5 K_main_call0_v4 K_main_call0_v1 K_main_call0_v0 K_main_c
  unfold id
  pointwise
  rw [h, remsi_90 hσ, divsi_90 hσ]
  have hm : (BitVec.ofNat 32 σ).msb = false := by
    rw [BitVec.msb_eq_decide, BitVec.toNat_ofNat, Nat.mod_eq_of_lt (by omega)]; exact decide_eq_false (by omega)
  by_cases h0 : σ = 0
  · subst h0; rfl
  · have hne : BitVec.ofNat 32 σ ≠ 0 := by
      intro e
      have := congrArg BitVec.toInt e
      rw [toInt_lane (by omega)] at this
      exact h0 (by simpa using this)
    rw [if_neg hne, hm, WordCmp.cmpi_ne_eq, WordCmp.cmpi_ne_eq, WordCmp.andi_ofBool, WordCmp.select_ofBool, if_neg]
    simp only [Bool.and_eq_true, decide_eq_true_eq, not_and]
    intro hc
    exact absurd (by decide) hc

/-- The class's number. -/
theorem v24_at : A_main_v24 x (ix2 b j) = BitVec.ofNat 32 (σ % 90) := by
  unfold A_main_v24 A_main_call1_v14 A_main_call1_v12 A_main_call1_v11 A_main_call1_v8 A_main_call1_v6 A_main_call1_v4 K_main_call1_v13 K_main_call1_v10 K_main_call1_v9 K_main_call1_c_3 K_main_call1_v7 K_main_call1_c_2 K_main_call1_v5 K_main_call1_c_1 K_main_call1_v3 K_main_call1_v2 K_main_call1_c_0 K_main_call1_v1 K_main_call1_c K_main_call1_v0 K_main_c_0
  unfold id
  pointwise
  rw [h, show Scalar.select (IntOp.cmpi CmpIPredicate.eq 90#32 0#32) 1#32 90#32 = 90#32 from by decide, remsi_90 hσ,
    WordCmp.cmpi_slt_ofNat (by omega) (by decide), decide_eq_false (by omega),
    show IntOp.cmpi CmpIPredicate.slt 90#32 0#32 = BitVec.ofBool false from by decide, WordCmp.cmpi_ne_eq, WordCmp.cmpi_ne_eq,
    WordCmp.andi_ofBool, WordCmp.select_ofBool, if_neg]
  simp
end Position

/-! ## The logits looked up -/

/-- A number in a range is not wrapped, and passes the range's check. -/
theorem wrap_at {q n : ℕ} (hq : q < n) (hn : n < 1073741824) :
    Scalar.select (IntOp.cmpi CmpIPredicate.slt (BitVec.ofNat 32 q) 0#32) (IntOp.addi (BitVec.ofNat 32 q) (BitVec.ofNat 32 n)) (BitVec.ofNat 32 q) =
      BitVec.ofNat 32 q := by
  rw [WordCmp.cmpi_slt_ofNat (by omega) (by decide), decide_eq_false (by omega), WordCmp.select_ofBool]; rfl

theorem check_at {q n : ℕ} (hq : q ≤ n) (hn : n < 1073741824) :
    IntOp.andi (IntOp.cmpi CmpIPredicate.sge (BitVec.ofNat 32 q) 0#32) (IntOp.cmpi CmpIPredicate.sle (BitVec.ofNat 32 q) (BitVec.ofNat 32 n)) = 1#1 := by
  rw [WordCmp.cmpi_sge_ofNat (by omega) (by decide), WordCmp.cmpi_sle_ofNat (by omega) (by omega), decide_eq_true (by omega),
    decide_eq_true (by omega)]; rfl

/-- The gather of one anchor's rows of logits. -/
theorem gather_anchor (X : S8x49104x90.Idx → EReal) (I : IVec S8x5000x1 32) (b : Fin 8) (j : Fin 5000) (c : Fin 90) (q : Fin 49104)
    (h : I (ix3 b j 0) = BitVec.ofNat 32 q.val) :
    Host.gather gather_S8x49104x90_S8x5000x1_S8x5000x90_2_1_0_0_1_2_1190 X I (ix3 b j c) = X (ix3 b q c) := by
  unfold Host.gather
  congr 1
  funext a
  refine Fin.ext ?_
  have hq := q.isLt
  fin_cases a
  · show GatherDims.start _ _ _ _ + GatherDims.batchCoord _ _ _ + GatherDims.offCoord _ _ _ = _
    rw [GatherDims.start_batching _ _ _ _ (by decide), GatherDims.offCoord_eq_zero _ _ _ (by decide)]
    unfold GatherDims.batchCoord
    rw [dif_pos (by decide)]
    show 0 + b.val + 0 = b.val
    omega
  · show GatherDims.start _ _ _ _ + GatherDims.batchCoord _ _ _ + GatherDims.offCoord _ _ _ = _
    rw [GatherDims.batchCoord_eq_zero _ _ _ (by decide), GatherDims.offCoord_eq_zero _ _ _ (by decide)]
    unfold GatherDims.start
    rw [dif_pos (by decide)]
    have e : GatherDims.siIdx gather_S8x49104x90_S8x5000x1_S8x5000x90_2_1_0_0_1_2_1190 (ix3 b j c) ⟨0, by decide⟩ = ix3 b j 0 := by
      funext c; fin_cases c <;> rfl
    show min (I (GatherDims.siIdx gather_S8x49104x90_S8x5000x1_S8x5000x90_2_1_0_0_1_2_1190 (ix3 b j c) ⟨0, by decide⟩)).toInt.toNat (49104 - 1) + 0 + 0 = q.val
    rw [e, h, toInt_lane (by omega)]; omega
  · show GatherDims.start _ _ _ _ + GatherDims.batchCoord _ _ _ + GatherDims.offCoord _ _ _ = _
    rw [GatherDims.batchCoord_eq_zero _ _ _ (by decide)]
    unfold GatherDims.start
    rw [dif_neg (by decide)]
    show 0 + 0 + c.val = c.val
    omega

/-- The gather of one class of a row of logits. -/
theorem gather_class (X : S8x5000x90.Idx → EReal) (I : IVec S8x5000x1x1 32) (b : Fin 8) (j : Fin 5000) (q : Fin 90)
    (h : I (ix4 b j 0 0) = BitVec.ofNat 32 q.val) :
    Host.gather gather_S8x5000x90_S8x5000x1x1_S8x5000x1_n_2_01_01_2_3_111 X I (ix3 b j 0) = X (ix3 b j q) := by
  unfold Host.gather
  congr 1
  funext a
  refine Fin.ext ?_
  have hq := q.isLt
  fin_cases a
  · show GatherDims.start _ _ _ _ + GatherDims.batchCoord _ _ _ + GatherDims.offCoord _ _ _ = _
    rw [GatherDims.start_batching _ _ _ _ (by decide), GatherDims.offCoord_eq_zero _ _ _ (by decide)]
    unfold GatherDims.batchCoord
    rw [dif_pos (by decide)]
    show 0 + b.val + 0 = b.val
    omega
  · show GatherDims.start _ _ _ _ + GatherDims.batchCoord _ _ _ + GatherDims.offCoord _ _ _ = _
    rw [GatherDims.start_batching _ _ _ _ (by decide), GatherDims.offCoord_eq_zero _ _ _ (by decide)]
    unfold GatherDims.batchCoord
    rw [dif_pos (by decide)]
    show 0 + j.val + 0 = j.val
    omega
  · show GatherDims.start _ _ _ _ + GatherDims.batchCoord _ _ _ + GatherDims.offCoord _ _ _ = _
    rw [GatherDims.batchCoord_eq_zero _ _ _ (by decide), GatherDims.offCoord_eq_zero _ _ _ (by decide)]
    unfold GatherDims.start
    rw [dif_pos (by decide)]
    have e : GatherDims.siIdx gather_S8x5000x90_S8x5000x1x1_S8x5000x1_n_2_01_01_2_3_111 (ix3 b j 0) ⟨0, by decide⟩ = ix4 b j 0 0 := by
      funext c; fin_cases c <;> rfl
    show min (I (GatherDims.siIdx gather_S8x5000x90_S8x5000x1x1_S8x5000x1_n_2_01_01_2_3_111 (ix3 b j 0) ⟨0, by decide⟩)).toInt.toNat (90 - 1) + 0 + 0 = q.val
    rw [e, h, toInt_lane (by omega)]; omega

theorem v28_at (x : Ref.Args Ideal) (b : Fin 8) (j : Fin 5000) (c : Fin 90) (q : Fin 49104) (h : A_main_v23 x (ix2 b j) = BitVec.ofNat 32 q.val) :
    A_main_v28 x (ix3 b j c) = A_main_v10 x (ix3 b q c) := by
  have hq := q.isLt
  have h4 : A_main_call3_v4 x (ix3 b j 0) = BitVec.ofNat 32 q.val := by
    unfold A_main_call3_v4 A_main_call3_v3 A_main_call3_v1 A_main_v27 K_main_call3_v2 K_main_call3_c_0 K_main_call3_v0 K_main_call3_c
    pointwise
    rw [h]
    exact wrap_at hq (by omega)
  have h12 : A_main_call3_v12 x (ix3 b j c) = A_main_v10 x (ix3 b q c) := gather_anchor _ _ b j c q h4
  unfold A_main_v28 A_main_call3_v13 A_main_call3_v11 A_main_call3_v10 A_main_call3_v9 A_main_call3_v6 K_main_call3_c_3 K_main_call3_v8 K_main_call3_v7 K_main_call3_c_1 K_main_call3_v5 K_main_call3_c_2
  pointwise
  rw [Finset.univ_unique, Finset.fold_singleton]
  show Scalar.select (IntOp.andi (IntOp.andi (IntOp.cmpi CmpIPredicate.sge (A_main_call3_v4 x (ix3 b j 0)) 0#32)
    (IntOp.cmpi CmpIPredicate.sle (A_main_call3_v4 x (ix3 b j 0)) 49103#32)) 1#1) _ _ = _
  rw [h4, check_at (by omega) (by decide), h12]
  exact ValueIdx.select_one _ _

theorem v31_at (x : Ref.Args Ideal) (b : Fin 8) (j : Fin 5000) (q : Fin 90) (h : A_main_v24 x (ix2 b j) = BitVec.ofNat 32 q.val) :
    A_main_v31 x (ix2 b j) = A_main_v28 x (ix3 b j q) := by
  have hq := q.isLt
  have h5 : A_main_call4_v5 x (ix4 b j 0 0) = BitVec.ofNat 32 q.val := by
    unfold A_main_call4_v5 A_main_call4_v4 A_main_call4_v3 A_main_call4_v1 A_main_v29 K_main_call4_v2 K_main_call4_c_0 K_main_call4_v0 K_main_call4_c
    pointwise
    rw [h]
    exact wrap_at hq (by omega)
  have h13 : A_main_call4_v13 x (ix3 b j 0) = A_main_v28 x (ix3 b j q) := gather_class _ _ b j q h5
  unfold A_main_v31 A_main_v30 A_main_call4_v12 A_main_call4_v11 A_main_call4_v10 A_main_call4_v7 K_main_call4_c_3 K_main_call4_v9 K_main_call4_v8 K_main_call4_c_1 K_main_call4_v6 K_main_call4_c_2
  pointwise
  rw [Finset.univ_unique, Finset.fold_singleton]
  show Scalar.select (IntOp.andi (IntOp.andi (IntOp.cmpi CmpIPredicate.sge (A_main_call4_v5 x (ix4 b j 0 0)) 0#32)
    (IntOp.cmpi CmpIPredicate.sle (A_main_call4_v5 x (ix4 b j 0 0)) 89#32)) 1#1) _ _ = _
  rw [h5, check_at (by omega) (by decide), h13]
  exact ValueIdx.select_one _ _

theorem flat_at (x : Ref.Args Ideal) (b : Fin 8) (σ : Fin 4419360) (h : σ.val / 90 < 49104) (h' : σ.val % 90 < 90) :
    A_main_v22 x (ix2 b σ) = A_main_v10 x (ix3 b ⟨σ.val / 90, h⟩ ⟨σ.val % 90, h'⟩) := by
  unfold A_main_v22
  pointwise

/-- The reference's looked-up logits are the values of the top-k. -/
theorem logits_eq (x : Ref.Args Ideal) (b : Fin 8) (j : Fin 5000) : KI.T_main_values x (ix2 b j) = A_main_v31 x (ix2 b j) := by
  obtain ⟨σ, h1, h2⟩ := values_at x b j
  have hσ := σ.isLt
  rw [h1, v31_at x b j ⟨σ.val % 90, by omega⟩ (v24_at h2 hσ), v28_at x b j _ ⟨σ.val / 90, by omega⟩ (v23_at h2 hσ)]
  exact flat_at x b σ _ _

/-- On the lane of a row, the kernel's score is the reference's. -/
theorem scores_eq (x : Ref.Args Ideal) (b : Fin 8) (j : Fin 5000) :
    KI.scores (KI.T_main_v28 x) (ix2 b (up j)) = A_main_v97 x (ix2 b j) := by
  rw [scores_row, v97_at, logits_eq]

end Cert.Proof.Alg
end
-- ==== Proof.Alg5.lean ====
module
public import proofs.«01_k».proof.Proof.Alg3
public import proofs.«01_k».proof.Proof.Alg4
public import proofs.«01_k».proof.Proof.RefHolds
public import Idealize.ShloMosaic.Lib.Pipeline.ValueKit

/-! # The hundred trips and the array they leave

By induction on the trips: the two loops' scores agree and their detections are the same; so the kernel's rows, cut to six rows of a
hundred and transposed, are the reference's result. -/

@[expose] public section
set_option maxRecDepth 16384
set_option maxHeartbeats 1000000
noncomputable section
namespace Cert.Proof.Alg
open Idealize.ShloMosaic Idealize.ShloMosaic.TcCoe

/-! ## The induction -/

/-- No trip changes what the reference's loop only reads. -/
theorem state_read (x : Ref.Args Ideal) : ∀ k, (Ref.state x k).main_v116_0 = Ref.A_main_v91 x ∧ (Ref.state x k).main_v116_1 = Ref.A_main_v24 x ∧
    (Ref.state x k).main_v116_2 = Ref.A_main_v103 x ∧ (Ref.state x k).main_v116_3 = Ref.A_main_v114 x ∧ (Ref.state x k).main_v116_4 = x.main_arg10
  | 0 => ⟨rfl, rfl, rfl, rfl, rfl⟩
  | k + 1 => state_read x k

theorem match_state (x : Ref.Args Ideal) (k : ℕ) : Match (fx x) (Ref.state x k) := by
  obtain ⟨h0, h1, h2, h3, h4⟩ := state_read x k
  constructor
  · intro b j; rw [h0]; exact y0_eq x b j
  · intro b j; rw [h0]; exact x0_eq x b j
  · intro b j; rw [h0]; exact y1_eq x b j
  · intro b j; rw [h0]; exact x1_eq x b j
  · intro b j; rw [h1, ← v98_at]; exact cls_eq x b j
  · intro b j; rw [h2]; exact ny0_eq x b j
  · intro b j; rw [h2]; exact nx0_eq x b j
  · intro b j; rw [h2]; exact ny1_eq x b j
  · intro b j; rw [h2]; exact nx1_eq x b j
  · intro b j c
    rw [h2, h0, h1, ← v98_at]
    fin_cases c
    · exact v103_at0 x b j
    · exact v103_at1 x b j
    · exact v103_at2 x b j
    · exact v103_at3 x b j
  · intro b j; rw [h3]; exact area_eq x b j
  · intro b; rw [h4]; exact scale_eq x b

/-- The lane of a detection. -/
def slot (r : Fin 100) : Fin 128 := ⟨r.val, by omega⟩

/-- The detections of one image are the same in the two loops. -/
structure Same (a : KI.Carry Ideal) (s : Ref.State Ideal) (b : Fin 8) : Prop where
  d0 : ∀ r, a.2.1 (ix2 b (slot r)) = s.main_v116_7 (ix3 r b 0)
  d1 : ∀ r, a.2.2.1 (ix2 b (slot r)) = s.main_v116_7 (ix3 r b 1)
  d2 : ∀ r, a.2.2.2.1 (ix2 b (slot r)) = s.main_v116_7 (ix3 r b 2)
  d3 : ∀ r, a.2.2.2.2.1 (ix2 b (slot r)) = s.main_v116_7 (ix3 r b 3)
  d4 : ∀ r, a.2.2.2.2.2.1 (ix2 b (slot r)) = s.main_v116_7 (ix3 r b 4)
  d5 : ∀ r, a.2.2.2.2.2.2 (ix2 b (slot r)) = s.main_v116_7 (ix3 r b 5)

theorem agree_init (x : Ref.Args Ideal) (b : Fin 8) : Agree (KI.start (KI.T_main_v28 x)).1 (Ref.state x 0).main_v116_6 b where
  rows := Or.inl fun j => scores_eq x b j
  pad j h := le_of_eq (scores_pad x b j h)

theorem pay54_at (b : Fin 8) (r : Fin 128) : (KernelIdeal.Gen.k0_pay54 (F := Ideal)) (ix2 b r) = Ideal.ofBits .f32 0x00000000#32 := rfl

theorem zeros_at (r : Fin 100) (b : Fin 8) (c : Fin 6) : (Ref.K_main_v115 (F := Ideal)) (ix3 r b c) = Ideal.ofBits .f32 0x00000000#32 := rfl

theorem same_init (x : Ref.Args Ideal) (b : Fin 8) : Same (KI.start (KI.T_main_v28 x)) (Ref.state x 0) b where
  d0 r := (pay54_at b (slot r)).trans (zeros_at r b 0).symm
  d1 r := (pay54_at b (slot r)).trans (zeros_at r b 1).symm
  d2 r := (pay54_at b (slot r)).trans (zeros_at r b 2).symm
  d3 r := (pay54_at b (slot r)).trans (zeros_at r b 3).symm
  d4 r := (pay54_at b (slot r)).trans (zeros_at r b 4).symm
  d5 r := (pay54_at b (slot r)).trans (zeros_at r b 5).symm

theorem same_trip {f : KI.Fixed Ideal} {s : Ref.State Ideal} {a : KI.Carry Ideal} {b : Fin 8} {k : ℕ} (m : Match f s)
    (h : Agree a.1 s.main_v116_6 b) (hk : k < 100) (hs : Same a s b) : Same (KI.trip f k a) (Ref.step k s) b where
  d0 r := by rw [Ref.step_main_v116_7, ref_dets k s b hk, det0 m h hk, hs.d0 r]; rfl
  d1 r := by rw [Ref.step_main_v116_7, ref_dets k s b hk, det1 m h hk, hs.d1 r]; rfl
  d2 r := by rw [Ref.step_main_v116_7, ref_dets k s b hk, det2 m h hk, hs.d2 r]; rfl
  d3 r := by rw [Ref.step_main_v116_7, ref_dets k s b hk, det3 m h hk, hs.d3 r]; rfl
  d4 r := by rw [Ref.step_main_v116_7, ref_dets k s b hk, det4 m h hk, hs.d4 r]; rfl
  d5 r := by rw [Ref.step_main_v116_7, ref_dets k s b hk, det5 m h hk, hs.d5 r]; rfl

theorem trips (x : Ref.Args Ideal) (b : Fin 8) : ∀ k ≤ 100,
    Agree (KI.carried (fx x) (KI.start (KI.T_main_v28 x)) k).1 (Ref.state x k).main_v116_6 b ∧
      Same (KI.carried (fx x) (KI.start (KI.T_main_v28 x)) k) (Ref.state x k) b
  | 0, _ => ⟨agree_init x b, same_init x b⟩
  | k + 1, hk => by
    obtain ⟨h, hs⟩ := trips x b k (by omega)
    refine ⟨?_, same_trip (match_state x k) h (by omega) hs⟩
    show Agree (KI.trip (fx x) k (KI.carried (fx x) (KI.start (KI.T_main_v28 x)) k)).1 (Ref.step (F := Ideal) k (Ref.state x k)).main_v116_6 b
    rw [Ref.step_main_v116_6]
    exact agree_trip (match_state x k) h

/-! ## The result's rows -/

/-- A row's shape cast drops nothing. -/
theorem row_at (v : FVec Ideal KernelIdeal.S8x128 .f32) (b : Fin 8) (r : Fin 128) :
    shapeCast KernelIdeal.S8x1x128 v KernelIdeal.Gen.shapeCasts_S8x128_S8x1x128 (ix3 b 0 r) = v (ix2 b r) := by
  pointwise

section Rows
open KernelIdeal KernelIdeal.Gen
variable (a : KI.Carry Ideal) (b : Fin 8) (r : Fin 128)

/-- The row that a piece stores, where it holds the index. -/
theorem tile_hit (n : ℕ) (v : FVec Ideal S8x128 .f32) (w : S8x1x128.Idx → EReal) (hw : ∀ b r, w (ix3 b 0 r) = v (ix2 b r)) (y : S8x8x128.Idx)
    (h0 : (y 0).val = b.val) (h2 : (y 2).val = r.val) : View.TileAt (Val := Elt Ideal) (e := .f32) y ![0, n, 0] S8x1x128.size w (v (ix2 b r)) := by
  intro z hz
  have e : z = ix3 b 0 r := by
    funext c
    fin_cases c
    · have h : (y 0).val = 0 + (z 0).val := hz 0
      have h' : (z 0).val = b.val := by omega
      exact Fin.ext h'
    · have h : (z 1).val < 1 := (z 1).isLt
      have h' : (z 1).val = 0 := by omega
      exact Fin.ext h'
    · have h : (y 2).val = 0 + (z 2).val := hz 2
      have h' : (z 2).val = r.val := by omega
      exact Fin.ext h'
  rw [e, hw]

/-- A piece of another row does not hold it. -/
theorem tile_miss (n : ℕ) (w : S8x1x128.Idx → EReal) (v : EReal) (y : S8x8x128.Idx)
    (h1 : (y 1).val ≠ n) : View.TileAt (Val := Elt Ideal) (e := .f32) y ![0, n, 0] S8x1x128.size w v := by
  intro z hz
  have h : (y 1).val = n + (z 1).val := hz 1
  have h' : (z 1).val < 1 := (z 1).isLt
  exact absurd (by omega) h1

theorem canon0 : View.canon (KI.pieces a) (ix3 b 0 r) = a.2.1 (ix2 b r) := by
  refine View.canon_eq_of_allAt _ _ _ (KI.cover a _) ?_
  unfold KI.pieces
  refine View.allAt_cons_unit _ _ _ _ _ (tile_miss 7 _ _ _ (show (0 : ℕ) ≠ 7 by decide)) ?_
  refine View.allAt_cons_unit _ _ _ _ _ (tile_miss 6 _ _ _ (show (0 : ℕ) ≠ 6 by decide)) ?_
  refine View.allAt_cons_unit _ _ _ _ _ (tile_miss 5 _ _ _ (show (0 : ℕ) ≠ 5 by decide)) ?_
  refine View.allAt_cons_unit _ _ _ _ _ (tile_miss 4 _ _ _ (show (0 : ℕ) ≠ 4 by decide)) ?_
  refine View.allAt_cons_unit _ _ _ _ _ (tile_miss 3 _ _ _ (show (0 : ℕ) ≠ 3 by decide)) ?_
  refine View.allAt_cons_unit _ _ _ _ _ (tile_miss 2 _ _ _ (show (0 : ℕ) ≠ 2 by decide)) ?_
  refine View.allAt_cons_unit _ _ _ _ _ (tile_miss 1 _ _ _ (show (0 : ℕ) ≠ 1 by decide)) ?_
  refine View.allAt_cons_unit _ _ _ _ _ (tile_hit b r 0 _ _ (fun b r => row_at _ b r) _ rfl rfl) ?_
  exact View.allAt_nil _ _

theorem canon1 : View.canon (KI.pieces a) (ix3 b 1 r) = a.2.2.1 (ix2 b r) := by
  refine View.canon_eq_of_allAt _ _ _ (KI.cover a _) ?_
  unfold KI.pieces
  refine View.allAt_cons_unit _ _ _ _ _ (tile_miss 7 _ _ _ (show (1 : ℕ) ≠ 7 by decide)) ?_
  refine View.allAt_cons_unit _ _ _ _ _ (tile_miss 6 _ _ _ (show (1 : ℕ) ≠ 6 by decide)) ?_
  refine View.allAt_cons_unit _ _ _ _ _ (tile_miss 5 _ _ _ (show (1 : ℕ) ≠ 5 by decide)) ?_
  refine View.allAt_cons_unit _ _ _ _ _ (tile_miss 4 _ _ _ (show (1 : ℕ) ≠ 4 by decide)) ?_
  refine View.allAt_cons_unit _ _ _ _ _ (tile_miss 3 _ _ _ (show (1 : ℕ) ≠ 3 by decide)) ?_
  refine View.allAt_cons_unit _ _ _ _ _ (tile_miss 2 _ _ _ (show (1 : ℕ) ≠ 2 by decide)) ?_
  refine View.allAt_cons_unit _ _ _ _ _ (tile_hit b r 1 _ _ (fun b r => row_at _ b r) _ rfl rfl) ?_
  refine View.allAt_cons_unit _ _ _ _ _ (tile_miss 0 _ _ _ (show (1 : ℕ) ≠ 0 by decide)) ?_
  exact View.allAt_nil _ _

theorem canon2 : View.canon (KI.pieces a) (ix3 b 2 r) = a.2.2.2.1 (ix2 b r) := by
  refine View.canon_eq_of_allAt _ _ _ (KI.cover a _) ?_
  unfold KI.pieces
  refine View.allAt_cons_unit _ _ _ _ _ (tile_miss 7 _ _ _ (show (2 : ℕ) ≠ 7 by decide)) ?_
  refine View.allAt_cons_unit _ _ _ _ _ (tile_miss 6 _ _ _ (show (2 : ℕ) ≠ 6 by decide)) ?_
  refine View.allAt_cons_unit _ _ _ _ _ (tile_miss 5 _ _ _ (show (2 : ℕ) ≠ 5 by decide)) ?_
  refine View.allAt_cons_unit _ _ _ _ _ (tile_miss 4 _ _ _ (show (2 : ℕ) ≠ 4 by decide)) ?_
  refine View.allAt_cons_unit _ _ _ _ _ (tile_miss 3 _ _ _ (show (2 : ℕ) ≠ 3 by decide)) ?_
  refine View.allAt_cons_unit _ _ _ _ _ (tile_hit b r 2 _ _ (fun b r => row_at _ b r) _ rfl rfl) ?_
  refine View.allAt_cons_unit _ _ _ _ _ (tile_miss 1 _ _ _ (show (2 : ℕ) ≠ 1 by decide)) ?_
  refine View.allAt_cons_unit _ _ _ _ _ (tile_miss 0 _ _ _ (show (2 : ℕ) ≠ 0 by decide)) ?_
  exact View.allAt_nil _ _

theorem canon3 : View.canon (KI.pieces a) (ix3 b 3 r) = a.2.2.2.2.1 (ix2 b r) := by
  refine View.canon_eq_of_allAt _ _ _ (KI.cover a _) ?_
  unfold KI.pieces
  refine View.allAt_cons_unit _ _ _ _ _ (tile_miss 7 _ _ _ (show (3 : ℕ) ≠ 7 by decide)) ?_
  refine View.allAt_cons_unit _ _ _ _ _ (tile_miss 6 _ _ _ (show (3 : ℕ) ≠ 6 by decide)) ?_
  refine View.allAt_cons_unit _ _ _ _ _ (tile_miss 5 _ _ _ (show (3 : ℕ) ≠ 5 by decide)) ?_
  refine View.allAt_cons_unit _ _ _ _ _ (tile_miss 4 _ _ _ (show (3 : ℕ) ≠ 4 by decide)) ?_
  refine View.allAt_cons_unit _ _ _ _ _ (tile_hit b r 3 _ _ (fun b r => row_at _ b r) _ rfl rfl) ?_
  refine View.allAt_cons_unit _ _ _ _ _ (tile_miss 2 _ _ _ (show (3 : ℕ) ≠ 2 by decide)) ?_
  refine View.allAt_cons_unit _ _ _ _ _ (tile_miss 1 _ _ _ (show (3 : ℕ) ≠ 1 by decide)) ?_
  refine View.allAt_cons_unit _ _ _ _ _ (tile_miss 0 _ _ _ (show (3 : ℕ) ≠ 0 by decide)) ?_
  exact View.allAt_nil _ _

theorem canon4 : View.canon (KI.pieces a) (ix3 b 4 r) = a.2.2.2.2.2.1 (ix2 b r) := by
  refine View.canon_eq_of_allAt _ _ _ (KI.cover a _) ?_
  unfold KI.pieces
  refine View.allAt_cons_unit _ _ _ _ _ (tile_miss 7 _ _ _ (show (4 : ℕ) ≠ 7 by decide)) ?_
  refine View.allAt_cons_unit _ _ _ _ _ (tile_miss 6 _ _ _ (show (4 : ℕ) ≠ 6 by decide)) ?_
  refine View.allAt_cons_unit _ _ _ _ _ (tile_miss 5 _ _ _ (show (4 : ℕ) ≠ 5 by decide)) ?_
  refine View.allAt_cons_unit _ _ _ _ _ (tile_hit b r 4 _ _ (fun b r => row_at _ b r) _ rfl rfl) ?_
  refine View.allAt_cons_unit _ _ _ _ _ (tile_miss 3 _ _ _ (show (4 : ℕ) ≠ 3 by decide)) ?_
  refine View.allAt_cons_unit _ _ _ _ _ (tile_miss 2 _ _ _ (show (4 : ℕ) ≠ 2 by decide)) ?_
  refine View.allAt_cons_unit _ _ _ _ _ (tile_miss 1 _ _ _ (show (4 : ℕ) ≠ 1 by decide)) ?_
  refine View.allAt_cons_unit _ _ _ _ _ (tile_miss 0 _ _ _ (show (4 : ℕ) ≠ 0 by decide)) ?_
  exact View.allAt_nil _ _

theorem canon5 : View.canon (KI.pieces a) (ix3 b 5 r) = a.2.2.2.2.2.2 (ix2 b r) := by
  refine View.canon_eq_of_allAt _ _ _ (KI.cover a _) ?_
  unfold KI.pieces
  refine View.allAt_cons_unit _ _ _ _ _ (tile_miss 7 _ _ _ (show (5 : ℕ) ≠ 7 by decide)) ?_
  refine View.allAt_cons_unit _ _ _ _ _ (tile_miss 6 _ _ _ (show (5 : ℕ) ≠ 6 by decide)) ?_
  refine View.allAt_cons_unit _ _ _ _ _ (tile_hit b r 5 _ _ (fun b r => row_at _ b r) _ rfl rfl) ?_
  refine View.allAt_cons_unit _ _ _ _ _ (tile_miss 4 _ _ _ (show (5 : ℕ) ≠ 4 by decide)) ?_
  refine View.allAt_cons_unit _ _ _ _ _ (tile_miss 3 _ _ _ (show (5 : ℕ) ≠ 3 by decide)) ?_
  refine View.allAt_cons_unit _ _ _ _ _ (tile_miss 2 _ _ _ (show (5 : ℕ) ≠ 2 by decide)) ?_
  refine View.allAt_cons_unit _ _ _ _ _ (tile_miss 1 _ _ _ (show (5 : ℕ) ≠ 1 by decide)) ?_
  refine View.allAt_cons_unit _ _ _ _ _ (tile_miss 0 _ _ _ (show (5 : ℕ) ≠ 0 by decide)) ?_
  exact View.allAt_nil _ _

end Rows

/-- The kernel's result of what its windows hold. -/
def cut (v : FVec Ideal KernelIdeal.S8x8x128 .f32) : FVec Ideal KernelIdeal.S8x100x6 .f32 :=
  transpose KernelIdeal.S8x100x6 [0, 2, 1] (extractStridedSlice KernelIdeal.S8x6x100 ![0, 0, 0] v KernelIdeal.Gen.slices_S8x8x128_S8x6x100_0_0_0)
    KernelIdeal.Gen.transposes_S8x6x100_S8x100x6_0_2_1

theorem cut_at (v : FVec Ideal KernelIdeal.S8x8x128 .f32) (b : Fin 8) (r : Fin 100) (c : Fin 6) :
    cut v (ix3 b r c) = v (ix3 b ⟨c.val, by omega⟩ (slot r)) := by
  unfold cut slot
  pointwise

theorem ref_at (s : Ref.State Ideal) (b : Fin 8) (r : Fin 100) (c : Fin 6) : Ref.R_main_v117 s (ix3 b r c) = s.main_v116_7 (ix3 r b c) := by
  unfold Ref.R_main_v117
  pointwise

/-- The kernel's result is the reference's. -/
theorem result_eq (x : Ref.Args Ideal) :
    cut (KI.out (KI.T_main_v28 x) (KI.T_main_v32 x) (KI.T_main_v34 x) (KI.T_main_v30 x) (KI.T_main_v35 x)) = Ref.R_main_v117 (Ref.state x 100) := by
  suffices h : ∀ (b : Fin 8) (r : Fin 100) (c : Fin 6),
      cut (KI.out (KI.T_main_v28 x) (KI.T_main_v32 x) (KI.T_main_v34 x) (KI.T_main_v30 x) (KI.T_main_v35 x)) (ix3 b r c) =
        Ref.R_main_v117 (Ref.state x 100) (ix3 b r c) by
    funext i
    have e := eq_ix3 i
    exact (congrArg _ e).trans ((h _ _ _).trans (congrArg _ e.symm))
  intro b r c
  rw [cut_at, ref_at]
  obtain ⟨-, h⟩ := trips x b 100 le_rfl
  unfold KI.out KI.final
  fin_cases c
  · exact (canon0 _ b (slot r)).trans (h.d0 r)
  · exact (canon1 _ b (slot r)).trans (h.d1 r)
  · exact (canon2 _ b (slot r)).trans (h.d2 r)
  · exact (canon3 _ b (slot r)).trans (h.d3 r)
  · exact (canon4 _ b (slot r)).trans (h.d4 r)
  · exact (canon5 _ b (slot r)).trans (h.d5 r)

end Cert.Proof.Alg
end
-- ==== Proof.Alg6.lean ====
module
public import proofs.«01_k».proof.Proof.Alg5
public import proofs.«01_k».proof.Proof.Frames
public import Idealize.ShloMosaic.Lib.Pipeline.ValueKit
public import Idealize.ShloMosaic.Lib.Claim

/-! # The kernel's result array, and the claim

The grid has one point and every window's block is its array, so the body reads the arrays that the operations before the launch
left and the result's array ends holding what the body stored. The operations after the launch cut and transpose it. -/

@[expose] public section
set_option maxRecDepth 16384
set_option maxHeartbeats 1000000
noncomputable section
namespace Cert.Proof.Alg
open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

/-- The arguments as launched. -/
def given : Ref.Args Ideal := KI.held fun b => m (c, b)

/-- The operations after the launch. -/
theorem tail_eq (W : Valuation τ sig (Elt Ideal)) : after hostOps1 W (no_index (Proc.devRef .tc main_v38)) = cut (W (Proc.devRef .tc main_v36)) := by
  after_reads_simp
  try simp only [TRef.ofBuf_toBuf]
  try simp -implicitDefEqProofs only [TRef.ofBuf, TRef.toBuf, cast_eq]
  rfl

/-! ## The windows' blocks -/

theorem V_eq (b : Ref sig .tc) : V m c b = KI.v15 (fun b => m (c, b)) (Proc.devRef .tc b) := congrFun (KI.after_prefix _) _

theorem blk0 : iblk m c 0 t0_0 = KI.T_main_v28 (given m c) := by
  refine Eq.trans (b := V m c main_v28) ?_ ((V_eq m c _).trans (KI.e15_main_v28 _))
  funext y
  unfold iblk
  show V m c main_v28 (((cfg0.win 0).rect t0_0).emb y) = V m c main_v28 y
  refine congrArg (V m c main_v28) (funext fun a => Fin.ext ?_)
  exact Pipeline.Window.rect_emb_val_of_index_zero (cfg0.win 0) t0_0 a (by revert a; decide +kernel) y

theorem blk1 : iblk m c 1 t0_0 = KI.T_main_v32 (given m c) := by
  refine Eq.trans (b := V m c main_v32) ?_ ((V_eq m c _).trans (KI.e15_main_v32 _))
  funext y
  unfold iblk
  show V m c main_v32 (((cfg0.win 1).rect t0_0).emb y) = V m c main_v32 y
  refine congrArg (V m c main_v32) (funext fun a => Fin.ext ?_)
  exact Pipeline.Window.rect_emb_val_of_index_zero (cfg0.win 1) t0_0 a (by revert a; decide +kernel) y

theorem blk2 : iblk m c 2 t0_0 = KI.T_main_v34 (given m c) := by
  refine Eq.trans (b := V m c main_v34) ?_ ((V_eq m c _).trans (KI.e15_main_v34 _))
  funext y
  unfold iblk
  show V m c main_v34 (((cfg0.win 2).rect t0_0).emb y) = V m c main_v34 y
  refine congrArg (V m c main_v34) (funext fun a => Fin.ext ?_)
  exact Pipeline.Window.rect_emb_val_of_index_zero (cfg0.win 2) t0_0 a (by revert a; decide +kernel) y

theorem blk3 : iblk m c 3 t0_0 = KI.T_main_v30 (given m c) := by
  refine Eq.trans (b := V m c main_v30) ?_ ((V_eq m c _).trans (KI.e15_main_v30 _))
  funext y
  unfold iblk
  show V m c main_v30 (((cfg0.win 3).rect t0_0).emb y) = V m c main_v30 y
  refine congrArg (V m c main_v30) (funext fun a => Fin.ext ?_)
  exact Pipeline.Window.rect_emb_val_of_index_zero (cfg0.win 3) t0_0 a (by revert a; decide +kernel) y

theorem blk4 : iblk m c 4 t0_0 = KI.T_main_v35 (given m c) := by
  refine Eq.trans (b := V m c main_v35) ?_ ((V_eq m c _).trans (KI.e15_main_v35 _))
  funext y
  unfold iblk
  show V m c main_v35 (((cfg0.win 4).rect t0_0).emb y) = V m c main_v35 y
  refine congrArg (V m c main_v35) (funext fun a => Fin.ext ?_)
  exact Pipeline.Window.rect_emb_val_of_index_zero (cfg0.win 4) t0_0 a (by revert a; decide +kernel) y

/-- The result's array ends holding what the body stored, of the values before the launch. -/
theorem arr5 : (KI.dats m 0 c).arrAt 5 cfg0.N = KI.out (KI.T_main_v28 (given m c)) (KI.T_main_v32 (given m c)) (KI.T_main_v34 (given m c))
    (KI.T_main_v30 (given m c)) (KI.T_main_v35 (given m c)) := by
  refine (KI.dats m 0 c).arrAt_eq_of_after_last 5 t0_0 (by decide +kernel) _ fun j => ?_
  blk_simp
  rw [KI.after0_5, blk0, blk1, blk2, blk3, blk4]

/-- The result buffer of the program, after the launch and the operations that follow it. -/
theorem result_buf : Pipeline.afterTail₀ cfgs (KI.dats m) 0 (V0 m) [hostOps1] c main_v38 = Ref.R_main_v117 (Ref.state (given m c) 100) := by
  unfold Pipeline.afterTail₀
  refine (tail_eq _).trans (Eq.trans ?_ (result_eq (given m c)))
  refine congrArg cut (Eq.trans ?_ (arr5 m c))
  exact Pipeline.withArrays_arr spec0 launch0.win.arr_inj c (V0 m c) (fun w => (KI.dats m 0 c).arrAt w cfg0.N) 5

/-- The kernel's run, with its result named. -/
theorem kernel_run (ρ : Dev nD → PrngReg) : θ_run (defs (F := Ideal)) (onTc (τ := τ) (main (F := Ideal))) ⟨m, fun _ => 0, ρ⟩ fun r => ∀ c : Dev nD,
    r.2.mem ((c.tc : Thread nD τ).loc main_v38) = Ref.R_main_v117 (Ref.state (given m c) 100)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  (θ_run defs _ _).mono (fun _ h c =>
    ⟨((h.1 c).2 main_v38 (Pipeline.mem_restRefs_of main_v38 (by decide) (by decide))).trans (result_buf m c),
      ((h.1 c).2 main_arg0 (Pipeline.mem_restRefs_of main_arg0 (by decide) (by decide))).trans (W_main_arg0 m (KI.dats m) c),
      ((h.1 c).2 main_arg1 (Pipeline.mem_restRefs_of main_arg1 (by decide) (by decide))).trans (W_main_arg1 m (KI.dats m) c),
      ((h.1 c).2 main_arg2 (Pipeline.mem_restRefs_of main_arg2 (by decide) (by decide))).trans (W_main_arg2 m (KI.dats m) c),
      ((h.1 c).2 main_arg3 (Pipeline.mem_restRefs_of main_arg3 (by decide) (by decide))).trans (W_main_arg3 m (KI.dats m) c),
      ((h.1 c).2 main_arg4 (Pipeline.mem_restRefs_of main_arg4 (by decide) (by decide))).trans (W_main_arg4 m (KI.dats m) c),
      ((h.1 c).2 main_arg5 (Pipeline.mem_restRefs_of main_arg5 (by decide) (by decide))).trans (W_main_arg5 m (KI.dats m) c),
      ((h.1 c).2 main_arg6 (Pipeline.mem_restRefs_of main_arg6 (by decide) (by decide))).trans (W_main_arg6 m (KI.dats m) c),
      ((h.1 c).2 main_arg7 (Pipeline.mem_restRefs_of main_arg7 (by decide) (by decide))).trans (W_main_arg7 m (KI.dats m) c),
      ((h.1 c).2 main_arg8 (Pipeline.mem_restRefs_of main_arg8 (by decide) (by decide))).trans (W_main_arg8 m (KI.dats m) c),
      ((h.1 c).2 main_arg9 (Pipeline.mem_restRefs_of main_arg9 (by decide) (by decide))).trans (W_main_arg9 m (KI.dats m) c),
      ((h.1 c).2 main_arg10 (Pipeline.mem_restRefs_of main_arg10 (by decide) (by decide))).trans (W_main_arg10 m (KI.dats m) c),
      ((h.1 c).2 main_arg11 (Pipeline.mem_restRefs_of main_arg11 (by decide) (by decide))).trans (W_main_arg11 m (KI.dats m) c)⟩) (KI.run_main m ρ)

/-- Arguments that agree are one record of arguments. -/
theorem given_eq (m' : (ℓ : Loc ReferenceIdeal.nD ReferenceIdeal.τ ReferenceIdeal.sig) → Buf (Elt Ideal) ℓ)
    (h0 : m' ((c.tc : Thread ReferenceIdeal.nD ReferenceIdeal.τ).loc ReferenceIdeal.main_arg0) = m ((c.tc : Thread nD τ).loc main_arg0))
    (h1 : m' ((c.tc : Thread ReferenceIdeal.nD ReferenceIdeal.τ).loc ReferenceIdeal.main_arg1) = m ((c.tc : Thread nD τ).loc main_arg1))
    (h2 : m' ((c.tc : Thread ReferenceIdeal.nD ReferenceIdeal.τ).loc ReferenceIdeal.main_arg2) = m ((c.tc : Thread nD τ).loc main_arg2))
    (h3 : m' ((c.tc : Thread ReferenceIdeal.nD ReferenceIdeal.τ).loc ReferenceIdeal.main_arg3) = m ((c.tc : Thread nD τ).loc main_arg3))
    (h4 : m' ((c.tc : Thread ReferenceIdeal.nD ReferenceIdeal.τ).loc ReferenceIdeal.main_arg4) = m ((c.tc : Thread nD τ).loc main_arg4))
    (h5 : m' ((c.tc : Thread ReferenceIdeal.nD ReferenceIdeal.τ).loc ReferenceIdeal.main_arg5) = m ((c.tc : Thread nD τ).loc main_arg5))
    (h6 : m' ((c.tc : Thread ReferenceIdeal.nD ReferenceIdeal.τ).loc ReferenceIdeal.main_arg6) = m ((c.tc : Thread nD τ).loc main_arg6))
    (h7 : m' ((c.tc : Thread ReferenceIdeal.nD ReferenceIdeal.τ).loc ReferenceIdeal.main_arg7) = m ((c.tc : Thread nD τ).loc main_arg7))
    (h8 : m' ((c.tc : Thread ReferenceIdeal.nD ReferenceIdeal.τ).loc ReferenceIdeal.main_arg8) = m ((c.tc : Thread nD τ).loc main_arg8))
    (h9 : m' ((c.tc : Thread ReferenceIdeal.nD ReferenceIdeal.τ).loc ReferenceIdeal.main_arg9) = m ((c.tc : Thread nD τ).loc main_arg9))
    (h10 : m' ((c.tc : Thread ReferenceIdeal.nD ReferenceIdeal.τ).loc ReferenceIdeal.main_arg10) = m ((c.tc : Thread nD τ).loc main_arg10))
    (h11 : m' ((c.tc : Thread ReferenceIdeal.nD ReferenceIdeal.τ).loc ReferenceIdeal.main_arg11) = m ((c.tc : Thread nD τ).loc main_arg11)) :
    given m c = Ref.argsOf m' c := by
  refine Eq.trans (b := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11)⟩) rfl ?_
  rw [← h0, ← h1, ← h2, ← h3, ← h4, ← h5, ← h6, ← h7, ← h8, ← h9, ← h10, ← h11]

end Cert.Proof.Alg

namespace Cert.Proof
open Idealize.ShloMosaic Idealize.ShloMosaic.TcCoe Idealize.SL.Sem

/-- Over the extended reals the kernel and the reference end with one result. -/
theorem algebraic : Cert.algebraic_KernelIdeal_ReferenceIdeal := by
  intro m g m' g' _ hagree
  refine ⟨fun c => Ref.R_main_v117 (Ref.state (Alg.given m c) 100), Alg.kernel_run m g, ?_⟩
  refine (θ_run _ _ _).mono (fun _ h c => ⟨(h c).1.trans ?_, (h c).2⟩) (Ref.args_kept m' g')
  obtain ⟨h0, h1, h2, h3, h4, h5, h6, h7, h8, h9, h10, h11⟩ := hagree c
  exact congrArg (fun x => Ref.R_main_v117 (Ref.state x 100)) (Alg.given_eq m c m' h0 h1 h2 h3 h4 h5 h6 h7 h8 h9 h10 h11).symm

end Cert.Proof
end
-- ==== Proof.lean ====
/- The assembly of `Cert.Claim`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Alg6

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
